-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite14 [hPre_finite14 : Cert.Pre_finite14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5)) (m ((c.tc : Thread Cert.Kernel14Ideal.nD Cert.Kernel14Ideal.τ).loc Cert.Kernel14Ideal.main_arg6))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite14 [hPre_finite14 : Cert.Pre_finite14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5)) (m ((c.tc : Thread Cert.Reference14Ideal.nD Cert.Reference14Ideal.τ).loc Cert.Reference14Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ r.2.sem = fun _ => 0)

def quiescent_Kernel14Ideal_pre_finite14 [hKernel14Ideal : Cert.Kernel14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite14 m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6))
      ∧ r.2.sem = fun _ => 0)

def quiescent_Reference14Ideal_pre_finite14 [hReference14Ideal : Cert.Reference14Ideal.Facts] [hPre_finite14 : Cert.Pre_finite14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6))
      ∧ r.2.sem = fun _ => 0)

def preserves_Kernel_KernelIdeal : Prop :=
  IdealRules.named_const.Statement Cert.KernelIdeal.κ "masked" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v42_0)) (v1 : (c : Dev Cert.KernelIdeal.nD) → Buf (Elt Ideal) ((c.tc : Thread Cert.KernelIdeal.nD Cert.KernelIdeal.τ).loc Cert.KernelIdeal.main_v42_1)) (v2 : (c : Dev Cert.KernelIdeal.nD) → Buf (Elt Ideal) ((c.tc : Thread Cert.KernelIdeal.nD Cert.KernelIdeal.τ).loc Cert.KernelIdeal.main_v42_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_0) = v0 c
          ∧ r.2.mem ((c.tc : Thread Cert.KernelIdeal.nD Cert.KernelIdeal.τ).loc Cert.KernelIdeal.main_v42_1) = v1 c
          ∧ r.2.mem ((c.tc : Thread Cert.KernelIdeal.nD Cert.KernelIdeal.τ).loc Cert.KernelIdeal.main_v42_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_v8) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)) (v2 : (c : Dev Cert.Kernel3Ideal.nD) → Buf (Elt Ideal) ((c.tc : Thread Cert.Kernel3Ideal.nD Cert.Kernel3Ideal.τ).loc Cert.Kernel3Ideal.main_v5_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_v5_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v41) = v0 c
          ∧ r.2.mem ((c.tc : Thread Cert.Reference3Ideal.nD Cert.Reference3Ideal.τ).loc Cert.Reference3Ideal.main_v42) = v1 c
          ∧ r.2.mem ((c.tc : Thread Cert.Reference3Ideal.nD Cert.Reference3Ideal.τ).loc Cert.Reference3Ideal.main_v43) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)) (v2 : (c : Dev Cert.Kernel11Ideal.nD) → Buf (Elt Ideal) ((c.tc : Thread Cert.Kernel11Ideal.nD Cert.Kernel11Ideal.τ).loc Cert.Kernel11Ideal.main_v3_2)) (v3 : (c : Dev Cert.Kernel11Ideal.nD) → Buf (Elt Ideal) ((c.tc : Thread Cert.Kernel11Ideal.nD Cert.Kernel11Ideal.τ).loc Cert.Kernel11Ideal.main_v3_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_v3_2) = v2 c
          ∧ r.2.mem ((c.tc : Thread Cert.Kernel11Ideal.nD Cert.Kernel11Ideal.τ).loc Cert.Kernel11Ideal.main_v3_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v15) = v0 c
          ∧ r.2.mem ((c.tc : Thread Cert.Reference11Ideal.nD Cert.Reference11Ideal.τ).loc Cert.Reference11Ideal.main_v13) = v1 c
          ∧ r.2.mem ((c.tc : Thread Cert.Reference11Ideal.nD Cert.Reference11Ideal.τ).loc Cert.Reference11Ideal.main_v14) = v2 c
          ∧ r.2.mem ((c.tc : Thread Cert.Reference11Ideal.nD Cert.Reference11Ideal.τ).loc Cert.Reference11Ideal.main_v18) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v2_0)) (v1 : (c : Dev Cert.Kernel12Ideal.nD) → Buf (Elt Ideal) ((c.tc : Thread Cert.Kernel12Ideal.nD Cert.Kernel12Ideal.τ).loc Cert.Kernel12Ideal.main_v2_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2_0) = v0 c
          ∧ r.2.mem ((c.tc : Thread Cert.Kernel12Ideal.nD Cert.Kernel12Ideal.τ).loc Cert.Kernel12Ideal.main_v2_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v13) = v0 c
          ∧ r.2.mem ((c.tc : Thread Cert.Reference12Ideal.nD Cert.Reference12Ideal.τ).loc Cert.Reference12Ideal.main_v14) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v3_0)) (v1 : (c : Dev Cert.Kernel13Ideal.nD) → Buf (Elt Ideal) ((c.tc : Thread Cert.Kernel13Ideal.nD Cert.Kernel13Ideal.τ).loc Cert.Kernel13Ideal.main_v3_1)) (v2 : (c : Dev Cert.Kernel13Ideal.nD) → Buf (Elt Ideal) ((c.tc : Thread Cert.Kernel13Ideal.nD Cert.Kernel13Ideal.τ).loc Cert.Kernel13Ideal.main_v3_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3_0) = v0 c
          ∧ r.2.mem ((c.tc : Thread Cert.Kernel13Ideal.nD Cert.Kernel13Ideal.τ).loc Cert.Kernel13Ideal.main_v3_1) = v1 c
          ∧ r.2.mem ((c.tc : Thread Cert.Kernel13Ideal.nD Cert.Kernel13Ideal.τ).loc Cert.Kernel13Ideal.main_v3_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v38) = v0 c
          ∧ r.2.mem ((c.tc : Thread Cert.Reference13Ideal.nD Cert.Reference13Ideal.τ).loc Cert.Reference13Ideal.main_v39) = v1 c
          ∧ r.2.mem ((c.tc : Thread Cert.Reference13Ideal.nD Cert.Reference13Ideal.τ).loc Cert.Reference13Ideal.main_v40) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal_pre_finite14 [hKernel14Ideal : Cert.Kernel14Ideal.Facts] [hReference14Ideal : Cert.Reference14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite14 m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)) →
    ∃ (v0 : (c : Dev Cert.Kernel14Ideal.nD) → Buf (Elt Ideal) ((c.tc : Thread Cert.Kernel14Ideal.nD Cert.Kernel14Ideal.τ).loc Cert.Kernel14Ideal.main_v18_0)) (v1 : (c : Dev Cert.Kernel14Ideal.nD) → Buf (Elt Ideal) ((c.tc : Thread Cert.Kernel14Ideal.nD Cert.Kernel14Ideal.τ).loc Cert.Kernel14Ideal.main_v18_1)) (v2 : (c : Dev Cert.Kernel14Ideal.nD) → Buf (Elt Ideal) ((c.tc : Thread Cert.Kernel14Ideal.nD Cert.Kernel14Ideal.τ).loc Cert.Kernel14Ideal.main_v18_2)) (v3 : (c : Dev Cert.Kernel14Ideal.nD) → Buf (Elt Ideal) ((c.tc : Thread Cert.Kernel14Ideal.nD Cert.Kernel14Ideal.τ).loc Cert.Kernel14Ideal.main_v18_3)) (v4 : (c : Dev Cert.Kernel14Ideal.nD) → Buf (Elt Ideal) ((c.tc : Thread Cert.Kernel14Ideal.nD Cert.Kernel14Ideal.τ).loc Cert.Kernel14Ideal.main_v18_4)) (v5 : (c : Dev Cert.Kernel14Ideal.nD) → Buf (Elt Ideal) ((c.tc : Thread Cert.Kernel14Ideal.nD Cert.Kernel14Ideal.τ).loc Cert.Kernel14Ideal.main_v18_5)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v18_0) = v0 c
          ∧ r.2.mem ((c.tc : Thread Cert.Kernel14Ideal.nD Cert.Kernel14Ideal.τ).loc Cert.Kernel14Ideal.main_v18_1) = v1 c
          ∧ r.2.mem ((c.tc : Thread Cert.Kernel14Ideal.nD Cert.Kernel14Ideal.τ).loc Cert.Kernel14Ideal.main_v18_2) = v2 c
          ∧ r.2.mem ((c.tc : Thread Cert.Kernel14Ideal.nD Cert.Kernel14Ideal.τ).loc Cert.Kernel14Ideal.main_v18_3) = v3 c
          ∧ r.2.mem ((c.tc : Thread Cert.Kernel14Ideal.nD Cert.Kernel14Ideal.τ).loc Cert.Kernel14Ideal.main_v18_4) = v4 c
          ∧ r.2.mem ((c.tc : Thread Cert.Kernel14Ideal.nD Cert.Kernel14Ideal.τ).loc Cert.Kernel14Ideal.main_v18_5) = v5 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v82) = v0 c
          ∧ r.2.mem ((c.tc : Thread Cert.Reference14Ideal.nD Cert.Reference14Ideal.τ).loc Cert.Reference14Ideal.main_v83) = v1 c
          ∧ r.2.mem ((c.tc : Thread Cert.Reference14Ideal.nD Cert.Reference14Ideal.τ).loc Cert.Reference14Ideal.main_v84) = v2 c
          ∧ r.2.mem ((c.tc : Thread Cert.Reference14Ideal.nD Cert.Reference14Ideal.τ).loc Cert.Reference14Ideal.main_v87) = v3 c
          ∧ r.2.mem ((c.tc : Thread Cert.Reference14Ideal.nD Cert.Reference14Ideal.τ).loc Cert.Reference14Ideal.main_v90) = v4 c
          ∧ r.2.mem ((c.tc : Thread Cert.Reference14Ideal.nD Cert.Reference14Ideal.τ).loc Cert.Reference14Ideal.main_v93) = v5 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts) (hPre_finite2 : Cert.Pre_finite2.Facts) (hPre_finite14 : Cert.Pre_finite14.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Kernel14Ideal_pre_finite14 (hKernel14Ideal := hKernel14Ideal) (hPre_finite14 := hPre_finite14)
    ∧ quiescent_Reference14Ideal (hReference14Ideal := hReference14Ideal)
    ∧ quiescent_Reference14Ideal_pre_finite14 (hReference14Ideal := hReference14Ideal) (hPre_finite14 := hPre_finite14)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal_pre_finite14 (hKernel14Ideal := hKernel14Ideal) (hReference14Ideal := hReference14Ideal) (hPre_finite14 := hPre_finite14)
-- ==== Pre_finite.lean ====
abbrev S8192x8x64 : Shape := ⟨3, ![8192, 8, 64]⟩
abbrev S8192x8 : Shape := ⟨2, ![8192, 8]⟩
abbrev S_ : Shape := ⟨0, ![]⟩
abbrev S8192x8x1 : Shape := ⟨3, ![8192, 8, 1]⟩

class Facts : Prop where
  bcast_S_S8192x8x64 : S_.BroadcastsInDim S8192x8x64 (![] : Fin 0 → Fin S8192x8x64.rank)
  bcast_S_S8192x8 : S_.BroadcastsInDim S8192x8 (![] : Fin 0 → Fin S8192x8.rank)
  bcast_S8192x8_S8192x8x1_0_1 : S8192x8.BroadcastsInDim S8192x8x1 (![0, 1] : Fin 2 → Fin S8192x8x1.rank)
  bcast_S8192x8x1_S8192x8x64_0_1_2 : S8192x8x1.BroadcastsInDim S8192x8x64 (![0, 1, 2] : Fin 3 → Fin S8192x8x64.rank)

variable [Facts]

def fn_part1 {F : FTy → Type} [FloatOps F] (main_v14 : IVec S8192x8x64 1) (main_v18 : IVec S8192x8x1 1) : IVec S8192x8x64 1 :=
  let main_v19 : IVec S8192x8x64 1 := broadcastInDim S8192x8x64 ![0, 1, 2] bcast_S8192x8x1_S8192x8x64_0_1_2 main_v18
  let main_v20 : IVec S8192x8x64 1 := andi main_v14 main_v19
  main_v20

def fn {F : FTy → Type} [FloatOps F] (main_arg0 : FVec F S8192x8x64 .f32) (main_arg1 : FVec F S8192x8x64 .f32) (main_arg2 : FVec F S8192x8x64 .f32) (main_arg3 : FVec F S8192x8x64 .f32) (main_arg4 : FVec F S8192x8 .f32) : IVec S8192x8x64 1 :=
  let main_v0 : FVec F S8192x8x64 .f32 := Host.absf main_arg0
  let main_cst : FVec F S_ .f32 := constant S_ .f32 0x7F800000#32
  let main_v1 : FVec F S8192x8x64 .f32 := broadcastInDim S8192x8x64 ![] bcast_S_S8192x8x64 main_cst
  let main_v2 : IVec S8192x8x64 1 := cmpf .olt main_v0 main_v1
  let main_v3 : FVec F S8192x8x64 .f32 := Host.absf main_arg1
  let main_cst_0 : FVec F S_ .f32 := constant S_ .f32 0x7F800000#32
  let main_v4 : FVec F S8192x8x64 .f32 := broadcastInDim S8192x8x64 ![] bcast_S_S8192x8x64 main_cst_0
  let main_v5 : IVec S8192x8x64 1 := cmpf .olt main_v3 main_v4
  let main_v6 : IVec S8192x8x64 1 := andi main_v2 main_v5
  let main_v7 : FVec F S8192x8x64 .f32 := Host.absf main_arg2
  let main_cst_1 : FVec F S_ .f32 := constant S_ .f32 0x7F800000#32
  let main_v8 : FVec F S8192x8x64 .f32 := broadcastInDim S8192x8x64 ![] bcast_S_S8192x8x64 main_cst_1
  let main_v9 : IVec S8192x8x64 1 := cmpf .olt main_v7 main_v8
  let main_v10 : IVec S8192x8x64 1 := andi main_v6 main_v9
  let main_v11 : FVec F S8192x8x64 .f32 := Host.absf main_arg3
  let main_cst_2 : FVec F S_ .f32 := constant S_ .f32 0x7F800000#32
  let main_v12 : FVec F S8192x8x64 .f32 := broadcastInDim S8192x8x64 ![] bcast_S_S8192x8x64 main_cst_2
  let main_v13 : IVec S8192x8x64 1 := cmpf .olt main_v11 main_v12
  let main_v14 : IVec S8192x8x64 1 := andi main_v10 main_v13
  let main_v15 : FVec F S8192x8 .f32 := Host.absf main_arg4
  let main_cst_3 : FVec F S_ .f32 := constant S_ .f32 0x7F800000#32
  let main_v16 : FVec F S8192x8 .f32 := broadcastInDim S8192x8 ![] bcast_S_S8192x8 main_cst_3
  let main_v17 : IVec S8192x8 1 := cmpf .olt main_v15 main_v16
  let main_v18 : IVec S8192x8x1 1 := broadcastInDim S8192x8x1 ![0, 1] bcast_S8192x8_S8192x8x1_0_1 main_v17
  fn_part1 (F := F) main_v14 main_v18
-- ==== Pre_finite14.lean ====
abbrev S8192x8x64 : Shape := ⟨3, ![8192, 8, 64]⟩
abbrev S8192x8 : Shape := ⟨2, ![8192, 8]⟩
abbrev S8192x2048 : Shape := ⟨2, ![8192, 2048]⟩
abbrev S_ : Shape := ⟨0, ![]⟩
abbrev S8192x512 : Shape := ⟨2, ![8192, 512]⟩
abbrev S8192x8x1 : Shape := ⟨3, ![8192, 8, 1]⟩

class Facts : Prop where
  bcast_S_S8192x8x64 : S_.BroadcastsInDim S8192x8x64 (![] : Fin 0 → Fin S8192x8x64.rank)
  slices_S8192x2048_S8192x512_0_0 : S8192x2048.Slices ![0, 0] S8192x512
  shapeCasts_S8192x512_S8192x8x64 : S8192x512.ShapeCasts S8192x8x64
  bcast_S_S8192x8 : S_.BroadcastsInDim S8192x8 (![] : Fin 0 → Fin S8192x8.rank)
  bcast_S8192x8_S8192x8x1_0_1 : S8192x8.BroadcastsInDim S8192x8x1 (![0, 1] : Fin 2 → Fin S8192x8x1.rank)
  bcast_S8192x8x1_S8192x8x64_0_1_2 : S8192x8x1.BroadcastsInDim S8192x8x64 (![0, 1, 2] : Fin 3 → Fin S8192x8x64.rank)

variable [Facts]

def fn_part1 {F : FTy → Type} [FloatOps F] (main_arg4 : FVec F S8192x8 .f32) (main_arg5 : FVec F S8192x8 .f32) (main_v16 : IVec S8192x8x64 1) (main_v17 : FVec F S8192x8 .f32) (main_v18 : FVec F S8192x8 .f32) : IVec S8192x8x64 1 :=
  let main_v19 : IVec S8192x8 1 := cmpf .olt main_v17 main_v18
  let main_v20 : IVec S8192x8x1 1 := broadcastInDim S8192x8x1 ![0, 1] bcast_S8192x8_S8192x8x1_0_1 main_v19
  let main_v21 : IVec S8192x8x64 1 := broadcastInDim S8192x8x64 ![0, 1, 2] bcast_S8192x8x1_S8192x8x64_0_1_2 main_v20
  let main_v22 : IVec S8192x8x64 1 := andi main_v16 main_v21
  let main_v23 : FVec F S8192x8 .f32 := Host.absf main_arg4
  let main_cst_4 : FVec F S_ .f32 := constant S_ .f32 0x7F800000#32
  let main_v24 : FVec F S8192x8 .f32 := broadcastInDim S8192x8 ![] bcast_S_S8192x8 main_cst_4
  let main_v25 : IVec S8192x8 1 := cmpf .olt main_v23 main_v24
  let main_v26 : IVec S8192x8x1 1 := broadcastInDim S8192x8x1 ![0, 1] bcast_S8192x8_S8192x8x1_0_1 main_v25
  let main_v27 : IVec S8192x8x64 1 := broadcastInDim S8192x8x64 ![0, 1, 2] bcast_S8192x8x1_S8192x8x64_0_1_2 main_v26
  let main_v28 : IVec S8192x8x64 1 := andi main_v22 main_v27
  let main_v29 : FVec F S8192x8 .f32 := Host.absf main_arg5
  let main_cst_5 : FVec F S_ .f32 := constant S_ .f32 0x7F800000#32
  let main_v30 : FVec F S8192x8 .f32 := broadcastInDim S8192x8 ![] bcast_S_S8192x8 main_cst_5
  let main_v31 : IVec S8192x8 1 := cmpf .olt main_v29 main_v30
  let main_v32 : IVec S8192x8x1 1 := broadcastInDim S8192x8x1 ![0, 1] bcast_S8192x8_S8192x8x1_0_1 main_v31
  let main_v33 : IVec S8192x8x64 1 := broadcastInDim S8192x8x64 ![0, 1, 2] bcast_S8192x8x1_S8192x8x64_0_1_2 main_v32
  let main_v34 : IVec S8192x8x64 1 := andi main_v28 main_v33
  main_v34

def fn {F : FTy → Type} [FloatOps F] (main_arg0 : FVec F S8192x8x64 .f32) (main_arg1 : FVec F S8192x8x64 .f32) (main_arg2 : FVec F S8192x8x64 .f32) (main_arg3 : FVec F S8192x8 .f32) (main_arg4 : FVec F S8192x8 .f32) (main_arg5 : FVec F S8192x8 .f32) (main_arg6 : FVec F S8192x2048 .f32) : IVec S8192x8x64 1 :=
  let main_v0 : FVec F S8192x8x64 .f32 := Host.absf main_arg0
  let main_cst : FVec F S_ .f32 := constant S_ .f32 0x7F800000#32
  let main_v1 : FVec F S8192x8x64 .f32 := broadcastInDim S8192x8x64 ![] bcast_S_S8192x8x64 main_cst
  let main_v2 : IVec S8192x8x64 1 := cmpf .olt main_v0 main_v1
  let main_v3 : FVec F S8192x8x64 .f32 := Host.absf main_arg1
  let main_cst_0 : FVec F S_ .f32 := constant S_ .f32 0x7F800000#32
  let main_v4 : FVec F S8192x8x64 .f32 := broadcastInDim S8192x8x64 ![] bcast_S_S8192x8x64 main_cst_0
  let main_v5 : IVec S8192x8x64 1 := cmpf .olt main_v3 main_v4
  let main_v6 : IVec S8192x8x64 1 := andi main_v2 main_v5
  let main_v7 : FVec F S8192x8x64 .f32 := Host.absf main_arg2
  let main_cst_1 : FVec F S_ .f32 := constant S_ .f32 0x7F800000#32
  let main_v8 : FVec F S8192x8x64 .f32 := broadcastInDim S8192x8x64 ![] bcast_S_S8192x8x64 main_cst_1
  let main_v9 : IVec S8192x8x64 1 := cmpf .olt main_v7 main_v8
  let main_v10 : IVec S8192x8x64 1 := andi main_v6 main_v9
  let main_v11 : FVec F S8192x512 .f32 := (extractStridedSlice S8192x512 ![0, 0] · slices_S8192x2048_S8192x512_0_0) main_arg6
  let main_v12 : FVec F S8192x8x64 .f32 := shapeCast S8192x8x64 main_v11 shapeCasts_S8192x512_S8192x8x64
  let main_v13 : FVec F S8192x8x64 .f32 := Host.absf main_v12
  let main_cst_2 : FVec F S_ .f32 := constant S_ .f32 0x7F800000#32
  let main_v14 : FVec F S8192x8x64 .f32 := broadcastInDim S8192x8x64 ![] bcast_S_S8192x8x64 main_cst_2
  let main_v15 : IVec S8192x8x64 1 := cmpf .olt main_v13 main_v14
  let main_v16 : IVec S8192x8x64 1 := andi main_v10 main_v15
  let main_v17 : FVec F S8192x8 .f32 := Host.absf main_arg3
  let main_cst_3 : FVec F S_ .f32 := constant S_ .f32 0x7F800000#32
  let main_v18 : FVec F S8192x8 .f32 := broadcastInDim S8192x8 ![] bcast_S_S8192x8 main_cst_3
  fn_part1 (F := F) main_arg4 main_arg5 main_v16 main_v17 main_v18
-- ==== Pre_finite2.lean ====
abbrev S8192x5632 : Shape := ⟨2, ![8192, 5632]⟩
abbrev S5632x2048 : Shape := ⟨2, ![5632, 2048]⟩
abbrev S8192x2048 : Shape := ⟨2, ![8192, 2048]⟩
abbrev S_ : Shape := ⟨0, ![]⟩
abbrev S2048x5632 : Shape := ⟨2, ![2048, 5632]⟩

class Facts : Prop where
  bcast_S_S8192x5632 : S_.BroadcastsInDim S8192x5632 (![] : Fin 0 → Fin S8192x5632.rank)
  transposes_S5632x2048_S2048x5632_1_0 : S5632x2048.Transposes [1, 0] S2048x5632
  dot_S8192x2048_S2048x5632_S8192x5632_1_0_0_1_n_n_wf : DotDims.WF S8192x2048 S2048x5632 S8192x5632 [1] [0] [0] [1] [] []

variable [Facts]

def dot_S8192x2048_S2048x5632_S8192x5632_1_0_0_1_n_n : DotDims S8192x2048 S2048x5632 S8192x5632 where
  lhsContracting := [1]
  rhsContracting := [0]
  lhsNonContracting := [0]
  rhsNonContracting := [1]
  lhsBatch := []
  rhsBatch := []
  wf := dot_S8192x2048_S2048x5632_S8192x5632_1_0_0_1_n_n_wf
def fn {F : FTy → Type} [FloatOps F] (main_arg0 : FVec F S8192x5632 .f32) (main_arg1 : FVec F S8192x5632 .f32) (main_arg2 : FVec F S5632x2048 .f32) (main_arg3 : FVec F S8192x2048 .f32) : IVec S8192x5632 1 :=
  let main_v0 : FVec F S8192x5632 .f32 := Host.absf main_arg0
  let main_cst : FVec F S_ .f32 := constant S_ .f32 0x7F800000#32
  let main_v1 : FVec F S8192x5632 .f32 := broadcastInDim S8192x5632 ![] bcast_S_S8192x5632 main_cst
  let main_v2 : IVec S8192x5632 1 := cmpf .olt main_v0 main_v1
  let main_v3 : FVec F S8192x5632 .f32 := Host.absf main_arg1
  let main_cst_0 : FVec F S_ .f32 := constant S_ .f32 0x7F800000#32
  let main_v4 : FVec F S8192x5632 .f32 := broadcastInDim S8192x5632 ![] bcast_S_S8192x5632 main_cst_0
  let main_v5 : IVec S8192x5632 1 := cmpf .olt main_v3 main_v4
  let main_v6 : IVec S8192x5632 1 := andi main_v2 main_v5
  let main_v7 : FVec F S2048x5632 .f32 := (transpose S2048x5632 [1, 0] · transposes_S5632x2048_S2048x5632_1_0) main_arg2
  let main_v8 : FVec F S8192x5632 .f32 := (fun l r => Host.dotGeneral dot_S8192x2048_S2048x5632_S8192x5632_1_0_0_1_n_n none l r) main_arg3 main_v7
  let main_v9 : FVec F S8192x5632 .f32 := Host.absf main_v8
  let main_cst_1 : FVec F S_ .f32 := constant S_ .f32 0x7F800000#32
  let main_v10 : FVec F S8192x5632 .f32 := broadcastInDim S8192x5632 ![] bcast_S_S8192x5632 main_cst_1
  let main_v11 : IVec S8192x5632 1 := cmpf .olt main_v9 main_v10
  let main_v12 : IVec S8192x5632 1 := andi main_v6 main_v11
  main_v12
-- ==== Kernel.lean ====
abbrev S8192x8x64 : Shape := ⟨3, ![8192, 8, 64]⟩
abbrev S8192x8 : Shape := ⟨2, ![8192, 8]⟩
abbrev S8x8192x8192 : Shape := ⟨3, ![8, 8192, 8192]⟩
abbrev S_ : Shape := ⟨0, ![]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S8192x8x1 : Shape := ⟨3, ![8192, 8, 1]⟩
abbrev S8192x512 : Shape := ⟨2, ![8192, 512]⟩
abbrev S512x128 : Shape := ⟨2, ![512, 128]⟩
abbrev S128x128 : Shape := ⟨2, ![128, 128]⟩
abbrev S256x256 : Shape := ⟨2, ![256, 256]⟩
abbrev S256x128 : Shape := ⟨2, ![256, 128]⟩
abbrev S256 : Shape := ⟨1, ![256]⟩
abbrev S256x1 : Shape := ⟨2, ![256, 1]⟩

abbrev nBuf : Space → Nat
  | .hbm => 60
  | .vmem => 30
  | .smem => 0
  | _ => 0

abbrev bufTy : (tb : Table) → Fin (tcTables nBuf tb) → BufTy
  | .hbm, ⟨0, _⟩ => ⟨S8192x8x64, .f32⟩
  | .hbm, ⟨1, _⟩ => ⟨S8192x8x64, .f32⟩
  | .hbm, ⟨2, _⟩ => ⟨S8192x8x64, .f32⟩
  | .hbm, ⟨3, _⟩ => ⟨S8192x8x64, .f32⟩
  | .hbm, ⟨4, _⟩ => ⟨S8192x8, .f32⟩
  | .hbm, ⟨5, _⟩ => ⟨S8x8192x8192, .f32⟩
  | .hbm, ⟨6, _⟩ => ⟨S_, .f32⟩
  | .hbm, ⟨7, _⟩ => ⟨S8x8192x8192, .f32⟩
  | .hbm, ⟨8, _⟩ => ⟨S8x8192x8192, .f32⟩
  | .hbm, ⟨9, _⟩ => ⟨S8192x8192, .i32⟩
  | .hbm, ⟨10, _⟩ => ⟨S8192x8192, .i32⟩
  | .hbm, ⟨11, _⟩ => ⟨S8192x8192, .i32⟩
  | .hbm, ⟨12, _⟩ => ⟨S_, .i32⟩
  | .hbm, ⟨13, _⟩ => ⟨S8192x8192, .i32⟩
  | .hbm, ⟨14, _⟩ => ⟨S8192x8192, .i1⟩
  | .hbm, ⟨15, _⟩ => ⟨S_, .i32⟩
  | .hbm, ⟨16, _⟩ => ⟨S8192x8192, .i32⟩
  | .hbm, ⟨17, _⟩ => ⟨S8192x8192, .i1⟩
  | .hbm, ⟨18, _⟩ => ⟨S8192x8192, .i1⟩
  | .hbm, ⟨19, _⟩ => ⟨S1x8192x8192, .i1⟩
  | .hbm, ⟨20, _⟩ => ⟨S_, .f32⟩
  | .hbm, ⟨21, _⟩ => ⟨S_, .f32⟩
  | .hbm, ⟨22, _⟩ => ⟨S8x8192x8192, .i1⟩
  | .hbm, ⟨23, _⟩ => ⟨S8x8192x8192, .f32⟩
  | .hbm, ⟨24, _⟩ => ⟨S8x8192x8192, .f32⟩
  | .hbm, ⟨25, _⟩ => ⟨S_, .f32⟩
  | .hbm, ⟨26, _⟩ => ⟨S8x8192, .f32⟩
  | .hbm, ⟨27, _⟩ => ⟨S8x8192x1, .f32⟩
  | .hbm, ⟨28, _⟩ => ⟨S8x8192x8192, .f32⟩
  | .hbm, ⟨29, _⟩ => ⟨S8x8192x8192, .f32⟩
  | .hbm, ⟨30, _⟩ => ⟨S8x8192x8192, .f32⟩
  | .hbm, ⟨31, _⟩ => ⟨S_, .f32⟩
  | .hbm, ⟨32, _⟩ => ⟨S8x8192, .f32⟩
  | .hbm, ⟨33, _⟩ => ⟨S8x64x8192, .f32⟩
  | .hbm, ⟨34, _⟩ => ⟨S8192x8x64, .f32⟩
  | .hbm, ⟨35, _⟩ => ⟨S8192x8, .f32⟩
  | .hbm, ⟨36, _⟩ => ⟨S8192x8x1, .f32⟩
  | .hbm, ⟨37, _⟩ => ⟨S8192x8x64, .f32⟩
  | .hbm, ⟨38, _⟩ => ⟨S8192x8x64, .f32⟩
  | .hbm, ⟨39, _⟩ => ⟨S8192x8, .f32⟩
  | .hbm, ⟨40, _⟩ => ⟨S8192x8, .f32⟩
  | .hbm, ⟨41, _⟩ => ⟨S8192x8, .f32⟩
  | .hbm, ⟨42, _⟩ => ⟨S8192x8, .f32⟩
  | .hbm, ⟨43, _⟩ => ⟨S8192x8x64, .f32⟩
  | .hbm, ⟨44, _⟩ => ⟨S_, .f32⟩
  | .hbm, ⟨45, _⟩ => ⟨S8192x8, .f32⟩
  | .hbm, ⟨46, _⟩ => ⟨S8192x8, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S8192x8x1, .f32⟩
  | .hbm, ⟨51, _⟩ => ⟨S8192x8x64, .f32⟩
  | .hbm, ⟨52, _⟩ => ⟨S8192x512, .f32⟩
  | .hbm, ⟨53, _⟩ => ⟨S8192x512, .f32⟩
  | .hbm, ⟨54, _⟩ => ⟨S8192x8x1, .f32⟩
  | .hbm, ⟨55, _⟩ => ⟨S8192x8x64, .f32⟩
  | .hbm, ⟨56, _⟩ => ⟨S8192x512, .f32⟩
  | .hbm, ⟨57, _⟩ => ⟨S8192x512, .f32⟩
  | .hbm, ⟨58, _⟩ => ⟨S8192x512, .f32⟩
  | .hbm, ⟨59, _⟩ => ⟨S8192x512, .f32⟩
  | .local _ .vmem, ⟨0, _⟩ => ⟨S512x128, .f32⟩
  | .local _ .vmem, ⟨1, _⟩ => ⟨S512x128, .f32⟩
  | .local _ .vmem, ⟨2, _⟩ => ⟨S128x128, .f32⟩
  | .local _ .vmem, ⟨3, _⟩ => ⟨S128x128, .f32⟩
  | .local _ .vmem, ⟨4, _⟩ => ⟨S512x128, .f32⟩
  | .local _ .vmem, ⟨5, _⟩ => ⟨S512x128, .f32⟩
  | .local _ .vmem, ⟨6, _⟩ => ⟨S128x128, .f32⟩
  | .local _ .vmem, ⟨7, _⟩ => ⟨S128x128, .f32⟩
  | .local _ .vmem, ⟨8, _⟩ => ⟨S512x128, .f32⟩
  | .local _ .vmem, ⟨9, _⟩ => ⟨S512x128, .f32⟩
  | .local _ .vmem, ⟨10, _⟩ => ⟨S128x128, .f32⟩
  | .local _ .vmem, ⟨11, _⟩ => ⟨S128x128, .f32⟩
  | .local _ .vmem, ⟨12, _⟩ => ⟨S512x128, .f32⟩
  | .local _ .vmem, ⟨13, _⟩ => ⟨S512x128, .f32⟩
  | .local _ .vmem, ⟨14, _⟩ => ⟨S128x128, .f32⟩
  | .local _ .vmem, ⟨15, _⟩ => ⟨S128x128, .f32⟩
  | .local _ .vmem, ⟨16, _⟩ => ⟨S512x128, .f32⟩
  | .local _ .vmem, ⟨17, _⟩ => ⟨S512x128, .f32⟩
  | .local _ .vmem, ⟨18, _⟩ => ⟨S128x128, .f32⟩
  | .local _ .vmem, ⟨19, _⟩ => ⟨S128x128, .f32⟩
  | .local _ .vmem, ⟨20, _⟩ => ⟨S512x128, .f32⟩
  | .local _ .vmem, ⟨21, _⟩ => ⟨S512x128, .f32⟩
  | .local _ .vmem, ⟨22, _⟩ => ⟨S128x128, .f32⟩
  | .local _ .vmem, ⟨23, _⟩ => ⟨S128x128, .f32⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S512x128, .f32⟩
  | .local _ .vmem, ⟨28, _⟩ => ⟨S512x128, .f32⟩
  | .local _ .vmem, ⟨29, _⟩ => ⟨S512x128, .f32⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42_0 : Ref sig .tc := ⟨.hbm, 57, rfl⟩
abbrev main_v42_1 : Ref sig .tc := ⟨.hbm, 58, rfl⟩
abbrev main_v42_2 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c4_i32 : BitVec 32 := 4#32
  let v1 : BitVec 32 := Scalar.muli v0 c4_i32
  let c63_i32 : BitVec 32 := 63#32
  let v2 : BitVec 32 := Scalar.minsi v1 c63_i32
  let c0_i32 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c4_i32 : BitVec 32 := 4#32
  let v1 : BitVec 32 := Scalar.muli v0 c4_i32
  let c63_i32 : BitVec 32 := 63#32
  let v2 : BitVec 32 := Scalar.minsi v1 c63_i32
  let c0_i32 : BitVec 32 := 0#32
  ![v2.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c4_i32 : BitVec 32 := 4#32
  let v1 : BitVec 32 := Scalar.muli v0 c4_i32
  let c63_i32 : BitVec 32 := 63#32
  let v2 : BitVec 32 := Scalar.minsi v1 c63_i32
  let c0_i32 : BitVec 32 := 0#32
  ![v2.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c4_i32 : BitVec 32 := 4#32
  let v1 : BitVec 32 := Scalar.muli v0 c4_i32
  let c63_i32 : BitVec 32 := 63#32
  let v2 : BitVec 32 := Scalar.minsi v1 c63_i32
  let c0_i32 : BitVec 32 := 0#32
  ![v2.toNat, arg1.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  ![arg0.toNat, v16.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let v3 : BitVec 32 := Scalar.divsi arg1 c1_i32_0
  let c0_i32_1 : BitVec 32 := 0#32
  let v4 : BitVec 1 := Scalar.cmpi .sgt arg1 c0_i32_1
  let v5 : BitVec 32 := Scalar.extui v4
  let c0_i32_2 : BitVec 32 := 0#32
  let v6 : BitVec 1 := Scalar.cmpi .slt arg1 c0_i32_2
  let v7 : BitVec 32 := Scalar.extui v6
  let v8 : BitVec 32 := Scalar.subi v5 v7
  let c0_i32_3 : BitVec 32 := 0#32
  let v9 : BitVec 1 := Scalar.cmpi .sgt c1_i32_0 c0_i32_3
  let v10 : BitVec 32 := Scalar.extui v9
  let c0_i32_4 : BitVec 32 := 0#32
  let v11 : BitVec 1 := Scalar.cmpi .slt c1_i32_0 c0_i32_4
  let v12 : BitVec 32 := Scalar.extui v11
  let v13 : BitVec 32 := Scalar.subi v10 v12
  let v14 : BitVec 1 := Scalar.cmpi .ne v8 v13
  let v15 : BitVec 32 := Scalar.remsi arg1 c1_i32_0
  let c0_i32_5 : BitVec 32 := 0#32
  let v16 : BitVec 1 := Scalar.cmpi .ne v15 c0_i32_5
  let v17 : BitVec 1 := Scalar.andi v14 v16
  let c1_i32_6 : BitVec 32 := 1#32
  let v18 : BitVec 32 := Scalar.subi v3 c1_i32_6
  let v19 : BitVec 32 := Scalar.select v17 v18 v3
  let c0_i32_7 : BitVec 32 := 0#32
  ![v2.toNat, v19.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  ![arg0.toNat, v16.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let v3 : BitVec 32 := Scalar.divsi arg1 c1_i32_0
  let c0_i32_1 : BitVec 32 := 0#32
  let v4 : BitVec 1 := Scalar.cmpi .sgt arg1 c0_i32_1
  let v5 : BitVec 32 := Scalar.extui v4
  let c0_i32_2 : BitVec 32 := 0#32
  let v6 : BitVec 1 := Scalar.cmpi .slt arg1 c0_i32_2
  let v7 : BitVec 32 := Scalar.extui v6
  let v8 : BitVec 32 := Scalar.subi v5 v7
  let c0_i32_3 : BitVec 32 := 0#32
  let v9 : BitVec 1 := Scalar.cmpi .sgt c1_i32_0 c0_i32_3
  let v10 : BitVec 32 := Scalar.extui v9
  let c0_i32_4 : BitVec 32 := 0#32
  let v11 : BitVec 1 := Scalar.cmpi .slt c1_i32_0 c0_i32_4
  let v12 : BitVec 32 := Scalar.extui v11
  let v13 : BitVec 32 := Scalar.subi v10 v12
  let v14 : BitVec 1 := Scalar.cmpi .ne v8 v13
  let v15 : BitVec 32 := Scalar.remsi arg1 c1_i32_0
  let c0_i32_5 : BitVec 32 := 0#32
  let v16 : BitVec 1 := Scalar.cmpi .ne v15 c0_i32_5
  let v17 : BitVec 1 := Scalar.andi v14 v16
  let c1_i32_6 : BitVec 32 := 1#32
  let v18 : BitVec 32 := Scalar.subi v3 c1_i32_6
  let v19 : BitVec 32 := Scalar.select v17 v18 v3
  let c0_i32_7 : BitVec 32 := 0#32
  ![v2.toNat, v19.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  ![arg0.toNat, v16.toNat]

def cc0_transform_14 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  ![arg0.toNat, v16.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== KernelIdeal.lean ====
variable {F : FTy → Type} [FloatOps F] [Named F]
def κ : String → Option EReal := fun
  | "masked" => some ⊥
  | _ => none
-- ==== ReferenceIdeal.lean ====
abbrev S8192x8x64 : Shape := ⟨3, ![8192, 8, 64]⟩
abbrev S8192x8 : Shape := ⟨2, ![8192, 8]⟩
abbrev S8x8192x8192 : Shape := ⟨3, ![8, 8192, 8192]⟩
abbrev S_ : Shape := ⟨0, ![]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S8192x8x1 : Shape := ⟨3, ![8192, 8, 1]⟩
abbrev S8x8192x64 : Shape := ⟨3, ![8, 8192, 64]⟩
abbrev S8192x512 : Shape := ⟨2, ![8192, 512]⟩

abbrev nBuf : Space → Nat
  | .hbm => 104
  | .vmem => 0
  | .smem => 0
  | _ => 0

abbrev bufTy : (tb : Table) → Fin (tcTables nBuf tb) → BufTy
  | .hbm, ⟨0, _⟩ => ⟨S8192x8x64, .f32⟩
  | .hbm, ⟨1, _⟩ => ⟨S8192x8x64, .f32⟩
  | .hbm, ⟨2, _⟩ => ⟨S8192x8x64, .f32⟩
  | .hbm, ⟨3, _⟩ => ⟨S8192x8x64, .f32⟩
  | .hbm, ⟨4, _⟩ => ⟨S8192x8, .f32⟩
  | .hbm, ⟨5, _⟩ => ⟨S8x8192x8192, .f32⟩
  | .hbm, ⟨6, _⟩ => ⟨S_, .f32⟩
  | .hbm, ⟨7, _⟩ => ⟨S8x8192x8192, .f32⟩
  | .hbm, ⟨8, _⟩ => ⟨S8x8192x8192, .f32⟩
  | .hbm, ⟨9, _⟩ => ⟨S8192x8192, .i32⟩
  | .hbm, ⟨10, _⟩ => ⟨S8192x8192, .i32⟩
  | .hbm, ⟨11, _⟩ => ⟨S8192x8192, .i32⟩
  | .hbm, ⟨12, _⟩ => ⟨S_, .i32⟩
  | .hbm, ⟨13, _⟩ => ⟨S8192x8192, .i32⟩
  | .hbm, ⟨14, _⟩ => ⟨S8192x8192, .i1⟩
  | .hbm, ⟨15, _⟩ => ⟨S_, .i32⟩
  | .hbm, ⟨16, _⟩ => ⟨S8192x8192, .i32⟩
  | .hbm, ⟨17, _⟩ => ⟨S8192x8192, .i1⟩
  | .hbm, ⟨18, _⟩ => ⟨S8192x8192, .i1⟩
  | .hbm, ⟨19, _⟩ => ⟨S1x8192x8192, .i1⟩
  | .hbm, ⟨20, _⟩ => ⟨S_, .f32⟩
  | .hbm, ⟨21, _⟩ => ⟨S_, .f32⟩
  | .hbm, ⟨22, _⟩ => ⟨S8x8192x8192, .i1⟩
  | .hbm, ⟨23, _⟩ => ⟨S8x8192x8192, .f32⟩
  | .hbm, ⟨24, _⟩ => ⟨S8x8192x8192, .f32⟩
  | .hbm, ⟨25, _⟩ => ⟨S_, .f32⟩
  | .hbm, ⟨26, _⟩ => ⟨S8x8192x8192, .f32⟩
  | .hbm, ⟨27, _⟩ => ⟨S_, .f32⟩
  | .hbm, ⟨28, _⟩ => ⟨S8x8192, .f32⟩
  | .hbm, ⟨29, _⟩ => ⟨S8x8192x1, .f32⟩
  | .hbm, ⟨30, _⟩ => ⟨S8x8192x8192, .f32⟩
  | .hbm, ⟨31, _⟩ => ⟨S8x8192x8192, .i1⟩
  | .hbm, ⟨32, _⟩ => ⟨S8x8192x8192, .f32⟩
  | .hbm, ⟨33, _⟩ => ⟨S_, .f32⟩
  | .hbm, ⟨34, _⟩ => ⟨S8x8192, .f32⟩
  | .hbm, ⟨35, _⟩ => ⟨S8x8192x1, .f32⟩
  | .hbm, ⟨36, _⟩ => ⟨S8x8192x8192, .f32⟩
  | .hbm, ⟨37, _⟩ => ⟨S8x8192x8192, .f32⟩
  | .hbm, ⟨38, _⟩ => ⟨S8x8192x8192, .f32⟩
  | .hbm, ⟨39, _⟩ => ⟨S_, .f32⟩
  | .hbm, ⟨40, _⟩ => ⟨S8x8192, .f32⟩
  | .hbm, ⟨41, _⟩ => ⟨S8x64x8192, .f32⟩
  | .hbm, ⟨42, _⟩ => ⟨S8192x8x64, .f32⟩
  | .hbm, ⟨43, _⟩ => ⟨S8192x8, .f32⟩
  | .hbm, ⟨44, _⟩ => ⟨S8192x8x1, .f32⟩
  | .hbm, ⟨45, _⟩ => ⟨S8192x8x64, .f32⟩
  | .hbm, ⟨46, _⟩ => ⟨S8192x8x64, .f32⟩
  | .hbm, ⟨47, _⟩ => ⟨S8192x8x1, .f32⟩
  | .hbm, ⟨48, _⟩ => ⟨S_, .f32⟩
  | .hbm, ⟨49, _⟩ => ⟨S8192x8x1, .f32⟩
  | .hbm, ⟨50, _⟩ => ⟨S8192x8x1, .f32⟩
  | .hbm, ⟨51, _⟩ => ⟨S8192x8, .f32⟩
  | .hbm, ⟨52, _⟩ => ⟨S8192x8, .f32⟩
  | .hbm, ⟨53, _⟩ => ⟨S8192x8, .f32⟩
  | .hbm, ⟨54, _⟩ => ⟨S8192x8, .f32⟩
  | .hbm, ⟨55, _⟩ => ⟨S8192x8, .f32⟩
  | .hbm, ⟨56, _⟩ => ⟨S8192x8, .f32⟩
  | .hbm, ⟨57, _⟩ => ⟨S8192x8, .f32⟩
  | .hbm, ⟨58, _⟩ => ⟨S8x8192, .f32⟩
  | .hbm, ⟨59, _⟩ => ⟨S8x8192, .f32⟩
  | .hbm, ⟨60, _⟩ => ⟨S8192x8x64, .f32⟩
  | .hbm, ⟨61, _⟩ => ⟨S8192x8x64, .f32⟩
  | .hbm, ⟨62, _⟩ => ⟨S8192x8x64, .f32⟩
  | .hbm, ⟨63, _⟩ => ⟨S_, .f32⟩
  | .hbm, ⟨64, _⟩ => ⟨S8192x8, .f32⟩
  | .hbm, ⟨65, _⟩ => ⟨S8192x8x1, .f32⟩
  | .hbm, ⟨66, _⟩ => ⟨S8192x8x1, .f32⟩
  | .hbm, ⟨67, _⟩ => ⟨S8192x8x64, .f32⟩
  | .hbm, ⟨68, _⟩ => ⟨S8192x8x64, .f32⟩
  | .hbm, ⟨69, _⟩ => ⟨S_, .f32⟩
  | .hbm, ⟨70, _⟩ => ⟨S8192x8, .f32⟩
  | .hbm, ⟨71, _⟩ => ⟨S8x8192, .f32⟩
  | .hbm, ⟨72, _⟩ => ⟨S8x8192, .f32⟩
  | .hbm, ⟨73, _⟩ => ⟨S8x64x8192, .f32⟩
  | .hbm, ⟨74, _⟩ => ⟨S8x8192x8192, .f32⟩
  | .hbm, ⟨75, _⟩ => ⟨S8x64x8192, .f32⟩
  | .hbm, ⟨76, _⟩ => ⟨S8192x8x64, .f32⟩
  | .hbm, ⟨77, _⟩ => ⟨S8x8192x8192, .f32⟩
  | .hbm, ⟨78, _⟩ => ⟨S8x8192x8192, .f32⟩
  | .hbm, ⟨79, _⟩ => ⟨S8x8192x8192, .f32⟩
  | .hbm, ⟨80, _⟩ => ⟨S8x8192x8192, .f32⟩
  | .hbm, ⟨81, _⟩ => ⟨S_, .f32⟩
  | .hbm, ⟨82, _⟩ => ⟨S8x8192, .f32⟩
  | .hbm, ⟨83, _⟩ => ⟨S8x8192x1, .f32⟩
  | .hbm, ⟨84, _⟩ => ⟨S_, .f32⟩
  | .hbm, ⟨85, _⟩ => ⟨S8x8192, .f32⟩
  | .hbm, ⟨86, _⟩ => ⟨S8x8192, .f32⟩
  | .hbm, ⟨87, _⟩ => ⟨S8x8192, .f32⟩
  | .hbm, ⟨88, _⟩ => ⟨S8x8192x8192, .f32⟩
  | .hbm, ⟨89, _⟩ => ⟨S8x8192x8192, .f32⟩
  | .hbm, ⟨90, _⟩ => ⟨S8x8192x8192, .f32⟩
  | .hbm, ⟨91, _⟩ => ⟨S_, .f32⟩
  | .hbm, ⟨92, _⟩ => ⟨S8x8192x8192, .f32⟩
  | .hbm, ⟨93, _⟩ => ⟨S8x8192x8192, .f32⟩
  | .hbm, ⟨94, _⟩ => ⟨S_, .f32⟩
  | .hbm, ⟨95, _⟩ => ⟨S8x8192x8192, .f32⟩
  | .hbm, ⟨96, _⟩ => ⟨S8x8192x8192, .f32⟩
  | .hbm, ⟨97, _⟩ => ⟨S8x8192x64, .f32⟩
  | .hbm, ⟨98, _⟩ => ⟨S8192x8x64, .f32⟩
  | .hbm, ⟨99, _⟩ => ⟨S8x8192x64, .f32⟩
  | .hbm, ⟨100, _⟩ => ⟨S8192x8x64, .f32⟩
  | .hbm, ⟨101, _⟩ => ⟨S8192x512, .f32⟩
  | .hbm, ⟨102, _⟩ => ⟨S8192x512, .f32⟩
  | .hbm, ⟨103, _⟩ => ⟨S8192x512, .f32⟩
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_call0_v0 : Ref sig .tc := ⟨.hbm, 21, rfl⟩
abbrev main_v12_1 : Ref sig .tc := ⟨.hbm, 22, rfl⟩
abbrev main_call0_v2 : Ref sig .tc := ⟨.hbm, 23, rfl⟩
abbrev main_v12_0 : Ref sig .tc := ⟨.hbm, 24, rfl⟩
abbrev main_call0_cst : Ref sig .tc := ⟨.hbm, 25, rfl⟩
abbrev main_v12_2 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_6 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_7 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_8 : Ref sig .tc := ⟨.hbm, 81, rfl⟩
abbrev main_v61 : Ref sig .tc := ⟨.hbm, 82, rfl⟩
abbrev main_v62 : Ref sig .tc := ⟨.hbm, 83, rfl⟩
abbrev main_cst_9 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_call1_cst : Ref sig .tc := ⟨.hbm, 91, rfl⟩
abbrev main_call1_v0 : Ref sig .tc := ⟨.hbm, 92, rfl⟩
abbrev main_v69 : Ref sig .tc := ⟨.hbm, 93, rfl⟩
abbrev main_cst_10 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩

abbrev nD : Nat := 1
abbrev τ : Topo := Topo.v7x

variable {F : FTy → Type} [FloatOps F]
-- ==== Kernel2.lean ====
abbrev S8192x5632 : Shape := ⟨2, ![8192, 5632]⟩
abbrev S5632x2048 : Shape := ⟨2, ![5632, 2048]⟩
abbrev S8192x2048 : Shape := ⟨2, ![8192, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 8
  | .vmem => 12
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S5632x2048, .f32⟩
  | .hbm, ⟨3, _⟩ => ⟨S8192x2048, .f32⟩
  | .hbm, ⟨4, _⟩ => ⟨S8192x2048, .bf16⟩
  | .hbm, ⟨5, _⟩ => ⟨S5632x2048, .bf16⟩
  | .hbm, ⟨6, _⟩ => ⟨S8192x5632, .bf16⟩
  | .hbm, ⟨7, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8192x5632 : Shape := ⟨2, ![8192, 5632]⟩
abbrev S5632x2048 : Shape := ⟨2, ![5632, 2048]⟩
abbrev S8192x2048 : Shape := ⟨2, ![8192, 2048]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S5632x2048, .f32⟩
  | .hbm, ⟨3, _⟩ => ⟨S8192x2048, .f32⟩
  | .hbm, ⟨4, _⟩ => ⟨S8192x5632, .f32⟩
  | .hbm, ⟨5, _⟩ => ⟨S8192x5632, .f32⟩
  | .hbm, ⟨6, _⟩ => ⟨S_, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x2048, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .bf16⟩
  | .hbm, ⟨27, _⟩ => ⟨S8192x5632, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== Kernel3.lean ====
abbrev S8192x2048 : Shape := ⟨2, ![8192, 2048]⟩
abbrev S2048 : Shape := ⟨1, ![2048]⟩
abbrev S2048x5632 : Shape := ⟨2, ![2048, 5632]⟩
abbrev S8192x5632 : Shape := ⟨2, ![8192, 5632]⟩
abbrev S1x2048 : Shape := ⟨2, ![1, 2048]⟩
abbrev S512x5632 : Shape := ⟨2, ![512, 5632]⟩
abbrev S128x2048 : Shape := ⟨2, ![128, 2048]⟩
abbrev S2x4x512x512 : Shape := ⟨4, ![2, 4, 512, 512]⟩
abbrev S512x512 : Shape := ⟨2, ![512, 512]⟩
abbrev S1x1x512x512 : Shape := ⟨4, ![1, 1, 512, 512]⟩
abbrev S1x1x128x512 : Shape := ⟨4, ![1, 1, 128, 512]⟩
abbrev S128x512 : Shape := ⟨2, ![128, 512]⟩
abbrev S128 : Shape := ⟨1, ![128]⟩
abbrev S128x1 : Shape := ⟨2, ![128, 1]⟩

abbrev nBuf : Space → Nat
  | .hbm => 15
  | .vmem => 19
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S8192x5632, .f32⟩
  | .hbm, ⟨5, _⟩ => ⟨S8192x5632, .f32⟩
  | .hbm, ⟨6, _⟩ => ⟨S8192x2048, .f32⟩
  | .hbm, ⟨7, _⟩ => ⟨S8192x5632, .bf16⟩
  | .hbm, ⟨8, _⟩ => ⟨S2048x5632, .bf16⟩
  | .hbm, ⟨9, _⟩ => ⟨S8192x5632, .bf16⟩
  | .hbm, ⟨10, _⟩ => ⟨S2048x5632, .bf16⟩
  | .hbm, ⟨11, _⟩ => ⟨S1x2048, .f32⟩
  | .hbm, ⟨12, _⟩ => ⟨S8192x2048, .f32⟩
  | .hbm, ⟨13, _⟩ => ⟨S8192x2048, .bf16⟩
  | .hbm, ⟨14, _⟩ => ⟨S1x2048, .f32⟩
  | .local _ .vmem, ⟨0, _⟩ => ⟨S512x5632, .bf16⟩
  | .local _ .vmem, ⟨1, _⟩ => ⟨S512x5632, .bf16⟩
  | .local _ .vmem, ⟨2, _⟩ => ⟨S512x5632, .bf16⟩
  | .local _ .vmem, ⟨3, _⟩ => ⟨S512x5632, .bf16⟩
  | .local _ .vmem, ⟨4, _⟩ => ⟨S512x5632, .bf16⟩
  | .local _ .vmem, ⟨5, _⟩ => ⟨S512x5632, .bf16⟩
  | .local _ .vmem, ⟨6, _⟩ => ⟨S512x5632, .bf16⟩
  | .local _ .vmem, ⟨7, _⟩ => ⟨S512x5632, .bf16⟩
  | .local _ .vmem, ⟨8, _⟩ => ⟨S128x2048, .f32⟩
  | .local _ .vmem, ⟨9, _⟩ => ⟨S128x2048, .f32⟩
  | .local _ .vmem, ⟨10, _⟩ => ⟨S1x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .bf16⟩
  | .local _ .vmem, ⟨16, _⟩ => ⟨S128x2048, .bf16⟩
  | .local _ .vmem, ⟨17, _⟩ => ⟨S1x2048, .f32⟩
  | .local _ .vmem, ⟨18, _⟩ => ⟨S2x4x512x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨2, ![17, 4], ![false, false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_off1 (i : grid0.Coords) : Fin 4 → Nat :=
  let arg0 : BitVec 32 := BitVec.ofNat 32 (i 0).val
  let c2_i32 : BitVec 32 := 2#32
  let c0_i32_10 : BitVec 32 := 0#32
  let v17 : BitVec 1 := Scalar.cmpi .eq c2_i32 c0_i32_10
  let c1_i32 : BitVec 32 := 1#32
  let v18 : BitVec 32 := Scalar.select v17 c1_i32 c2_i32
  let v19 : BitVec 32 := Scalar.remsi arg0 v18
  let c0_i32_12 : BitVec 32 := 0#32
  let v21 : BitVec 1 := Scalar.cmpi .slt v19 c0_i32_12
  let c0_i32_13 : BitVec 32 := 0#32
  let v22 : BitVec 1 := Scalar.cmpi .slt v18 c0_i32_13
  let v23 : BitVec 1 := Scalar.xori v21 v22
  let c0_i32_11 : BitVec 32 := 0#32
  let v20 : BitVec 1 := Scalar.cmpi .ne v19 c0_i32_11
  let v24 : BitVec 1 := Scalar.andi v23 v20
  let v25 : BitVec 32 := Scalar.addi v19 v18
  let v26 : BitVec 32 := Scalar.select v24 v25 v19
  let v27 : Index := Scalar.indexCast v26
  let arg1 : BitVec 32 := BitVec.ofNat 32 (i 1).val
  let v28 : Index := Scalar.indexCast arg1
  let c0_14 : Index := 0#32
  let c0_15 : Index := 0#32
  ![v27.toNat, v28.toNat, 0, 0]
def k0_cond2 (i : grid0.Coords) : BitVec 1 :=
  let arg0 : BitVec 32 := BitVec.ofNat 32 (i 0).val
  let c0_i32_0 : BitVec 32 := 0#32
  let v3 : BitVec 1 := Scalar.cmpi .sgt arg0 c0_i32_0
  let v4 : BitVec 32 := Scalar.extui v3
  let c0_i32_1 : BitVec 32 := 0#32
  let v5 : BitVec 1 := Scalar.cmpi .ne v4 c0_i32_1
  v5

def k0_mult1 (i : grid0.Coords) : BitVec 32 :=
  let arg1 : BitVec 32 := BitVec.ofNat 32 (i 1).val
  let c128_i32 : BitVec 32 := 128#32
  let v6 : BitVec 32 := Scalar.muli arg1 c128_i32
  v6
def k0_off2 (i : grid0.Coords) : Fin 4 → Nat :=
  let arg0 : BitVec 32 := BitVec.ofNat 32 (i 0).val
  let c1_i32 : BitVec 32 := 1#32
  let v8 : BitVec 32 := Scalar.subi arg0 c1_i32
  let c2_i32 : BitVec 32 := 2#32
  let c0_i32_2 : BitVec 32 := 0#32
  let v9 : BitVec 1 := Scalar.cmpi .eq c2_i32 c0_i32_2
  let c1_i32_3 : BitVec 32 := 1#32
  let v10 : BitVec 32 := Scalar.select v9 c1_i32_3 c2_i32
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v19 : Index := Scalar.indexCast v18
  let c0 : Index := 0#32
  let arg1 : BitVec 32 := BitVec.ofNat 32 (i 1).val
  let c128_i32 : BitVec 32 := 128#32
  let v6 : BitVec 32 := Scalar.muli arg1 c128_i32
  let v7 : BitVec 32 := v6
  let v20 : Index := Scalar.indexCast v7
  let c0_7 : Index := 0#32
  ![v19.toNat, 0, v20.toNat, 0]
def k0_off3 (i : grid0.Coords) : Fin 4 → Nat :=
  let arg0 : BitVec 32 := BitVec.ofNat 32 (i 0).val
  let c1_i32_8 : BitVec 32 := 1#32
  let v23 : BitVec 32 := Scalar.subi arg0 c1_i32_8
  let c2_i32_9 : BitVec 32 := 2#32
  let c0_i32_10 : BitVec 32 := 0#32
  let v24 : BitVec 1 := Scalar.cmpi .eq c2_i32_9 c0_i32_10
  let c1_i32_11 : BitVec 32 := 1#32
  let v25 : BitVec 32 := Scalar.select v24 c1_i32_11 c2_i32_9
  let v26 : BitVec 32 := Scalar.remsi v23 v25
  let c0_i32_13 : BitVec 32 := 0#32
  let v28 : BitVec 1 := Scalar.cmpi .slt v26 c0_i32_13
  let c0_i32_14 : BitVec 32 := 0#32
  let v29 : BitVec 1 := Scalar.cmpi .slt v25 c0_i32_14
  let v30 : BitVec 1 := Scalar.xori v28 v29
  let c0_i32_12 : BitVec 32 := 0#32
  let v27 : BitVec 1 := Scalar.cmpi .ne v26 c0_i32_12
  let v31 : BitVec 1 := Scalar.andi v30 v27
  let v32 : BitVec 32 := Scalar.addi v26 v25
  let v33 : BitVec 32 := Scalar.select v31 v32 v26
  let v34 : Index := Scalar.indexCast v33
  let c1 : Index := 1#32
  let arg1 : BitVec 32 := BitVec.ofNat 32 (i 1).val
  let c128_i32 : BitVec 32 := 128#32
  let v6 : BitVec 32 := Scalar.muli arg1 c128_i32
  let v7 : BitVec 32 := v6
  let v35 : Index := Scalar.indexCast v7
  let c0_15 : Index := 0#32
  ![v34.toNat, 1, v35.toNat, 0]
def k0_off4 (i : grid0.Coords) : Fin 4 → Nat :=
  let arg0 : BitVec 32 := BitVec.ofNat 32 (i 0).val
  let c1_i32_16 : BitVec 32 := 1#32
  let v38 : BitVec 32 := Scalar.subi arg0 c1_i32_16
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi v38 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let v49 : Index := Scalar.indexCast v48
  let c2 : Index := 2#32
  let arg1 : BitVec 32 := BitVec.ofNat 32 (i 1).val
  let c128_i32 : BitVec 32 := 128#32
  let v6 : BitVec 32 := Scalar.muli arg1 c128_i32
  let v7 : BitVec 32 := v6
  let v50 : Index := Scalar.indexCast v7
  let c0_23 : Index := 0#32
  ![v49.toNat, 2, v50.toNat, 0]
def k0_off5 (i : grid0.Coords) : Fin 4 → Nat :=
  let arg0 : BitVec 32 := BitVec.ofNat 32 (i 0).val
  let c1_i32_24 : BitVec 32 := 1#32
  let v53 : BitVec 32 := Scalar.subi arg0 c1_i32_24
  let c2_i32_25 : BitVec 32 := 2#32
  let c0_i32_26 : BitVec 32 := 0#32
  let v54 : BitVec 1 := Scalar.cmpi .eq c2_i32_25 c0_i32_26
  let c1_i32_27 : BitVec 32 := 1#32
  let v55 : BitVec 32 := Scalar.select v54 c1_i32_27 c2_i32_25
  let v56 : BitVec 32 := Scalar.remsi v53 v55
  let c0_i32_29 : BitVec 32 := 0#32
  let v58 : BitVec 1 := Scalar.cmpi .slt v56 c0_i32_29
  let c0_i32_30 : BitVec 32 := 0#32
  let v59 : BitVec 1 := Scalar.cmpi .slt v55 c0_i32_30
  let v60 : BitVec 1 := Scalar.xori v58 v59
  let c0_i32_28 : BitVec 32 := 0#32
  let v57 : BitVec 1 := Scalar.cmpi .ne v56 c0_i32_28
  let v61 : BitVec 1 := Scalar.andi v60 v57
  let v62 : BitVec 32 := Scalar.addi v56 v55
  let v63 : BitVec 32 := Scalar.select v61 v62 v56
  let v64 : Index := Scalar.indexCast v63
  let c3 : Index := 3#32
  let arg1 : BitVec 32 := BitVec.ofNat 32 (i 1).val
  let c128_i32 : BitVec 32 := 128#32
  let v6 : BitVec 32 := Scalar.muli arg1 c128_i32
  let v7 : BitVec 32 := v6
  let v65 : Index := Scalar.indexCast v7
  let c0_31 : Index := 0#32
  ![v64.toNat, 3, v65.toNat, 0]
def k0_cond3 (i : grid0.Coords) : BitVec 1 :=
  let arg0 : BitVec 32 := BitVec.ofNat 32 (i 0).val
  let c1_i32_47 : BitVec 32 := 1#32
  let v102 : BitVec 1 := Scalar.cmpi .eq arg0 c1_i32_47
  let arg1 : BitVec 32 := BitVec.ofNat 32 (i 1).val
  let c0_i32_48 : BitVec 32 := 0#32
  let v103 : BitVec 1 := Scalar.cmpi .eq arg1 c0_i32_48
  let v104 : BitVec 1 := Scalar.andi v102 v103
  let v105 : BitVec 32 := Scalar.extui v104
  let c0_i32_49 : BitVec 32 := 0#32
  let v106 : BitVec 1 := Scalar.cmpi .ne v105 c0_i32_49
  v106

def k0_cond4 (i : grid0.Coords) : BitVec 1 :=
  let arg0 : BitVec 32 := BitVec.ofNat 32 (i 0).val
  let c1_i32_47 : BitVec 32 := 1#32
  let v102 : BitVec 1 := Scalar.cmpi .eq arg0 c1_i32_47
  let arg1 : BitVec 32 := BitVec.ofNat 32 (i 1).val
  let c0_i32_48 : BitVec 32 := 0#32
  let v103 : BitVec 1 := Scalar.cmpi .eq arg1 c0_i32_48
  let v104 : BitVec 1 := Scalar.andi v102 v103
  let v_true : BitVec 1 := 1#1
  let v107 : BitVec 1 := Scalar.xori v104 v_true
  let v108 : BitVec 32 := Scalar.extui v107
  let c0_i32_50 : BitVec 32 := 0#32
  let v109 : BitVec 1 := Scalar.cmpi .ne v108 c0_i32_50
  v109

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c3_i32 : BitVec 32 := 3#32
  let v1 : BitVec 32 := Scalar.select v0 arg1 c3_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c3_i32 : BitVec 32 := 3#32
  let v1 : BitVec 32 := Scalar.select v0 arg1 c3_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c1_i32 : BitVec 32 := 1#32
  let v1 : BitVec 32 := Scalar.subi arg0 c1_i32
  let c4_i32 : BitVec 32 := 4#32
  let v2 : BitVec 32 := Scalar.muli v1 c4_i32
  let v3 : BitVec 32 := Scalar.addi v2 arg1
  let c0_i32_0 : BitVec 32 := 0#32
  let v4 : BitVec 32 := Scalar.select v0 v3 c0_i32_0
  let c0_i32_1 : BitVec 32 := 0#32
  let c0_i32_2 : BitVec 32 := 0#32
  ![v4.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c1_i32 : BitVec 32 := 1#32
  let v1 : BitVec 32 := Scalar.subi arg0 c1_i32
  let c4_i32 : BitVec 32 := 4#32
  let v2 : BitVec 32 := Scalar.muli v1 c4_i32
  let v3 : BitVec 32 := Scalar.addi v2 arg1
  let c0_i32_0 : BitVec 32 := 0#32
  let v4 : BitVec 32 := Scalar.select v0 v3 c0_i32_0
  let c0_i32_1 : BitVec 32 := 0#32
  let c0_i32_2 : BitVec 32 := 0#32
  ![v4.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c1_i32 : BitVec 32 := 1#32
  let v1 : BitVec 32 := Scalar.subi arg0 c1_i32
  let c4_i32 : BitVec 32 := 4#32
  let v2 : BitVec 32 := Scalar.muli v1 c4_i32
  let v3 : BitVec 32 := Scalar.addi v2 arg1
  let c0_i32_0 : BitVec 32 := 0#32
  let v4 : BitVec 32 := Scalar.select v0 v3 c0_i32_0
  let c0_i32_1 : BitVec 32 := 0#32
  let c0_i32_2 : BitVec 32 := 0#32
  ![v4.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c1_i32 : BitVec 32 := 1#32
  let v1 : BitVec 32 := Scalar.subi arg0 c1_i32
  let c4_i32 : BitVec 32 := 4#32
  let v2 : BitVec 32 := Scalar.muli v1 c4_i32
  let v3 : BitVec 32 := Scalar.addi v2 arg1
  let c0_i32_0 : BitVec 32 := 0#32
  let v4 : BitVec 32 := Scalar.select v0 v3 c0_i32_0
  let c0_i32_1 : BitVec 32 := 0#32
  let c0_i32_2 : BitVec 32 := 0#32
  ![v4.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== Reference3Ideal.lean ====
abbrev S8192x2048 : Shape := ⟨2, ![8192, 2048]⟩
abbrev S2048 : Shape := ⟨1, ![2048]⟩
abbrev S2048x5632 : Shape := ⟨2, ![2048, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 60
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S8192x5632, .f32⟩
  | .hbm, ⟨5, _⟩ => ⟨S8192x5632, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S8192x5632, .f32⟩
  | .hbm, ⟨28, _⟩ => ⟨S8192x5632, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S2048, .f32⟩
  | .hbm, ⟨40, _⟩ => ⟨S8192x2048, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S8192x2048, .bf16⟩
  | .hbm, ⟨59, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== Kernel4.lean ====
abbrev S8192x5632 : Shape := ⟨2, ![8192, 5632]⟩
abbrev S5632x2048 : Shape := ⟨2, ![5632, 2048]⟩
abbrev S8192x2048 : Shape := ⟨2, ![8192, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S8192x5632, .bf16⟩
  | .hbm, ⟨4, _⟩ => ⟨S8192x2048, .bf16⟩
  | .hbm, ⟨5, _⟩ => ⟨S5632x2048, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x5632 : Shape := ⟨2, ![8192, 5632]⟩
abbrev S5632x2048 : Shape := ⟨2, ![5632, 2048]⟩
abbrev S8192x2048 : Shape := ⟨2, ![8192, 2048]⟩
abbrev S2048x5632 : Shape := ⟨2, ![2048, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S8192x2048, .f32⟩
  | .hbm, ⟨4, _⟩ => ⟨S2048x5632, .f32⟩
  | .hbm, ⟨5, _⟩ => ⟨S5632x2048, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S8192x2048 : Shape := ⟨2, ![8192, 2048]⟩
abbrev S2048x5632 : Shape := ⟨2, ![2048, 5632]⟩
abbrev S8192x5632 : Shape := ⟨2, ![8192, 5632]⟩
abbrev S4x2048x1408 : Shape := ⟨3, ![4, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S8192x5632, .f32⟩
  | .hbm, ⟨3, _⟩ => ⟨S8192x2048, .bf16⟩
  | .hbm, ⟨4, _⟩ => ⟨S8192x5632, .bf16⟩
  | .hbm, ⟨5, _⟩ => ⟨S4x2048x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2048 : Shape := ⟨2, ![8192, 2048]⟩
abbrev S2048x5632 : Shape := ⟨2, ![2048, 5632]⟩
abbrev S8192x5632 : Shape := ⟨2, ![8192, 5632]⟩
abbrev S5632x2048 : Shape := ⟨2, ![5632, 2048]⟩
abbrev S2048x4x1408 : Shape := ⟨3, ![2048, 4, 1408]⟩
abbrev S4x2048x1408 : Shape := ⟨3, ![4, 2048, 1408]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S8192x5632, .f32⟩
  | .hbm, ⟨3, _⟩ => ⟨S8192x5632, .f32⟩
  | .hbm, ⟨4, _⟩ => ⟨S5632x2048, .f32⟩
  | .hbm, ⟨5, _⟩ => ⟨S2048x5632, .f32⟩
  | .hbm, ⟨6, _⟩ => ⟨S2048x4x1408, .f32⟩
  | .hbm, ⟨7, _⟩ => ⟨S4x2048x1408, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S8192x2048, .bf16⟩
  | .hbm, ⟨5, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S2048x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S8192x2048 : Shape := ⟨2, ![8192, 2048]⟩
abbrev S2048x3840 : Shape := ⟨2, ![2048, 3840]⟩
abbrev S8192x3840 : Shape := ⟨2, ![8192, 3840]⟩
abbrev S2048x1024 : Shape := ⟨2, ![2048, 1024]⟩
abbrev S2048x1280 : Shape := ⟨2, ![2048, 1280]⟩
abbrev S1024x1280 : Shape := ⟨2, ![1024, 1280]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x3840, .f32⟩
  | .hbm, ⟨2, _⟩ => ⟨S8192x3840, .f32⟩
  | .hbm, ⟨3, _⟩ => ⟨S8192x2048, .bf16⟩
  | .hbm, ⟨4, _⟩ => ⟨S8192x3840, .bf16⟩
  | .hbm, ⟨5, _⟩ => ⟨S2048x3840, .f32⟩
  | .local _ .vmem, ⟨0, _⟩ => ⟨S2048x1024, .bf16⟩
  | .local _ .vmem, ⟨1, _⟩ => ⟨S2048x1024, .bf16⟩
  | .local _ .vmem, ⟨2, _⟩ => ⟨S2048x1280, .bf16⟩
  | .local _ .vmem, ⟨3, _⟩ => ⟨S2048x1280, .bf16⟩
  | .local _ .vmem, ⟨4, _⟩ => ⟨S1024x1280, .f32⟩
  | .local _ .vmem, ⟨5, _⟩ => ⟨S1024x1280, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2048 : Shape := ⟨2, ![8192, 2048]⟩
abbrev S2048x3840 : Shape := ⟨2, ![2048, 3840]⟩
abbrev S8192x3840 : Shape := ⟨2, ![8192, 3840]⟩
abbrev S3840x2048 : Shape := ⟨2, ![3840, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x3840, .f32⟩
  | .hbm, ⟨2, _⟩ => ⟨S8192x3840, .f32⟩
  | .hbm, ⟨3, _⟩ => ⟨S8192x3840, .f32⟩
  | .hbm, ⟨4, _⟩ => ⟨S3840x2048, .f32⟩
  | .hbm, ⟨5, _⟩ => ⟨S2048x3840, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel8.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S2048x2048, .bf16⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel9.lean ====
abbrev S8192x5632 : Shape := ⟨2, ![8192, 5632]⟩
abbrev S5632x2048 : Shape := ⟨2, ![5632, 2048]⟩
abbrev S8192x2048 : Shape := ⟨2, ![8192, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S8192x5632, .bf16⟩
  | .hbm, ⟨4, _⟩ => ⟨S5632x2048, .bf16⟩
  | .hbm, ⟨5, _⟩ => ⟨S8192x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S8192x2048, .f32⟩
  | .hbm, ⟨4, _⟩ => ⟨S8192x2048, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel10.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S2048x2048, .bf16⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel11.lean ====
abbrev S8192x2048 : Shape := ⟨2, ![8192, 2048]⟩
abbrev S2048 : Shape := ⟨1, ![2048]⟩
abbrev S2048x5632 : Shape := ⟨2, ![2048, 5632]⟩
abbrev S1x2048 : Shape := ⟨2, ![1, 2048]⟩
abbrev S8192x5632 : Shape := ⟨2, ![8192, 5632]⟩
abbrev S1024x2048 : Shape := ⟨2, ![1024, 2048]⟩
abbrev S2048x512 : Shape := ⟨2, ![2048, 512]⟩
abbrev S1024x512 : Shape := ⟨2, ![1024, 512]⟩
abbrev S128x2048 : Shape := ⟨2, ![128, 2048]⟩
abbrev S128 : Shape := ⟨1, ![128]⟩
abbrev S128x1 : Shape := ⟨2, ![128, 1]⟩

abbrev nBuf : Space → Nat
  | .hbm => 11
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S1x2048, .f32⟩
  | .hbm, ⟨5, _⟩ => ⟨S2048x5632, .bf16⟩
  | .hbm, ⟨6, _⟩ => ⟨S2048x5632, .bf16⟩
  | .hbm, ⟨7, _⟩ => ⟨S8192x2048, .bf16⟩
  | .hbm, ⟨8, _⟩ => ⟨S8192x5632, .f32⟩
  | .hbm, ⟨9, _⟩ => ⟨S8192x5632, .f32⟩
  | .hbm, ⟨10, _⟩ => ⟨S8192x5632, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S1024x2048, .bf16⟩
  | .local _ .vmem, ⟨8, _⟩ => ⟨S1024x2048, .bf16⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .bf16⟩
  | .local _ .vmem, ⟨14, _⟩ => ⟨S1024x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_16 : BitVec 32 := 0#32
  let c8_i32 : BitVec 32 := 8#32
  let v24 : BitVec 32 := Scalar.addi c0_i32_16 c8_i32
  let c1_i32 : BitVec 32 := 1#32
  ⟨c0_i32_16, v24, c1_i32⟩
def k0_off1 (k0_t1 : Fin k0_t1_loop.trips) : Fin 2 → Nat :=
  let c0_i32_16 : BitVec 32 := 0#32
  let c1_i32 : BitVec 32 := 1#32
  let arg10 : BitVec 32 := Scf.iv c0_i32_16 c1_i32 k0_t1
  let c128_i32 : BitVec 32 := 128#32
  let v25 : BitVec 32 := Scalar.muli arg10 c128_i32
  let v26 : Index := Scalar.indexCast v25
  let c0_18 : Index := 0#32
  ![v26.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference11Ideal.lean ====
abbrev S8192x2048 : Shape := ⟨2, ![8192, 2048]⟩
abbrev S2048 : Shape := ⟨1, ![2048]⟩
abbrev S2048x5632 : Shape := ⟨2, ![2048, 5632]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x5632 : Shape := ⟨2, ![8192, 5632]⟩

abbrev nBuf : Space → Nat
  | .hbm => 34
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x5632, .f32⟩
  | .hbm, ⟨21, _⟩ => ⟨S8192x5632, .f32⟩
  | .hbm, ⟨22, _⟩ => ⟨S8192x2048, .bf16⟩
  | .hbm, ⟨23, _⟩ => ⟨S8192x5632, .f32⟩
  | .hbm, ⟨24, _⟩ => ⟨S8192x5632, .f32⟩
  | .hbm, ⟨25, _⟩ => ⟨S_, .f32⟩
  | .hbm, ⟨26, _⟩ => ⟨S8192x5632, .f32⟩
  | .hbm, ⟨27, _⟩ => ⟨S8192x5632, .f32⟩
  | .hbm, ⟨28, _⟩ => ⟨S_, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩

abbrev nD : Nat := 1
abbrev τ : Topo := Topo.v7x

variable {F : FTy → Type} [FloatOps F]
-- ==== Kernel12.lean ====
abbrev S8192x2048 : Shape := ⟨2, ![8192, 2048]⟩
abbrev S2048 : Shape := ⟨1, ![2048]⟩
abbrev S2048x3840 : Shape := ⟨2, ![2048, 3840]⟩
abbrev S1x2048 : Shape := ⟨2, ![1, 2048]⟩
abbrev S8192x3840 : Shape := ⟨2, ![8192, 3840]⟩
abbrev S512x2048 : Shape := ⟨2, ![512, 2048]⟩
abbrev S2048x1920 : Shape := ⟨2, ![2048, 1920]⟩
abbrev S1024x1920 : Shape := ⟨2, ![1024, 1920]⟩
abbrev S2x1024x2048 : Shape := ⟨3, ![2, 1024, 2048]⟩
abbrev S128x2048 : Shape := ⟨2, ![128, 2048]⟩
abbrev S128 : Shape := ⟨1, ![128]⟩
abbrev S128x1 : Shape := ⟨2, ![128, 1]⟩
abbrev S1x128x2048 : Shape := ⟨3, ![1, 128, 2048]⟩
abbrev S1x1024x2048 : Shape := ⟨3, ![1, 1024, 2048]⟩
abbrev S1024x2048 : Shape := ⟨2, ![1024, 2048]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x3840, .f32⟩
  | .hbm, ⟨3, _⟩ => ⟨S1x2048, .f32⟩
  | .hbm, ⟨4, _⟩ => ⟨S2048x3840, .bf16⟩
  | .hbm, ⟨5, _⟩ => ⟨S8192x2048, .bf16⟩
  | .hbm, ⟨6, _⟩ => ⟨S8192x3840, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1920, .bf16⟩
  | .local _ .vmem, ⟨4, _⟩ => ⟨S2048x1920, .bf16⟩
  | .local _ .vmem, ⟨5, _⟩ => ⟨S512x2048, .bf16⟩
  | .local _ .vmem, ⟨6, _⟩ => ⟨S512x2048, .bf16⟩
  | .local _ .vmem, ⟨7, _⟩ => ⟨S1024x1920, .f32⟩
  | .local _ .vmem, ⟨8, _⟩ => ⟨S1024x1920, .f32⟩
  | .local _ .vmem, ⟨9, _⟩ => ⟨S2x1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![9, 2], ![false, false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

@[reducible] def k0_t1_loop : Scf.Loop 32 :=
  let c0_i32_2 : BitVec 32 := 0#32
  let c4_i32 : BitVec 32 := 4#32
  let v6 : BitVec 32 := Scalar.addi c0_i32_2 c4_i32
  let c1_i32 : BitVec 32 := 1#32
  ⟨c0_i32_2, v6, c1_i32⟩
def k0_off1 (k0_t1 : Fin k0_t1_loop.trips) : Fin 2 → Nat :=
  let c0_i32_2 : BitVec 32 := 0#32
  let c1_i32 : BitVec 32 := 1#32
  let arg8 : BitVec 32 := Scf.iv c0_i32_2 c1_i32 k0_t1
  let c128_i32 : BitVec 32 := 128#32
  let v7 : BitVec 32 := Scalar.muli arg8 c128_i32
  let v8 : Index := Scalar.indexCast v7
  let c0 : Index := 0#32
  ![v8.toNat, 0]
def k0_mult1 (i : grid0.Coords) (k0_t1 : Fin k0_t1_loop.trips) : BitVec 32 :=
  let arg1 : BitVec 32 := BitVec.ofNat 32 (i 1).val
  let c512_i32 : BitVec 32 := 512#32
  let v37 : BitVec 32 := Scalar.muli arg1 c512_i32
  let c0_i32_2 : BitVec 32 := 0#32
  let c1_i32 : BitVec 32 := 1#32
  let arg8 : BitVec 32 := Scf.iv c0_i32_2 c1_i32 k0_t1
  let c128_i32_14 : BitVec 32 := 128#32
  let v38 : BitVec 32 := Scalar.muli arg8 c128_i32_14
  let v39 : BitVec 32 := Scalar.addi v37 v38
  v39
def k0_off2 (i : grid0.Coords) (k0_t1 : Fin k0_t1_loop.trips) : Fin 3 → Nat :=
  let arg0 : BitVec 32 := BitVec.ofNat 32 (i 0).val
  let c2_i32 : BitVec 32 := 2#32
  let c0_i32_9 : BitVec 32 := 0#32
  let v27 : BitVec 1 := Scalar.cmpi .eq c2_i32 c0_i32_9
  let c1_i32_10 : BitVec 32 := 1#32
  let v28 : BitVec 32 := Scalar.select v27 c1_i32_10 c2_i32
  let v29 : BitVec 32 := Scalar.remsi arg0 v28
  let c0_i32_12 : BitVec 32 := 0#32
  let v31 : BitVec 1 := Scalar.cmpi .slt v29 c0_i32_12
  let c0_i32_13 : BitVec 32 := 0#32
  let v32 : BitVec 1 := Scalar.cmpi .slt v28 c0_i32_13
  let v33 : BitVec 1 := Scalar.xori v31 v32
  let c0_i32_11 : BitVec 32 := 0#32
  let v30 : BitVec 1 := Scalar.cmpi .ne v29 c0_i32_11
  let v34 : BitVec 1 := Scalar.andi v33 v30
  let v35 : BitVec 32 := Scalar.addi v29 v28
  let v36 : BitVec 32 := Scalar.select v34 v35 v29
  let v41 : Index := Scalar.indexCast v36
  let arg1 : BitVec 32 := BitVec.ofNat 32 (i 1).val
  let c512_i32 : BitVec 32 := 512#32
  let v37 : BitVec 32 := Scalar.muli arg1 c512_i32
  let c0_i32_2 : BitVec 32 := 0#32
  let c1_i32 : BitVec 32 := 1#32
  let arg8 : BitVec 32 := Scf.iv c0_i32_2 c1_i32 k0_t1
  let c128_i32_14 : BitVec 32 := 128#32
  let v38 : BitVec 32 := Scalar.muli arg8 c128_i32_14
  let v39 : BitVec 32 := Scalar.addi v37 v38
  let v40 : BitVec 32 := v39
  let v42 : Index := Scalar.indexCast v40
  let c0_15 : Index := 0#32
  ![v41.toNat, v42.toNat, 0]
def k0_cond2 (i : grid0.Coords) : BitVec 1 :=
  let arg0 : BitVec 32 := BitVec.ofNat 32 (i 0).val
  let c0_i32_0 : BitVec 32 := 0#32
  let v3 : BitVec 1 := Scalar.cmpi .sgt arg0 c0_i32_0
  let v4 : BitVec 32 := Scalar.extui v3
  let c0_i32_1 : BitVec 32 := 0#32
  let v5 : BitVec 1 := Scalar.cmpi .ne v4 c0_i32_1
  v5

def k0_off3 (i : grid0.Coords) : Fin 3 → Nat :=
  let arg0 : BitVec 32 := BitVec.ofNat 32 (i 0).val
  let c1_i32 : BitVec 32 := 1#32
  let v6 : BitVec 32 := Scalar.subi arg0 c1_i32
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v17 : Index := Scalar.indexCast v16
  let c0 : Index := 0#32
  let c0_7 : Index := 0#32
  ![v17.toNat, 0, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c2_i32 : BitVec 32 := 2#32
  let v1 : BitVec 32 := Scalar.muli arg0 c2_i32
  let v2 : BitVec 32 := Scalar.addi v1 arg1
  let c15_i32 : BitVec 32 := 15#32
  let v3 : BitVec 32 := Scalar.select v0 v2 c15_i32
  let c0_i32 : BitVec 32 := 0#32
  let c0_i32_0 : BitVec 32 := 0#32
  ![v3.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let c0_i32_2 : BitVec 32 := 0#32
  ![c0_i32_1.toNat, v1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c2_i32 : BitVec 32 := 2#32
  let v1 : BitVec 32 := Scalar.muli arg0 c2_i32
  let v2 : BitVec 32 := Scalar.addi v1 arg1
  let c15_i32 : BitVec 32 := 15#32
  let v3 : BitVec 32 := Scalar.select v0 v2 c15_i32
  let c0_i32 : BitVec 32 := 0#32
  let c0_i32_0 : BitVec 32 := 0#32
  ![v3.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c0_i32_1 : BitVec 32 := 0#32
  let v3 : BitVec 32 := Scalar.select v2 arg1 c0_i32_1
  let c0_i32_2 : BitVec 32 := 0#32
  ![v1.toNat, v3.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1920 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1920 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference12Ideal.lean ====
abbrev S8192x2048 : Shape := ⟨2, ![8192, 2048]⟩
abbrev S2048 : Shape := ⟨1, ![2048]⟩
abbrev S2048x3840 : Shape := ⟨2, ![2048, 3840]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x3840 : Shape := ⟨2, ![8192, 3840]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x3840, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .bf16⟩
  | .hbm, ⟨20, _⟩ => ⟨S8192x3840, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel13.lean ====
abbrev S8192x2048 : Shape := ⟨2, ![8192, 2048]⟩
abbrev S2048 : Shape := ⟨1, ![2048]⟩
abbrev S2048x3840 : Shape := ⟨2, ![2048, 3840]⟩
abbrev S8192x3840 : Shape := ⟨2, ![8192, 3840]⟩
abbrev S1x2048 : Shape := ⟨2, ![1, 2048]⟩
abbrev S1024x3840 : Shape := ⟨2, ![1024, 3840]⟩
abbrev S512x3840 : Shape := ⟨2, ![512, 3840]⟩
abbrev S256x2048 : Shape := ⟨2, ![256, 2048]⟩
abbrev S2x4x1024x512 : Shape := ⟨4, ![2, 4, 1024, 512]⟩
abbrev S1024x512 : Shape := ⟨2, ![1024, 512]⟩
abbrev S1x1x1024x512 : Shape := ⟨4, ![1, 1, 1024, 512]⟩
abbrev S1x1x256x512 : Shape := ⟨4, ![1, 1, 256, 512]⟩
abbrev S256x512 : Shape := ⟨2, ![256, 512]⟩
abbrev S256 : Shape := ⟨1, ![256]⟩
abbrev S256x1 : Shape := ⟨2, ![256, 1]⟩

abbrev nBuf : Space → Nat
  | .hbm => 11
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x3840, .f32⟩
  | .hbm, ⟨3, _⟩ => ⟨S8192x3840, .f32⟩
  | .hbm, ⟨4, _⟩ => ⟨S8192x2048, .f32⟩
  | .hbm, ⟨5, _⟩ => ⟨S8192x3840, .bf16⟩
  | .hbm, ⟨6, _⟩ => ⟨S2048x3840, .bf16⟩
  | .hbm, ⟨7, _⟩ => ⟨S1x2048, .f32⟩
  | .hbm, ⟨8, _⟩ => ⟨S8192x2048, .f32⟩
  | .hbm, ⟨9, _⟩ => ⟨S8192x2048, .bf16⟩
  | .hbm, ⟨10, _⟩ => ⟨S1x2048, .f32⟩
  | .local _ .vmem, ⟨0, _⟩ => ⟨S1024x3840, .bf16⟩
  | .local _ .vmem, ⟨1, _⟩ => ⟨S1024x3840, .bf16⟩
  | .local _ .vmem, ⟨2, _⟩ => ⟨S512x3840, .bf16⟩
  | .local _ .vmem, ⟨3, _⟩ => ⟨S512x3840, .bf16⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S1x2048, .f32⟩
  | .local _ .vmem, ⟨14, _⟩ => ⟨S2x4x1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![9, 4], ![false, false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_off1 (i : grid0.Coords) : Fin 4 → Nat :=
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : Index := Scalar.indexCast v20
  let arg1 : BitVec 32 := BitVec.ofNat 32 (i 1).val
  let v22 : Index := Scalar.indexCast arg1
  let c0_9 : Index := 0#32
  let c0_10 : Index := 0#32
  ![v21.toNat, v22.toNat, 0, 0]
def k0_cond2 (i : grid0.Coords) : BitVec 1 :=
  let arg0 : BitVec 32 := BitVec.ofNat 32 (i 0).val
  let c0_i32_0 : BitVec 32 := 0#32
  let v3 : BitVec 1 := Scalar.cmpi .sgt arg0 c0_i32_0
  let v4 : BitVec 32 := Scalar.extui v3
  let c0_i32_1 : BitVec 32 := 0#32
  let v5 : BitVec 1 := Scalar.cmpi .ne v4 c0_i32_1
  v5

def k0_mult1 (i : grid0.Coords) : BitVec 32 :=
  let arg1 : BitVec 32 := BitVec.ofNat 32 (i 1).val
  let c256_i32 : BitVec 32 := 256#32
  let v6 : BitVec 32 := Scalar.muli arg1 c256_i32
  v6
def k0_off2 (i : grid0.Coords) : Fin 4 → Nat :=
  let arg0 : BitVec 32 := BitVec.ofNat 32 (i 0).val
  let c1_i32 : BitVec 32 := 1#32
  let v8 : BitVec 32 := Scalar.subi arg0 c1_i32
  let c2_i32 : BitVec 32 := 2#32
  let c0_i32_2 : BitVec 32 := 0#32
  let v9 : BitVec 1 := Scalar.cmpi .eq c2_i32 c0_i32_2
  let c1_i32_3 : BitVec 32 := 1#32
  let v10 : BitVec 32 := Scalar.select v9 c1_i32_3 c2_i32
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v19 : Index := Scalar.indexCast v18
  let c0 : Index := 0#32
  let arg1 : BitVec 32 := BitVec.ofNat 32 (i 1).val
  let c256_i32 : BitVec 32 := 256#32
  let v6 : BitVec 32 := Scalar.muli arg1 c256_i32
  let v7 : BitVec 32 := v6
  let v20 : Index := Scalar.indexCast v7
  let c0_7 : Index := 0#32
  ![v19.toNat, 0, v20.toNat, 0]
def k0_off3 (i : grid0.Coords) : Fin 4 → Nat :=
  let arg0 : BitVec 32 := BitVec.ofNat 32 (i 0).val
  let c1_i32_8 : BitVec 32 := 1#32
  let v23 : BitVec 32 := Scalar.subi arg0 c1_i32_8
  let c2_i32_9 : BitVec 32 := 2#32
  let c0_i32_10 : BitVec 32 := 0#32
  let v24 : BitVec 1 := Scalar.cmpi .eq c2_i32_9 c0_i32_10
  let c1_i32_11 : BitVec 32 := 1#32
  let v25 : BitVec 32 := Scalar.select v24 c1_i32_11 c2_i32_9
  let v26 : BitVec 32 := Scalar.remsi v23 v25
  let c0_i32_13 : BitVec 32 := 0#32
  let v28 : BitVec 1 := Scalar.cmpi .slt v26 c0_i32_13
  let c0_i32_14 : BitVec 32 := 0#32
  let v29 : BitVec 1 := Scalar.cmpi .slt v25 c0_i32_14
  let v30 : BitVec 1 := Scalar.xori v28 v29
  let c0_i32_12 : BitVec 32 := 0#32
  let v27 : BitVec 1 := Scalar.cmpi .ne v26 c0_i32_12
  let v31 : BitVec 1 := Scalar.andi v30 v27
  let v32 : BitVec 32 := Scalar.addi v26 v25
  let v33 : BitVec 32 := Scalar.select v31 v32 v26
  let v34 : Index := Scalar.indexCast v33
  let c1 : Index := 1#32
  let arg1 : BitVec 32 := BitVec.ofNat 32 (i 1).val
  let c256_i32 : BitVec 32 := 256#32
  let v6 : BitVec 32 := Scalar.muli arg1 c256_i32
  let v7 : BitVec 32 := v6
  let v35 : Index := Scalar.indexCast v7
  let c0_15 : Index := 0#32
  ![v34.toNat, 1, v35.toNat, 0]
def k0_off4 (i : grid0.Coords) : Fin 4 → Nat :=
  let arg0 : BitVec 32 := BitVec.ofNat 32 (i 0).val
  let c1_i32_16 : BitVec 32 := 1#32
  let v38 : BitVec 32 := Scalar.subi arg0 c1_i32_16
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi v38 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let v49 : Index := Scalar.indexCast v48
  let c2 : Index := 2#32
  let arg1 : BitVec 32 := BitVec.ofNat 32 (i 1).val
  let c256_i32 : BitVec 32 := 256#32
  let v6 : BitVec 32 := Scalar.muli arg1 c256_i32
  let v7 : BitVec 32 := v6
  let v50 : Index := Scalar.indexCast v7
  let c0_23 : Index := 0#32
  ![v49.toNat, 2, v50.toNat, 0]
def k0_off5 (i : grid0.Coords) : Fin 4 → Nat :=
  let arg0 : BitVec 32 := BitVec.ofNat 32 (i 0).val
  let c1_i32_24 : BitVec 32 := 1#32
  let v53 : BitVec 32 := Scalar.subi arg0 c1_i32_24
  let c2_i32_25 : BitVec 32 := 2#32
  let c0_i32_26 : BitVec 32 := 0#32
  let v54 : BitVec 1 := Scalar.cmpi .eq c2_i32_25 c0_i32_26
  let c1_i32_27 : BitVec 32 := 1#32
  let v55 : BitVec 32 := Scalar.select v54 c1_i32_27 c2_i32_25
  let v56 : BitVec 32 := Scalar.remsi v53 v55
  let c0_i32_29 : BitVec 32 := 0#32
  let v58 : BitVec 1 := Scalar.cmpi .slt v56 c0_i32_29
  let c0_i32_30 : BitVec 32 := 0#32
  let v59 : BitVec 1 := Scalar.cmpi .slt v55 c0_i32_30
  let v60 : BitVec 1 := Scalar.xori v58 v59
  let c0_i32_28 : BitVec 32 := 0#32
  let v57 : BitVec 1 := Scalar.cmpi .ne v56 c0_i32_28
  let v61 : BitVec 1 := Scalar.andi v60 v57
  let v62 : BitVec 32 := Scalar.addi v56 v55
  let v63 : BitVec 32 := Scalar.select v61 v62 v56
  let v64 : Index := Scalar.indexCast v63
  let c3 : Index := 3#32
  let arg1 : BitVec 32 := BitVec.ofNat 32 (i 1).val
  let c256_i32 : BitVec 32 := 256#32
  let v6 : BitVec 32 := Scalar.muli arg1 c256_i32
  let v7 : BitVec 32 := v6
  let v65 : Index := Scalar.indexCast v7
  let c0_31 : Index := 0#32
  ![v64.toNat, 3, v65.toNat, 0]
def k0_cond3 (i : grid0.Coords) : BitVec 1 :=
  let arg0 : BitVec 32 := BitVec.ofNat 32 (i 0).val
  let c1_i32_47 : BitVec 32 := 1#32
  let v102 : BitVec 1 := Scalar.cmpi .eq arg0 c1_i32_47
  let arg1 : BitVec 32 := BitVec.ofNat 32 (i 1).val
  let c0_i32_48 : BitVec 32 := 0#32
  let v103 : BitVec 1 := Scalar.cmpi .eq arg1 c0_i32_48
  let v104 : BitVec 1 := Scalar.andi v102 v103
  let v105 : BitVec 32 := Scalar.extui v104
  let c0_i32_49 : BitVec 32 := 0#32
  let v106 : BitVec 1 := Scalar.cmpi .ne v105 c0_i32_49
  v106

def k0_cond4 (i : grid0.Coords) : BitVec 1 :=
  let arg0 : BitVec 32 := BitVec.ofNat 32 (i 0).val
  let c1_i32_47 : BitVec 32 := 1#32
  let v102 : BitVec 1 := Scalar.cmpi .eq arg0 c1_i32_47
  let arg1 : BitVec 32 := BitVec.ofNat 32 (i 1).val
  let c0_i32_48 : BitVec 32 := 0#32
  let v103 : BitVec 1 := Scalar.cmpi .eq arg1 c0_i32_48
  let v104 : BitVec 1 := Scalar.andi v102 v103
  let v_true : BitVec 1 := 1#1
  let v107 : BitVec 1 := Scalar.xori v104 v_true
  let v108 : BitVec 32 := Scalar.extui v107
  let c0_i32_50 : BitVec 32 := 0#32
  let v109 : BitVec 1 := Scalar.cmpi .ne v108 c0_i32_50
  v109

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c3_i32 : BitVec 32 := 3#32
  let v1 : BitVec 32 := Scalar.select v0 arg1 c3_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c1_i32 : BitVec 32 := 1#32
  let v1 : BitVec 32 := Scalar.subi arg0 c1_i32
  let c4_i32 : BitVec 32 := 4#32
  let v2 : BitVec 32 := Scalar.muli v1 c4_i32
  let v3 : BitVec 32 := Scalar.addi v2 arg1
  let c0_i32_0 : BitVec 32 := 0#32
  let v4 : BitVec 32 := Scalar.select v0 v3 c0_i32_0
  let c0_i32_1 : BitVec 32 := 0#32
  let c0_i32_2 : BitVec 32 := 0#32
  ![v4.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c1_i32 : BitVec 32 := 1#32
  let v1 : BitVec 32 := Scalar.subi arg0 c1_i32
  let c4_i32 : BitVec 32 := 4#32
  let v2 : BitVec 32 := Scalar.muli v1 c4_i32
  let v3 : BitVec 32 := Scalar.addi v2 arg1
  let c0_i32_0 : BitVec 32 := 0#32
  let v4 : BitVec 32 := Scalar.select v0 v3 c0_i32_0
  let c0_i32_1 : BitVec 32 := 0#32
  let c0_i32_2 : BitVec 32 := 0#32
  ![v4.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c1_i32 : BitVec 32 := 1#32
  let v1 : BitVec 32 := Scalar.subi arg0 c1_i32
  let c4_i32 : BitVec 32 := 4#32
  let v2 : BitVec 32 := Scalar.muli v1 c4_i32
  let v3 : BitVec 32 := Scalar.addi v2 arg1
  let c0_i32_0 : BitVec 32 := 0#32
  let v4 : BitVec 32 := Scalar.select v0 v3 c0_i32_0
  let c0_i32_1 : BitVec 32 := 0#32
  let c0_i32_2 : BitVec 32 := 0#32
  ![v4.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c1_i32 : BitVec 32 := 1#32
  let v1 : BitVec 32 := Scalar.subi arg0 c1_i32
  let c4_i32 : BitVec 32 := 4#32
  let v2 : BitVec 32 := Scalar.muli v1 c4_i32
  let v3 : BitVec 32 := Scalar.addi v2 arg1
  let c0_i32_0 : BitVec 32 := 0#32
  let v4 : BitVec 32 := Scalar.select v0 v3 c0_i32_0
  let c0_i32_1 : BitVec 32 := 0#32
  let c0_i32_2 : BitVec 32 := 0#32
  ![v4.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x3840 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x3840 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference13Ideal.lean ====
abbrev S8192x2048 : Shape := ⟨2, ![8192, 2048]⟩
abbrev S2048 : Shape := ⟨1, ![2048]⟩
abbrev S2048x3840 : Shape := ⟨2, ![2048, 3840]⟩
abbrev S8192x3840 : Shape := ⟨2, ![8192, 3840]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x3840, .f32⟩
  | .hbm, ⟨3, _⟩ => ⟨S8192x3840, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x3840, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S2048, .f32⟩
  | .hbm, ⟨35, _⟩ => ⟨S8192x2048, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .bf16⟩
  | .hbm, ⟨54, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel14.lean ====
abbrev S8192x8x64 : Shape := ⟨3, ![8192, 8, 64]⟩
abbrev S8192x8 : Shape := ⟨2, ![8192, 8]⟩
abbrev S8192x2048 : Shape := ⟨2, ![8192, 2048]⟩
abbrev S8192x512 : Shape := ⟨2, ![8192, 512]⟩
abbrev S8192x8x1 : Shape := ⟨3, ![8192, 8, 1]⟩
abbrev S512x512 : Shape := ⟨2, ![512, 512]⟩
abbrev S_ : Shape := ⟨0, ![]⟩

abbrev nBuf : Space → Nat
  | .hbm => 65
  | .vmem => 27
  | .smem => 0
  | _ => 0

abbrev bufTy : (tb : Table) → Fin (tcTables nBuf tb) → BufTy
  | .hbm, ⟨0, _⟩ => ⟨S8192x8x64, .f32⟩
  | .hbm, ⟨1, _⟩ => ⟨S8192x8x64, .f32⟩
  | .hbm, ⟨2, _⟩ => ⟨S8192x8x64, .f32⟩
  | .hbm, ⟨3, _⟩ => ⟨S8192x8, .f32⟩
  | .hbm, ⟨4, _⟩ => ⟨S8192x8, .f32⟩
  | .hbm, ⟨5, _⟩ => ⟨S8192x8, .f32⟩
  | .hbm, ⟨6, _⟩ => ⟨S8192x2048, .f32⟩
  | .hbm, ⟨7, _⟩ => ⟨S8192x512, .f32⟩
  | .hbm, ⟨8, _⟩ => ⟨S8192x8x1, .f32⟩
  | .hbm, ⟨9, _⟩ => ⟨S8192x8x64, .f32⟩
  | .hbm, ⟨10, _⟩ => ⟨S8192x512, .f32⟩
  | .hbm, ⟨11, _⟩ => ⟨S8192x512, .f32⟩
  | .hbm, ⟨12, _⟩ => ⟨S8192x8x1, .f32⟩
  | .hbm, ⟨13, _⟩ => ⟨S8192x8x64, .f32⟩
  | .hbm, ⟨14, _⟩ => ⟨S8192x512, .f32⟩
  | .hbm, ⟨15, _⟩ => ⟨S8192x512, .f32⟩
  | .hbm, ⟨16, _⟩ => ⟨S8192x8x1, .f32⟩
  | .hbm, ⟨17, _⟩ => ⟨S8192x8x64, .f32⟩
  | .hbm, ⟨18, _⟩ => ⟨S8192x512, .f32⟩
  | .hbm, ⟨19, _⟩ => ⟨S512x512, .i32⟩
  | .hbm, ⟨20, _⟩ => ⟨S_, .i32⟩
  | .hbm, ⟨21, _⟩ => ⟨S_, .i32⟩
  | .hbm, ⟨22, _⟩ => ⟨S512x512, .i32⟩
  | .hbm, ⟨23, _⟩ => ⟨S512x512, .i32⟩
  | .hbm, ⟨24, _⟩ => ⟨S512x512, .i32⟩
  | .hbm, ⟨25, _⟩ => ⟨S_, .i32⟩
  | .hbm, ⟨26, _⟩ => ⟨S512x512, .i32⟩
  | .hbm, ⟨27, _⟩ => ⟨S512x512, .i1⟩
  | .hbm, ⟨28, _⟩ => ⟨S512x512, .i32⟩
  | .hbm, ⟨29, _⟩ => ⟨S512x512, .i32⟩
  | .hbm, ⟨30, _⟩ => ⟨S_, .i32⟩
  | .hbm, ⟨31, _⟩ => ⟨S512x512, .i32⟩
  | .hbm, ⟨32, _⟩ => ⟨S512x512, .i1⟩
  | .hbm, ⟨33, _⟩ => ⟨S512x512, .i1⟩
  | .hbm, ⟨34, _⟩ => ⟨S_, .i32⟩
  | .hbm, ⟨35, _⟩ => ⟨S512x512, .i32⟩
  | .hbm, ⟨36, _⟩ => ⟨S512x512, .i32⟩
  | .hbm, ⟨37, _⟩ => ⟨S512x512, .i32⟩
  | .hbm, ⟨38, _⟩ => ⟨S512x512, .i32⟩
  | .hbm, ⟨39, _⟩ => ⟨S_, .i32⟩
  | .hbm, ⟨40, _⟩ => ⟨S_, .i32⟩
  | .hbm, ⟨41, _⟩ => ⟨S512x512, .i32⟩
  | .hbm, ⟨42, _⟩ => ⟨S512x512, .i32⟩
  | .hbm, ⟨43, _⟩ => ⟨S512x512, .i32⟩
  | .hbm, ⟨44, _⟩ => ⟨S_, .i32⟩
  | .hbm, ⟨45, _⟩ => ⟨S512x512, .i32⟩
  | .hbm, ⟨46, _⟩ => ⟨S512x512, .i1⟩
  | .hbm, ⟨47, _⟩ => ⟨S512x512, .i32⟩
  | .hbm, ⟨48, _⟩ => ⟨S512x512, .i32⟩
  | .hbm, ⟨49, _⟩ => ⟨S_, .i32⟩
  | .hbm, ⟨50, _⟩ => ⟨S512x512, .i32⟩
  | .hbm, ⟨51, _⟩ => ⟨S512x512, .i1⟩
  | .hbm, ⟨52, _⟩ => ⟨S512x512, .i1⟩
  | .hbm, ⟨53, _⟩ => ⟨S_, .i32⟩
  | .hbm, ⟨54, _⟩ => ⟨S512x512, .i32⟩
  | .hbm, ⟨55, _⟩ => ⟨S512x512, .i32⟩
  | .hbm, ⟨56, _⟩ => ⟨S512x512, .i32⟩
  | .hbm, ⟨57, _⟩ => ⟨S512x512, .i1⟩
  | .hbm, ⟨58, _⟩ => ⟨S512x512, .bf16⟩
  | .hbm, ⟨59, _⟩ => ⟨S8192x512, .f32⟩
  | .hbm, ⟨60, _⟩ => ⟨S8192x512, .f32⟩
  | .hbm, ⟨61, _⟩ => ⟨S8192x512, .f32⟩
  | .hbm, ⟨62, _⟩ => ⟨S8192x512, .f32⟩
  | .hbm, ⟨63, _⟩ => ⟨S8192x512, .f32⟩
  | .hbm, ⟨64, _⟩ => ⟨S8192x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .bf16⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v13 : Ref sig .tc := ⟨.hbm, 37, rfl⟩
abbrev main_v14 : Ref sig .tc := ⟨.hbm, 38, rfl⟩
abbrev main_c_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_c : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_0 : Ref sig .tc := ⟨.hbm, 53, rfl⟩
abbrev main_call1_v12 : Ref sig .tc := ⟨.hbm, 54, rfl⟩
abbrev main_call1_v13 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18_0 : Ref sig .tc := ⟨.hbm, 59, rfl⟩
abbrev main_v18_1 : Ref sig .tc := ⟨.hbm, 60, rfl⟩
abbrev main_v18_2 : Ref sig .tc := ⟨.hbm, 61, rfl⟩
abbrev main_v18_3 : Ref sig .tc := ⟨.hbm, 62, rfl⟩
abbrev main_v18_4 : Ref sig .tc := ⟨.hbm, 63, rfl⟩
abbrev main_v18_5 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference14Ideal.lean ====
abbrev S8192x8x64 : Shape := ⟨3, ![8192, 8, 64]⟩
abbrev S8192x8 : Shape := ⟨2, ![8192, 8]⟩
abbrev S8192x2048 : Shape := ⟨2, ![8192, 2048]⟩
abbrev S1x8192x8 : Shape := ⟨3, ![1, 8192, 8]⟩
abbrev S3x8192x8 : Shape := ⟨3, ![3, 8192, 8]⟩
abbrev S_ : Shape := ⟨0, ![]⟩
abbrev S3x8192x8x1 : Shape := ⟨4, ![3, 8192, 8, 1]⟩
abbrev S1x8192x8x64 : Shape := ⟨4, ![1, 8192, 8, 64]⟩
abbrev S3x8192x8x64 : Shape := ⟨4, ![3, 8192, 8, 64]⟩
abbrev S8192x512 : Shape := ⟨2, ![8192, 512]⟩
abbrev S8192x8x1 : Shape := ⟨3, ![8192, 8, 1]⟩

abbrev nBuf : Space → Nat
  | .hbm => 119
  | .vmem => 0
  | .smem => 0
  | _ => 0

abbrev bufTy : (tb : Table) → Fin (tcTables nBuf tb) → BufTy
  | .hbm, ⟨0, _⟩ => ⟨S8192x8x64, .f32⟩
  | .hbm, ⟨1, _⟩ => ⟨S8192x8x64, .f32⟩
  | .hbm, ⟨2, _⟩ => ⟨S8192x8x64, .f32⟩
  | .hbm, ⟨3, _⟩ => ⟨S8192x8, .f32⟩
  | .hbm, ⟨4, _⟩ => ⟨S8192x8, .f32⟩
  | .hbm, ⟨5, _⟩ => ⟨S8192x8, .f32⟩
  | .hbm, ⟨6, _⟩ => ⟨S8192x2048, .f32⟩
  | .hbm, ⟨7, _⟩ => ⟨S1x8192x8, .f32⟩
  | .hbm, ⟨8, _⟩ => ⟨S1x8192x8, .f32⟩
  | .hbm, ⟨9, _⟩ => ⟨S1x8192x8, .f32⟩
  | .hbm, ⟨10, _⟩ => ⟨S3x8192x8, .f32⟩
  | .hbm, ⟨11, _⟩ => ⟨S_, .f32⟩
  | .hbm, ⟨12, _⟩ => ⟨S8192x8, .f32⟩
  | .hbm, ⟨13, _⟩ => ⟨S1x8192x8, .f32⟩
  | .hbm, ⟨14, _⟩ => ⟨S3x8192x8, .f32⟩
  | .hbm, ⟨15, _⟩ => ⟨S3x8192x8, .i1⟩
  | .hbm, ⟨16, _⟩ => ⟨S3x8192x8, .f32⟩
  | .hbm, ⟨17, _⟩ => ⟨S_, .f32⟩
  | .hbm, ⟨18, _⟩ => ⟨S8192x8, .f32⟩
  | .hbm, ⟨19, _⟩ => ⟨S_, .f32⟩
  | .hbm, ⟨20, _⟩ => ⟨S8192x8, .f32⟩
  | .hbm, ⟨21, _⟩ => ⟨S8192x8, .f32⟩
  | .hbm, ⟨22, _⟩ => ⟨S_, .f32⟩
  | .hbm, ⟨23, _⟩ => ⟨S8192x8, .f32⟩
  | .hbm, ⟨24, _⟩ => ⟨S8192x8, .i1⟩
  | .hbm, ⟨25, _⟩ => ⟨S_, .f32⟩
  | .hbm, ⟨26, _⟩ => ⟨S8192x8, .f32⟩
  | .hbm, ⟨27, _⟩ => ⟨S8192x8, .i1⟩
  | .hbm, ⟨28, _⟩ => ⟨S_, .f32⟩
  | .hbm, ⟨29, _⟩ => ⟨S8192x8, .f32⟩
  | .hbm, ⟨30, _⟩ => ⟨S_, .f32⟩
  | .hbm, ⟨31, _⟩ => ⟨S8192x8, .f32⟩
  | .hbm, ⟨32, _⟩ => ⟨S_, .f32⟩
  | .hbm, ⟨33, _⟩ => ⟨S8192x8, .f32⟩
  | .hbm, ⟨34, _⟩ => ⟨S8192x8, .f32⟩
  | .hbm, ⟨35, _⟩ => ⟨S8192x8, .f32⟩
  | .hbm, ⟨36, _⟩ => ⟨S1x8192x8, .f32⟩
  | .hbm, ⟨37, _⟩ => ⟨S3x8192x8, .f32⟩
  | .hbm, ⟨38, _⟩ => ⟨S3x8192x8, .f32⟩
  | .hbm, ⟨39, _⟩ => ⟨S3x8192x8, .f32⟩
  | .hbm, ⟨40, _⟩ => ⟨S_, .f32⟩
  | .hbm, ⟨41, _⟩ => ⟨S8192x8, .f32⟩
  | .hbm, ⟨42, _⟩ => ⟨S1x8192x8, .f32⟩
  | .hbm, ⟨43, _⟩ => ⟨S3x8192x8, .f32⟩
  | .hbm, ⟨44, _⟩ => ⟨S3x8192x8, .f32⟩
  | .hbm, ⟨45, _⟩ => ⟨S1x8192x8, .f32⟩
  | .hbm, ⟨46, _⟩ => ⟨S_, .f32⟩
  | .hbm, ⟨47, _⟩ => ⟨S1x8192x8, .f32⟩
  | .hbm, ⟨48, _⟩ => ⟨S1x8192x8, .f32⟩
  | .hbm, ⟨49, _⟩ => ⟨S3x8192x8x1, .f32⟩
  | .hbm, ⟨50, _⟩ => ⟨S1x8192x8x64, .f32⟩
  | .hbm, ⟨51, _⟩ => ⟨S1x8192x8x64, .f32⟩
  | .hbm, ⟨52, _⟩ => ⟨S1x8192x8x64, .f32⟩
  | .hbm, ⟨53, _⟩ => ⟨S3x8192x8x64, .f32⟩
  | .hbm, ⟨54, _⟩ => ⟨S3x8192x8x64, .f32⟩
  | .hbm, ⟨55, _⟩ => ⟨S3x8192x8x64, .f32⟩
  | .hbm, ⟨56, _⟩ => ⟨S_, .f32⟩
  | .hbm, ⟨57, _⟩ => ⟨S8192x8x64, .f32⟩
  | .hbm, ⟨58, _⟩ => ⟨S8192x512, .f32⟩
  | .hbm, ⟨59, _⟩ => ⟨S8192x8x64, .f32⟩
  | .hbm, ⟨60, _⟩ => ⟨S3x8192x8x64, .f32⟩
  | .hbm, ⟨61, _⟩ => ⟨S3x8192x8x64, .f32⟩
  | .hbm, ⟨62, _⟩ => ⟨S3x8192x8x64, .f32⟩
  | .hbm, ⟨63, _⟩ => ⟨S3x8192x8x64, .f32⟩
  | .hbm, ⟨64, _⟩ => ⟨S_, .f32⟩
  | .hbm, ⟨65, _⟩ => ⟨S3x8192x8, .f32⟩
  | .hbm, ⟨66, _⟩ => ⟨S3x8192x8x1, .f32⟩
  | .hbm, ⟨67, _⟩ => ⟨S1x8192x8x64, .f32⟩
  | .hbm, ⟨68, _⟩ => ⟨S8192x8x64, .f32⟩
  | .hbm, ⟨69, _⟩ => ⟨S1x8192x8x64, .f32⟩
  | .hbm, ⟨70, _⟩ => ⟨S8192x8x64, .f32⟩
  | .hbm, ⟨71, _⟩ => ⟨S1x8192x8x64, .f32⟩
  | .hbm, ⟨72, _⟩ => ⟨S8192x8x64, .f32⟩
  | .hbm, ⟨73, _⟩ => ⟨S_, .f32⟩
  | .hbm, ⟨74, _⟩ => ⟨S3x8192x8, .f32⟩
  | .hbm, ⟨75, _⟩ => ⟨S3x8192x8, .f32⟩
  | .hbm, ⟨76, _⟩ => ⟨S3x8192x8, .f32⟩
  | .hbm, ⟨77, _⟩ => ⟨S3x8192x8, .f32⟩
  | .hbm, ⟨78, _⟩ => ⟨S_, .f32⟩
  | .hbm, ⟨79, _⟩ => ⟨S8192x8, .f32⟩
  | .hbm, ⟨80, _⟩ => ⟨S1x8192x8, .f32⟩
  | .hbm, ⟨81, _⟩ => ⟨S1x8192x8, .f32⟩
  | .hbm, ⟨82, _⟩ => ⟨S3x8192x8, .f32⟩
  | .hbm, ⟨83, _⟩ => ⟨S3x8192x8, .f32⟩
  | .hbm, ⟨84, _⟩ => ⟨S_, .f32⟩
  | .hbm, ⟨85, _⟩ => ⟨S8192x8, .f32⟩
  | .hbm, ⟨86, _⟩ => ⟨S3x8192x8, .f32⟩
  | .hbm, ⟨87, _⟩ => ⟨S3x8192x8, .f32⟩
  | .hbm, ⟨88, _⟩ => ⟨S3x8192x8, .f32⟩
  | .hbm, ⟨89, _⟩ => ⟨S1x8192x8, .f32⟩
  | .hbm, ⟨90, _⟩ => ⟨S8192x8, .f32⟩
  | .hbm, ⟨91, _⟩ => ⟨S1x8192x8, .f32⟩
  | .hbm, ⟨92, _⟩ => ⟨S8192x8, .f32⟩
  | .hbm, ⟨93, _⟩ => ⟨S1x8192x8, .f32⟩
  | .hbm, ⟨94, _⟩ => ⟨S8192x8, .f32⟩
  | .hbm, ⟨95, _⟩ => ⟨S8192x8x64, .f32⟩
  | .hbm, ⟨96, _⟩ => ⟨S_, .f32⟩
  | .hbm, ⟨97, _⟩ => ⟨S8192x8, .f32⟩
  | .hbm, ⟨98, _⟩ => ⟨S8192x8, .f32⟩
  | .hbm, ⟨99, _⟩ => ⟨S8192x8x64, .f32⟩
  | .hbm, ⟨100, _⟩ => ⟨S_, .f32⟩
  | .hbm, ⟨101, _⟩ => ⟨S8192x8, .f32⟩
  | .hbm, ⟨102, _⟩ => ⟨S8192x8, .f32⟩
  | .hbm, ⟨103, _⟩ => ⟨S8192x8x64, .f32⟩
  | .hbm, ⟨104, _⟩ => ⟨S_, .f32⟩
  | .hbm, ⟨105, _⟩ => ⟨S8192x8, .f32⟩
  | .hbm, ⟨106, _⟩ => ⟨S8192x8, .f32⟩
  | .hbm, ⟨107, _⟩ => ⟨S8192x512, .f32⟩
  | .hbm, ⟨108, _⟩ => ⟨S8192x512, .f32⟩
  | .hbm, ⟨109, _⟩ => ⟨S8192x512, .f32⟩
  | .hbm, ⟨110, _⟩ => ⟨S8192x8x1, .f32⟩
  | .hbm, ⟨111, _⟩ => ⟨S8192x8x64, .f32⟩
  | .hbm, ⟨112, _⟩ => ⟨S8192x512, .f32⟩
  | .hbm, ⟨113, _⟩ => ⟨S8192x8x1, .f32⟩
  | .hbm, ⟨114, _⟩ => ⟨S8192x8x64, .f32⟩
  | .hbm, ⟨115, _⟩ => ⟨S8192x512, .f32⟩
  | .hbm, ⟨116, _⟩ => ⟨S8192x8x1, .f32⟩
  | .hbm, ⟨117, _⟩ => ⟨S8192x8x64, .f32⟩
  | .hbm, ⟨118, _⟩ => ⟨S8192x512, .f32⟩
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_cst_5 : Ref sig .tc := ⟨.hbm, 30, rfl⟩
abbrev main_v17 : Ref sig .tc := ⟨.hbm, 31, rfl⟩
abbrev main_cst_6 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_11 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_12 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_13 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_14 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_15 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_16 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩

abbrev nD : Nat := 1
abbrev τ : Topo := Topo.v7x

variable {F : FTy → Type} [FloatOps F]
-- ==== Proof.Spec.lean ====
/- The attention of one pattern and its gradients, over the reals: query `t` attends the keys `t - 128 .. t`.
   Tokens, heads and lanes are natural numbers and every sum is over a range, so that a sum over a block of keys
   and one over all the keys are sums of the same terms. -/
module

public import Idealize.ShloMosaic.Lib.Pointwise

@[expose] public section

noncomputable section

namespace Cert.Band

open Finset

/-- A sum of reals, read in the extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A sum over `Fin n` whose terms are the reals `f 0 .. f (n - 1)`. -/
theorem sum_fin_coe {n : ℕ} {g : Fin n → EReal} (f : ℕ → ℝ) (h : ∀ i : Fin n, g i = ((f i : ℝ) : EReal)) :
    ∑ i : Fin n, g i = ((∑ i ∈ range n, f i : ℝ) : EReal) := by
  rw [coe_sum, Finset.sum_range]
  exact Finset.sum_congr rfl fun i _ => h i

/-- Key `u` is one that query `t` attends. -/
abbrev Near (t u : ℕ) : Prop := u ≤ t ∧ t ≤ u + 128

/-- The five arrays as reals: queries, keys, values and the gradient `g` of the output by token, head and lane, and
    the gradient `e` of the log-sum by token and head. -/
structure Data where
  q : ℕ → ℕ → ℕ → ℝ
  k : ℕ → ℕ → ℕ → ℝ
  v : ℕ → ℕ → ℕ → ℝ
  g : ℕ → ℕ → ℕ → ℝ
  e : ℕ → ℕ → ℝ

namespace Data

variable (T : ℕ) (D : Data)

/-- The scaled product of a query and a key. -/
def score (h t u : ℕ) : ℝ := (∑ d ∈ range 64, D.q t h d * D.k u h d) * (1 / 8)

/-- The score, `-∞` at a key out of reach. -/
def masked (h t u : ℕ) : EReal := if Near t u then ((D.score h t u : ℝ) : EReal) else ⊥

/-- The largest score of a query. -/
def top (h t : ℕ) : ℝ := ((range T).sup (D.masked h t)).toReal

/-- The unnormalised weight of a key. -/
def weight (h t u : ℕ) : ℝ := if Near t u then Real.exp (D.score h t u - D.top T h t) else 0

/-- The sum of a query's weights. -/
def total (h t : ℕ) : ℝ := ∑ u ∈ range T, D.weight T h t u

/-- The weights' sum of the values, before it is divided by `total`. -/
def raw (h t d : ℕ) : ℝ := ∑ u ∈ range T, D.v u h d * D.weight T h t u

/-- The log of the sum of the exponentials of a query's scores. -/
def lse (h t : ℕ) : ℝ := D.top T h t + Real.log (D.total T h t)

/-- The weight of a key. -/
def prob (h t u : ℕ) : ℝ := D.weight T h t u / D.total T h t

/-- What the gradient of every weight of a query is lessened by. -/
def dd (h t : ℕ) : ℝ := (∑ d ∈ range 64, D.g t h d * (D.raw T h t d / D.total T h t)) - D.e t h

/-- The gradient of a weight. -/
def pull (h t u : ℕ) : ℝ := (∑ d ∈ range 64, D.g t h d * D.v u h d) - D.dd T h t

/-- The gradient of the product of a query and a key. -/
def slope (h t u : ℕ) : ℝ := D.prob T h t u * D.pull T h t u * (1 / 8)

/-- The gradients of the queries, the keys and the values. -/
def dq (t h d : ℕ) : ℝ := ∑ u ∈ range T, D.slope T h t u * D.k u h d
def dk (u h d : ℕ) : ℝ := ∑ t ∈ range T, D.slope T h t u * D.q t h d
def dv (u h d : ℕ) : ℝ := ∑ t ∈ range T, D.prob T h t u * D.g t h d

variable {T}

theorem sup_ne_bot {h t : ℕ} (ht : t < T) : (range T).sup (D.masked h t) ≠ ⊥ := by
  have h1 : D.masked h t t ≤ (range T).sup (D.masked h t) := Finset.le_sup (f := D.masked h t) (mem_range.2 ht)
  have h2 : D.masked h t t = ((D.score h t t : ℝ) : EReal) := if_pos ⟨le_refl _, by omega⟩
  intro h3
  rw [h3, h2] at h1
  exact EReal.coe_ne_bot _ (le_bot_iff.1 h1)

theorem sup_mem {h t : ℕ} (ht : t < T) : ∃ u < T, (range T).sup (D.masked h t) = D.masked h t u := by
  obtain ⟨u, hu, e⟩ := Finset.exists_mem_eq_sup (range T) ⟨t, mem_range.2 ht⟩ (D.masked h t)
  exact ⟨u, mem_range.1 hu, e⟩

/-- The largest score is a number: every query attends itself. -/
theorem sup_eq {h t : ℕ} (ht : t < T) : (range T).sup (D.masked h t) = ((D.top T h t : ℝ) : EReal) := by
  refine (EReal.coe_toReal ?_ (D.sup_ne_bot ht)).symm
  obtain ⟨u, _, e⟩ := D.sup_mem (h := h) ht
  rw [e]
  unfold masked
  split
  · exact EReal.coe_ne_top _
  · exact bot_ne_top

/-- Some key has the largest score. -/
theorem top_mem {h t : ℕ} (ht : t < T) : ∃ u < T, D.masked h t u = ((D.top T h t : ℝ) : EReal) := by
  obtain ⟨u, hu, e⟩ := D.sup_mem (h := h) ht
  exact ⟨u, hu, by rw [← e, D.sup_eq ht]⟩

theorem weight_nonneg (h t u : ℕ) : 0 ≤ D.weight T h t u := by
  unfold weight
  split
  · exact (Real.exp_pos _).le
  · exact le_rfl

theorem total_pos {h t : ℕ} (ht : t < T) : 0 < D.total T h t := by
  refine Finset.sum_pos' (fun u _ => D.weight_nonneg h t u) ⟨t, mem_range.2 ht, ?_⟩
  unfold weight
  rw [if_pos ⟨le_refl _, by omega⟩]
  exact Real.exp_pos _

/-- The weight of a key in reach, from the log-sum. -/
theorem prob_eq {h t u : ℕ} (ht : t < T) :
    D.prob T h t u = if Near t u then Real.exp (D.score h t u - D.lse T h t) else 0 := by
  unfold prob weight lse
  split
  · rw [← sub_sub, Real.exp_sub _ (Real.log _), Real.exp_log (D.total_pos ht)]
  · exact zero_div _

theorem prob_far {h t u : ℕ} (hn : ¬ Near t u) : D.prob T h t u = 0 := by
  unfold prob weight
  rw [if_neg hn, zero_div]

theorem slope_far {h t u : ℕ} (hn : ¬ Near t u) : D.slope T h t u = 0 := by
  unfold slope
  rw [D.prob_far hn, zero_mul, zero_mul]

/-- The gradient of an unnormalised weight, as the quotient rule gives it. -/
def pull' (T : ℕ) (D : Data) (h t u : ℕ) : ℝ :=
  (∑ d ∈ range 64, D.g t h d / D.total T h t * D.v u h d)
    + (D.e t h / D.total T h t
      + -(∑ d ∈ range 64, D.g t h d * (1 / (D.total T h t * D.total T h t)) * D.raw T h t d))

/-- The quotient rule's gradient times the weight is the normalised one's times the normalised weight. -/
theorem pull'_mul {h t u : ℕ} (ht : t < T) :
    D.pull' T h t u * D.weight T h t u = D.prob T h t u * D.pull T h t u := by
  have hz := (D.total_pos (h := h) ht).ne'
  have e1 : D.pull' T h t u = D.pull T h t u / D.total T h t := by
    unfold pull' pull dd
    rw [sub_sub_eq_add_sub, eq_div_iff hz, add_mul, add_mul, Finset.sum_mul, div_mul_cancel₀ _ hz, neg_mul, Finset.sum_mul]
    rw [show (∑ d ∈ range 64, D.g t h d / D.total T h t * D.v u h d * D.total T h t) = ∑ d ∈ range 64, D.g t h d * D.v u h d from
      Finset.sum_congr rfl fun d _ => by field_simp]
    rw [show (∑ d ∈ range 64, D.g t h d * (1 / (D.total T h t * D.total T h t)) * D.raw T h t d * D.total T h t)
        = ∑ d ∈ range 64, D.g t h d * (D.raw T h t d / D.total T h t) from
      Finset.sum_congr rfl fun d _ => by field_simp]
    ring
  rw [e1, prob]
  ring

/-- The gradients of a query's weights sum to that of its log-sum: what is left for the largest score is nothing. -/
theorem sum_pull {h t : ℕ} (ht : t < T) :
    ∑ u ∈ range T, D.prob T h t u * D.pull T h t u = D.e t h := by
  have hz := (D.total_pos (h := h) ht).ne'
  have e1 : ∑ u ∈ range T, D.prob T h t u = 1 := by
    unfold prob
    rw [← Finset.sum_div]
    exact div_self hz
  have e2 : ∑ u ∈ range T, D.prob T h t u * ∑ d ∈ range 64, D.g t h d * D.v u h d
      = ∑ d ∈ range 64, D.g t h d * (D.raw T h t d / D.total T h t) := by
    simp_rw [Finset.mul_sum]
    rw [Finset.sum_comm]
    refine Finset.sum_congr rfl fun d _ => ?_
    unfold raw prob
    rw [Finset.sum_div, Finset.mul_sum]
    exact Finset.sum_congr rfl fun u _ => by ring
  unfold pull
  simp_rw [mul_sub]
  rw [Finset.sum_sub_distrib, e2, ← Finset.sum_mul, e1, one_mul]
  unfold dd
  ring

end Data

/-! ## Sums over all the tokens, block by block -/

/-- A sum over all the tokens whose terms are nothing but at the `n` tokens from `a` on. -/
theorem sum_window {T : ℕ} (a n : ℕ) (h : a + n ≤ T) (f : ℕ → ℝ) (hf : ∀ u < T, ¬ (a ≤ u ∧ u < a + n) → f u = 0) :
    ∑ u ∈ range T, f u = ∑ c ∈ range n, f (a + c) := by
  have h1 : ∑ u ∈ Finset.Ico a (a + n), f u = ∑ u ∈ range T, f u := by
    refine Finset.sum_subset (fun u hu => ?_) (fun u hu hn => ?_)
    · rw [Finset.mem_Ico] at hu
      exact mem_range.2 (by omega)
    · rw [Finset.mem_Ico] at hn
      exact hf u (mem_range.1 hu) hn
  rw [← h1, Finset.sum_Ico_eq_sum_range, Nat.add_sub_cancel_left]

/-- The keys of a query of block `B`: the block before and the block itself, and of the first block only itself. -/
theorem sum_keys {T : ℕ} (B i : ℕ) (hi : i < 128) (hB : 128 * B + 128 ≤ T) (f : ℕ → ℝ)
    (hf : ∀ u, ¬ Near (128 * B + i) u → f u = 0) :
    ∑ u ∈ range T, f u
      = ∑ c ∈ range 256, if (0 < B ∧ c < 128 ∧ i ≤ c) ∨ (128 ≤ c ∧ c ≤ 128 + i) then f (128 * B + c - 128) else 0 := by
  rcases Nat.eq_zero_or_pos B with rfl | hB0
  · rw [sum_window 0 128 (by omega) f fun u _ hu => hf u fun hn => hu ⟨by omega, by have := hn.1; omega⟩]
    rw [show (256 : ℕ) = 128 + 128 from rfl, Finset.sum_range_add]
    have z : ∑ c ∈ range 128, (if (0 < 0 ∧ c < 128 ∧ i ≤ c) ∨ (128 ≤ c ∧ c ≤ 128 + i) then f (128 * 0 + c - 128) else 0) = 0 :=
      Finset.sum_eq_zero fun c hc => if_neg (by have hc' := mem_range.1 hc; omega)
    rw [z, zero_add]
    refine Finset.sum_congr rfl fun c hc => ?_
    have hc' := mem_range.1 hc
    by_cases h1 : c ≤ i
    · rw [if_pos (Or.inr ⟨by omega, by omega⟩)]
      congr 1
      omega
    · rw [if_neg (by omega)]
      exact hf _ fun hn => h1 (by have := hn.1; omega)
  · rw [sum_window (128 * B - 128) 256 (by omega) f fun u _ hu => hf u fun hn => hu ⟨by have := hn.2; omega, by have := hn.1; omega⟩]
    refine Finset.sum_congr rfl fun c hc => ?_
    have hc' := mem_range.1 hc
    have e : 128 * B + c - 128 = 128 * B - 128 + c := by omega
    by_cases h1 : (0 < B ∧ c < 128 ∧ i ≤ c) ∨ (128 ≤ c ∧ c ≤ 128 + i)
    · rw [if_pos h1, e]
    · rw [if_neg h1]
      exact hf _ fun hn => h1 (by have h2 := hn.1; have h3 := hn.2; omega)

/-- The queries that attend key `j` of block `B`: those of the block itself from `j` on, and those of the next block up to `j`. -/
theorem sum_queries {T : ℕ} (B j : ℕ) (hj : j < 128) (hB : 128 * B + 128 ≤ T) (hT : T % 128 = 0) (f : ℕ → ℝ)
    (hf : ∀ t, ¬ Near t (128 * B + j) → f t = 0) :
    ∑ t ∈ range T, f t
      = (∑ i ∈ range 128, if j ≤ i then f (128 * B + i) else 0)
        + ∑ i ∈ range 128, if 128 * B + 256 ≤ T ∧ i ≤ j then f (128 * (B + 1) + i) else 0 := by
  have e1 : ∑ i ∈ range 128, (if j ≤ i then f (128 * B + i) else 0) = ∑ i ∈ range 128, f (128 * B + i) :=
    Finset.sum_congr rfl fun i hi => by
      by_cases h1 : j ≤ i
      · rw [if_pos h1]
      · rw [if_neg h1]
        exact (hf _ fun hn => h1 (by have := hn.1; omega)).symm
  rw [e1]
  by_cases hN : 128 * B + 256 ≤ T
  · rw [sum_window (128 * B) 256 (by omega) f fun u _ hu => hf u fun hn => hu ⟨by have := hn.1; omega, by have := hn.2; omega⟩,
      show (256 : ℕ) = 128 + 128 from rfl, Finset.sum_range_add]
    congr 1
    refine Finset.sum_congr rfl fun i hi => ?_
    have e : 128 * B + (128 + i) = 128 * (B + 1) + i := by omega
    by_cases h1 : i ≤ j
    · rw [if_pos ⟨hN, h1⟩, e]
    · rw [if_neg (fun h => h1 h.2)]
      exact hf _ fun hn => h1 (by have := hn.2; omega)
  · rw [sum_window (128 * B) 128 (by omega) f fun u hu hu' => hf u fun hn => hu' ⟨by have := hn.1; omega, by omega⟩,
      Finset.sum_eq_zero (s := range 128) (f := fun i => if 128 * B + 256 ≤ T ∧ i ≤ j then f (128 * (B + 1) + i) else 0)
        (fun i _ => if_neg fun h => hN h.1), add_zero]

end Cert.Band

end
-- ==== Proof.Words.lean ====
/- The constants of the two programs as extended reals, and the comparisons of token distances as propositions. -/
module

public import Idealize.ShloMosaic.Lib.Pointwise
public import Idealize.ShloMosaic.PureOps

@[expose] public section

noncomputable section

namespace Cert.Band

open Idealize.ShloMosaic

/-- The word of the score scale is one eighth. -/
theorem word_eighth : Ideal.ofBits .f32 0x3E000000#32 = ((1 / 8 : ℝ) : EReal) := by
  simp [Ideal.ofBits, Ideal.ieee, -EReal.coe_mul]; norm_num

/-- The word of minus infinity. -/
theorem word_bot : Ideal.ofBits .f32 0xFF800000#32 = ⊥ := by
  simp [Ideal.ofBits, Ideal.ieee]

/-- The word of infinity. -/
theorem word_top : Ideal.ofBits .f32 0x7F800000#32 = ⊤ := by
  simp [Ideal.ofBits, Ideal.ieee]

theorem toInt_ofNat {a : ℕ} (ha : a < 2 ^ 20) : (BitVec.ofNat 32 a).toInt = (a : ℤ) := by
  rw [BitVec.toInt_eq_toNat_of_lt]
  · rw [BitVec.toNat_ofNat, Nat.mod_eq_of_lt (by omega)]
  · rw [BitVec.toNat_ofNat, Nat.mod_eq_of_lt (by omega)]; omega

theorem toInt_sub {x y : BitVec 32} {a b : ℤ} (hx : x.toInt = a) (hy : y.toInt = b) (h : -2 ^ 30 < a - b ∧ a - b < 2 ^ 30) :
    (x - y).toInt = a - b := by
  rw [BitVec.toInt_sub, hx, hy, Int.bmod_def]
  omega

theorem toInt_add {x y : BitVec 32} {a b : ℤ} (hx : x.toInt = a) (hy : y.toInt = b) (h : -2 ^ 30 < a + b ∧ a + b < 2 ^ 30) :
    (x + y).toInt = a + b := by
  rw [BitVec.toInt_add, hx, hy, Int.bmod_def]
  omega

theorem cmpi_sge {x y : BitVec 32} {a b : ℤ} (hx : x.toInt = a) (hy : y.toInt = b) :
    IntOp.cmpi .sge x y = BitVec.ofBool (decide (b ≤ a)) := by
  simp only [IntOp.cmpi, BitVec.sle, hx, hy]

theorem cmpi_sle {x y : BitVec 32} {a b : ℤ} (hx : x.toInt = a) (hy : y.toInt = b) :
    IntOp.cmpi .sle x y = BitVec.ofBool (decide (a ≤ b)) := by
  simp only [IntOp.cmpi, BitVec.sle, hx, hy]

theorem cmpi_slt {x y : BitVec 32} {a b : ℤ} (hx : x.toInt = a) (hy : y.toInt = b) :
    IntOp.cmpi .slt x y = BitVec.ofBool (decide (a < b)) := by
  simp only [IntOp.cmpi, BitVec.slt, hx, hy]

theorem cmpi_sgt {x y : BitVec 32} {a b : ℤ} (hx : x.toInt = a) (hy : y.toInt = b) :
    IntOp.cmpi .sgt x y = BitVec.ofBool (decide (b < a)) := by
  simp only [IntOp.cmpi, BitVec.slt, hx, hy]

theorem ori_ofBool (p q : Prop) [Decidable p] [Decidable q] :
    IntOp.ori (BitVec.ofBool (decide p)) (BitVec.ofBool (decide q)) = BitVec.ofBool (decide (p ∨ q)) := by
  by_cases hp : p <;> by_cases hq : q <;> simp [hp, hq, IntOp.ori]

theorem andi_ofBool (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem select_ofBool {α : Type} (p : Prop) [Decidable p] (x y : α) :
    Scalar.select (BitVec.ofBool (decide p)) x y = if p then x else y := by
  by_cases hp : p <;> simp [hp, Scalar.select]

/-- A token distance from 0 to 128, as the comparisons of words say it. -/
theorem word_near {t u : ℕ} (ht : t < 2 ^ 20) (hu : u < 2 ^ 20) :
    IntOp.andi (IntOp.cmpi .sge (IntOp.subi (BitVec.ofNat 32 t) (BitVec.ofNat 32 u)) 0#32)
        (IntOp.cmpi .sle (IntOp.subi (BitVec.ofNat 32 t) (BitVec.ofNat 32 u)) 128#32)
      = BitVec.ofBool (decide (u ≤ t ∧ t ≤ u + 128)) := by
  have h := toInt_sub (toInt_ofNat ht) (toInt_ofNat hu) (by omega)
  rw [IntOp.subi, cmpi_sge h (b := 0) rfl, cmpi_sle h (b := 128) rfl, andi_ofBool]
  congr 1
  refine decide_eq_decide.2 ?_
  omega

end Cert.Band

end
-- ==== Proof.Tile.lean ====
/- One tile of the kernel: 128 queries of a pair of heads, the heads stacked into 256 rows, against two blocks of 128 keys. -/
module

public import proofs.«01_k».proof.Proof.Gen.KernelIdeal.Value
public import proofs.«01_k».proof.Proof.Spec
public import proofs.«01_k».proof.Proof.Words
public import Idealize.ShloMosaic.Lib.Pointwise

@[expose] public section

set_option maxRecDepth 16384

noncomputable section

namespace Cert.KernelIdeal.Tile

open Idealize.ShloMosaic Cert.Band
open Cert.KernelIdeal Cert.KernelIdeal.Facts₀ Cert.KernelIdeal.Facts

abbrev B := FVec Ideal S128x128 .f32
abbrev St := FVec Ideal S256x128 .bf16

/-- The two heads of a block stacked: each keeps its own lanes. -/
def stack (x : B) : St := Gen.k0_pay9 (F := Ideal) x

/-- The value a block of spread numbers holds for each stacked row. -/
def row (x : B) : FVec Ideal S256x1 .f32 := Gen.k0_pay21 (F := Ideal) Gen.k0_pay8 x

/-- Two blocks of keys. -/
def pair (a b : B) : St := Gen.k0_pay12 (F := Ideal) a b

/-- The weights of a stacked tile. -/
def weights (m : IVec S256x256 1) (q : B) (l : B) (k : St) : FVec Ideal S256x256 .f32 :=
  select m (exp (subf (mulf (matmul dot_S256x128_S256x128_S256x256_1_1_0_0_n_n none (stack q) k (constant S256x256 .f32 0x00000000#32))
    (broadcast S256x256 (Scalar.ofBits .f32 0x3E000000#32))) (broadcastTo S256x256 (row l) broadcasts_S256x1_S256x256)))
    (broadcast S256x256 (Scalar.ofBits .f32 0x00000000#32))

/-- The gradient of its products. -/
def slopes (p : FVec Ideal S256x256 .f32) (g d : B) (v : St) : FVec Ideal S256x256 .bf16 :=
  truncf .bf16 (mulf (mulf p (subf (matmul dot_S256x128_S256x128_S256x256_1_1_0_0_n_n none (stack g) v (constant S256x256 .f32 0x00000000#32))
    (broadcastTo S256x256 (row d) broadcasts_S256x1_S256x256))) (broadcast S256x256 (Scalar.ofBits .f32 0x3E000000#32))) bitsLt_bf16_f32

/-- The gradient of the queries. -/
def queries (s : FVec Ideal S256x256 .bf16) (k : St) : B := Gen.k0_pay16 (F := Ideal) Gen.k0_pay4 k s (constant S256x128 .f32 0x00000000#32)

/-- What the tile adds to the gradients of its own block of keys, as the first tile of a step does it and as the others do. -/
def own0 (s : FVec Ideal S256x256 .bf16) (x : St) : B := Gen.k0_pay17 (F := Ideal) x s
def prods (s : FVec Ideal S256x256 .bf16) (x : St) : FVec Ideal S256x128 .f32 :=
  matmul dot_S256x256_S256x128_S256x128_0_0_1_1_n_n none s x (constant S256x128 .f32 0x00000000#32)
def own (s : FVec Ideal S256x256 .bf16) (x : St) : B := extractStridedSlice S128x128 ![128, 0] (prods s x) slices_S256x128_o128_0_S128x128

/-- What it adds to those of the block before. -/
def past (s : FVec Ideal S256x256 .bf16) (x : St) : B := extractStridedSlice S128x128 ![0, 0] (prods s x) slices_S256x128_o0_0_S128x128

/-! The tile past a step's last block of keys: the queries of the next block against it alone. -/

def weightsT (m : IVec S256x128 1) (q l k : B) : FVec Ideal S256x128 .f32 :=
  select m (exp (subf (mulf (matmul dot_S256x128_S128x128_S256x128_1_1_0_0_n_n none (stack q)
    (truncf .bf16 (shapeCast S128x128 k shapeCasts_S128x128_S128x128) bitsLt_bf16_f32) (constant S256x128 .f32 0x00000000#32))
    (broadcast S256x128 (Scalar.ofBits .f32 0x3E000000#32))) (broadcastTo S256x128 (row l) broadcasts_S256x1_S256x128)))
    (broadcast S256x128 (Scalar.ofBits .f32 0x00000000#32))

def slopesT (p : FVec Ideal S256x128 .f32) (g d v : B) : FVec Ideal S256x128 .bf16 :=
  truncf .bf16 (mulf (mulf p (subf (matmul dot_S256x128_S128x128_S256x128_1_1_0_0_n_n none (stack g)
    (truncf .bf16 (shapeCast S128x128 v shapeCasts_S128x128_S128x128) bitsLt_bf16_f32) (constant S256x128 .f32 0x00000000#32))
    (broadcastTo S256x128 (row d) broadcasts_S256x1_S256x128))) (broadcast S256x128 (Scalar.ofBits .f32 0x3E000000#32))) bitsLt_bf16_f32

def pastT (s : FVec Ideal S256x128 .bf16) (x : St) : B :=
  matmul dot_S256x128_S256x128_S128x128_0_0_1_1_n_n none s x (constant S128x128 .f32 0x00000000#32)

/-! ## The readings -/

/-- The named constant is minus infinity over the extended reals. -/
theorem named_bot : (Named.named (F := Ideal) κ "masked" (φ := .f32) 0xF149F2CA#32) = (⊥ : EReal) := rfl

/-- A lane of the first head, as the kernel makes a number of it. -/
theorem lane_word (l : Fin 128) :
    FloatOps.sitofp (F := Ideal) FTy.f32 (BitVec.setWidth 32 (IntOp.cmpi CmpIPredicate.slt (BitVec.ofNat 32 ↑l) 64#32))
      = (((if l.val < 64 then 1 else 0 : ℝ)) : EReal) := by
  rw [cmpi_slt (toInt_ofNat (a := l) (by omega)) (b := 64) rfl]
  by_cases h : l.val < 64
  · rw [if_pos h, decide_eq_true (by omega)]
    show (((BitVec.setWidth 32 (BitVec.ofBool true)).toInt : ℝ) : EReal) = _
    rw [show (BitVec.setWidth 32 (BitVec.ofBool true)).toInt = 1 from rfl, Int.cast_one]
  · rw [if_neg h, decide_eq_false (by omega)]
    show (((BitVec.setWidth 32 (BitVec.ofBool false)).toInt : ℝ) : EReal) = _
    rw [show (BitVec.setWidth 32 (BitVec.ofBool false)).toInt = 0 from rfl, Int.cast_zero]

/-- A row of the stack holds its own head's lanes and nothing else. -/
theorem stack_at {x : B} {f : ℕ → ℕ → ℝ} (hx : ∀ i l : Fin 128, x (ix2 i l) = ((f i l : ℝ) : EReal)) (r : Fin 256) (l : Fin 128) :
    stack x (ix2 r l) = (((if r.val / 128 = l.val / 64 then f (r % 128) l else 0 : ℝ)) : EReal) := by
  pointwise [stack, Gen.k0_pay9, Gen.k0_pay5, Gen.k0_pay6, Gen.k0_pay7]
  rw [lane_word]
  show (if h : r.val < 128 then x (ix2 ⟨r.val, h⟩ l) * (((if l.val < 64 then 1 else 0 : ℝ)) : EReal)
    else x (ix2 ⟨r.val - 128, by omega⟩ l) * (1 - (((if l.val < 64 then 1 else 0 : ℝ)) : EReal))) = _
  split
  · rename_i h
    rw [hx, ← EReal.coe_mul]
    have e : r.val % 128 = r.val := by omega
    by_cases hl : l.val < 64
    · rw [if_pos hl, if_pos (by omega), mul_one, e]
    · rw [if_neg hl, if_neg (by omega), mul_zero]
  · rename_i h
    rw [hx, ← EReal.coe_one, ← EReal.coe_sub, ← EReal.coe_mul]
    have e : r.val % 128 = r.val - 128 := by omega
    by_cases hl : l.val < 64
    · rw [if_pos hl, if_neg (by omega), sub_self, mul_zero]
    · rw [if_neg hl, if_pos (by omega), sub_zero, mul_one, e]

/-- The number of a stacked row. -/
theorem row_at {x : B} (r : Fin 256) (y : ℝ)
    (hx : ∀ l : Fin 128, l.val / 64 = r.val / 128 → x (ix2 ⟨r % 128, Nat.mod_lt _ (by norm_num)⟩ l) = (y : EReal)) :
    row x (ix2 r 0) = (y : EReal) := by
  pointwise [row, Gen.k0_pay21, Gen.k0_pay8]
  rw [word_bot, named_bot]
  have key : ∀ l : Fin 128, Scalar.select
        (IntOp.xori (IntOp.xori (IntOp.cmpi CmpIPredicate.slt (BitVec.ofNat 32 ↑l) 64#32)
          (IntOp.cmpi CmpIPredicate.slt (BitVec.ofNat 32 ↑r) 128#32)) 1#1)
        (if h : r.val < 128 then x (ix2 ⟨r.val, h⟩ l) else x (ix2 ⟨r.val - 128, by omega⟩ l)) (⊥ : EReal)
      = if l.val / 64 = r.val / 128 then (y : EReal) else ⊥ := by
    intro l
    have e : (if h : r.val < 128 then x (ix2 ⟨r.val, h⟩ l) else x (ix2 ⟨r.val - 128, by omega⟩ l))
        = x (ix2 ⟨r % 128, Nat.mod_lt _ (by norm_num)⟩ l) := by
      split
      · congr 2
        exact Fin.ext (by show r.val = r.val % 128; omega)
      · congr 2
        exact Fin.ext (by show r.val - 128 = r.val % 128; omega)
    rw [e, cmpi_slt (toInt_ofNat (a := l) (by omega)) (b := 64) rfl, cmpi_slt (toInt_ofNat (a := r) (by omega)) (b := 128) rfl]
    by_cases h1 : l.val < 64 <;> by_cases h2 : r.val < 128
    · rw [if_pos (by omega), ← hx l (by omega), decide_eq_true (by omega), decide_eq_true (by omega)]; rfl
    · rw [if_neg (by omega), decide_eq_true (by omega), decide_eq_false (by omega)]; rfl
    · rw [if_neg (by omega), decide_eq_false (by omega), decide_eq_true (by omega)]; rfl
    · rw [if_pos (by omega), ← hx l (by omega), decide_eq_false (by omega), decide_eq_false (by omega)]; rfl
  refine le_antisymm ?_ ?_
  · refine Finset.fold_max_le _ |>.2 ⟨bot_le, fun l _ => ?_⟩
    refine (le_of_eq (key l)).trans ?_
    split
    · exact le_rfl
    · exact bot_le
  · refine Finset.le_fold_max _ |>.2 (Or.inr ⟨⟨64 * (r / 128), by omega⟩, Finset.mem_univ _, ?_⟩)
    refine le_trans (le_of_eq ?_) (le_of_eq (key _).symm)
    rw [if_pos (by show 64 * (r.val / 128) / 64 = r.val / 128; omega)]

/-! ### The masks -/

/-- Key `c` of the two blocks is one that query `i` of block `b` attends. -/
abbrev In (b i c : ℕ) : Prop := (0 < b ∧ c < 128 ∧ i ≤ c) ∨ (128 ≤ c ∧ c ≤ 128 + i)

theorem word_row (r : Fin 256) : IntOp.andi (BitVec.ofNat 32 ↑r) 127#32 = BitVec.ofNat 32 (r % 128) := by
  revert r; decide +kernel

theorem mask_word {x : BitVec 32} {z : ℕ} (hx : x.toInt = z) (hz : z ≤ 129) (r c : Fin 256) :
    IntOp.ori
      (IntOp.andi (IntOp.cmpi CmpIPredicate.slt (BitVec.ofNat 32 ↑c) 128#32)
        (IntOp.cmpi CmpIPredicate.sge (BitVec.ofNat 32 ↑c)
          (IntOp.addi (IntOp.addi (IntOp.andi (BitVec.ofNat 32 ↑r) 127#32) 0#32) x)))
      (IntOp.andi (IntOp.cmpi CmpIPredicate.sge (BitVec.ofNat 32 ↑c) 128#32)
        (IntOp.cmpi CmpIPredicate.sle (IntOp.subi (BitVec.ofNat 32 ↑c) 128#32)
          (IntOp.andi (BitVec.ofNat 32 ↑r) 127#32)))
      = BitVec.ofBool (decide ((c.val < 128 ∧ r.val % 128 + z ≤ c.val) ∨ (128 ≤ c.val ∧ c.val ≤ 128 + r.val % 128))) := by
  have hc := toInt_ofNat (a := c) (by omega)
  have hr := toInt_ofNat (a := r % 128) (by omega)
  have h0 := toInt_add (toInt_add hr (y := 0#32) (b := 0) rfl (by omega)) hx (by omega)
  have hs := toInt_sub hc (y := 128#32) (b := 128) rfl (by omega)
  rw [word_row, IntOp.addi, IntOp.addi, IntOp.subi, cmpi_slt hc (b := 128) rfl, cmpi_sge hc h0, cmpi_sge hc (b := 128) rfl, cmpi_sle hs hr,
    andi_ofBool, andi_ofBool, ori_ofBool]
  congr 1
  refine decide_eq_decide.2 ?_
  omega

theorem mask_at (b : ℕ) (hb : 0 < b) (r c : Fin 256) : Gen.k0_pay1 (ix2 r c) = BitVec.ofBool (decide (In b (r % 128) c)) := by
  pointwise [Gen.k0_pay1]
  rw [mask_word (z := 0) rfl (by omega)]
  congr 1
  refine decide_eq_decide.2 ?_
  omega

theorem mask0_at (i : grid0.Coords) (b : ℕ) (hb : b = 4 * (i 0).val) (r c : Fin 256) :
    Gen.k0_pay2 i (ix2 r c) = BitVec.ofBool (decide (In b (r % 128) c)) := by
  pointwise [Gen.k0_pay2]
  have hi : (i 0).val < 16 := (i 0).isLt
  by_cases h : 0 < (i 0).val
  · rw [mask_word (z := 0) (by rw [Scalar.cmpi, cmpi_sgt (toInt_ofNat (by omega)) (b := 0) rfl, decide_eq_true (by omega)]; rfl) (by omega)]
    congr 1
    refine decide_eq_decide.2 ?_
    omega
  · rw [mask_word (z := 129) (by rw [Scalar.cmpi, cmpi_sgt (toInt_ofNat (by omega)) (b := 0) rfl, decide_eq_false (by omega)]; rfl) (by omega)]
    congr 1
    refine decide_eq_decide.2 ?_
    omega

theorem maskT_at (i : grid0.Coords) (r : Fin 256) (c : Fin 128) :
    Gen.k0_pay3 (Scalar.cmpi .slt (BitVec.ofNat 32 (i 0).val) 15#32) 0#32 129#32 (ix2 r c)
      = BitVec.ofBool (decide ((i 0).val < 15 ∧ r.val % 128 ≤ c)) := by
  pointwise [Gen.k0_pay3]
  have hi : (i 0).val < 16 := (i 0).isLt
  have hc := toInt_ofNat (a := c) (by omega)
  have hr := toInt_ofNat (a := r % 128) (by omega)
  rw [word_row, IntOp.addi, IntOp.addi, Scalar.cmpi, cmpi_slt (toInt_ofNat (by omega)) (b := 15) rfl]
  by_cases h : (i 0).val < 15
  · rw [decide_eq_true (by omega), show Scalar.select (BitVec.ofBool true) 0#32 129#32 = 0#32 from rfl,
      cmpi_sge hc (toInt_add (toInt_add hr (y := 0#32) (b := 0) rfl (by omega)) (y := 0#32) (b := 0) rfl (by omega))]
    congr 1
    refine decide_eq_decide.2 ?_
    omega
  · rw [decide_eq_false (by omega), show Scalar.select (BitVec.ofBool false) 0#32 129#32 = 129#32 from rfl,
      cmpi_sge hc (toInt_add (toInt_add hr (y := 0#32) (b := 0) rfl (by omega)) (y := 129#32) (b := 129) rfl (by omega))]
    congr 1
    refine decide_eq_decide.2 ?_
    omega

/-! ### The tile's values -/

/-- The number of tokens. -/
abbrev T : ℕ := 8192

/-- The query side of block `b` of tokens and pair `p` of heads. -/
structure Query (D : Data) (b p : ℕ) (q g l d : B) : Prop where
  q : ∀ i l : Fin 128, q (ix2 i l) = ((D.q (128 * b + i) (2 * p + l / 64) (l % 64) : ℝ) : EReal)
  g : ∀ i l : Fin 128, g (ix2 i l) = ((D.g (128 * b + i) (2 * p + l / 64) (l % 64) : ℝ) : EReal)
  l : ∀ i j : Fin 128, l (ix2 i j) = ((D.lse T (2 * p + j / 64) (128 * b + i) : ℝ) : EReal)
  d : ∀ i j : Fin 128, d (ix2 i j) = ((D.dd T (2 * p + j / 64) (128 * b + i) : ℝ) : EReal)

/-- The keys of the block before `b` and of `b`; of the first block's the former are any numbers. -/
structure Keys (D : Data) (b p : ℕ) (k v : St) (kr vr : ℕ → ℕ → ℝ) : Prop where
  k : ∀ (c : Fin 256) (l : Fin 128), k (ix2 c l) = ((kr c l : ℝ) : EReal)
  v : ∀ (c : Fin 256) (l : Fin 128), v (ix2 c l) = ((vr c l : ℝ) : EReal)
  k' : ∀ c l : ℕ, 0 < b ∨ 128 ≤ c → kr c l = D.k (128 * b + c - 128) (2 * p + l / 64) (l % 64)
  v' : ∀ c l : ℕ, 0 < b ∨ 128 ≤ c → vr c l = D.v (128 * b + c - 128) (2 * p + l / 64) (l % 64)

/-- A sum over all the lanes of what one head's rows hold is a sum over that head's lanes. -/
theorem sum_lanes (a p : ℕ) (ha : a < 2) (x y : ℕ → ℕ → ℝ) :
    ∑ l ∈ Finset.range 128, (if a = l / 64 then x (2 * p + l / 64) (l % 64) else 0) * y (2 * p + l / 64) (l % 64)
      = ∑ d ∈ Finset.range 64, x (2 * p + a) d * y (2 * p + a) d := by
  rw [sum_window (64 * a) 64 (by omega) _ fun l hl hn => by rw [if_neg (by omega), zero_mul]]
  refine Finset.sum_congr rfl fun d hd => ?_
  have hd' := Finset.mem_range.1 hd
  have e1 : (64 * a + d) / 64 = a := by omega
  have e2 : (64 * a + d) % 64 = d := by omega
  rw [e1, e2, if_pos rfl]

/-- A sum over all the stacked rows of what one head's lanes hold is a sum over that head's rows. -/
theorem sum_rows (a : ℕ) (ha : a < 2) (s : ℕ → ℕ → ℝ) (x : ℕ → ℝ) :
    ∑ r ∈ Finset.range 256, s (r / 128) (r % 128) * (if r / 128 = a then x (r % 128) else 0)
      = ∑ i ∈ Finset.range 128, s a i * x i := by
  rw [sum_window (128 * a) 128 (by omega) _ fun l hl hn => by rw [if_neg (by omega), mul_zero]]
  refine Finset.sum_congr rfl fun d hd => ?_
  have hd' := Finset.mem_range.1 hd
  have e1 : (128 * a + d) / 128 = a := by omega
  have e2 : (128 * a + d) % 128 = d := by omega
  rw [e1, e2, if_pos rfl]

/-- A stacked row's product with keys that are real, and the one with keys that are the data's. -/
theorem dot_at {x : B} {f : ℕ → ℕ → ℝ} (hx : ∀ i l : Fin 128, x (ix2 i l) = ((f i l : ℝ) : EReal)) (r : Fin 256)
    {y : Fin 128 → EReal} {g : ℕ → ℝ} (hy : ∀ l : Fin 128, y l = ((g l : ℝ) : EReal)) :
    ∑ l : Fin 128, stack x (ix2 r l) * y l
      = ((∑ l ∈ Finset.range 128, (if r.val / 128 = l / 64 then f (r % 128) l else 0) * g l : ℝ) : EReal) :=
  sum_fin_coe (fun l => (if r.val / 128 = l / 64 then f (r % 128) l else 0) * g l) fun l => by
    rw [stack_at hx, hy, ← EReal.coe_mul]

variable {D : Data} {b p : ℕ} {q g l d : B} (Q : Query D b p q g l d) (hb : 128 * b + 128 ≤ T)
include Q hb

theorem lse_row (r : Fin 256) : row l (ix2 r 0) = ((D.lse T (2 * p + r / 128) (128 * b + r % 128) : ℝ) : EReal) :=
  row_at r _ fun j hj => by rw [Q.l, hj]

theorem dd_row (r : Fin 256) : row d (ix2 r 0) = ((D.dd T (2 * p + r / 128) (128 * b + r % 128) : ℝ) : EReal) :=
  row_at r _ fun j hj => by rw [Q.d, hj]

omit Q hb in
theorem near_of_in {i c : ℕ} (hi : i < 128) (h : In b i c) : Near (128 * b + i) (128 * b + c - 128) := by
  rcases h with h | h <;> constructor <;> omega

theorem weights_at {m : IVec S256x256 1} (hm : ∀ r c : Fin 256, m (ix2 r c) = BitVec.ofBool (decide (In b (r % 128) c)))
    {k v : St} {kr vr : ℕ → ℕ → ℝ} (K : Keys D b p k v kr vr) (r c : Fin 256) :
    weights m q l k (ix2 r c)
      = (((if In b (r % 128) c then D.prob T (2 * p + r / 128) (128 * b + r % 128) (128 * b + c - 128) else 0 : ℝ)) : EReal) := by
  pointwise [weights]
  rw [hm, select_ofBool, lse_row Q hb, word_eighth, dot_at (f := fun i l => D.q (128 * b + i) (2 * p + l / 64) (l % 64)) Q.q r (fun l => K.k c l), ← EReal.coe_mul, ← EReal.coe_sub]
  split
  · rename_i h
    rw [show Ideal.exp _ = _ from Ideal.exp_coe _, D.prob_eq (by omega), if_pos (near_of_in (by omega) h)]
    congr 3
    have e : ∀ l, kr c l = D.k (128 * b + c - 128) (2 * p + l / 64) (l % 64) := fun l => K.k' c l (by omega)
    simp only [e]
    rw [sum_lanes (r / 128) p (by omega) (fun h d => D.q (128 * b + r % 128) h d) fun h d => D.k (128 * b + c - 128) h d]
    rfl
  · rfl

theorem slopes_at {m : IVec S256x256 1} (hm : ∀ r c : Fin 256, m (ix2 r c) = BitVec.ofBool (decide (In b (r % 128) c)))
    {k v : St} {kr vr : ℕ → ℕ → ℝ} (K : Keys D b p k v kr vr) (r c : Fin 256) :
    slopes (weights m q l k) g d v (ix2 r c)
      = (((if In b (r % 128) c then D.slope T (2 * p + r / 128) (128 * b + r % 128) (128 * b + c - 128) else 0 : ℝ)) : EReal) := by
  pointwise [slopes]
  rw [weights_at Q hb hm K, dd_row Q hb, word_eighth, dot_at (f := fun i l => D.g (128 * b + i) (2 * p + l / 64) (l % 64)) Q.g r (fun l => K.v c l), ← EReal.coe_sub, ← EReal.coe_mul, ← EReal.coe_mul]
  congr 1
  split
  · rename_i h
    have e : ∀ l, vr c l = D.v (128 * b + c - 128) (2 * p + l / 64) (l % 64) := fun l => K.v' c l (by omega)
    simp only [e]
    rw [sum_lanes (r / 128) p (by omega) (fun h d => D.g (128 * b + r % 128) h d) fun h d => D.v (128 * b + c - 128) h d]
    rfl
  · rw [zero_mul, zero_mul]

/-- The gradient of the queries. -/
theorem queries_at {m : IVec S256x256 1} (hm : ∀ r c : Fin 256, m (ix2 r c) = BitVec.ofBool (decide (In b (r % 128) c)))
    {k v : St} {kr vr : ℕ → ℕ → ℝ} (K : Keys D b p k v kr vr) (i j : Fin 128) :
    queries (slopes (weights m q l k) g d v) k (ix2 i j)
      = ((D.dq T (128 * b + i) (2 * p + j / 64) (j % 64) : ℝ) : EReal) := by
  have key : ∀ r : Fin 256, r.val = 128 * (j.val / 64) + i.val →
      ∑ c : Fin 256, slopes (weights m q l k) g d v (ix2 r c) * k (ix2 c j)
        = ((D.dq T (128 * b + i) (2 * p + j / 64) (j % 64) : ℝ) : EReal) := by
    intro r hr
    rw [sum_fin_coe (fun c => (if In b (r % 128) c then D.slope T (2 * p + r / 128) (128 * b + r % 128) (128 * b + c - 128) else 0) * kr c j)
      fun c => by rw [slopes_at Q hb hm K, K.k, ← EReal.coe_mul]]
    congr 1
    have e1 : r.val % 128 = i.val := by omega
    have e2 : r.val / 128 = j.val / 64 := by omega
    rw [e1, e2]
    unfold Data.dq
    rw [sum_keys b i i.2 hb (fun u => D.slope T (2 * p + j / 64) (128 * b + i) u * D.k u (2 * p + j / 64) (j % 64))
      fun u hn => by rw [D.slope_far hn, zero_mul]]
    refine Finset.sum_congr rfl fun c _ => ?_
    by_cases h : In b i c
    · rw [if_pos h, if_pos h, K.k' c j (by omega)]
    · rw [if_neg h, if_neg h, zero_mul]
  pointwise [queries, Gen.k0_pay16, Gen.k0_pay4]
  rw [cmpi_slt (toInt_ofNat (a := j) (by omega)) (b := 64) rfl, select_ofBool]
  split
  · exact key _ (by show i.val = _; omega)
  · exact key _ (by show 128 + i.val = _; omega)

omit Q hb in
/-- A product over the stacked rows. -/
theorem prod_at {s : Fin 256 → EReal} {σ : ℕ → ℕ → ℝ} (hs : ∀ r : Fin 256, s r = ((σ (r / 128) (r % 128) : ℝ) : EReal))
    {x : B} {f : ℕ → ℕ → ℝ} (hx : ∀ i l : Fin 128, x (ix2 i l) = ((f i l : ℝ) : EReal)) (j : Fin 128) :
    ∑ r : Fin 256, s r * stack x (ix2 r j) = ((∑ i ∈ Finset.range 128, σ (j / 64) i * f i j : ℝ) : EReal) := by
  rw [sum_fin_coe (fun r => σ (r / 128) (r % 128) * (if r / 128 = j / 64 then f (r % 128) j else 0)) fun r => by
    rw [hs, stack_at hx, ← EReal.coe_mul], sum_rows (j / 64) (by omega) σ fun i => f i j]

omit Q hb in
/-- What a tile of block `b` adds to the gradients of key `j` of its own block: a sum over the queries from `j` on. -/
theorem own_at {s : FVec Ideal S256x256 .bf16} {w : ℕ → ℕ → ℕ → ℝ}
    (hs : ∀ r c : Fin 256, s (ix2 r c)
      = (((if In b (r % 128) c then w (2 * p + r / 128) (128 * b + r % 128) (128 * b + c - 128) else 0 : ℝ)) : EReal))
    {x : B} {f : ℕ → ℕ → ℕ → ℝ} (hx : ∀ i l : Fin 128, x (ix2 i l) = ((f (128 * b + i) (2 * p + l / 64) (l % 64) : ℝ) : EReal))
    (j l : Fin 128) :
    own0 s (stack x) (ix2 j l)
      = ((∑ i ∈ Finset.range 128, if j.val ≤ i then w (2 * p + l / 64) (128 * b + i) (128 * b + j) * f (128 * b + i) (2 * p + l / 64) (l % 64)
          else 0 : ℝ) : EReal) := by
  pointwise [own0, Gen.k0_pay17]
  rw [prod_at (σ := fun a i => if In b i (128 + j) then w (2 * p + a) (128 * b + i) (128 * b + (128 + j) - 128) else 0)
    (fun r => hs r _) (f := fun i l => f (128 * b + i) (2 * p + l / 64) (l % 64)) hx l]
  congr 1
  refine Finset.sum_congr rfl fun i hi => ?_
  have hi' := Finset.mem_range.1 hi
  have e : 128 * b + (128 + j.val) - 128 = 128 * b + j.val := by omega
  by_cases h : j.val ≤ i
  · rw [if_pos h, if_pos (by omega), e]
  · rw [if_neg h, if_neg (by omega), zero_mul]

omit Q hb in
/-- The first tile's form of the same sum is the other tiles'. -/
theorem own_eq (s : FVec Ideal S256x256 .bf16) (x : St) (j l : Fin 128) : own s x (ix2 j l) = own0 s x (ix2 j l) := by
  pointwise [own, prods, own0, Gen.k0_pay17]

omit Q hb in
/-- What a tile of block `b + 1` adds to those of key `j` of block `b`: a sum over the queries up to `j`. -/
theorem past_at {s : FVec Ideal S256x256 .bf16} {w : ℕ → ℕ → ℕ → ℝ}
    (hs : ∀ r c : Fin 256, s (ix2 r c)
      = (((if In (b + 1) (r % 128) c then w (2 * p + r / 128) (128 * (b + 1) + r % 128) (128 * (b + 1) + c - 128) else 0 : ℝ)) : EReal))
    {x : B} {f : ℕ → ℕ → ℕ → ℝ} (hx : ∀ i l : Fin 128, x (ix2 i l) = ((f (128 * (b + 1) + i) (2 * p + l / 64) (l % 64) : ℝ) : EReal))
    (j l : Fin 128) :
    past s (stack x) (ix2 j l)
      = ((∑ i ∈ Finset.range 128, if i ≤ j.val then
          w (2 * p + l / 64) (128 * (b + 1) + i) (128 * b + j) * f (128 * (b + 1) + i) (2 * p + l / 64) (l % 64) else 0 : ℝ) : EReal) := by
  pointwise [past, prods]
  rw [prod_at (σ := fun a i => if In (b + 1) i j then w (2 * p + a) (128 * (b + 1) + i) (128 * (b + 1) + j - 128) else 0)
    (fun r => hs r _) (f := fun i l => f (128 * (b + 1) + i) (2 * p + l / 64) (l % 64)) hx l]
  congr 1
  refine Finset.sum_congr rfl fun i hi => ?_
  have hi' := Finset.mem_range.1 hi
  have e : 128 * (b + 1) + j.val - 128 = 128 * b + j.val := by omega
  by_cases h : i ≤ j.val
  · rw [if_pos h, if_pos (by omega), e]
  · rw [if_neg h, if_neg (by omega), zero_mul]

omit Q hb in
/-- The gradients of key `j` of block `b` from the two tiles that meet it, the second of them there unless the block is the last. -/
theorem both (w f : ℕ → ℝ) (hb : 128 * b + 128 ≤ T) (j : Fin 128) (hw : ∀ t, ¬ Near t (128 * b + j) → w t = 0) :
    ((∑ i ∈ Finset.range 128, if j.val ≤ i then w (128 * b + i) * f (128 * b + i) else 0 : ℝ) : EReal)
      + ((∑ i ∈ Finset.range 128, if 128 * b + 256 ≤ T ∧ i ≤ j.val then w (128 * (b + 1) + i) * f (128 * (b + 1) + i) else 0 : ℝ) : EReal)
      = ((∑ t ∈ Finset.range T, w t * f t : ℝ) : EReal) := by
  rw [sum_queries b j j.2 hb (by norm_num) (fun t => w t * f t) fun t hn => by rw [hw t hn, zero_mul], EReal.coe_add]

/-! ### The tile past a step's last block -/

variable {k v : B} {kb : ℕ} (hk : ∀ i l : Fin 128, k (ix2 i l) = ((D.k (128 * kb + i) (2 * p + l / 64) (l % 64) : ℝ) : EReal))
  (hv : ∀ i l : Fin 128, v (ix2 i l) = ((D.v (128 * kb + i) (2 * p + l / 64) (l % 64) : ℝ) : EReal))
  {c : Prop} [Decidable c] (hc : c → b = kb + 1)
include hc

include hk in
theorem weightsT_at {m : IVec S256x128 1} (hm : ∀ (r : Fin 256) (u : Fin 128), m (ix2 r u) = BitVec.ofBool (decide (c ∧ r.val % 128 ≤ u)))
    (r : Fin 256) (u : Fin 128) :
    weightsT m q l k (ix2 r u)
      = (((if c ∧ r.val % 128 ≤ u then D.prob T (2 * p + r / 128) (128 * (kb + 1) + r % 128) (128 * kb + u) else 0 : ℝ)) : EReal) := by
  pointwise [weightsT]
  rw [hm, select_ofBool, lse_row Q hb, word_eighth,
    dot_at (f := fun i l => D.q (128 * b + i) (2 * p + l / 64) (l % 64)) Q.q r (g := fun l => D.k (128 * kb + u) (2 * p + l / 64) (l % 64)) (fun l => hk u l), ← EReal.coe_mul, ← EReal.coe_sub]
  split
  · rename_i h
    rw [← hc h.1, show Ideal.exp _ = _ from Ideal.exp_coe _, D.prob_eq (by omega), if_pos (by have := hc h.1; constructor <;> omega)]
    congr 3
    rw [sum_lanes (r / 128) p (by omega) (fun h d => D.q (128 * b + r % 128) h d) fun h d => D.k (128 * kb + u) h d]
    rfl
  · rfl

include hk hv in
theorem slopesT_at {m : IVec S256x128 1} (hm : ∀ (r : Fin 256) (u : Fin 128), m (ix2 r u) = BitVec.ofBool (decide (c ∧ r.val % 128 ≤ u)))
    (r : Fin 256) (u : Fin 128) :
    slopesT (weightsT m q l k) g d v (ix2 r u)
      = (((if c ∧ r.val % 128 ≤ u then D.slope T (2 * p + r / 128) (128 * (kb + 1) + r % 128) (128 * kb + u) else 0 : ℝ)) : EReal) := by
  pointwise [slopesT]
  rw [weightsT_at Q hb hk hc hm, dd_row Q hb, word_eighth,
    dot_at (f := fun i l => D.g (128 * b + i) (2 * p + l / 64) (l % 64)) Q.g r (g := fun l => D.v (128 * kb + u) (2 * p + l / 64) (l % 64)) (fun l => hv u l), ← EReal.coe_sub, ← EReal.coe_mul, ← EReal.coe_mul]
  congr 1
  split
  · rename_i h
    rw [← hc h.1, sum_lanes (r / 128) p (by omega) (fun h d => D.g (128 * b + r % 128) h d) fun h d => D.v (128 * kb + u) h d]
    rfl
  · rw [zero_mul, zero_mul]

omit Q hb in
/-- What that tile adds to the gradients of the step's last block of keys. -/
theorem pastT_at {s : FVec Ideal S256x128 .bf16} {w : ℕ → ℕ → ℕ → ℝ}
    (hs : ∀ (r : Fin 256) (u : Fin 128), s (ix2 r u)
      = (((if c ∧ r.val % 128 ≤ u then w (2 * p + r / 128) (128 * (kb + 1) + r % 128) (128 * kb + u) else 0 : ℝ)) : EReal))
    {x : B} {f : ℕ → ℕ → ℕ → ℝ} (hx : ∀ i l : Fin 128, x (ix2 i l) = ((f (128 * b + i) (2 * p + l / 64) (l % 64) : ℝ) : EReal))
    (j l : Fin 128) :
    pastT s (stack x) (ix2 j l)
      = ((∑ i ∈ Finset.range 128, if c ∧ i ≤ j.val then
          w (2 * p + l / 64) (128 * (kb + 1) + i) (128 * kb + j) * f (128 * (kb + 1) + i) (2 * p + l / 64) (l % 64) else 0 : ℝ) : EReal) := by
  pointwise [pastT]
  rw [prod_at (σ := fun a i => if c ∧ i ≤ j.val then w (2 * p + a) (128 * (kb + 1) + i) (128 * kb + j) else 0)
    (fun r => hs r _) (f := fun i l => f (128 * b + i) (2 * p + l / 64) (l % 64)) hx l]
  congr 1
  refine Finset.sum_congr rfl fun i hi => ?_
  by_cases h : c ∧ i ≤ j.val
  · rw [if_pos h, if_pos h, hc h.1]
  · rw [if_neg h, if_neg h, zero_mul]

end Cert.KernelIdeal.Tile

end
-- ==== Proof.Pieces.lean ====
/- What the kernel's body stores at a grid point, as tiles of the blocks it loads. -/
module

public import proofs.«01_k».proof.Proof.Tile
public import Idealize.ShloMosaic.Lib.Pipeline.ValueKit

@[expose] public section

set_option maxRecDepth 16384

noncomputable section

namespace Cert.KernelIdeal.Tile

open Idealize.ShloMosaic Cert.Band
open Cert.KernelIdeal Cert.KernelIdeal.Facts₀ Cert.KernelIdeal.Facts
open Cert.KernelIdeal.Gen (r0_0 r0_1 r0_2 r0_3 r0_4)

abbrev V4 := Vec Ideal S512x128 .f32
abbrev V1 := Vec Ideal S128x128 .f32

/-- The weights and the products' gradients of a tile, from the loads. -/
def tw (m : IVec S256x256 1) (q l ka kb : B) : FVec Ideal S256x256 .f32 := weights m q l (pair ka kb)
def ts (m : IVec S256x256 1) (q g l d ka kb va vb : B) : FVec Ideal S256x256 .bf16 :=
  slopes (tw m q l ka kb) g d (pair va vb)
def half (w : FVec Ideal S256x256 .f32) : FVec Ideal S256x256 .bf16 := truncf .bf16 w bitsLt_bf16_f32
def halfT (w : FVec Ideal S256x128 .f32) : FVec Ideal S256x128 .bf16 := truncf .bf16 w bitsLt_bf16_f32

variable (i : grid0.Coords) (x0 : V4) (x1 : V1) (x2 : V4) (x3 : V1) (x4 : V4) (x5 : V1) (x6 : V4) (x7 : V1) (x8 : V4) (x9 : V1) (x10 : V4) (x11 : V1)

/-- The tile of the step's first block of queries, and of the later ones: `a` and `b` are the rows of the block before and of the block. -/
def w0 : FVec Ideal S256x256 .f32 := tw (Gen.k0_pay2 i) (View.ld x0 r0_0) (View.ld x4 r0_0) (View.ld x9 r0_1) (View.ld x8 r0_0)
def s0 : FVec Ideal S256x256 .bf16 :=
  ts (Gen.k0_pay2 i) (View.ld x0 r0_0) (View.ld x2 r0_0) (View.ld x4 r0_0) (View.ld x6 r0_0) (View.ld x9 r0_1) (View.ld x8 r0_0)
    (View.ld x11 r0_1) (View.ld x10 r0_0)
def w2 : FVec Ideal S256x256 .f32 := tw Gen.k0_pay1 (View.ld x0 r0_2) (View.ld x4 r0_2) (View.ld x8 r0_0) (View.ld x8 r0_2)
def s2 : FVec Ideal S256x256 .bf16 :=
  ts Gen.k0_pay1 (View.ld x0 r0_2) (View.ld x2 r0_2) (View.ld x4 r0_2) (View.ld x6 r0_2) (View.ld x8 r0_0) (View.ld x8 r0_2)
    (View.ld x10 r0_0) (View.ld x10 r0_2)
def w3 : FVec Ideal S256x256 .f32 := tw Gen.k0_pay1 (View.ld x0 r0_3) (View.ld x4 r0_3) (View.ld x8 r0_2) (View.ld x8 r0_3)
def s3 : FVec Ideal S256x256 .bf16 :=
  ts Gen.k0_pay1 (View.ld x0 r0_3) (View.ld x2 r0_3) (View.ld x4 r0_3) (View.ld x6 r0_3) (View.ld x8 r0_2) (View.ld x8 r0_3)
    (View.ld x10 r0_2) (View.ld x10 r0_3)
def w4 : FVec Ideal S256x256 .f32 := tw Gen.k0_pay1 (View.ld x0 r0_4) (View.ld x4 r0_4) (View.ld x8 r0_3) (View.ld x8 r0_4)
def s4 : FVec Ideal S256x256 .bf16 :=
  ts Gen.k0_pay1 (View.ld x0 r0_4) (View.ld x2 r0_4) (View.ld x4 r0_4) (View.ld x6 r0_4) (View.ld x8 r0_3) (View.ld x8 r0_4)
    (View.ld x10 r0_3) (View.ld x10 r0_4)

/-- The tile of the next step's first queries. -/
def wT : FVec Ideal S256x128 .f32 :=
  weightsT (Gen.k0_pay3 (Scalar.cmpi .slt (BitVec.ofNat 32 (i 0).val) 15#32) 0#32 129#32) (View.ld x1 r0_1) (View.ld x5 r0_1) (View.ld x8 r0_4)
def sT : FVec Ideal S256x128 .bf16 := slopesT (wT i x1 x5 x8) (View.ld x3 r0_1) (View.ld x7 r0_1) (View.ld x10 r0_4)

theorem out12_eq : Gen.out0_12 (F := Ideal) i x0 x1 x2 x3 x4 x5 x6 x7 x8 x9 x10 x11
    = View.canon [⟨r0_4, queries (s4 x0 x2 x4 x6 x8 x10) (pair (View.ld x8 r0_3) (View.ld x8 r0_4))⟩,
        ⟨r0_3, queries (s3 x0 x2 x4 x6 x8 x10) (pair (View.ld x8 r0_2) (View.ld x8 r0_3))⟩,
        ⟨r0_2, queries (s2 x0 x2 x4 x6 x8 x10) (pair (View.ld x8 r0_0) (View.ld x8 r0_2))⟩,
        ⟨r0_0, queries (s0 i x0 x2 x4 x6 x8 x9 x10 x11) (pair (View.ld x9 r0_1) (View.ld x8 r0_0))⟩] := by
  unfold_out out0_12
  rfl

theorem out13_eq : Gen.out0_13 (F := Ideal) i x0 x1 x2 x3 x4 x5 x6 x7 x8 x9 x10 x11
    = View.canon [⟨r0_4, addf (own (s4 x0 x2 x4 x6 x8 x10) (stack (View.ld x0 r0_4))) (pastT (sT i x1 x3 x5 x7 x8 x10) (stack (View.ld x1 r0_1)))⟩,
        ⟨r0_3, addf (own (s3 x0 x2 x4 x6 x8 x10) (stack (View.ld x0 r0_3))) (past (s4 x0 x2 x4 x6 x8 x10) (stack (View.ld x0 r0_4)))⟩,
        ⟨r0_2, addf (own (s2 x0 x2 x4 x6 x8 x10) (stack (View.ld x0 r0_2))) (past (s3 x0 x2 x4 x6 x8 x10) (stack (View.ld x0 r0_3)))⟩,
        ⟨r0_0, addf (own0 (s0 i x0 x2 x4 x6 x8 x9 x10 x11) (stack (View.ld x0 r0_0))) (past (s2 x0 x2 x4 x6 x8 x10) (stack (View.ld x0 r0_2)))⟩] := by
  unfold_out out0_13
  rfl

theorem out14_eq : Gen.out0_14 (F := Ideal) i x0 x1 x2 x3 x4 x5 x6 x7 x8 x9 x10 x11
    = View.canon [⟨r0_4, addf (own (half (w4 x0 x4 x8)) (stack (View.ld x2 r0_4))) (pastT (halfT (wT i x1 x5 x8)) (stack (View.ld x3 r0_1)))⟩,
        ⟨r0_3, addf (own (half (w3 x0 x4 x8)) (stack (View.ld x2 r0_3))) (past (half (w4 x0 x4 x8)) (stack (View.ld x2 r0_4)))⟩,
        ⟨r0_2, addf (own (half (w2 x0 x4 x8)) (stack (View.ld x2 r0_2))) (past (half (w3 x0 x4 x8)) (stack (View.ld x2 r0_3)))⟩,
        ⟨r0_0, addf (own0 (half (w0 i x0 x4 x8 x9)) (stack (View.ld x2 r0_0))) (past (half (w2 x0 x4 x8)) (stack (View.ld x2 r0_2)))⟩] := by
  unfold_out out0_14
  rfl

/-! ### The tiles, read -/

/-- Two blocks of keys, one above the other. -/
theorem pair_at {a b : B} {f g : ℕ → ℕ → ℝ} (ha : ∀ i l : Fin 128, a (ix2 i l) = ((f i l : ℝ) : EReal))
    (hb : ∀ i l : Fin 128, b (ix2 i l) = ((g i l : ℝ) : EReal)) (c : Fin 256) (l : Fin 128) :
    pair a b (ix2 c l) = (((if c.val < 128 then f c l else g (c - 128) l : ℝ)) : EReal) := by
  pointwise [pair, Gen.k0_pay12]
  show (if h : c.val < 128 then a (ix2 ⟨c.val, h⟩ l) else b (ix2 ⟨c.val - 128, by omega⟩ l)) = _
  split
  · rw [ha]
  · rw [hb]

variable {D : Data}

theorem keys_of {b ab p : ℕ} {ka kb va vb : B} (hab : 0 < b → ab + 1 = b)
    (h1 : ∀ i l : Fin 128, ka (ix2 i l) = ((D.k (128 * ab + i) (2 * p + l / 64) (l % 64) : ℝ) : EReal))
    (h2 : ∀ i l : Fin 128, kb (ix2 i l) = ((D.k (128 * b + i) (2 * p + l / 64) (l % 64) : ℝ) : EReal))
    (h3 : ∀ i l : Fin 128, va (ix2 i l) = ((D.v (128 * ab + i) (2 * p + l / 64) (l % 64) : ℝ) : EReal))
    (h4 : ∀ i l : Fin 128, vb (ix2 i l) = ((D.v (128 * b + i) (2 * p + l / 64) (l % 64) : ℝ) : EReal)) :
    Keys D b p (pair ka kb) (pair va vb)
      (fun c l => if c < 128 then D.k (128 * ab + c) (2 * p + l / 64) (l % 64) else D.k (128 * b + (c - 128)) (2 * p + l / 64) (l % 64))
      (fun c l => if c < 128 then D.v (128 * ab + c) (2 * p + l / 64) (l % 64) else D.v (128 * b + (c - 128)) (2 * p + l / 64) (l % 64)) where
  k := pair_at (f := fun i l => D.k (128 * ab + i) (2 * p + l / 64) (l % 64)) (g := fun i l => D.k (128 * b + i) (2 * p + l / 64) (l % 64)) h1 h2
  v := pair_at (f := fun i l => D.v (128 * ab + i) (2 * p + l / 64) (l % 64)) (g := fun i l => D.v (128 * b + i) (2 * p + l / 64) (l % 64)) h3 h4
  k' c l h := by
    split
    · rw [show 128 * ab + c = 128 * b + c - 128 by omega]
    · rw [show 128 * b + (c - 128) = 128 * b + c - 128 by omega]
  v' c l h := by
    split
    · rw [show 128 * ab + c = 128 * b + c - 128 by omega]
    · rw [show 128 * b + (c - 128) = 128 * b + c - 128 by omega]

/-- The blocks of step `bb` and pair `p` of heads hold the data's rows. -/
structure Blocks (D : Data) (bb nb pb p : ℕ) (x0 : V4) (x1 : V1) (x2 : V4) (x3 : V1) (x4 : V4) (x5 : V1) (x6 : V4) (x7 : V1) (x8 : V4) (x9 : V1) (x10 : V4) (x11 : V1) : Prop where
  q : ∀ (r : Fin 512) (l : Fin 128), x0 (ix2 r l) = ((D.q (512 * bb + r) (2 * p + l / 64) (l % 64) : ℝ) : EReal)
  qn : ∀ r l : Fin 128, x1 (ix2 r l) = ((D.q (128 * nb + r) (2 * p + l / 64) (l % 64) : ℝ) : EReal)
  g : ∀ (r : Fin 512) (l : Fin 128), x2 (ix2 r l) = ((D.g (512 * bb + r) (2 * p + l / 64) (l % 64) : ℝ) : EReal)
  gn : ∀ r l : Fin 128, x3 (ix2 r l) = ((D.g (128 * nb + r) (2 * p + l / 64) (l % 64) : ℝ) : EReal)
  l : ∀ (r : Fin 512) (l : Fin 128), x4 (ix2 r l) = ((D.lse T (2 * p + l / 64) (512 * bb + r) : ℝ) : EReal)
  ln : ∀ r l : Fin 128, x5 (ix2 r l) = ((D.lse T (2 * p + l / 64) (128 * nb + r) : ℝ) : EReal)
  d : ∀ (r : Fin 512) (l : Fin 128), x6 (ix2 r l) = ((D.dd T (2 * p + l / 64) (512 * bb + r) : ℝ) : EReal)
  dn : ∀ r l : Fin 128, x7 (ix2 r l) = ((D.dd T (2 * p + l / 64) (128 * nb + r) : ℝ) : EReal)
  k : ∀ (r : Fin 512) (l : Fin 128), x8 (ix2 r l) = ((D.k (512 * bb + r) (2 * p + l / 64) (l % 64) : ℝ) : EReal)
  kp : ∀ r l : Fin 128, x9 (ix2 r l) = ((D.k (128 * pb + r) (2 * p + l / 64) (l % 64) : ℝ) : EReal)
  v : ∀ (r : Fin 512) (l : Fin 128), x10 (ix2 r l) = ((D.v (512 * bb + r) (2 * p + l / 64) (l % 64) : ℝ) : EReal)
  vp : ∀ r l : Fin 128, x11 (ix2 r l) = ((D.v (128 * pb + r) (2 * p + l / 64) (l % 64) : ℝ) : EReal)

/-- A load of a quarter of a block. -/
theorem ld_quarter {x : V4} {f : ℕ → ℕ → ℝ} {bb b s : ℕ} (hb : b = 4 * bb + s)
    (hx : ∀ (r : Fin 512) (l : Fin 128), x (ix2 r l) = ((f (512 * bb + r) l : ℝ) : EReal))
    (inb : ∀ a, (![128 * s, 0] : Fin 2 → ℕ) a + S128x128.size a ≤ S512x128.size a) (i l : Fin 128) :
    View.ld x (Rect.unit (s := S512x128) ![128 * s, 0] S128x128.size inb) (ix2 i l) = ((f (128 * b + i) l : ℝ) : EReal) := by
  have h0 : 128 * s + 128 ≤ 512 := inb 0
  rw [View.ld_unit_apply_of x _ _ inb _ (ix2 ⟨128 * s + i, by omega⟩ l) (by intro a; fin_cases a <;> simp [ix2]), hx, hb,
    show 512 * bb + (128 * s + i.val) = 128 * (4 * bb + s) + i by omega]

theorem ld_all {x : V1} {y : Fin 128 → Fin 128 → EReal} (hx : ∀ r l : Fin 128, x (ix2 r l) = y r l) (i l : Fin 128) :
    View.ld x r0_1 (ix2 i l) = y i l := by
  rw [View.ld_unit_apply_of x _ _ _ _ (ix2 i l) (by intro a; fin_cases a <;> simp [ix2]), hx]

section Read

variable {i : grid0.Coords} {bb nb pb p : ℕ} (hi : (i 0).val = bb) {x0 : V4} {x1 : V1} {x2 : V4} {x3 : V1} {x4 : V4} {x5 : V1} {x6 : V4} {x7 : V1} {x8 : V4} {x9 : V1} {x10 : V4} {x11 : V1}
  (H : Blocks D bb nb pb p x0 x1 x2 x3 x4 x5 x6 x7 x8 x9 x10 x11)
include H

theorem kq {b s : ℕ} (hb : b = 4 * bb + s) (inb : ∀ a, (![128 * s, 0] : Fin 2 → ℕ) a + S128x128.size a ≤ S512x128.size a) (i l : Fin 128) :
    View.ld x8 (Rect.unit (s := S512x128) ![128 * s, 0] S128x128.size inb) (ix2 i l) = ((D.k (128 * b + i) (2 * p + l / 64) (l % 64) : ℝ) : EReal) :=
  ld_quarter (f := fun t l => D.k t (2 * p + l / 64) (l % 64)) hb H.k inb i l

theorem vq {b s : ℕ} (hb : b = 4 * bb + s) (inb : ∀ a, (![128 * s, 0] : Fin 2 → ℕ) a + S128x128.size a ≤ S512x128.size a) (i l : Fin 128) :
    View.ld x10 (Rect.unit (s := S512x128) ![128 * s, 0] S128x128.size inb) (ix2 i l) = ((D.v (128 * b + i) (2 * p + l / 64) (l % 64) : ℝ) : EReal) :=
  ld_quarter (f := fun t l => D.v t (2 * p + l / 64) (l % 64)) hb H.v inb i l

theorem query {b s : ℕ} (hb : b = 4 * bb + s) (inb : ∀ a, (![128 * s, 0] : Fin 2 → ℕ) a + S128x128.size a ≤ S512x128.size a) :
    Query D b p (View.ld x0 (Rect.unit (s := S512x128) ![128 * s, 0] S128x128.size inb)) (View.ld x2 (Rect.unit (s := S512x128) ![128 * s, 0] S128x128.size inb))
      (View.ld x4 (Rect.unit (s := S512x128) ![128 * s, 0] S128x128.size inb)) (View.ld x6 (Rect.unit (s := S512x128) ![128 * s, 0] S128x128.size inb)) where
  q := ld_quarter (f := fun t l => D.q t (2 * p + l / 64) (l % 64)) hb H.q inb
  g := ld_quarter (f := fun t l => D.g t (2 * p + l / 64) (l % 64)) hb H.g inb
  l := ld_quarter (f := fun t l => D.lse T (2 * p + l / 64) t) hb H.l inb
  d := ld_quarter (f := fun t l => D.dd T (2 * p + l / 64) t) hb H.d inb

theorem q0 : Query D (4 * bb) p (View.ld x0 r0_0) (View.ld x2 r0_0) (View.ld x4 r0_0) (View.ld x6 r0_0) := query H (s := 0) rfl _
theorem q2 : Query D (4 * bb + 1) p (View.ld x0 r0_2) (View.ld x2 r0_2) (View.ld x4 r0_2) (View.ld x6 r0_2) := query H (s := 1) rfl _
theorem q3 : Query D (4 * bb + 2) p (View.ld x0 r0_3) (View.ld x2 r0_3) (View.ld x4 r0_3) (View.ld x6 r0_3) := query H (s := 2) rfl _
theorem q4 : Query D (4 * bb + 3) p (View.ld x0 r0_4) (View.ld x2 r0_4) (View.ld x4 r0_4) (View.ld x6 r0_4) := query H (s := 3) rfl _
theorem qT : Query D nb p (View.ld x1 r0_1) (View.ld x3 r0_1) (View.ld x5 r0_1) (View.ld x7 r0_1) where
  q := ld_all H.qn
  g := ld_all H.gn
  l := ld_all H.ln
  d := ld_all H.dn

variable (hb : bb < 16)
include hb

theorem w0_at (hi : (i 0).val = bb) (hp : pb = 4 * bb - 1) (r c : Fin 256) : w0 i x0 x4 x8 x9 (ix2 r c)
    = (((if In (4 * bb) (r % 128) c then D.prob T (2 * p + r / 128) (128 * (4 * bb) + r % 128) (128 * (4 * bb) + c - 128) else 0 : ℝ)) : EReal) :=
  weights_at (q0 H) (by show 128 * (4 * bb) + 128 ≤ 8192; omega) (mask0_at i _ (by omega)) (keys_of (b := 4 * bb) (ab := pb) (by omega) (ld_all H.kp) (kq H (s := 0) rfl inb_S512x128_S128x128_0_0) (ld_all H.vp) (vq H (s := 0) rfl inb_S512x128_S128x128_0_0)) r c

theorem s0_at (hi : (i 0).val = bb) (hp : pb = 4 * bb - 1) (r c : Fin 256) : s0 i x0 x2 x4 x6 x8 x9 x10 x11 (ix2 r c)
    = (((if In (4 * bb) (r % 128) c then D.slope T (2 * p + r / 128) (128 * (4 * bb) + r % 128) (128 * (4 * bb) + c - 128) else 0 : ℝ)) : EReal) :=
  slopes_at (q0 H) (by show 128 * (4 * bb) + 128 ≤ 8192; omega) (mask0_at i _ (by omega)) (keys_of (b := 4 * bb) (ab := pb) (by omega) (ld_all H.kp) (kq H (s := 0) rfl inb_S512x128_S128x128_0_0) (ld_all H.vp) (vq H (s := 0) rfl inb_S512x128_S128x128_0_0)) r c

theorem dq0_at (hi : (i 0).val = bb) (hp : pb = 4 * bb - 1) (j l : Fin 128) :
    queries (s0 i x0 x2 x4 x6 x8 x9 x10 x11) (pair (View.ld x9 r0_1) (View.ld x8 r0_0)) (ix2 j l)
      = ((D.dq T (128 * (4 * bb) + j) (2 * p + l / 64) (l % 64) : ℝ) : EReal) :=
  queries_at (q0 H) (by show 128 * (4 * bb) + 128 ≤ 8192; omega) (mask0_at i _ (by omega)) (keys_of (b := 4 * bb) (ab := pb) (by omega) (ld_all H.kp) (kq H (s := 0) rfl inb_S512x128_S128x128_0_0) (ld_all H.vp) (vq H (s := 0) rfl inb_S512x128_S128x128_0_0)) j l

theorem w2_at (r c : Fin 256) : w2 x0 x4 x8 (ix2 r c)
    = (((if In (4 * bb + 1) (r % 128) c then D.prob T (2 * p + r / 128) (128 * (4 * bb + 1) + r % 128) (128 * (4 * bb + 1) + c - 128) else 0 : ℝ)) : EReal) :=
  weights_at (q2 H) (by show 128 * (4 * bb + 1) + 128 ≤ 8192; omega) (mask_at _ (by omega)) (keys_of (b := 4 * bb + 1) (ab := 4 * bb) (fun _ => rfl) (kq H (s := 0) rfl inb_S512x128_S128x128_0_0) (kq H (s := 1) rfl inb_S512x128_S128x128_128_0) (vq H (s := 0) rfl inb_S512x128_S128x128_0_0) (vq H (s := 1) rfl inb_S512x128_S128x128_128_0)) r c

theorem s2_at (r c : Fin 256) : s2 x0 x2 x4 x6 x8 x10 (ix2 r c)
    = (((if In (4 * bb + 1) (r % 128) c then D.slope T (2 * p + r / 128) (128 * (4 * bb + 1) + r % 128) (128 * (4 * bb + 1) + c - 128) else 0 : ℝ)) : EReal) :=
  slopes_at (q2 H) (by show 128 * (4 * bb + 1) + 128 ≤ 8192; omega) (mask_at _ (by omega)) (keys_of (b := 4 * bb + 1) (ab := 4 * bb) (fun _ => rfl) (kq H (s := 0) rfl inb_S512x128_S128x128_0_0) (kq H (s := 1) rfl inb_S512x128_S128x128_128_0) (vq H (s := 0) rfl inb_S512x128_S128x128_0_0) (vq H (s := 1) rfl inb_S512x128_S128x128_128_0)) r c

theorem dq2_at (j l : Fin 128) :
    queries (s2 x0 x2 x4 x6 x8 x10) (pair (View.ld x8 r0_0) (View.ld x8 r0_2)) (ix2 j l)
      = ((D.dq T (128 * (4 * bb + 1) + j) (2 * p + l / 64) (l % 64) : ℝ) : EReal) :=
  queries_at (q2 H) (by show 128 * (4 * bb + 1) + 128 ≤ 8192; omega) (mask_at _ (by omega)) (keys_of (b := 4 * bb + 1) (ab := 4 * bb) (fun _ => rfl) (kq H (s := 0) rfl inb_S512x128_S128x128_0_0) (kq H (s := 1) rfl inb_S512x128_S128x128_128_0) (vq H (s := 0) rfl inb_S512x128_S128x128_0_0) (vq H (s := 1) rfl inb_S512x128_S128x128_128_0)) j l

theorem w3_at (r c : Fin 256) : w3 x0 x4 x8 (ix2 r c)
    = (((if In (4 * bb + 2) (r % 128) c then D.prob T (2 * p + r / 128) (128 * (4 * bb + 2) + r % 128) (128 * (4 * bb + 2) + c - 128) else 0 : ℝ)) : EReal) :=
  weights_at (q3 H) (by show 128 * (4 * bb + 2) + 128 ≤ 8192; omega) (mask_at _ (by omega)) (keys_of (b := 4 * bb + 2) (ab := 4 * bb + 1) (fun _ => rfl) (kq H (s := 1) rfl inb_S512x128_S128x128_128_0) (kq H (s := 2) rfl inb_S512x128_S128x128_256_0) (vq H (s := 1) rfl inb_S512x128_S128x128_128_0) (vq H (s := 2) rfl inb_S512x128_S128x128_256_0)) r c

theorem s3_at (r c : Fin 256) : s3 x0 x2 x4 x6 x8 x10 (ix2 r c)
    = (((if In (4 * bb + 2) (r % 128) c then D.slope T (2 * p + r / 128) (128 * (4 * bb + 2) + r % 128) (128 * (4 * bb + 2) + c - 128) else 0 : ℝ)) : EReal) :=
  slopes_at (q3 H) (by show 128 * (4 * bb + 2) + 128 ≤ 8192; omega) (mask_at _ (by omega)) (keys_of (b := 4 * bb + 2) (ab := 4 * bb + 1) (fun _ => rfl) (kq H (s := 1) rfl inb_S512x128_S128x128_128_0) (kq H (s := 2) rfl inb_S512x128_S128x128_256_0) (vq H (s := 1) rfl inb_S512x128_S128x128_128_0) (vq H (s := 2) rfl inb_S512x128_S128x128_256_0)) r c

theorem dq3_at (j l : Fin 128) :
    queries (s3 x0 x2 x4 x6 x8 x10) (pair (View.ld x8 r0_2) (View.ld x8 r0_3)) (ix2 j l)
      = ((D.dq T (128 * (4 * bb + 2) + j) (2 * p + l / 64) (l % 64) : ℝ) : EReal) :=
  queries_at (q3 H) (by show 128 * (4 * bb + 2) + 128 ≤ 8192; omega) (mask_at _ (by omega)) (keys_of (b := 4 * bb + 2) (ab := 4 * bb + 1) (fun _ => rfl) (kq H (s := 1) rfl inb_S512x128_S128x128_128_0) (kq H (s := 2) rfl inb_S512x128_S128x128_256_0) (vq H (s := 1) rfl inb_S512x128_S128x128_128_0) (vq H (s := 2) rfl inb_S512x128_S128x128_256_0)) j l

theorem w4_at (r c : Fin 256) : w4 x0 x4 x8 (ix2 r c)
    = (((if In (4 * bb + 3) (r % 128) c then D.prob T (2 * p + r / 128) (128 * (4 * bb + 3) + r % 128) (128 * (4 * bb + 3) + c - 128) else 0 : ℝ)) : EReal) :=
  weights_at (q4 H) (by show 128 * (4 * bb + 3) + 128 ≤ 8192; omega) (mask_at _ (by omega)) (keys_of (b := 4 * bb + 3) (ab := 4 * bb + 2) (fun _ => rfl) (kq H (s := 2) rfl inb_S512x128_S128x128_256_0) (kq H (s := 3) rfl inb_S512x128_S128x128_384_0) (vq H (s := 2) rfl inb_S512x128_S128x128_256_0) (vq H (s := 3) rfl inb_S512x128_S128x128_384_0)) r c

theorem s4_at (r c : Fin 256) : s4 x0 x2 x4 x6 x8 x10 (ix2 r c)
    = (((if In (4 * bb + 3) (r % 128) c then D.slope T (2 * p + r / 128) (128 * (4 * bb + 3) + r % 128) (128 * (4 * bb + 3) + c - 128) else 0 : ℝ)) : EReal) :=
  slopes_at (q4 H) (by show 128 * (4 * bb + 3) + 128 ≤ 8192; omega) (mask_at _ (by omega)) (keys_of (b := 4 * bb + 3) (ab := 4 * bb + 2) (fun _ => rfl) (kq H (s := 2) rfl inb_S512x128_S128x128_256_0) (kq H (s := 3) rfl inb_S512x128_S128x128_384_0) (vq H (s := 2) rfl inb_S512x128_S128x128_256_0) (vq H (s := 3) rfl inb_S512x128_S128x128_384_0)) r c

theorem dq4_at (j l : Fin 128) :
    queries (s4 x0 x2 x4 x6 x8 x10) (pair (View.ld x8 r0_3) (View.ld x8 r0_4)) (ix2 j l)
      = ((D.dq T (128 * (4 * bb + 3) + j) (2 * p + l / 64) (l % 64) : ℝ) : EReal) :=
  queries_at (q4 H) (by show 128 * (4 * bb + 3) + 128 ≤ 8192; omega) (mask_at _ (by omega)) (keys_of (b := 4 * bb + 3) (ab := 4 * bb + 2) (fun _ => rfl) (kq H (s := 2) rfl inb_S512x128_S128x128_256_0) (kq H (s := 3) rfl inb_S512x128_S128x128_384_0) (vq H (s := 2) rfl inb_S512x128_S128x128_256_0) (vq H (s := 3) rfl inb_S512x128_S128x128_384_0)) j l

theorem wT_at (hi : (i 0).val = bb) (hn : nb = min (4 * bb + 4) 63) (r : Fin 256) (u : Fin 128) : wT i x1 x5 x8 (ix2 r u)
    = (((if bb < 15 ∧ r.val % 128 ≤ u then D.prob T (2 * p + r / 128) (128 * (4 * bb + 3 + 1) + r % 128) (128 * (4 * bb + 3) + u) else 0 : ℝ)) : EReal) :=
  weightsT_at (qT H) (by show 128 * nb + 128 ≤ 8192; omega) (kq H (s := 3) rfl inb_S512x128_S128x128_384_0) (by omega)
    (fun r u => by rw [maskT_at, hi]) r u

theorem sT_at (hi : (i 0).val = bb) (hn : nb = min (4 * bb + 4) 63) (r : Fin 256) (u : Fin 128) : sT i x1 x3 x5 x7 x8 x10 (ix2 r u)
    = (((if bb < 15 ∧ r.val % 128 ≤ u then D.slope T (2 * p + r / 128) (128 * (4 * bb + 3 + 1) + r % 128) (128 * (4 * bb + 3) + u) else 0 : ℝ)) : EReal) :=
  slopesT_at (qT H) (by show 128 * nb + 128 ≤ 8192; omega) (kq H (s := 3) rfl inb_S512x128_S128x128_384_0)
    (vq H (s := 3) rfl inb_S512x128_S128x128_384_0) (by omega) (fun r u => by rw [maskT_at, hi]) r u

omit H in
/-- The two sums over the queries that meet a block of keys, put together. -/
theorem add_at {b : ℕ} (w f : ℕ → ℕ → ℕ → ℝ) (hb : 128 * b + 256 ≤ T) (hw : ∀ h t u, ¬ Near t u → w h t u = 0) {a c : B} {j l : Fin 128}
    (ha : a (ix2 j l) = ((∑ i ∈ Finset.range 128, if j.val ≤ i then w (2 * p + l / 64) (128 * b + i) (128 * b + j) * f (128 * b + i) (2 * p + l / 64) (l % 64)
          else 0 : ℝ) : EReal))
    (hc : c (ix2 j l) = ((∑ i ∈ Finset.range 128, if i ≤ j.val then
          w (2 * p + l / 64) (128 * (b + 1) + i) (128 * b + j) * f (128 * (b + 1) + i) (2 * p + l / 64) (l % 64) else 0 : ℝ) : EReal)) :
    addf a c (ix2 j l) = ((∑ t ∈ Finset.range T, w (2 * p + l / 64) t (128 * b + j) * f t (2 * p + l / 64) (l % 64) : ℝ) : EReal) := by
  show a (ix2 j l) + c (ix2 j l) = _
  rw [ha, hc, ← both (fun t => w (2 * p + l / 64) t (128 * b + j)) (fun t => f t (2 * p + l / 64) (l % 64)) (by omega) j fun t h => hw _ _ _ h]
  simp only [hb, true_and]

omit H in
theorem addT_at {b : ℕ} (w f : ℕ → ℕ → ℕ → ℝ) (hb : b = 4 * bb + 3) (hbb : bb < 16) (hw : ∀ h t u, ¬ Near t u → w h t u = 0) {a c : B} {j l : Fin 128}
    (ha : a (ix2 j l) = ((∑ i ∈ Finset.range 128, if j.val ≤ i then w (2 * p + l / 64) (128 * b + i) (128 * b + j) * f (128 * b + i) (2 * p + l / 64) (l % 64)
          else 0 : ℝ) : EReal))
    (hc : c (ix2 j l) = ((∑ i ∈ Finset.range 128, if bb < 15 ∧ i ≤ j.val then
          w (2 * p + l / 64) (128 * (b + 1) + i) (128 * b + j) * f (128 * (b + 1) + i) (2 * p + l / 64) (l % 64) else 0 : ℝ) : EReal)) :
    addf a c (ix2 j l) = ((∑ t ∈ Finset.range T, w (2 * p + l / 64) t (128 * b + j) * f t (2 * p + l / 64) (l % 64) : ℝ) : EReal) := by
  show a (ix2 j l) + c (ix2 j l) = _
  rw [ha, hc, ← both (fun t => w (2 * p + l / 64) t (128 * b + j)) (fun t => f t (2 * p + l / 64) (l % 64)) (by show _ ≤ 8192; omega) j fun t h => hw _ _ _ h]
  have e : bb < 15 ↔ 128 * b + 256 ≤ T := by show _ ↔ _ ≤ 8192; omega
  simp only [e]

/-- The block of the queries' gradient. -/
theorem out12_at (hi : (i 0).val = bb) (hn : nb = min (4 * bb + 4) 63) (hp : pb = 4 * bb - 1) (j : Fin 512) (l : Fin 128) :
    Gen.out0_12 (F := Ideal) i x0 x1 x2 x3 x4 x5 x6 x7 x8 x9 x10 x11 (ix2 j l) = ((D.dq T (512 * bb + j) (2 * p + l / 64) (l % 64) : ℝ) : EReal) := by
  rw [out12_eq]
  canon_tiles x h using Gen.cover0_12 ..
  · have e0 : 512 * bb + j.val = 128 * (4 * bb + 3) + (x 0).val := by
      have e : j.val = 384 + (x 0).val := h0
      omega
    have e1 : l.val = (x 1).val := h1
    rw [eq_ix2 x, e0, e1]
    exact dq4_at H hb _ _
  · have e0 : 512 * bb + j.val = 128 * (4 * bb + 2) + (x 0).val := by
      have e : j.val = 256 + (x 0).val := h0
      omega
    have e1 : l.val = (x 1).val := h1
    rw [eq_ix2 x, e0, e1]
    exact dq3_at H hb _ _
  · have e0 : 512 * bb + j.val = 128 * (4 * bb + 1) + (x 0).val := by
      have e : j.val = 128 + (x 0).val := h0
      omega
    have e1 : l.val = (x 1).val := h1
    rw [eq_ix2 x, e0, e1]
    exact dq2_at H hb _ _
  · have e0 : 512 * bb + j.val = 128 * (4 * bb) + (x 0).val := by
      have e : j.val = 0 + (x 0).val := h0.trans (Nat.zero_add _).symm
      omega
    have e1 : l.val = (x 1).val := h1
    rw [eq_ix2 x, e0, e1]
    exact dq0_at H hb hi hp _ _

/-- The block of the keys' gradient. -/
theorem out13_at (hi : (i 0).val = bb) (hn : nb = min (4 * bb + 4) 63) (hp : pb = 4 * bb - 1) (j : Fin 512) (l : Fin 128) :
    Gen.out0_13 (F := Ideal) i x0 x1 x2 x3 x4 x5 x6 x7 x8 x9 x10 x11 (ix2 j l) = ((D.dk T (512 * bb + j) (2 * p + l / 64) (l % 64) : ℝ) : EReal) := by
  rw [out13_eq]
  canon_tiles x h using Gen.cover0_13 ..
  · have e0 : 512 * bb + j.val = 128 * (4 * bb + 3) + (x 0).val := by
      have e : j.val = 384 + (x 0).val := h0
      omega
    have e1 : l.val = (x 1).val := h1
    rw [eq_ix2 x, e0, e1]
    exact addT_at hb (bb := bb) (D.slope T) D.q rfl hb (fun h t u hn => D.slope_far hn) ((own_eq _ _ _ _).trans (own_at (p := p) (w := D.slope T) (f := D.q) (s4_at H hb) (q4 H).q _ _)) (pastT_at (p := p) (b := nb) (c := bb < 15) (by omega) (w := D.slope T) (f := D.q) (sT_at H hb hi hn) (qT H).q _ _)
  · have e0 : 512 * bb + j.val = 128 * (4 * bb + 2) + (x 0).val := by
      have e : j.val = 256 + (x 0).val := h0
      omega
    have e1 : l.val = (x 1).val := h1
    rw [eq_ix2 x, e0, e1]
    exact add_at hb (D.slope T) D.q (by show _ ≤ 8192; omega) (fun h t u hn => D.slope_far hn) ((own_eq _ _ _ _).trans (own_at (p := p) (w := D.slope T) (f := D.q) (s3_at H hb) (q3 H).q _ _)) (past_at (p := p) (b := 4 * bb + 2) (w := D.slope T) (f := D.q) (s4_at H hb) (q4 H).q _ _)
  · have e0 : 512 * bb + j.val = 128 * (4 * bb + 1) + (x 0).val := by
      have e : j.val = 128 + (x 0).val := h0
      omega
    have e1 : l.val = (x 1).val := h1
    rw [eq_ix2 x, e0, e1]
    exact add_at hb (D.slope T) D.q (by show _ ≤ 8192; omega) (fun h t u hn => D.slope_far hn) ((own_eq _ _ _ _).trans (own_at (p := p) (w := D.slope T) (f := D.q) (s2_at H hb) (q2 H).q _ _)) (past_at (p := p) (b := 4 * bb + 1) (w := D.slope T) (f := D.q) (s3_at H hb) (q3 H).q _ _)
  · have e0 : 512 * bb + j.val = 128 * (4 * bb) + (x 0).val := by
      have e : j.val = 0 + (x 0).val := h0.trans (Nat.zero_add _).symm
      omega
    have e1 : l.val = (x 1).val := h1
    rw [eq_ix2 x, e0, e1]
    exact add_at hb (D.slope T) D.q (by show _ ≤ 8192; omega) (fun h t u hn => D.slope_far hn) (own_at (p := p) (w := D.slope T) (f := D.q) (s0_at H hb hi hp) (q0 H).q _ _) (past_at (p := p) (b := 4 * bb) (w := D.slope T) (f := D.q) (s2_at H hb) (q2 H).q _ _)

/-- The block of the values' gradient. -/
theorem out14_at (hi : (i 0).val = bb) (hn : nb = min (4 * bb + 4) 63) (hp : pb = 4 * bb - 1) (j : Fin 512) (l : Fin 128) :
    Gen.out0_14 (F := Ideal) i x0 x1 x2 x3 x4 x5 x6 x7 x8 x9 x10 x11 (ix2 j l) = ((D.dv T (512 * bb + j) (2 * p + l / 64) (l % 64) : ℝ) : EReal) := by
  rw [out14_eq]
  canon_tiles x h using Gen.cover0_14 ..
  · have e0 : 512 * bb + j.val = 128 * (4 * bb + 3) + (x 0).val := by
      have e : j.val = 384 + (x 0).val := h0
      omega
    have e1 : l.val = (x 1).val := h1
    rw [eq_ix2 x, e0, e1]
    exact addT_at hb (bb := bb) (D.prob T) D.g rfl hb (fun h t u hn => D.prob_far hn) ((own_eq _ _ _ _).trans (own_at (p := p) (w := D.prob T) (f := D.g) (w4_at H hb) (q4 H).g _ _)) (pastT_at (p := p) (b := nb) (c := bb < 15) (by omega) (w := D.prob T) (f := D.g) (wT_at H hb hi hn) (qT H).g _ _)
  · have e0 : 512 * bb + j.val = 128 * (4 * bb + 2) + (x 0).val := by
      have e : j.val = 256 + (x 0).val := h0
      omega
    have e1 : l.val = (x 1).val := h1
    rw [eq_ix2 x, e0, e1]
    exact add_at hb (D.prob T) D.g (by show _ ≤ 8192; omega) (fun h t u hn => D.prob_far hn) ((own_eq _ _ _ _).trans (own_at (p := p) (w := D.prob T) (f := D.g) (w3_at H hb) (q3 H).g _ _)) (past_at (p := p) (b := 4 * bb + 2) (w := D.prob T) (f := D.g) (w4_at H hb) (q4 H).g _ _)
  · have e0 : 512 * bb + j.val = 128 * (4 * bb + 1) + (x 0).val := by
      have e : j.val = 128 + (x 0).val := h0
      omega
    have e1 : l.val = (x 1).val := h1
    rw [eq_ix2 x, e0, e1]
    exact add_at hb (D.prob T) D.g (by show _ ≤ 8192; omega) (fun h t u hn => D.prob_far hn) ((own_eq _ _ _ _).trans (own_at (p := p) (w := D.prob T) (f := D.g) (w2_at H hb) (q2 H).g _ _)) (past_at (p := p) (b := 4 * bb + 1) (w := D.prob T) (f := D.g) (w3_at H hb) (q3 H).g _ _)
  · have e0 : 512 * bb + j.val = 128 * (4 * bb) + (x 0).val := by
      have e : j.val = 0 + (x 0).val := h0.trans (Nat.zero_add _).symm
      omega
    have e1 : l.val = (x 1).val := h1
    rw [eq_ix2 x, e0, e1]
    exact add_at hb (D.prob T) D.g (by show _ ≤ 8192; omega) (fun h t u hn => D.prob_far hn) (own_at (p := p) (w := D.prob T) (f := D.g) (w0_at H hb hi hp) (q0 H).g _ _) (past_at (p := p) (b := 4 * bb) (w := D.prob T) (f := D.g) (w2_at H hb) (q2 H).g _ _)

end Read

end Cert.KernelIdeal.Tile

end
-- ==== Proof.Reference.lean ====
/- The reference's results, stage by stage: each stage is a tower of its operations over variable arrays, and each is read
   at an index as a real of `Cert.Band.Data`. -/
module

public import proofs.«01_k».proof.Proof.Gen.ReferenceIdeal.Run
public import proofs.«01_k».proof.Proof.Spec
public import proofs.«01_k».proof.Proof.Words
public import Idealize.ShloMosaic.Lib.Pointwise

@[expose] public section

set_option maxRecDepth 16384

noncomputable section

namespace Cert.ReferenceIdeal.Stage

open Idealize.ShloMosaic Cert.Band
open Cert.ReferenceIdeal Cert.ReferenceIdeal.Facts₀ Cert.ReferenceIdeal.Facts

abbrev A := FVec Ideal S8192x8x64 .f32
abbrev R := FVec Ideal S8192x8 .f32
abbrev W := FVec Ideal S8x8192x8192 .f32
abbrev Z := FVec Ideal S8x8192 .f32

def scores (q k : A) : W :=
  mulf (Host.dotGeneral dot_S8192x8x64_S8192x8x64_S8x8192x8192_2_2_0_0_1_1 none q k)
    (broadcastInDim S8x8192x8192 ![] bcast_S_S8x8192x8192 (constant S_ .f32 0x3E000000#32))

def gap : IVec S8192x8192 32 := subi (iotaInDim S8192x8192 32 0) (iotaInDim S8192x8192 32 1)

def near : IVec S8x8192x8192 1 :=
  broadcastInDim S8x8192x8192 ![0, 1, 2] bcast_S1x8192x8192_S8x8192x8192_0_1_2
    (broadcastInDim S1x8192x8192 ![1, 2] bcast_S8192x8192_S1x8192x8192_1_2
      (andi (cmpi .sge gap (broadcastInDim S8192x8192 ![] bcast_S_S8192x8192 (constantI S_ 32 0#32)))
        (cmpi .sle gap (broadcastInDim S8192x8192 ![] bcast_S_S8192x8192 (constantI S_ 32 128#32)))))

def masked (s : W) : W :=
  select near s (broadcastInDim S8x8192x8192 ![] bcast_S_S8x8192x8192 (id (constant S_ .f32 0xFF800000#32)))

def top (s : W) : Z :=
  Host.reduce FloatOps.maximumf s (constant S_ .f32 0xFF800000#32) reducesTo_S8x8192x8192_S8x8192_d2 h_S_

def weights (s : W) (m : Z) : W :=
  Host.exp (subf s (broadcastInDim S8x8192x8192 ![0, 1, 2] bcast_S8x8192x1_S8x8192x8192_0_1_2
    (broadcastInDim S8x8192x1 ![0, 1] bcast_S8x8192_S8x8192x1_0_1 m)))

def total (p : W) : Z :=
  Host.reduceAdd p (constant S_ .f32 0x00000000#32) reducesTo_S8x8192x8192_S8x8192_d2 h_S_

def raw (v : A) (p : W) : A :=
  transpose S8192x8x64 [2, 0, 1] (Host.dotGeneral dot_S8192x8x64_S8x8192x8192_S8x64x8192_0_2_2_1_1_0 none v p)
    transposes_S8x64x8192_S8192x8x64_2_0_1

def col (z : Z) : FVec Ideal S8192x8x1 .f32 :=
  broadcastInDim S8192x8x1 ![0, 1] bcast_S8192x8_S8192x8x1_0_1 (transpose S8192x8 [1, 0] z transposes_S8x8192_S8192x8_1_0)

/-- The gradient of the weights' product with the values. -/
def gradRaw (g : A) (z : Z) : FVec Ideal S8x64x8192 .f32 :=
  transpose S8x64x8192 [1, 2, 0]
    (Host.divf g (broadcastInDim S8192x8x64 ![0, 1, 2] bcast_S8192x8x1_S8192x8x64_0_1_2 (col z)))
    transposes_S8192x8x64_S8x64x8192_1_2_0

def gradTotal (g : A) (o : A) (z : Z) : Z :=
  transpose S8x8192 [1, 0]
    (Host.reduceAdd (Host.negf (shapeCast S8192x8x1 (Host.reduceAdd
      (mulf (mulf g (broadcastInDim S8192x8x64 ![0, 1, 2] bcast_S8192x8x1_S8192x8x64_0_1_2
        (Host.divf (broadcastInDim S8192x8x1 ![] bcast_S_S8192x8x1 (constant S_ .f32 0x3F800000#32)) (mulf (col z) (col z))))) o)
      (constant S_ .f32 0x00000000#32) reducesTo_S8192x8x64_S8192x8_d2 h_S_) shapeCasts_S8192x8_S8192x8x1))
      (constant S_ .f32 0x00000000#32) reducesTo_S8192x8x1_S8192x8_d2 h_S_)
    transposes_S8192x8_S8x8192_1_0

def gradLog (e : R) (z : Z) : Z :=
  transpose S8x8192 [1, 0]
    (Host.divf (shapeCast S8192x8 e shapeCasts_S8192x8_S8192x8) (transpose S8192x8 [1, 0] z transposes_S8x8192_S8192x8_1_0))
    transposes_S8192x8_S8x8192_1_0

/-- The gradient of the scores but for what the largest one adds. -/
def through (a : FVec Ideal S8x64x8192 .f32) (v : A) (b c : Z) (p : W) : W :=
  mulf (addf (Host.dotGeneral dot_S8x64x8192_S8192x8x64_S8x8192x8192_1_2_2_0_0_1 none a v)
    (broadcastInDim S8x8192x8192 ![0, 1] bcast_S8x8192_S8x8192x8192_0_1 (addf b c))) p

def gradTop (e : R) (w : W) : Z :=
  addf (transpose S8x8192 [1, 0] (shapeCast S8192x8 e shapeCasts_S8192x8_S8192x8) transposes_S8192x8_S8x8192_1_0)
    (Host.reduceAdd (shapeCast S8x8192x1
      (Host.reduceAdd (Host.negf w) (constant S_ .f32 0x00000000#32) reducesTo_S8x8192x8192_S8x8192_d2 h_S_)
      shapeCasts_S8x8192_S8x8192x1) (constant S_ .f32 0x00000000#32) reducesTo_S8x8192x1_S8x8192_d2 h_S_)

def hits (s : W) (m : Z) : W :=
  uitofp .f32 (cmpf .oeq s (broadcastInDim S8x8192x8192 ![0, 1, 2] bcast_S8x8192x1_S8x8192x8192_0_1_2
    (shapeCast S8x8192x1 m shapeCasts_S8x8192_S8x8192x1)))

def shared (h : W) (x : Z) : W :=
  mulf (broadcastInDim S8x8192x8192 ![0, 1] bcast_S8x8192_S8x8192x8192_0_1 (Host.divf x (total h))) h

def slopes (w r : W) : W :=
  mulf (select near (addf w r) (broadcastInDim S8x8192x8192 ![] bcast_S_S8x8192x8192 (constant S_ .f32 0x00000000#32)))
    (broadcastInDim S8x8192x8192 ![] bcast_S_S8x8192x8192 (constant S_ .f32 0x3E000000#32))

def dq (s : W) (k : A) : FVec Ideal S8192x512 .f32 :=
  shapeCast S8192x512 (transpose S8192x8x64 [1, 0, 2]
    (Host.dotGeneral dot_S8x8192x8192_S8192x8x64_S8x8192x64_2_0_1_2_0_1 none s k)
    transposes_S8x8192x64_S8192x8x64_1_0_2) shapeCasts_S8192x8x64_S8192x512

def dk (s : W) (q : A) : FVec Ideal S8192x512 .f32 :=
  shapeCast S8192x512 (transpose S8192x8x64 [1, 0, 2]
    (Host.dotGeneral dot_S8x8192x8192_S8192x8x64_S8x8192x64_1_0_2_2_0_1 none s q)
    transposes_S8x8192x64_S8192x8x64_1_0_2) shapeCasts_S8192x8x64_S8192x512

def dv (a : FVec Ideal S8x64x8192 .f32) (p : W) : FVec Ideal S8192x512 .f32 :=
  shapeCast S8192x512 (transpose S8192x8x64 [2, 0, 1]
    (Host.dotGeneral dot_S8x64x8192_S8x8192x8192_S8x64x8192_2_1_1_2_0_0 none a p)
    transposes_S8x64x8192_S8192x8x64_2_0_1) shapeCasts_S8192x8x64_S8192x512

/-! The stages put together. -/

def S (q k : A) : W := masked (scores q k)
def M (q k : A) : Z := top (S q k)
def P (q k : A) : W := weights (S q k) (M q k)
def Tot (q k : A) : Z := total (P q k)
def O (q k v : A) : A := raw v (P q k)
def G (q k g : A) : FVec Ideal S8x64x8192 .f32 := gradRaw g (Tot q k)
def Th (q k v g : A) (e : R) : W := through (G q k g) v (gradLog e (Tot q k)) (gradTotal g (O q k v) (Tot q k)) (P q k)
def Sl (q k v g : A) (e : R) : W := slopes (Th q k v g e) (shared (hits (S q k) (M q k)) (gradTop e (Th q k v g e)))

variable (m : (ℓ : Loc nD τ sig) → Buf (Elt Ideal) ℓ) (c : Dev nD)

abbrev aq : A := m ((c.tc : Thread nD τ).loc main_arg0)
abbrev ak : A := m ((c.tc : Thread nD τ).loc main_arg1)
abbrev av : A := m ((c.tc : Thread nD τ).loc main_arg2)
abbrev ag : A := m ((c.tc : Thread nD τ).loc main_arg3)
abbrev ae : R := m ((c.tc : Thread nD τ).loc main_arg4)

theorem out2_eq : Value.res_main_v78 m c = dv (G (aq m c) (ak m c) (ag m c)) (P (aq m c) (ak m c)) := by
  unfold Value.res_main_v78; rfl

theorem out0_eq : Value.res_main_v76 m c = dq (Sl (aq m c) (ak m c) (av m c) (ag m c) (ae m c)) (ak m c) := by
  unfold Value.res_main_v76; rfl

theorem out1_eq : Value.res_main_v77 m c = dk (Sl (aq m c) (ak m c) (av m c) (ag m c) (ae m c)) (aq m c) := by
  unfold Value.res_main_v77; rfl

/-! ## The readings -/

/-- The arrays hold the reals of `D`. -/
structure Holds (D : Data) (q k v g : A) (e : R) : Prop where
  q : ∀ (t : Fin 8192) (h : Fin 8) (d : Fin 64), q (ix3 t h d) = ((D.q t h d : ℝ) : EReal)
  k : ∀ (t : Fin 8192) (h : Fin 8) (d : Fin 64), k (ix3 t h d) = ((D.k t h d : ℝ) : EReal)
  v : ∀ (t : Fin 8192) (h : Fin 8) (d : Fin 64), v (ix3 t h d) = ((D.v t h d : ℝ) : EReal)
  g : ∀ (t : Fin 8192) (h : Fin 8) (d : Fin 64), g (ix3 t h d) = ((D.g t h d : ℝ) : EReal)
  e : ∀ (t : Fin 8192) (h : Fin 8), e (ix2 t h) = ((D.e t h : ℝ) : EReal)

/-- Arrays equal to arrays that hold the real data hold it too. -/
theorem Holds.of_eq {D : Data} {q k v g q' k' v' g' : A} {e e' : R} (H : Holds D q k v g e) (hq : q' = q) (hk : k' = k) (hv : v' = v)
    (hg : g' = g) (he : e' = e) : Holds D q' k' v' g' e' := by
  subst hq hk hv hg he
  exact H

/-- The number of tokens. -/
abbrev T : ℕ := 8192

theorem near_at (h : Fin 8) (t u : Fin 8192) : near (ix3 h t u) = BitVec.ofBool (decide (Near t u)) := by
  pointwise [near, gap]
  exact word_near (by omega) (by omega)

variable {D : Data} {q k v g : A} {e : R} (H : Holds D q k v g e)
include H

theorem scores_at (h : Fin 8) (t u : Fin 8192) : scores q k (ix3 h t u) = ((D.score h t u : ℝ) : EReal) := by
  pointwise [scores]
  rw [sum_fin_coe (fun d => D.q t h d * D.k u h d) fun d => by rw [H.q, H.k, ← EReal.coe_mul], word_eighth, ← EReal.coe_mul]
  rfl

theorem S_at (h : Fin 8) (t u : Fin 8192) : S q k (ix3 h t u) = D.masked h t u := by
  pointwise [S, masked]
  rw [near_at, select_ofBool, scores_at H]
  refine if_congr Iff.rfl rfl ?_
  exact word_bot

theorem M_at (h : Fin 8) (t : Fin 8192) : M q k (ix2 h t) = ((D.top T h t : ℝ) : EReal) := by
  pointwise [M, top]
  rw [← D.sup_eq t.2, word_bot]
  refine le_antisymm ?_ ?_
  · refine Finset.fold_max_le _ |>.2 ⟨bot_le, fun u _ => ?_⟩
    rw [S_at H]
    exact Finset.le_sup (f := D.masked h t) (Finset.mem_range.2 u.2)
  · refine Finset.sup_le fun u hu => ?_
    refine Finset.le_fold_max _ |>.2 (Or.inr ⟨⟨u, Finset.mem_range.1 hu⟩, Finset.mem_univ _, ?_⟩)
    rw [S_at H]

theorem P_at (h : Fin 8) (t u : Fin 8192) : P q k (ix3 h t u) = ((D.weight T h t u : ℝ) : EReal) := by
  pointwise [P, weights]
  rw [S_at H, M_at H]
  unfold Data.masked Data.weight
  split
  · rw [← EReal.coe_sub]; exact Ideal.exp_coe _
  · rw [EReal.bot_sub]; exact Ideal.exp_bot

theorem Tot_at (h : Fin 8) (t : Fin 8192) : Tot q k (ix2 h t) = ((D.total T h t : ℝ) : EReal) := by
  pointwise [Tot, total]
  exact sum_fin_coe _ fun u => P_at H h t u

theorem O_at (t : Fin 8192) (h : Fin 8) (d : Fin 64) : O q k v (ix3 t h d) = ((D.raw T h t d : ℝ) : EReal) := by
  pointwise [O, raw]
  exact sum_fin_coe (fun u => D.v u h d * D.weight T h t u) fun u => by rw [H.v, P_at H, ← EReal.coe_mul]

omit H in
/-- A quotient of reals. -/
theorem div_real {x y : ℝ} (hy : y ≠ 0) : Ideal.div (x : EReal) (y : EReal) = ((x / y : ℝ) : EReal) := by
  rw [Ideal.div_coe hy, ← EReal.coe_mul, mul_one_div]

theorem G_at (h : Fin 8) (d : Fin 64) (t : Fin 8192) :
    G q k g (ix3 h d t) = ((D.g t h d / D.total T h t : ℝ) : EReal) := by
  pointwise [G, gradRaw, col]
  rw [Tot_at H, H.g, div_real (D.total_pos t.2).ne']

theorem gradLog_at (h : Fin 8) (t : Fin 8192) :
    gradLog e (Tot q k) (ix2 h t) = ((D.e t h / D.total T h t : ℝ) : EReal) := by
  pointwise [gradLog]
  rw [Tot_at H, H.e, div_real (D.total_pos t.2).ne']

theorem gradTotal_at (h : Fin 8) (t : Fin 8192) :
    gradTotal g (O q k v) (Tot q k) (ix2 h t)
      = ((-(∑ d ∈ Finset.range 64, D.g t h d * (1 / (D.total T h t * D.total T h t)) * D.raw T h t d) : ℝ) : EReal) := by
  have hz := (D.total_pos (h := h) t.2).ne'
  pointwise [gradTotal, col]
  rw [Fin.sum_univ_one, Tot_at H, sum_fin_coe (fun d => D.g t h d * (1 / (D.total T h t * D.total T h t)) * D.raw T h t d)
    fun d => by rw [← EReal.coe_mul, ← EReal.coe_one, div_real (mul_ne_zero hz hz), H.g, O_at H, ← EReal.coe_mul, ← EReal.coe_mul],
    ← EReal.coe_neg]

theorem Th_at (h : Fin 8) (t u : Fin 8192) :
    Th q k v g e (ix3 h t u) = ((D.prob T h t u * D.pull T h t u : ℝ) : EReal) := by
  rw [← D.pull'_mul t.2]
  pointwise [Th, through]
  rw [gradLog_at H, gradTotal_at H, P_at H, sum_fin_coe (fun d => D.g t h d / D.total T h t * D.v u h d) fun d => by
    rw [G_at H, H.v, ← EReal.coe_mul], ← EReal.coe_add, ← EReal.coe_add, ← EReal.coe_mul]
  rfl

/-- What the largest score of a query receives is nothing. -/
theorem gradTop_at (h : Fin 8) (t : Fin 8192) : gradTop e (Th q k v g e) (ix2 h t) = 0 := by
  pointwise [gradTop]
  rw [Fin.sum_univ_one, H.e, sum_fin_coe (fun u => -(D.prob T h t u * D.pull T h t u)) fun u => by rw [Th_at H, ← EReal.coe_neg],
    ← EReal.coe_add, Finset.sum_neg_distrib, D.sum_pull t.2, add_neg_cancel]
  rfl

theorem hits_at (h : Fin 8) (t u : Fin 8192) :
    hits (S q k) (M q k) (ix3 h t u) = (((if D.masked h t u = ((D.top T h t : ℝ) : EReal) then 1 else 0 : ℝ)) : EReal) := by
  pointwise [hits]
  rw [S_at H, M_at H]
  by_cases hh : D.masked h t u = ((D.top T h t : ℝ) : EReal)
  · rw [if_pos hh, decide_eq_true hh]
    show (((BitVec.ofBool true).toNat : ℝ) : EReal) = _
    rw [show (BitVec.ofBool true).toNat = 1 from rfl, Nat.cast_one]
  · rw [if_neg hh, decide_eq_false hh]
    show (((BitVec.ofBool false).toNat : ℝ) : EReal) = _
    norm_num

theorem shared_at (h : Fin 8) (t u : Fin 8192) :
    shared (hits (S q k) (M q k)) (gradTop e (Th q k v g e)) (ix3 h t u) = 0 := by
  pointwise [shared, total]
  rw [gradTop_at H, sum_fin_coe (fun u => if D.masked h t u = ((D.top T h t : ℝ) : EReal) then 1 else 0) fun u => hits_at H h t u]
  have hne : (∑ u ∈ Finset.range 8192, if D.masked h t u = ((D.top T h t : ℝ) : EReal) then (1 : ℝ) else 0) ≠ 0 := by
    refine (Finset.sum_pos' (fun u _ => ?_) ?_).ne'
    · split <;> norm_num
    · obtain ⟨w, hw, ew⟩ := D.top_mem (h := h) t.2
      exact ⟨w, Finset.mem_range.2 hw, by rw [if_pos ew]; norm_num⟩
  rw [← EReal.coe_zero, div_real hne, zero_div, hits_at H, ← EReal.coe_mul, zero_mul]

theorem Sl_at (h : Fin 8) (t u : Fin 8192) : Sl q k v g e (ix3 h t u) = ((D.slope T h t u : ℝ) : EReal) := by
  pointwise [Sl, slopes]
  rw [near_at, select_ofBool, Th_at H, shared_at H, add_zero, word_eighth]
  split
  · rw [← EReal.coe_mul]
    rfl
  · rename_i hn
    rw [D.slope_far hn, EReal.coe_zero]

/-- The three results. -/
theorem dq_at (t : Fin 8192) (j : Fin 512) :
    dq (Sl q k v g e) k (ix2 t j) = ((D.dq T t (j / 64) (j % 64) : ℝ) : EReal) := by
  pointwise [dq]
  exact sum_fin_coe (fun u => D.slope T (j / 64) t u * D.k u (j / 64) (j % 64)) fun u => by
    rw [Sl_at H, H.k, ← EReal.coe_mul]

theorem dk_at (t : Fin 8192) (j : Fin 512) :
    dk (Sl q k v g e) q (ix2 t j) = ((D.dk T t (j / 64) (j % 64) : ℝ) : EReal) := by
  pointwise [dk]
  exact sum_fin_coe (fun u => D.slope T (j / 64) u t * D.q u (j / 64) (j % 64)) fun u => by
    rw [Sl_at H, H.q, ← EReal.coe_mul]

theorem dv_at (t : Fin 8192) (j : Fin 512) :
    dv (G q k g) (P q k) (ix2 t j) = ((D.dv T t (j / 64) (j % 64) : ℝ) : EReal) := by
  pointwise [dv]
  exact sum_fin_coe (fun u => D.prob T (j / 64) u t * D.g u (j / 64) (j % 64)) fun u => by
    rw [G_at H, P_at H, ← EReal.coe_mul, Data.prob]
    congr 1
    ring

end Cert.ReferenceIdeal.Stage

end
-- ==== Proof.Host.lean ====
/- The arrays the call reads, off the arguments: the host lines before it. -/
module

public import proofs.«01_k».proof.Proof.Pieces
public import proofs.«01_k».proof.Proof.Reference
public import Idealize.ShloMosaic.Lib.Claim

@[expose] public section

set_option maxRecDepth 16384

noncomputable section

namespace Cert.KernelIdeal.Host

open Idealize.ShloMosaic Idealize.ShloMosaic.TcCoe Cert.Band
open Cert.KernelIdeal Cert.KernelIdeal.Facts₀ Cert.KernelIdeal.Facts
open Cert.ReferenceIdeal (Stage.M Stage.Tot Stage.O Stage.Holds)

variable (m : (ℓ : Loc nD τ sig) → Buf (Elt Ideal) ℓ) (c : Dev nD)

abbrev A := FVec Ideal S8192x8x64 .f32
abbrev R := FVec Ideal S8192x8 .f32
abbrev Flat := FVec Ideal S8192x512 .f32

abbrev aq : A := m ((c.tc : Thread nD τ).loc main_arg0)
abbrev ak : A := m ((c.tc : Thread nD τ).loc main_arg1)
abbrev av : A := m ((c.tc : Thread nD τ).loc main_arg2)
abbrev ag : A := m ((c.tc : Thread nD τ).loc main_arg3)
abbrev ae : R := m ((c.tc : Thread nD τ).loc main_arg4)

/-- Heads and lanes side by side, and a number per head along its lanes. -/
def flat (x : A) : Flat := shapeCast S8192x512 x shapeCasts_S8192x8x64_S8192x512
def wide (x : R) : Flat :=
  flat (broadcastInDim S8192x8x64 ![0, 1, 2] bcast_S8192x8x1_S8192x8x64_0_1_2 (broadcastInDim S8192x8x1 ![0, 1] bcast_S8192x8_S8192x8x1_0_1 x))

/-- The log-sum of the weights, and what the output's gradient meets of the output, less the log-sum's gradient. -/
def lse (M Z : FVec Ideal S8x8192 .f32) : R :=
  addf (transpose S8192x8 [1, 0] M transposes_S8x8192_S8192x8_1_0) (Host.log (transpose S8192x8 [1, 0] Z transposes_S8x8192_S8192x8_1_0))
def out (O : A) (Z : FVec Ideal S8x8192 .f32) : A :=
  Host.divf O (broadcastInDim S8192x8x64 ![0, 1, 2] bcast_S8192x8x1_S8192x8x64_0_1_2
    (broadcastInDim S8192x8x1 ![0, 1] bcast_S8192x8_S8192x8x1_0_1 (transpose S8192x8 [1, 0] Z transposes_S8x8192_S8192x8_1_0)))
def dd (g o : A) (e : R) : R :=
  subf (Host.reduceAdd (mulf g o) (constant S_ .f32 0x00000000#32) reducesTo_S8192x8x64_S8192x8_d2 h_S_) e

theorem v32 : Gen.V m c main_v32 = flat (aq m c) := by
  unfold Gen.V
  simp only [Gen.hostOps0, Gen.hostOps0_1, Gen.hostOps0_2, List.flatten_cons, List.flatten_nil, List.append_nil, List.cons_append, List.nil_append]
  after_results_simp <;> rfl
theorem v33 : Gen.V m c main_v33 = flat (ak m c) := by
  unfold Gen.V
  simp only [Gen.hostOps0, Gen.hostOps0_1, Gen.hostOps0_2, List.flatten_cons, List.flatten_nil, List.append_nil, List.cons_append, List.nil_append]
  after_results_simp <;> rfl
theorem v34 : Gen.V m c main_v34 = flat (av m c) := by
  unfold Gen.V
  simp only [Gen.hostOps0, Gen.hostOps0_1, Gen.hostOps0_2, List.flatten_cons, List.flatten_nil, List.append_nil, List.cons_append, List.nil_append]
  after_results_simp <;> rfl
theorem v38 : Gen.V m c main_v38 = flat (ag m c) := by
  unfold Gen.V
  simp only [Gen.hostOps0, Gen.hostOps0_1, Gen.hostOps0_2, List.flatten_cons, List.flatten_nil, List.append_nil, List.cons_append, List.nil_append]
  after_results_simp <;> rfl
theorem v37 : Gen.V m c main_v37 = wide (lse (Stage.M (aq m c) (ak m c)) (Stage.Tot (aq m c) (ak m c))) := by
  unfold Gen.V
  simp only [Gen.hostOps0, Gen.hostOps0_1, Gen.hostOps0_2, List.flatten_cons, List.flatten_nil, List.append_nil, List.cons_append, List.nil_append]
  after_results_simp <;> rfl
theorem v41 : Gen.V m c main_v41
    = wide (dd (ag m c) (out (Stage.O (aq m c) (ak m c) (av m c)) (Stage.Tot (aq m c) (ak m c))) (ae m c)) := by
  unfold Gen.V
  simp only [Gen.hostOps0, Gen.hostOps0_1, Gen.hostOps0_2, List.flatten_cons, List.flatten_nil, List.append_nil, List.cons_append, List.nil_append]
  after_results_simp <;> rfl

/-! ### The arrays at an index -/

theorem flat_at (x : A) (t : Fin 8192) (j : Fin 512) : flat x (ix2 t j) = x (ix3 t ⟨j / 64, by omega⟩ ⟨j % 64, by omega⟩) := by
  pointwise [flat]

theorem wide_at (x : R) (t : Fin 8192) (j : Fin 512) : wide x (ix2 t j) = x (ix2 t ⟨j / 64, by omega⟩) := by
  pointwise [wide, flat]

theorem lse_read (M Z : FVec Ideal S8x8192 .f32) (t : Fin 8192) (h : Fin 8) :
    lse M Z (ix2 t h) = M (ix2 h t) + Ideal.log (Z (ix2 h t)) := by
  pointwise [lse]

theorem dd_read (g o : A) (e : R) (Z : FVec Ideal S8x8192 .f32) (t : Fin 8192) (h : Fin 8) :
    dd g (out o Z) e (ix2 t h) = ∑ x : Fin 64, g (ix3 t h x) * Ideal.div (o (ix3 t h x)) (Z (ix2 h t)) - e (ix2 t h) := by
  pointwise [dd, out]

variable {D : Data}

section

variable {q k v g : A} {e : R} (H : Stage.Holds D q k v g e)
include H

theorem lse_at (t : Fin 8192) (h : Fin 8) : lse (Stage.M q k) (Stage.Tot q k) (ix2 t h) = ((D.lse Tile.T h t : ℝ) : EReal) := by
  rw [lse_read, Cert.ReferenceIdeal.Stage.M_at H, Cert.ReferenceIdeal.Stage.Tot_at H, Ideal.log_coe, if_neg (D.total_pos t.2).not_ge, ← EReal.coe_add]
  rfl

theorem dd_at (t : Fin 8192) (h : Fin 8) :
    dd g (out (Stage.O q k v) (Stage.Tot q k)) e (ix2 t h) = ((D.dd Tile.T h t : ℝ) : EReal) := by
  rw [dd_read, H.e, sum_fin_coe (fun d => D.g t h d * (D.raw Tile.T h t d / D.total Tile.T h t)) fun d => by
    rw [H.g, Cert.ReferenceIdeal.Stage.O_at H, Cert.ReferenceIdeal.Stage.Tot_at H, Cert.ReferenceIdeal.Stage.div_real (D.total_pos t.2).ne',
      ← EReal.coe_mul], ← EReal.coe_sub]
  rfl

end

/-- An array of heads side by side, at a block's place. -/
theorem read_at {x : Flat} {f : ℕ → ℕ → ℕ → ℝ} (hx : ∀ (t : Fin 8192) (j : Fin 512), x (ix2 t j) = ((f t (j / 64) (j % 64) : ℝ) : EReal))
    (i : S8192x512.Idx) {t p l : ℕ} (h0 : (i 0).val = t) (h1 : (i 1).val = 128 * p + l) :
    x i = ((f t (2 * p + l / 64) (l % 64) : ℝ) : EReal) := by
  rw [eq_ix2 i]
  refine (hx (i 0) (i 1)).trans ?_
  rw [h0, h1, show (128 * p + l) / 64 = 2 * p + l / 64 by omega, show (128 * p + l) % 64 = l % 64 by omega]

/-- The blocks' places. -/
theorem places : ∀ t : Fin cfg0.N,
    (win0_0.index t = ![(grid0.coords t 0).val, (grid0.coords t 1).val]
      ∧ win0_2.index t = ![(grid0.coords t 0).val, (grid0.coords t 1).val]
      ∧ win0_4.index t = ![(grid0.coords t 0).val, (grid0.coords t 1).val]
      ∧ win0_6.index t = ![(grid0.coords t 0).val, (grid0.coords t 1).val]
      ∧ win0_8.index t = ![(grid0.coords t 0).val, (grid0.coords t 1).val]
      ∧ win0_10.index t = ![(grid0.coords t 0).val, (grid0.coords t 1).val])
    ∧ (win0_1.index t = ![min (4 * (grid0.coords t 0).val + 4) 63, (grid0.coords t 1).val]
      ∧ win0_3.index t = ![min (4 * (grid0.coords t 0).val + 4) 63, (grid0.coords t 1).val]
      ∧ win0_5.index t = ![min (4 * (grid0.coords t 0).val + 4) 63, (grid0.coords t 1).val]
      ∧ win0_7.index t = ![min (4 * (grid0.coords t 0).val + 4) 63, (grid0.coords t 1).val])
    ∧ (win0_9.index t = ![4 * (grid0.coords t 0).val - 1, (grid0.coords t 1).val]
      ∧ win0_11.index t = ![4 * (grid0.coords t 0).val - 1, (grid0.coords t 1).val])
    ∧ (win0_12.index t = ![(grid0.coords t 0).val, (grid0.coords t 1).val]
      ∧ win0_13.index t = ![(grid0.coords t 0).val, (grid0.coords t 1).val]
      ∧ win0_14.index t = ![(grid0.coords t 0).val, (grid0.coords t 1).val]) :=
  (by decide +kernel : ∀ t : Fin grid0.N, _)

variable (H : Stage.Holds D (aq m c) (ak m c) (av m c) (ag m c) (ae m c))

section

include H

theorem hq (t : Fin 8192) (j : Fin 512) : Gen.V m c main_v32 (ix2 t j) = ((D.q t (j / 64) (j % 64) : ℝ) : EReal) := by
  rw [v32, flat_at, H.q]

theorem hk (t : Fin 8192) (j : Fin 512) : Gen.V m c main_v33 (ix2 t j) = ((D.k t (j / 64) (j % 64) : ℝ) : EReal) := by
  rw [v33, flat_at, H.k]

theorem hv (t : Fin 8192) (j : Fin 512) : Gen.V m c main_v34 (ix2 t j) = ((D.v t (j / 64) (j % 64) : ℝ) : EReal) := by
  rw [v34, flat_at, H.v]

theorem hg (t : Fin 8192) (j : Fin 512) : Gen.V m c main_v38 (ix2 t j) = ((D.g t (j / 64) (j % 64) : ℝ) : EReal) := by
  rw [v38, flat_at, H.g]

theorem hl (t : Fin 8192) (j : Fin 512) : Gen.V m c main_v37 (ix2 t j) = ((D.lse Tile.T (j / 64) t : ℝ) : EReal) := by
  rw [v37, wide_at, lse_at H]

theorem hd (t : Fin 8192) (j : Fin 512) : Gen.V m c main_v41 (ix2 t j) = ((D.dd Tile.T (j / 64) t : ℝ) : EReal) := by
  rw [v41, wide_at, dd_at H]

end

end Cert.KernelIdeal.Host

end
-- ==== Proof.Blocks.lean ====
/- What the blocks of the call hold, and the results after the run. -/
module

public import proofs.«01_k».proof.Proof.Host

@[expose] public section

set_option maxRecDepth 16384

noncomputable section

namespace Cert.KernelIdeal.Host

open Idealize.ShloMosaic Idealize.ShloMosaic.TcCoe Cert.Band
open Cert.KernelIdeal Cert.KernelIdeal.Facts₀ Cert.KernelIdeal.Facts
open Cert.ReferenceIdeal (Stage.M Stage.Tot Stage.O Stage.Holds)

variable (m : (ℓ : Loc nD τ sig) → Buf (Elt Ideal) ℓ) (c : Dev nD) {D : Data}
variable (H : Stage.Holds D (aq m c) (ak m c) (av m c) (ag m c) (ae m c))

/-! What a window's block holds, for any contents `X` of the buffers: its array at the block's place. -/

theorem read0 (X : (b : Ref sig .tc) → Buf (Elt Ideal) ((c : Thread nD τ).loc b)) (t : Fin cfg0.N) (r : Fin 512) (l : Fin 128) :
    ((cfg0.win 0).blk t).view.read (Elt Ideal) (X (Pipeline.arrRef spec0 0)) (ix2 r l) = X main_v32 ((win0_0.blk t).view.emb (ix2 r l)) := rfl
theorem read1 (X : (b : Ref sig .tc) → Buf (Elt Ideal) ((c : Thread nD τ).loc b)) (t : Fin cfg0.N) (r : Fin 128) (l : Fin 128) :
    ((cfg0.win 1).blk t).view.read (Elt Ideal) (X (Pipeline.arrRef spec0 1)) (ix2 r l) = X main_v32 ((win0_1.blk t).view.emb (ix2 r l)) := rfl
theorem read2 (X : (b : Ref sig .tc) → Buf (Elt Ideal) ((c : Thread nD τ).loc b)) (t : Fin cfg0.N) (r : Fin 512) (l : Fin 128) :
    ((cfg0.win 2).blk t).view.read (Elt Ideal) (X (Pipeline.arrRef spec0 2)) (ix2 r l) = X main_v38 ((win0_2.blk t).view.emb (ix2 r l)) := rfl
theorem read3 (X : (b : Ref sig .tc) → Buf (Elt Ideal) ((c : Thread nD τ).loc b)) (t : Fin cfg0.N) (r : Fin 128) (l : Fin 128) :
    ((cfg0.win 3).blk t).view.read (Elt Ideal) (X (Pipeline.arrRef spec0 3)) (ix2 r l) = X main_v38 ((win0_3.blk t).view.emb (ix2 r l)) := rfl
theorem read4 (X : (b : Ref sig .tc) → Buf (Elt Ideal) ((c : Thread nD τ).loc b)) (t : Fin cfg0.N) (r : Fin 512) (l : Fin 128) :
    ((cfg0.win 4).blk t).view.read (Elt Ideal) (X (Pipeline.arrRef spec0 4)) (ix2 r l) = X main_v37 ((win0_4.blk t).view.emb (ix2 r l)) := rfl
theorem read5 (X : (b : Ref sig .tc) → Buf (Elt Ideal) ((c : Thread nD τ).loc b)) (t : Fin cfg0.N) (r : Fin 128) (l : Fin 128) :
    ((cfg0.win 5).blk t).view.read (Elt Ideal) (X (Pipeline.arrRef spec0 5)) (ix2 r l) = X main_v37 ((win0_5.blk t).view.emb (ix2 r l)) := rfl
theorem read6 (X : (b : Ref sig .tc) → Buf (Elt Ideal) ((c : Thread nD τ).loc b)) (t : Fin cfg0.N) (r : Fin 512) (l : Fin 128) :
    ((cfg0.win 6).blk t).view.read (Elt Ideal) (X (Pipeline.arrRef spec0 6)) (ix2 r l) = X main_v41 ((win0_6.blk t).view.emb (ix2 r l)) := rfl
theorem read7 (X : (b : Ref sig .tc) → Buf (Elt Ideal) ((c : Thread nD τ).loc b)) (t : Fin cfg0.N) (r : Fin 128) (l : Fin 128) :
    ((cfg0.win 7).blk t).view.read (Elt Ideal) (X (Pipeline.arrRef spec0 7)) (ix2 r l) = X main_v41 ((win0_7.blk t).view.emb (ix2 r l)) := rfl
theorem read8 (X : (b : Ref sig .tc) → Buf (Elt Ideal) ((c : Thread nD τ).loc b)) (t : Fin cfg0.N) (r : Fin 512) (l : Fin 128) :
    ((cfg0.win 8).blk t).view.read (Elt Ideal) (X (Pipeline.arrRef spec0 8)) (ix2 r l) = X main_v33 ((win0_8.blk t).view.emb (ix2 r l)) := rfl
theorem read9 (X : (b : Ref sig .tc) → Buf (Elt Ideal) ((c : Thread nD τ).loc b)) (t : Fin cfg0.N) (r : Fin 128) (l : Fin 128) :
    ((cfg0.win 9).blk t).view.read (Elt Ideal) (X (Pipeline.arrRef spec0 9)) (ix2 r l) = X main_v33 ((win0_9.blk t).view.emb (ix2 r l)) := rfl
theorem read10 (X : (b : Ref sig .tc) → Buf (Elt Ideal) ((c : Thread nD τ).loc b)) (t : Fin cfg0.N) (r : Fin 512) (l : Fin 128) :
    ((cfg0.win 10).blk t).view.read (Elt Ideal) (X (Pipeline.arrRef spec0 10)) (ix2 r l) = X main_v34 ((win0_10.blk t).view.emb (ix2 r l)) := rfl
theorem read11 (X : (b : Ref sig .tc) → Buf (Elt Ideal) ((c : Thread nD τ).loc b)) (t : Fin cfg0.N) (r : Fin 128) (l : Fin 128) :
    ((cfg0.win 11).blk t).view.read (Elt Ideal) (X (Pipeline.arrRef spec0 11)) (ix2 r l) = X main_v34 ((win0_11.blk t).view.emb (ix2 r l)) := rfl

section

include H

/-! What each window's block holds at step `t`. -/

theorem blk0 (t : Fin cfg0.N) (r : Fin 512) (l : Fin 128) : Gen.iblk m c 0 t (ix2 r l) = ((D.q (512 * (grid0.coords t 0).val + r) (2 * (grid0.coords t 1).val + l / 64) (l % 64) : ℝ) : EReal) := by
  unfold Gen.iblk
  refine (read0 c (Gen.V m c) t r l).trans (read_at (f := D.q) (hq m c H) _ ?_ ?_) <;> blk_simp [(places t).1.1] <;> simp <;> omega

theorem blk1 (t : Fin cfg0.N) (r : Fin 128) (l : Fin 128) : Gen.iblk m c 1 t (ix2 r l) = ((D.q (128 * min (4 * (grid0.coords t 0).val + 4) 63 + r) (2 * (grid0.coords t 1).val + l / 64) (l % 64) : ℝ) : EReal) := by
  unfold Gen.iblk
  refine (read1 c (Gen.V m c) t r l).trans (read_at (f := D.q) (hq m c H) _ ?_ ?_) <;> blk_simp [(places t).2.1.1] <;> simp <;> omega

theorem blk2 (t : Fin cfg0.N) (r : Fin 512) (l : Fin 128) : Gen.iblk m c 2 t (ix2 r l) = ((D.g (512 * (grid0.coords t 0).val + r) (2 * (grid0.coords t 1).val + l / 64) (l % 64) : ℝ) : EReal) := by
  unfold Gen.iblk
  refine (read2 c (Gen.V m c) t r l).trans (read_at (f := D.g) (hg m c H) _ ?_ ?_) <;> blk_simp [(places t).1.2.1] <;> simp <;> omega

theorem blk3 (t : Fin cfg0.N) (r : Fin 128) (l : Fin 128) : Gen.iblk m c 3 t (ix2 r l) = ((D.g (128 * min (4 * (grid0.coords t 0).val + 4) 63 + r) (2 * (grid0.coords t 1).val + l / 64) (l % 64) : ℝ) : EReal) := by
  unfold Gen.iblk
  refine (read3 c (Gen.V m c) t r l).trans (read_at (f := D.g) (hg m c H) _ ?_ ?_) <;> blk_simp [(places t).2.1.2.1] <;> simp <;> omega

theorem blk4 (t : Fin cfg0.N) (r : Fin 512) (l : Fin 128) : Gen.iblk m c 4 t (ix2 r l) = ((D.lse Tile.T (2 * (grid0.coords t 1).val + l / 64) (512 * (grid0.coords t 0).val + r) : ℝ) : EReal) := by
  unfold Gen.iblk
  refine (read4 c (Gen.V m c) t r l).trans (read_at (f := fun t h _ => D.lse Tile.T h t) (hl m c H) _ ?_ ?_) <;> blk_simp [(places t).1.2.2.1] <;> simp <;> omega

theorem blk5 (t : Fin cfg0.N) (r : Fin 128) (l : Fin 128) : Gen.iblk m c 5 t (ix2 r l) = ((D.lse Tile.T (2 * (grid0.coords t 1).val + l / 64) (128 * min (4 * (grid0.coords t 0).val + 4) 63 + r) : ℝ) : EReal) := by
  unfold Gen.iblk
  refine (read5 c (Gen.V m c) t r l).trans (read_at (f := fun t h _ => D.lse Tile.T h t) (hl m c H) _ ?_ ?_) <;> blk_simp [(places t).2.1.2.2.1] <;> simp <;> omega

theorem blk6 (t : Fin cfg0.N) (r : Fin 512) (l : Fin 128) : Gen.iblk m c 6 t (ix2 r l) = ((D.dd Tile.T (2 * (grid0.coords t 1).val + l / 64) (512 * (grid0.coords t 0).val + r) : ℝ) : EReal) := by
  unfold Gen.iblk
  refine (read6 c (Gen.V m c) t r l).trans (read_at (f := fun t h _ => D.dd Tile.T h t) (hd m c H) _ ?_ ?_) <;> blk_simp [(places t).1.2.2.2.1] <;> simp <;> omega

theorem blk7 (t : Fin cfg0.N) (r : Fin 128) (l : Fin 128) : Gen.iblk m c 7 t (ix2 r l) = ((D.dd Tile.T (2 * (grid0.coords t 1).val + l / 64) (128 * min (4 * (grid0.coords t 0).val + 4) 63 + r) : ℝ) : EReal) := by
  unfold Gen.iblk
  refine (read7 c (Gen.V m c) t r l).trans (read_at (f := fun t h _ => D.dd Tile.T h t) (hd m c H) _ ?_ ?_) <;> blk_simp [(places t).2.1.2.2.2] <;> simp <;> omega

theorem blk8 (t : Fin cfg0.N) (r : Fin 512) (l : Fin 128) : Gen.iblk m c 8 t (ix2 r l) = ((D.k (512 * (grid0.coords t 0).val + r) (2 * (grid0.coords t 1).val + l / 64) (l % 64) : ℝ) : EReal) := by
  unfold Gen.iblk
  refine (read8 c (Gen.V m c) t r l).trans (read_at (f := D.k) (hk m c H) _ ?_ ?_) <;> blk_simp [(places t).1.2.2.2.2.1] <;> simp <;> omega

theorem blk9 (t : Fin cfg0.N) (r : Fin 128) (l : Fin 128) : Gen.iblk m c 9 t (ix2 r l) = ((D.k (128 * (4 * (grid0.coords t 0).val - 1) + r) (2 * (grid0.coords t 1).val + l / 64) (l % 64) : ℝ) : EReal) := by
  unfold Gen.iblk
  refine (read9 c (Gen.V m c) t r l).trans (read_at (f := D.k) (hk m c H) _ ?_ ?_) <;> blk_simp [(places t).2.2.1.1] <;> simp <;> omega

theorem blk10 (t : Fin cfg0.N) (r : Fin 512) (l : Fin 128) : Gen.iblk m c 10 t (ix2 r l) = ((D.v (512 * (grid0.coords t 0).val + r) (2 * (grid0.coords t 1).val + l / 64) (l % 64) : ℝ) : EReal) := by
  unfold Gen.iblk
  refine (read10 c (Gen.V m c) t r l).trans (read_at (f := D.v) (hv m c H) _ ?_ ?_) <;> blk_simp [(places t).1.2.2.2.2.2] <;> simp <;> omega

theorem blk11 (t : Fin cfg0.N) (r : Fin 128) (l : Fin 128) : Gen.iblk m c 11 t (ix2 r l) = ((D.v (128 * (4 * (grid0.coords t 0).val - 1) + r) (2 * (grid0.coords t 1).val + l / 64) (l % 64) : ℝ) : EReal) := by
  unfold Gen.iblk
  refine (read11 c (Gen.V m c) t r l).trans (read_at (f := D.v) (hv m c H) _ ?_ ?_) <;> blk_simp [(places t).2.2.1.2] <;> simp <;> omega

/-- The blocks a step loads hold the data's rows. -/
theorem blocks (t : Fin cfg0.N) :
    Tile.Blocks D (grid0.coords t 0).val (min (4 * (grid0.coords t 0).val + 4) 63) (4 * (grid0.coords t 0).val - 1) (grid0.coords t 1).val
      (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) (Gen.iblk m c 9 t) (Gen.iblk m c 10 t) (Gen.iblk m c 11 t) :=
  ⟨blk0 m c H t, blk1 m c H t, blk2 m c H t, blk3 m c H t, blk4 m c H t, blk5 m c H t, blk6 m c H t, blk7 m c H t, blk8 m c H t, blk9 m c H t, blk10 m c H t, blk11 m c H t⟩

end

theorem lt16 (t : Fin cfg0.N) : (grid0.coords t 0).val < 16 := (grid0.coords t 0).isLt

include H in
/-- The queries' gradient after the run. -/
theorem final12 (i : S8192x512.Idx) :
    (Gen.dats m 0 c).arrAt 12 cfg0.N i = ((D.dq Tile.T (i 0).val ((i 1).val / 64) ((i 1).val % 64) : ℝ) : EReal) := by
  refine congrFun ((Gen.dats m 0 c).arrAt_eq_of_covers 12
    (fun i : S8192x512.Idx => ((D.dq Tile.T (i 0).val ((i 1).val / 64) ((i 1).val % 64) : ℝ) : EReal)) (by decide +kernel) fun t hf y => ?_) i
  have e := (places t).2.2.2.1
  blk_simp
  rw [Gen.after0_12, eq_ix2 y]
  refine (Tile.out12_at (blocks m c H t) (lt16 t) rfl rfl rfl (y 0) (y 1)).trans ?_
  have e0 : 512 * (grid0.coords t 0).val + (y 0).val = win0_12.index t 0 * 512 + (y 0).val := by rw [e]; simp [Nat.mul_comm]
  have e1 : win0_12.index t 1 * 128 + (y 1).val = 128 * (grid0.coords t 1).val + (y 1).val := by rw [e]; simp [Nat.mul_comm]
  blk_simp
  rw [e0, e1, show (128 * (grid0.coords t 1).val + (y 1).val) / 64 = 2 * (grid0.coords t 1).val + (y 1).val / 64 by omega,
    show (128 * (grid0.coords t 1).val + (y 1).val) % 64 = (y 1).val % 64 by omega]

include H in
/-- The keys' gradient after the run. -/
theorem final13 (i : S8192x512.Idx) :
    (Gen.dats m 0 c).arrAt 13 cfg0.N i = ((D.dk Tile.T (i 0).val ((i 1).val / 64) ((i 1).val % 64) : ℝ) : EReal) := by
  refine congrFun ((Gen.dats m 0 c).arrAt_eq_of_covers 13
    (fun i : S8192x512.Idx => ((D.dk Tile.T (i 0).val ((i 1).val / 64) ((i 1).val % 64) : ℝ) : EReal)) (by decide +kernel) fun t hf y => ?_) i
  have e := (places t).2.2.2.2.1
  blk_simp
  rw [Gen.after0_13, eq_ix2 y]
  refine (Tile.out13_at (blocks m c H t) (lt16 t) rfl rfl rfl (y 0) (y 1)).trans ?_
  have e0 : 512 * (grid0.coords t 0).val + (y 0).val = win0_13.index t 0 * 512 + (y 0).val := by rw [e]; simp [Nat.mul_comm]
  have e1 : win0_13.index t 1 * 128 + (y 1).val = 128 * (grid0.coords t 1).val + (y 1).val := by rw [e]; simp [Nat.mul_comm]
  blk_simp
  rw [e0, e1, show (128 * (grid0.coords t 1).val + (y 1).val) / 64 = 2 * (grid0.coords t 1).val + (y 1).val / 64 by omega,
    show (128 * (grid0.coords t 1).val + (y 1).val) % 64 = (y 1).val % 64 by omega]

include H in
/-- The values' gradient after the run. -/
theorem final14 (i : S8192x512.Idx) :
    (Gen.dats m 0 c).arrAt 14 cfg0.N i = ((D.dv Tile.T (i 0).val ((i 1).val / 64) ((i 1).val % 64) : ℝ) : EReal) := by
  refine congrFun ((Gen.dats m 0 c).arrAt_eq_of_covers 14
    (fun i : S8192x512.Idx => ((D.dv Tile.T (i 0).val ((i 1).val / 64) ((i 1).val % 64) : ℝ) : EReal)) (by decide +kernel) fun t hf y => ?_) i
  have e := (places t).2.2.2.2.2
  blk_simp
  rw [Gen.after0_14, eq_ix2 y]
  refine (Tile.out14_at (blocks m c H t) (lt16 t) rfl rfl rfl (y 0) (y 1)).trans ?_
  have e0 : 512 * (grid0.coords t 0).val + (y 0).val = win0_14.index t 0 * 512 + (y 0).val := by rw [e]; simp [Nat.mul_comm]
  have e1 : win0_14.index t 1 * 128 + (y 1).val = 128 * (grid0.coords t 1).val + (y 1).val := by rw [e]; simp [Nat.mul_comm]
  blk_simp
  rw [e0, e1, show (128 * (grid0.coords t 1).val + (y 1).val) / 64 = 2 * (grid0.coords t 1).val + (y 1).val / 64 by omega,
    show (128 * (grid0.coords t 1).val + (y 1).val) % 64 = (y 1).val % 64 by omega]

end Cert.KernelIdeal.Host

end
-- ==== Proof.Finite.lean ====
/- The precondition: every element of the arguments is a number, and the data they make. -/
module

public import proofs.«01_k».proof.Pre_finite
public import proofs.«01_k».proof.Proof.Reference

@[expose] public section

set_option maxRecDepth 16384

noncomputable section

namespace Cert.Pre_finite

open Idealize.ShloMosaic Cert.Band

theorem facts : Facts where
  bcast_S_S8192x8x64 := by decide
  bcast_S_S8192x8 := by decide
  bcast_S8192x8_S8192x8x1_0_1 := by decide
  bcast_S8192x8x1_S8192x8x64_0_1_2 := by decide

variable [inst : Facts]

/-- An extended real below `+∞` in absolute value is a real. -/
theorem real_of_lt {x : EReal} (h : FloatOps.absf (F := Ideal) (φ := .f32) x < Ideal.ofBits .f32 0x7F800000#32) :
    x = ((x.toReal : ℝ) : EReal) := by
  have h' : max x (-x) < ⊤ := by
    rw [← word_top]
    exact h
  refine (EReal.coe_toReal ?_ ?_).symm
  · exact ((le_max_left _ _).trans_lt h').ne
  · rintro rfl
    have := (le_max_right ⊥ (-⊥ : EReal)).trans_lt h'
    rw [EReal.neg_bot] at this
    exact lt_irrefl _ this

/-- The numbers of an array, zero outside it. -/
def num3 (x : FVec Ideal S8192x8x64 .f32) (t h d : ℕ) : ℝ :=
  if i : t < 8192 ∧ h < 8 ∧ d < 64 then EReal.toReal (x (ix3 ⟨t, i.1⟩ ⟨h, i.2.1⟩ ⟨d, i.2.2⟩)) else 0
def num2 (x : FVec Ideal S8192x8 .f32) (t h : ℕ) : ℝ :=
  if i : t < 8192 ∧ h < 8 then EReal.toReal (x (ix2 ⟨t, i.1⟩ ⟨h, i.2⟩)) else 0

theorem num3_at (x : FVec Ideal S8192x8x64 .f32) (t : Fin 8192) (h : Fin 8) (d : Fin 64) :
    num3 x t h d = EReal.toReal (x (ix3 t h d)) := dif_pos ⟨t.2, h.2, d.2⟩

theorem num2_at (x : FVec Ideal S8192x8 .f32) (t : Fin 8192) (h : Fin 8) : num2 x t h = EReal.toReal (x (ix2 t h)) := dif_pos ⟨t.2, h.2⟩

/-- The data of five arrays. -/
def data (q k v g : FVec Ideal S8192x8x64 .f32) (e : FVec Ideal S8192x8 .f32) : Data :=
  ⟨num3 q, num3 k, num3 v, num3 g, num2 e⟩

/-- Where the precondition holds, the arrays hold their data. -/
theorem holds (q k v g : FVec Ideal S8192x8x64 .f32) (e : FVec Ideal S8192x8 .f32) (hf : fn (F := Ideal) q k v g e = fun _ => 1#1) :
    Cert.ReferenceIdeal.Stage.Holds (data q k v g e) q k v g e := by
  have key : ∀ (t : Fin 8192) (h : Fin 8) (d : Fin 64), (((q (ix3 t h d) = ((num3 q t h d : ℝ) : EReal) ∧ k (ix3 t h d) = ((num3 k t h d : ℝ) : EReal))
      ∧ v (ix3 t h d) = ((num3 v t h d : ℝ) : EReal)) ∧ g (ix3 t h d) = ((num3 g t h d : ℝ) : EReal)) ∧ e (ix2 t h) = ((num2 e t h : ℝ) : EReal) := by
    intro t h d
    have hf := congrFun hf (ix3 t h d)
    revert hf
    pointwise [fn, fn_part1]
    rw [andi_ofBool, andi_ofBool, andi_ofBool, andi_ofBool]
    intro hf
    have hb : ∀ b : Bool, BitVec.ofBool b = 1#1 → b = true := by decide
    have hf := hb _ hf
    obtain ⟨⟨⟨⟨h1, h2⟩, h3⟩, h4⟩, h5⟩ := of_decide_eq_true hf
    rw [num3_at, num3_at, num3_at, num3_at, num2_at]
    exact ⟨⟨⟨⟨real_of_lt h1, real_of_lt h2⟩, real_of_lt h3⟩, real_of_lt h4⟩, real_of_lt h5⟩
  exact ⟨fun t h d => (key t h d).1.1.1.1, fun t h d => (key t h d).1.1.1.2, fun t h d => (key t h d).1.1.2, fun t h d => (key t h d).1.2,
    fun t h => (key t h 0).2⟩

end Cert.Pre_finite

end
-- ==== Proof.Sigmoid.lean ====
/- The sigmoid, written with the hyperbolic tangent. -/
module

public import proofs.«01_k».proof.Proof.Words
public import Mathlib.Analysis.SpecialFunctions.Trigonometric.DerivHyp

@[expose] public section

noncomputable section

namespace Cert.Band

open Idealize.ShloMosaic

/-- The word of one half. -/
theorem word_half : Ideal.ofBits .f32 0x3F000000#32 = ((1 / 2 : ℝ) : EReal) := by
  simp [Ideal.ofBits, Ideal.ieee, -EReal.coe_mul]; norm_num

/-- The word of one. -/
theorem word_one : Ideal.ofBits .f32 0x3F800000#32 = 1 := by
  rw [← EReal.coe_one]
  simp [Ideal.ofBits, Ideal.ieee, -EReal.coe_mul]
  norm_num

/-- Of numbers: half a hyperbolic tangent of the half, and a half. -/
theorem sigmoid_real (x : ℝ) : 1 / 2 * Real.tanh (1 / 2 * x) + 1 / 2 = (1 + Real.exp (-x))⁻¹ := by
  obtain ⟨y, rfl⟩ : ∃ y, x = 2 * y := ⟨x / 2, by ring⟩
  have e : Real.exp (-(2 * y)) = Real.exp (-y) * Real.exp (-y) := by rw [← Real.exp_add]; ring_nf
  have e1 : Real.exp y * Real.exp (-y) = 1 := by rw [← Real.exp_add]; simp
  have p := Real.exp_pos y
  have q := Real.exp_pos (-y)
  rw [show 1 / 2 * (2 * y) = y by ring, Real.tanh_eq_sinh_div_cosh, Real.sinh_eq, Real.cosh_eq, e]
  generalize Real.exp y = a at *
  generalize Real.exp (-y) = b at *
  have h : a + b ≠ 0 := by positivity
  have h' : 1 + b * b ≠ 0 := by positivity
  have h2 : 1 / 2 * ((a - b) / 2 / ((a + b) / 2)) + 1 / 2 = a / (a + b) := by
    field_simp
    ring
  rw [h2, inv_eq_one_div, div_eq_div_iff h h']
  linear_combination b * e1

/-- The sigmoid, of any extended real. -/
theorem sigmoid (x : EReal) :
    Ideal.ofBits .f32 0x3F000000#32 * Ideal.tanh (Ideal.ofBits .f32 0x3F000000#32 * x) + Ideal.ofBits .f32 0x3F000000#32
      = Ideal.logistic x := by
  rw [word_half]
  induction x with
  | bot =>
    rw [EReal.coe_mul_bot_of_pos (by norm_num), Ideal.tanh_bot, Ideal.logistic_bot, ← EReal.coe_one, ← EReal.coe_neg, ← EReal.coe_mul,
      ← EReal.coe_add, ← EReal.coe_zero]
    norm_num
  | top =>
    rw [EReal.coe_mul_top_of_pos (by norm_num), Ideal.tanh_top, Ideal.logistic_top, ← EReal.coe_one, ← EReal.coe_mul, ← EReal.coe_add]
    norm_num
  | coe x => rw [← EReal.coe_mul, Ideal.tanh_coe, ← EReal.coe_mul, ← EReal.coe_add, sigmoid_real, Ideal.logistic_coe]

/-- A sigmoid of a number is a number. -/
def sg (x : ℝ) : ℝ := (1 + Real.exp (-x))⁻¹

theorem logistic_real (x : ℝ) : Ideal.logistic (x : EReal) = ((sg x : ℝ) : EReal) := Ideal.logistic_coe x

end Cert.Band

end
-- ==== Proof.SwigluBwd.lean ====
/- The gradients of the gate and of the up projection: a product with the transposed weights, and the derivative of silu. -/
module

public import proofs.«01_k».proof.Proof.Gen.Kernel2.Frame
public import proofs.«01_k».proof.Proof.Gen.Kernel2Ideal.Value
public import proofs.«01_k».proof.Proof.Gen.Reference2Ideal.Run
public import proofs.«01_k».proof.Defs
public import proofs.«01_k».proof.Proof.Finite
public import proofs.«01_k».proof.Proof.Sigmoid
public import Idealize.ShloMosaic.Lib.Pipeline.ValueKit
public import Idealize.ShloMosaic.Adequacy
public import Idealize.ShloMosaic.Init

@[expose] public section

set_option maxRecDepth 16384

noncomputable section

namespace Cert.Kernel2Ideal.Host

open Idealize.ShloMosaic Idealize.ShloMosaic.TcCoe Idealize.SL.Sem
open Cert.Band Cert.Kernel2Ideal Cert.Kernel2Ideal.Facts₀ Cert.Kernel2Ideal.Facts

/-- The gradient of the product, as the body makes it. -/
def part (x : Vec Ideal S1024x2048 .bf16) (y : Vec Ideal S512x2048 .bf16) (j : Fin 1024) (l : Fin 512) : EReal :=
  ∑ k : Fin 2048, x (ix2 j k) * y (ix2 l k)

/-- What the body stores for the up projection. -/
theorem pay3_at (x : Vec Ideal S1024x2048 .bf16) (y : Vec Ideal S512x2048 .bf16) (g : Vec Ideal S1024x512 .f32) (i : S1024x512.Idx) :
    Gen.k0_pay3 x y g i = part x y (i 0) (i 1) * (g i * Ideal.logistic (g i)) := by
  have h (j : Fin 1024) (l : Fin 512) :
      Gen.k0_pay3 x y g (ix2 j l) = part x y j l * (g (ix2 j l) * Ideal.logistic (g (ix2 j l))) := by
    rw [← sigmoid]
    unfold part
    pointwise [Gen.k0_pay3, Gen.k0_pay2, Gen.k0_pay1]
  exact (congrArg (Gen.k0_pay3 x y g) (eq_ix2 i)).trans ((h (i 0) (i 1)).trans
    (congrArg (fun k => part x y (i 0) (i 1) * (g k * Ideal.logistic (g k))) (eq_ix2 i).symm))

/-- The gradient of the gate from that of the product, the up projection and the gate. -/
def gateForm (c u g : EReal) : EReal := c * u * (Ideal.logistic g * (1 + g * (1 - Ideal.logistic g)))

theorem gateForm_congr {c u g c' u' g' : EReal} (hc : c = c') (hu : u = u') (hg : g = g') : gateForm c u g = gateForm c' u' g' := by
  rw [hc, hu, hg]

/-- What the body stores for the gate. -/
theorem pay4_at (x : Vec Ideal S1024x2048 .bf16) (y : Vec Ideal S512x2048 .bf16) (g u : Vec Ideal S1024x512 .f32) (i : S1024x512.Idx) :
    Gen.k0_pay4 x y g u i = gateForm (part x y (i 0) (i 1)) (u i) (g i) := by
  have h (j : Fin 1024) (l : Fin 512) : Gen.k0_pay4 x y g u (ix2 j l)
      = gateForm (part x y j l) (u (ix2 j l)) (g (ix2 j l)) := by
    unfold gateForm part
    rw [← sigmoid]
    pointwise [Gen.k0_pay4, Gen.k0_pay2, Gen.k0_pay1]
  exact (congrArg (Gen.k0_pay4 x y g u) (eq_ix2 i)).trans ((h (i 0) (i 1)).trans
    (congrArg (fun k => gateForm (part x y (i 0) (i 1)) (u k) (g k)) (eq_ix2 i).symm))

variable (m : (ℓ : Loc nD τ sig) → Buf (Elt Ideal) ℓ) (c : Dev nD)

theorem v0 : (Gen.V m c main_v0 : S8192x2048.Idx → EReal) = m ((c : Thread nD τ).loc main_arg3) := by
  unfold Gen.V
  simp only [Gen.hostOps0]
  after_results_simp <;> rfl
theorem v1 : (Gen.V m c main_v1 : S5632x2048.Idx → EReal) = m ((c : Thread nD τ).loc main_arg2) := by
  unfold Gen.V
  simp only [Gen.hostOps0]
  after_results_simp <;> rfl
theorem varg0 : (Gen.V m c main_arg0 : S8192x5632.Idx → EReal) = m ((c : Thread nD τ).loc main_arg0) := by
  unfold Gen.V
  simp only [Gen.hostOps0]
  after_results_simp <;> rfl
theorem varg1 : (Gen.V m c main_arg1 : S8192x5632.Idx → EReal) = m ((c : Thread nD τ).loc main_arg1) := by
  unfold Gen.V
  simp only [Gen.hostOps0]
  after_results_simp <;> rfl

/-- The blocks of step `t`: tile `t / 11` of the rows and `t % 11` of the columns. -/
theorem places : ∀ t : Fin cfg0.N, win0_0.index t = ![t.val / 11, 0] ∧ win0_1.index t = ![t.val % 11, 0] ∧ win0_2.index t = ![t.val / 11, t.val % 11] ∧ win0_3.index t = ![t.val / 11, t.val % 11] ∧ win0_4.index t = ![t.val / 11, t.val % 11] ∧ win0_5.index t = ![t.val / 11, t.val % 11] :=
  (by decide +kernel : ∀ t : Fin grid0.N, win0_0.index t = ![t.val / 11, 0] ∧ win0_1.index t = ![t.val % 11, 0] ∧ win0_2.index t = ![t.val / 11, t.val % 11] ∧ win0_3.index t = ![t.val / 11, t.val % 11] ∧ win0_4.index t = ![t.val / 11, t.val % 11] ∧ win0_5.index t = ![t.val / 11, t.val % 11])

theorem ltN (t : Fin cfg0.N) : t.val < 88 := t.2

theorem read0 (X : (b : Ref sig .tc) → Buf (Elt Ideal) ((c : Thread nD τ).loc b)) (t : Fin cfg0.N) (r : Fin 1024) (l : Fin 2048) :
    ((cfg0.win 0).blk t).view.read (Elt Ideal) (X (Pipeline.arrRef spec0 0)) (ix2 r l) = X main_v0 ((win0_0.blk t).view.emb (ix2 r l)) := rfl

theorem blk0 (t : Fin cfg0.N) (r : Fin 1024) (l : Fin 2048) :
    Gen.iblk m c 0 t (ix2 r l) = (m ((c : Thread nD τ).loc main_arg3) : S8192x2048.Idx → EReal)
      (ix2 ⟨t.val / 11 * 1024 + r, by have := ltN t; omega⟩ l) := by
  have ht := ltN t
  unfold Gen.iblk
  refine (read0 c (Gen.V m c) t r l).trans ?_
  rw [v0]
  refine congrArg _ (funext fun a => ?_)
  fin_cases a <;> apply Fin.ext <;> blk_simp [(places t).1] <;> simp

theorem read1 (X : (b : Ref sig .tc) → Buf (Elt Ideal) ((c : Thread nD τ).loc b)) (t : Fin cfg0.N) (r : Fin 512) (l : Fin 2048) :
    ((cfg0.win 1).blk t).view.read (Elt Ideal) (X (Pipeline.arrRef spec0 1)) (ix2 r l) = X main_v1 ((win0_1.blk t).view.emb (ix2 r l)) := rfl

theorem blk1 (t : Fin cfg0.N) (r : Fin 512) (l : Fin 2048) :
    Gen.iblk m c 1 t (ix2 r l) = (m ((c : Thread nD τ).loc main_arg2) : S5632x2048.Idx → EReal)
      (ix2 ⟨t.val % 11 * 512 + r, by omega⟩ l) := by
  have ht := ltN t
  unfold Gen.iblk
  refine (read1 c (Gen.V m c) t r l).trans ?_
  rw [v1]
  refine congrArg _ (funext fun a => ?_)
  fin_cases a <;> apply Fin.ext <;> blk_simp [(places t).2.1] <;> simp

theorem read2 (X : (b : Ref sig .tc) → Buf (Elt Ideal) ((c : Thread nD τ).loc b)) (t : Fin cfg0.N) (r : Fin 1024) (l : Fin 512) :
    ((cfg0.win 2).blk t).view.read (Elt Ideal) (X (Pipeline.arrRef spec0 2)) (ix2 r l) = X main_arg0 ((win0_2.blk t).view.emb (ix2 r l)) := rfl

theorem blk2 (t : Fin cfg0.N) (r : Fin 1024) (l : Fin 512) :
    Gen.iblk m c 2 t (ix2 r l) = (m ((c : Thread nD τ).loc main_arg0) : S8192x5632.Idx → EReal)
      (ix2 ⟨t.val / 11 * 1024 + r, by have := ltN t; omega⟩ ⟨t.val % 11 * 512 + l, by omega⟩) := by
  have ht := ltN t
  unfold Gen.iblk
  refine (read2 c (Gen.V m c) t r l).trans ?_
  rw [varg0]
  refine congrArg _ (funext fun a => ?_)
  fin_cases a <;> apply Fin.ext <;> blk_simp [(places t).2.2.1] <;> simp

theorem read3 (X : (b : Ref sig .tc) → Buf (Elt Ideal) ((c : Thread nD τ).loc b)) (t : Fin cfg0.N) (r : Fin 1024) (l : Fin 512) :
    ((cfg0.win 3).blk t).view.read (Elt Ideal) (X (Pipeline.arrRef spec0 3)) (ix2 r l) = X main_arg1 ((win0_3.blk t).view.emb (ix2 r l)) := rfl

theorem blk3 (t : Fin cfg0.N) (r : Fin 1024) (l : Fin 512) :
    Gen.iblk m c 3 t (ix2 r l) = (m ((c : Thread nD τ).loc main_arg1) : S8192x5632.Idx → EReal)
      (ix2 ⟨t.val / 11 * 1024 + r, by have := ltN t; omega⟩ ⟨t.val % 11 * 512 + l, by omega⟩) := by
  have ht := ltN t
  unfold Gen.iblk
  refine (read3 c (Gen.V m c) t r l).trans ?_
  rw [varg1]
  refine congrArg _ (funext fun a => ?_)
  fin_cases a <;> apply Fin.ext <;> blk_simp [(places t).2.2.2.1] <;> simp

/-- The gradient of the product: that of the layer's output, times the transposed weights. -/
def ct (w : S5632x2048.Idx → EReal) (d : S8192x2048.Idx → EReal) (a : Fin 8192) (b : Fin 5632) : EReal :=
  ∑ k : Fin 2048, d (ix2 a k) * w (ix2 b k)

/-- The gradient of the up projection. -/
def dUp (g : S8192x5632.Idx → EReal) (w : S5632x2048.Idx → EReal) (d : S8192x2048.Idx → EReal) (a : Fin 8192) (b : Fin 5632) : EReal :=
  ct w d a b * (g (ix2 a b) * Ideal.logistic (g (ix2 a b)))

/-- The gradient of the gate. -/
def dGate (g u : S8192x5632.Idx → EReal) (w : S5632x2048.Idx → EReal) (d : S8192x2048.Idx → EReal) (a : Fin 8192) (b : Fin 5632) : EReal :=
  gateForm (ct w d a b) (u (ix2 a b)) (g (ix2 a b))

/-- The body's product is the gradient of the product at its place. -/
theorem part_eq (t : Fin cfg0.N) (j : Fin 1024) (l : Fin 512) (a : Fin 8192) (b : Fin 5632)
    (ha : a.val = t.val / 11 * 1024 + j.val) (hb : b.val = t.val % 11 * 512 + l.val) :
    part (Gen.iblk m c 0 t) (Gen.iblk m c 1 t) j l = ct (m ((c : Thread nD τ).loc main_arg2)) (m ((c : Thread nD τ).loc main_arg3)) a b := by
  have ht := ltN t
  have ea : (⟨t.val / 11 * 1024 + j.val, by omega⟩ : Fin 8192) = a := Fin.ext ha.symm
  have eb : (⟨t.val % 11 * 512 + l.val, by omega⟩ : Fin 5632) = b := Fin.ext hb.symm
  rw [← ea, ← eb]
  exact Finset.sum_congr rfl fun k _ => congrArg₂ (· * ·) (blk0 m c t j k) (blk1 m c t l k)

theorem at2 (t : Fin cfg0.N) (i : S1024x512.Idx) (a : Fin 8192) (b : Fin 5632)
    (ha : a.val = t.val / 11 * 1024 + (i 0).val) (hb : b.val = t.val % 11 * 512 + (i 1).val) :
    Gen.iblk m c 2 t i = (m ((c : Thread nD τ).loc main_arg0) : S8192x5632.Idx → EReal) (ix2 a b) := by
  have ht := ltN t
  have ea : (⟨t.val / 11 * 1024 + (i 0).val, by omega⟩ : Fin 8192) = a := Fin.ext ha.symm
  have eb : (⟨t.val % 11 * 512 + (i 1).val, by omega⟩ : Fin 5632) = b := Fin.ext hb.symm
  rw [← ea, ← eb]
  exact (congrArg (Gen.iblk m c 2 t) (eq_ix2 i)).trans (blk2 m c t (i 0) (i 1))

theorem at3 (t : Fin cfg0.N) (i : S1024x512.Idx) (a : Fin 8192) (b : Fin 5632)
    (ha : a.val = t.val / 11 * 1024 + (i 0).val) (hb : b.val = t.val % 11 * 512 + (i 1).val) :
    Gen.iblk m c 3 t i = (m ((c : Thread nD τ).loc main_arg1) : S8192x5632.Idx → EReal) (ix2 a b) := by
  have ht := ltN t
  have ea : (⟨t.val / 11 * 1024 + (i 0).val, by omega⟩ : Fin 8192) = a := Fin.ext ha.symm
  have eb : (⟨t.val % 11 * 512 + (i 1).val, by omega⟩ : Fin 5632) = b := Fin.ext hb.symm
  rw [← ea, ← eb]
  exact (congrArg (Gen.iblk m c 3 t) (eq_ix2 i)).trans (blk3 m c t (i 0) (i 1))

theorem out4_at (x : Vec Ideal S1024x2048 .bf16) (y : Vec Ideal S512x2048 .bf16) (g u : Vec Ideal S1024x512 .f32) (i : S1024x512.Idx) :
    Gen.out0_4 x y g u i = Gen.k0_pay4 x y g u i := by
  frame_out

theorem out5_at (x : Vec Ideal S1024x2048 .bf16) (y : Vec Ideal S512x2048 .bf16) (g u : Vec Ideal S1024x512 .f32) (i : S1024x512.Idx) :
    Gen.out0_5 x y g u i = Gen.k0_pay3 x y g i := by
  frame_out

theorem tile4 (t : Fin cfg0.N) (i : S1024x512.Idx) (a : Fin 8192) (b : Fin 5632)
    (ha : a.val = t.val / 11 * 1024 + (i 0).val) (hb : b.val = t.val % 11 * 512 + (i 1).val) :
    Gen.out0_4 (Gen.iblk m c 0 t) (Gen.iblk m c 1 t) (Gen.iblk m c 2 t) (Gen.iblk m c 3 t) i = dGate (m ((c : Thread nD τ).loc main_arg0)) (m ((c : Thread nD τ).loc main_arg1)) (m ((c : Thread nD τ).loc main_arg2)) (m ((c : Thread nD τ).loc main_arg3)) a b := by
  refine (out4_at _ _ _ _ i).trans ((pay4_at (Gen.iblk m c 0 t) (Gen.iblk m c 1 t) (Gen.iblk m c 2 t) (Gen.iblk m c 3 t) i).trans ?_)
  exact gateForm_congr (part_eq m c t (i 0) (i 1) a b ha hb) (at3 m c t i a b ha hb) (at2 m c t i a b ha hb)

/-- Result 0. -/
def res4 (i : S8192x5632.Idx) : EReal :=
  dGate (m ((c : Thread nD τ).loc main_arg0)) (m ((c : Thread nD τ).loc main_arg1)) (m ((c : Thread nD τ).loc main_arg2)) (m ((c : Thread nD τ).loc main_arg3)) (i 0) (i 1)

/-- Result 0 after the run. -/
theorem final4 (i : S8192x5632.Idx) : (Gen.dats m 0 c).arrAt 4 cfg0.N i = res4 m c i := by
  refine congrFun ((Gen.dats m 0 c).arrAt_eq_of_covers 4 (res4 m c) (by decide +kernel) fun t hf y => ?_) i
  have e := (places t).2.2.2.2.1
  rw [Gen.after0_4]
  have h0 : (((cfg0.win 4).blk t).view.emb y 0).val = t.val / 11 * 1024 + (y 0).val := by blk_simp [e] <;> simp
  have h1 : (((cfg0.win 4).blk t).view.emb y 1).val = t.val % 11 * 512 + (y 1).val := by blk_simp [e] <;> simp
  have h := tile4 m c t y _ _ h0 h1
  generalize Gen.out0_4 (Gen.iblk m c 0 t) (Gen.iblk m c 1 t) (Gen.iblk m c 2 t) (Gen.iblk m c 3 t) = z at h ⊢
  exact h

theorem tile5 (t : Fin cfg0.N) (i : S1024x512.Idx) (a : Fin 8192) (b : Fin 5632)
    (ha : a.val = t.val / 11 * 1024 + (i 0).val) (hb : b.val = t.val % 11 * 512 + (i 1).val) :
    Gen.out0_5 (Gen.iblk m c 0 t) (Gen.iblk m c 1 t) (Gen.iblk m c 2 t) (Gen.iblk m c 3 t) i = dUp (m ((c : Thread nD τ).loc main_arg0)) (m ((c : Thread nD τ).loc main_arg2)) (m ((c : Thread nD τ).loc main_arg3)) a b := by
  refine (out5_at _ _ _ _ i).trans ((pay3_at (Gen.iblk m c 0 t) (Gen.iblk m c 1 t) (Gen.iblk m c 2 t) i).trans ?_)
  exact congrArg₂ (fun p q : EReal => p * (q * Ideal.logistic q)) (part_eq m c t _ _ a b ha hb) (at2 m c t i a b ha hb)

/-- Result 1. -/
def res5 (i : S8192x5632.Idx) : EReal :=
  dUp (m ((c : Thread nD τ).loc main_arg0)) (m ((c : Thread nD τ).loc main_arg2)) (m ((c : Thread nD τ).loc main_arg3)) (i 0) (i 1)

/-- Result 1 after the run. -/
theorem final5 (i : S8192x5632.Idx) : (Gen.dats m 0 c).arrAt 5 cfg0.N i = res5 m c i := by
  refine congrFun ((Gen.dats m 0 c).arrAt_eq_of_covers 5 (res5 m c) (by decide +kernel) fun t hf y => ?_) i
  have e := (places t).2.2.2.2.2
  rw [Gen.after0_5]
  have h0 : (((cfg0.win 5).blk t).view.emb y 0).val = t.val / 11 * 1024 + (y 0).val := by blk_simp [e] <;> simp
  have h1 : (((cfg0.win 5).blk t).view.emb y 1).val = t.val % 11 * 512 + (y 1).val := by blk_simp [e] <;> simp
  have h := tile5 m c t y _ _ h0 h1
  generalize Gen.out0_5 (Gen.iblk m c 0 t) (Gen.iblk m c 1 t) (Gen.iblk m c 2 t) (Gen.iblk m c 3 t) = z at h ⊢
  exact h

end Cert.Kernel2Ideal.Host

namespace Cert.Reference2Ideal.Host

open Idealize.ShloMosaic Idealize.ShloMosaic.TcCoe
open Cert.Reference2Ideal Cert.Reference2Ideal.Facts

/-- The gradient of the product. -/
def ct (w : FVec Ideal S5632x2048 .f32) (d : FVec Ideal S8192x2048 .f32) : FVec Ideal S8192x5632 .f32 :=
  Host.dotGeneral dot_S8192x2048_S5632x2048_S8192x5632_1_1_0_0_n_n none d w

/-- Ones everywhere. -/
def one : FVec Ideal S8192x5632 .f32 := broadcastInDim S8192x5632 ![] Gen.bcast_S_S8192x5632 (constant S_ .f32 0x3F800000#32)

/-- The sigmoid of the gate. -/
def sig (g : FVec Ideal S8192x5632 .f32) : FVec Ideal S8192x5632 .f32 := Host.divf one (addf one (Host.exp (Host.negf g)))

/-- The gradient of the gate. -/
def out0 (c g s u : FVec Ideal S8192x5632 .f32) : FVec Ideal S8192x5632 .bf16 :=
  truncf .bf16 (addf (mulf (mulf c u) s) (mulf (mulf g (mulf c u)) (mulf s (subf one s)))) Gen.bitsLt_bf16_f32

/-- The gradient of the up projection. -/
def out1 (c g s : FVec Ideal S8192x5632 .f32) : FVec Ideal S8192x5632 .bf16 := truncf .bf16 (mulf (mulf g s) c) Gen.bitsLt_bf16_f32

theorem ct_at (w : FVec Ideal S5632x2048 .f32) (d : FVec Ideal S8192x2048 .f32) (a : Fin 8192) (b : Fin 5632) :
    ct w d (ix2 a b) = ∑ k : Fin 2048, d (ix2 a k) * w (ix2 b k) := by
  pointwise [ct]

theorem sig_at (g : FVec Ideal S8192x5632 .f32) (a : Fin 8192) (b : Fin 5632) : sig g (ix2 a b) = Ideal.logistic (g (ix2 a b)) := by
  unfold Ideal.logistic
  pointwise [sig, one]

theorem out0_at (c g s u : FVec Ideal S8192x5632 .f32) (a : Fin 8192) (b : Fin 5632) :
    out0 c g s u (ix2 a b) = c (ix2 a b) * u (ix2 a b) * s (ix2 a b)
      + g (ix2 a b) * (c (ix2 a b) * u (ix2 a b)) * (s (ix2 a b) * (1 - s (ix2 a b))) := by
  pointwise [out0, one]

theorem out1_at (c g s : FVec Ideal S8192x5632 .f32) (a : Fin 8192) (b : Fin 5632) :
    out1 c g s (ix2 a b) = g (ix2 a b) * s (ix2 a b) * c (ix2 a b) := by
  pointwise [out1]

/-- The two forms of the gate's gradient agree where the numbers are numbers. -/
theorem gate_eq (c u g s : EReal) (hc : c = ((c.toReal : ℝ) : EReal)) (hu : u = ((u.toReal : ℝ) : EReal))
    (hg : g = ((g.toReal : ℝ) : EReal)) (hs : s = Ideal.logistic g) :
    c * u * s + g * (c * u) * (s * (1 - s)) = c * u * (Ideal.logistic g * (1 + g * (1 - Ideal.logistic g))) := by
  rw [hs, hc, hu, hg, Cert.Band.logistic_real, ← EReal.coe_one]
  simp only [← EReal.coe_mul, ← EReal.coe_add, ← EReal.coe_sub]
  congr 1
  ring

/-- The two forms of the up projection's gradient agree. -/
theorem up_eq (g : FVec Ideal S8192x5632 .f32) (w : FVec Ideal S5632x2048 .f32) (d : FVec Ideal S8192x2048 .f32) (a : Fin 8192) (b : Fin 5632) :
    out1 (ct w d) g (sig g) (ix2 a b) = Cert.Kernel2Ideal.Host.dUp g w d a b := by
  rw [out1_at, ct_at, sig_at, mul_comm]
  rfl

/-- The two forms of the gate's gradient agree, where the gate, the up projection and the gradient of the product are numbers. -/
theorem gate_at (g u : FVec Ideal S8192x5632 .f32) (w : FVec Ideal S5632x2048 .f32) (d : FVec Ideal S8192x2048 .f32) (a : Fin 8192) (b : Fin 5632)
    (H : (g (ix2 a b) = ((EReal.toReal (g (ix2 a b)) : ℝ) : EReal) ∧ u (ix2 a b) = ((EReal.toReal (u (ix2 a b)) : ℝ) : EReal))
      ∧ Cert.Kernel2Ideal.Host.ct w d a b = ((EReal.toReal (Cert.Kernel2Ideal.Host.ct w d a b) : ℝ) : EReal)) :
    out0 (ct w d) g (sig g) u (ix2 a b) = Cert.Kernel2Ideal.Host.dGate g u w d a b := by
  rw [out0_at, ct_at]
  exact gate_eq _ _ _ _ H.2 H.1.2 H.1.1 (sig_at g a b)

end Cert.Reference2Ideal.Host

namespace Cert.Pre_finite2

open Idealize.ShloMosaic

theorem facts : Facts where
  bcast_S_S8192x5632 := by decide
  transposes_S5632x2048_S2048x5632_1_0 := by decide
  dot_S8192x2048_S2048x5632_S8192x5632_1_0_0_1_n_n_wf := by decide

variable [inst : Facts]

/-- Where the precondition holds, the gate, the up projection and the gradient of the product are numbers. -/
theorem holds (g u : FVec Ideal S8192x5632 .f32) (w : FVec Ideal S5632x2048 .f32) (d : FVec Ideal S8192x2048 .f32)
    (hf : fn (F := Ideal) g u w d = fun _ => 1#1) (a : Fin 8192) (b : Fin 5632) :
    (g (ix2 a b) = ((EReal.toReal (g (ix2 a b)) : ℝ) : EReal) ∧ u (ix2 a b) = ((EReal.toReal (u (ix2 a b)) : ℝ) : EReal))
      ∧ Cert.Kernel2Ideal.Host.ct w d a b = ((EReal.toReal (Cert.Kernel2Ideal.Host.ct w d a b) : ℝ) : EReal) := by
  have hf := congrFun hf (ix2 a b)
  revert hf
  pointwise [fn]
  rw [Cert.Band.andi_ofBool, Cert.Band.andi_ofBool]
  intro hf
  have hb : ∀ b : Bool, BitVec.ofBool b = 1#1 → b = true := by decide
  obtain ⟨⟨h1, h2⟩, h3⟩ := of_decide_eq_true (hb _ hf)
  exact ⟨⟨Cert.Pre_finite.real_of_lt (inst := Cert.Pre_finite.facts) h1, Cert.Pre_finite.real_of_lt (inst := Cert.Pre_finite.facts) h2⟩, Cert.Pre_finite.real_of_lt (inst := Cert.Pre_finite.facts) h3⟩

end Cert.Pre_finite2

namespace Cert.Proof.SwigluBwd

open Idealize.ShloMosaic Idealize.ShloMosaic.TcCoe Idealize.SL.Sem

/-- The kernel ends, whatever its arguments hold, with its semaphores back at zero. -/
theorem frame_p : Cert.quiescent_Kernel2 := fun m ρ _ => Cert.Kernel2.Gen.frame m ρ

/-- The same of the idealized kernel. -/
theorem frame_pi : Cert.quiescent_Kernel2Ideal := fun m ρ _ => Cert.Kernel2Ideal.Gen.frame m ρ

/-- The reference ends. -/
theorem frame_ri : Cert.quiescent_Reference2Ideal := fun m ρ _ =>
  (θ_run Cert.Reference2Ideal.defs _ _).mono (fun r h => ⟨fun c => (h c).2.2,
      Idealize.ShloMosaic.sem_eq_zero_of_no_sems (by decide) r.2⟩)
    (Cert.Reference2Ideal.Value.run (F := Ideal) m ρ)

/-- The kernel's two gradients are the reference's, of numbers. -/
theorem algebraic : Cert.algebraic_Kernel2Ideal_Reference2Ideal_pre_finite2 (hKernel2Ideal := Cert.Kernel2Ideal.Gen.facts)
    (hReference2Ideal := Cert.Reference2Ideal.Gen.facts) (hPre_finite2 := Cert.Pre_finite2.facts) := by
  intro m ρ m' ρ' hp ha
  have H := fun c => Cert.Pre_finite2.holds (inst := Cert.Pre_finite2.facts) _ _ _ _ (hp c)
  refine ⟨_, _, (θ_run Cert.Kernel2Ideal.defs _ _).mono (fun _ h => h) (Cert.Kernel2Ideal.Value.run_blocks (F := Ideal) m ρ), ?_⟩
  refine (θ_run Cert.Reference2Ideal.defs _ _).mono (fun r h c => ?_) (Cert.Reference2Ideal.Value.run (F := Ideal) m' ρ')
  obtain ⟨h0, h1, ha'⟩ := h c
  obtain ⟨a0, a1, a2, a3⟩ := ha c
  refine ⟨h0.trans ?_, h1.trans ?_, ha'⟩
  · funext i
    refine Eq.trans ?_ (Cert.Kernel2Ideal.Host.final4 m c i).symm
    rw [a0, a1, a2, a3, eq_ix2 i]
    exact Cert.Reference2Ideal.Host.gate_at _ _ _ _ (i 0) (i 1) (H c (i 0) (i 1))
  · funext i
    refine Eq.trans ?_ (Cert.Kernel2Ideal.Host.final5 m c i).symm
    rw [a0, a2, a3, eq_ix2 i]
    exact Cert.Reference2Ideal.Host.up_eq _ _ _ (i 0) (i 1)

end Cert.Proof.SwigluBwd

end
-- ==== Proof.Whole.lean ====
/- A store that fills a buffer, and a load of all of it. -/
module

public import Idealize.ShloMosaic.Lib.WritesUnit
public import Idealize.ShloMosaic.Lib.Pipeline.FrameBody
public import Idealize.ShloMosaic.Lib.Pipeline.ValueKit

@[expose] public section

namespace Cert.Whole

open Idealize.ShloMosaic

variable {sig : RefSig} {κ : Kind} {sp : Space} {s : Shape} {e : EltTy} {Val : EltTy → Type}

/-- What a store that fills the buffer leaves in it is what it stores. -/
theorem read_store (v : View sig κ sp s e) (f : v.ty.Contents Val) {off : Fin s.rank → ℕ} (inb : ∀ a, off a + s.size a ≤ s.size a)
    (w : s.Idx → Val e) (h0 : off = fun _ => 0) :
    v.read Val (v.writes Val f [⟨Rect.unit off s.size inb, w⟩]) = w :=
  funext fun y => View.read_writes_cons_unit_of_mem v f inb w [] y y h0 fun _ => (Nat.zero_add _).symm

/-- A load of the whole buffer reads its contents. -/
theorem readAt_all (v : View sig κ sp s e) (f : v.ty.Contents Val) {off : Fin s.rank → ℕ} (inb : ∀ a, off a + s.size a ≤ s.size a)
    (h0 : off = fun _ => 0) :
    v.readAt Val (Rect.unit off s.size inb).toLoadRect f = v.read Val f := by
  subst h0
  refine funext fun y => congrArg (v.read Val f) (funext fun a => Fin.ext ?_)
  show 0 + 1 * (y a).val = (y a).val
  omega

/-- Two zero offsets. -/
theorem zeros : (![0, 0] : Fin 2 → ℕ) = fun _ => 0 := funext fun a => by fin_cases a <;> rfl

end Cert.Whole
-- ==== Proof.FfnInBody.lean ====
/- The gradient in the input of the gated product: the body. The parts of the gradient in the normed rows of a row tile
   are stored, one column tile at a point, in the half of a ring that the tile's parity names; during the next row tile they
   are loaded, 128 rows at a point, and carried through the norm. -/
module

public import proofs.«01_k».proof.Proof.Gen.Kernel3Ideal.Skeleton
public import proofs.«01_k».proof.Proof.Gen.Kernel3Ideal.Frame
public import Idealize.ShloMosaic.Lib.Pipeline.ValueKit
public import proofs.«01_k».proof.Proof.Whole

@[expose] public section

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid

The point `t` is column tile `t % 4` of row tile `t / 4`. -/

/-- Sixteen row tiles of parts are stored; -/
theorem stores_iff : ∀ t : Fin cfg0.N, k0_cond1 (grid0.coords t) = 1#1 ↔ t.val < 64 := by decide +kernel
/-- they are loaded one row tile later, -/
theorem loads_iff : ∀ t : Fin cfg0.N, k0_cond2 (grid0.coords t) = 1#1 ↔ 4 ≤ t.val := by decide +kernel
/-- the gain's gradient being stored at the first of these points -/
theorem begins_iff : ∀ t : Fin cfg0.N, k0_cond3 (grid0.coords t) = 1#1 ↔ t.val = 4 := by decide +kernel
/-- and added to at the others. -/
theorem adds_iff : ∀ t : Fin cfg0.N, k0_cond4 (grid0.coords t) = 1#1 ↔ ¬ t.val = 4 := by decide +kernel

/-- Where the parts are stored, -/
theorem off1_eq : ∀ t : Fin cfg0.N, k0_off1 (grid0.coords t) = ![t.val / 4 % 2, t.val % 4, 0, 0] := by decide +kernel
/-- and where they are loaded from, a column tile after the other. -/
theorem off2_eq : ∀ t : Fin cfg0.N, 4 ≤ t.val → k0_off2 (grid0.coords t) = ![(t.val / 4 - 1) % 2, 0, 128 * (t.val % 4), 0] := by decide +kernel
theorem off3_eq : ∀ t : Fin cfg0.N, 4 ≤ t.val → k0_off3 (grid0.coords t) = ![(t.val / 4 - 1) % 2, 1, 128 * (t.val % 4), 0] := by decide +kernel
theorem off4_eq : ∀ t : Fin cfg0.N, 4 ≤ t.val → k0_off4 (grid0.coords t) = ![(t.val / 4 - 1) % 2, 2, 128 * (t.val % 4), 0] := by decide +kernel
theorem off5_eq : ∀ t : Fin cfg0.N, 4 ≤ t.val → k0_off5 (grid0.coords t) = ![(t.val / 4 - 1) % 2, 3, 128 * (t.val % 4), 0] := by decide +kernel

/-- The results in rows are written back from the first of the loading points on. -/
theorem flush0_7 : ∀ t : Fin cfg0.N, (cfg0.win 7).flush t = true ↔ 4 ≤ t.val := by decide +kernel
theorem flush0_8 : ∀ t : Fin cfg0.N, (cfg0.win 8).flush t = true ↔ 4 ≤ t.val := by decide +kernel

/-! ## The body -/

/-- The ring after a store of the part `w` at the slot `p`, `q`. -/
def put (p q : ℕ) (w : Vec F S1x1x512x512 .f32) (d : Vec F S2x4x512x512 .f32) : Vec F S2x4x512x512 .f32 := fun y =>
  if (y 0).val = p ∧ (y 1).val = q then w (ix4 0 0 (y 2 : Fin 512) (y 3 : Fin 512)) else d y

theorem read_put (v : View sig .tc .vmem S2x4x512x512 .f32) (f : v.ty.Contents (Elt F)) (off : Fin 4 → ℕ) (p q : ℕ)
    (inb : ∀ a, off a + S1x1x512x512.size a ≤ S2x4x512x512.size a) (w : Vec F S1x1x512x512 .f32) (ho : off = ![p, q, 0, 0]) :
    v.read (Elt F) (v.writes (Elt F) f [⟨Rect.unit (s := S2x4x512x512) off S1x1x512x512.size inb, w⟩]) = put p q w (v.read (Elt F) f) := by
  funext y
  unfold put
  split
  · rename_i h
    refine View.read_writes_cons_unit_of_mem v f inb w [] y (ix4 0 0 (y 2 : Fin 512) (y 3 : Fin 512)) ho fun a => ?_
    fin_cases a
    · exact h.1
    · exact h.2
    · exact (Nat.zero_add _).symm
    · exact (Nat.zero_add _).symm
  · rename_i h
    by_cases h0 : (y 0).val = p
    · refine View.read_writes_cons_unit_of_not_mem v f inb w [] y ho 1 ?_
      have h1 : ¬ (y 1).val = q := fun h1 => h ⟨h0, h1⟩
      show (y 1).val < q ∨ q + 1 ≤ (y 1).val
      omega
    · refine View.read_writes_cons_unit_of_not_mem v f inb w [] y ho 0 ?_
      show (y 0).val < p ∨ p + 1 ≤ (y 0).val
      omega

/-- The 128 rows of the gradient in the normed rows that a point loads. -/
def loaded (i : grid0.Coords) (h : k0_cond2 i = 1#1) (d : Vec F S2x4x512x512 .f32) : Vec F S128x2048 .f32 :=
  k0_pay8 (k0_pay6 (View.ld d (Rect.unit (s := S2x4x512x512) (k0_off2 i) S1x1x128x512.size (k0_off2_inb i h))))
    (k0_pay7 (View.ld d (Rect.unit (s := S2x4x512x512) (k0_off3 i) S1x1x128x512.size (k0_off3_inb i h))))
    (View.ld d (Rect.unit (s := S2x4x512x512) (k0_off4 i) S1x1x128x512.size (k0_off4_inb i h)))
    (View.ld d (Rect.unit (s := S2x4x512x512) (k0_off5 i) S1x1x128x512.size (k0_off5_inb i h)))

/-- A point of the first row tile stores its part. -/
theorem sound_store (c : Dev nD) (E : Set ℕ) (i : grid0.Coords) (arg2 : Memref sig .tc .vmem S512x5632 .bf16) (harg2 : arg2.IsWhole) (arg3 : Memref sig .tc .vmem S512x5632 .bf16) (harg3 : arg3.IsWhole) (arg4 : Memref sig .tc .vmem S512x5632 .bf16) (harg4 : arg4.IsWhole) (arg5 : Memref sig .tc .vmem S512x5632 .bf16) (harg5 : arg5.IsWhole) (arg6 : Memref sig .tc .vmem S128x2048 .f32) (harg6 : arg6.IsWhole) (arg7 : Memref sig .tc .vmem S1x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .bf16) (harg10 : arg10.IsWhole) (arg11 : Memref sig .tc .vmem S1x2048 .f32) (harg11 : arg11.IsWhole) (arg12 : Memref sig .tc .vmem S2x4x512x512 .f32) (harg12 : arg12.IsWhole)
    (h1 : k0_cond1 i = 1#1) (h2 : ¬ k0_cond2 i = 1#1) (p q : ℕ) (ho : k0_off1 i = ![p, q, 0, 0])
    (x0 x1 x2 x3 : Vec F S512x5632 .bf16) (d : Vec F S2x4x512x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg12 fullShare d
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg12 fullShare (put p q (k0_pay1 x0 x1 x2 x3) d)) -∗ K ⟨⟩))
      ⊢ wp frame (wpE (defs₀ (F := F)) Variants.none c none) E (cc0_ffn_in_bwd i arg2 harg2 arg3 harg3 arg4 harg4 arg5 harg5 arg6 harg6 arg7 harg7 arg8 harg8 arg9 harg9 arg10 harg10 arg11 harg11 arg12 harg12) K := by
  simp only [cc0_ffn_in_bwd_eq_skeleton]; unfold cc0_ffn_in_bwd_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0 hf1 hf2 hf3 hf4
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [read_put _ _ _ _ _ _ _ ho, Whole.readAt_all _ _ _ Whole.zeros, Whole.readAt_all _ _ _ Whole.zeros, Whole.readAt_all _ _ _ Whole.zeros, Whole.readAt_all _ _ _ Whole.zeros]

/-- What the ring holds after a point: its part stored, if it stores one. -/
def ring (i : grid0.Coords) (p q : ℕ) (w : Vec F S1x1x512x512 .f32) (d : Vec F S2x4x512x512 .f32) : Vec F S2x4x512x512 .f32 :=
  if k0_cond1 i = 1#1 then put p q w d else d

set_option maxHeartbeats 6400000 in
/-- A later point stores its part, if it has one, and carries 128 rows of the row tile before through the norm. -/
theorem sound_both (c : Dev nD) (E : Set ℕ) (i : grid0.Coords) (arg2 : Memref sig .tc .vmem S512x5632 .bf16) (harg2 : arg2.IsWhole) (arg3 : Memref sig .tc .vmem S512x5632 .bf16) (harg3 : arg3.IsWhole) (arg4 : Memref sig .tc .vmem S512x5632 .bf16) (harg4 : arg4.IsWhole) (arg5 : Memref sig .tc .vmem S512x5632 .bf16) (harg5 : arg5.IsWhole) (arg6 : Memref sig .tc .vmem S128x2048 .f32) (harg6 : arg6.IsWhole) (arg7 : Memref sig .tc .vmem S1x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .bf16) (harg10 : arg10.IsWhole) (arg11 : Memref sig .tc .vmem S1x2048 .f32) (harg11 : arg11.IsWhole) (arg12 : Memref sig .tc .vmem S2x4x512x512 .f32) (harg12 : arg12.IsWhole)
    (h2 : k0_cond2 i = 1#1)
    (hc : (k0_cond1 i = 1#1 ∧ k0_cond3 i = 1#1 ∧ ¬ k0_cond4 i = 1#1) ∨ (k0_cond1 i = 1#1 ∧ ¬ k0_cond3 i = 1#1 ∧ k0_cond4 i = 1#1)
      ∨ (¬ k0_cond1 i = 1#1 ∧ ¬ k0_cond3 i = 1#1 ∧ k0_cond4 i = 1#1)) (p q p' r : ℕ) (ho : k0_off1 i = ![p, q, 0, 0])
    (ho2 : k0_off2 i = ![p', 0, r, 0]) (ho3 : k0_off3 i = ![p', 1, r, 0]) (ho4 : k0_off4 i = ![p', 2, r, 0]) (ho5 : k0_off5 i = ![p', 3, r, 0])
    (x0 x1 x2 x3 : Vec F S512x5632 .bf16) (x4 x6 : Vec F S128x2048 .f32) (x5 x9 : Vec F S1x2048 .f32) (d : Vec F S2x4x512x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ (∃ e, owns (c : Thread nD τ) arg9 fullShare e) ∗ (∃ e, owns (c : Thread nD τ) arg10 fullShare e)
        ∗ owns (c : Thread nD τ) arg11 fullShare x9 ∗ owns (c : Thread nD τ) arg12 fullShare d
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6
            ∗ owns (c : Thread nD τ) arg9 fullShare (k0_pay2 (loaded i h2 (ring i p q (k0_pay1 x0 x1 x2 x3) d)) (k0_pay9 x4) (k0_pay10 x4) (k0_pay11 x5) x6)
            ∗ owns (c : Thread nD τ) arg10 fullShare (k0_pay3 (loaded i h2 (ring i p q (k0_pay1 x0 x1 x2 x3) d)) (k0_pay9 x4) (k0_pay10 x4) (k0_pay11 x5) x6)
            ∗ owns (c : Thread nD τ) arg11 fullShare (if k0_cond3 i = 1#1 then k0_pay4 (loaded i h2 (ring i p q (k0_pay1 x0 x1 x2 x3) d)) (k0_pay10 x4)
                else k0_pay5 (loaded i h2 (ring i p q (k0_pay1 x0 x1 x2 x3) d)) (k0_pay10 x4) x9)
            ∗ owns (c : Thread nD τ) arg12 fullShare (ring i p q (k0_pay1 x0 x1 x2 x3) d)) -∗ K ⟨⟩))
      ⊢ wp frame (wpE (defs₀ (F := F)) Variants.none c none) E (cc0_ffn_in_bwd i arg2 harg2 arg3 harg3 arg4 harg4 arg5 harg5 arg6 harg6 arg7 harg7 arg8 harg8 arg9 harg9 arg10 harg10 arg11 harg11 arg12 harg12) K := by
  simp only [cc0_ffn_in_bwd_eq_skeleton]; unfold cc0_ffn_in_bwd_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%fS, %hfS, HS⟩, Hk⟩
  subst hf0 hf1 hf2 hf3 hf4 hf5 hf6 hf9 hfS
  letI : ClosedOff (k0_off1 i) := ⟨![p, q, 0, 0], ho⟩
  letI : ClosedOff (k0_off2 i) := ⟨![p', 0, r, 0], ho2⟩
  letI : ClosedOff (k0_off3 i) := ⟨![p', 1, r, 0], ho3⟩
  letI : ClosedOff (k0_off4 i) := ⟨![p', 2, r, 0], ho4⟩
  letI : ClosedOff (k0_off5 i) := ⟨![p', 3, r, 0], ho5⟩
  have e (h1 : k0_cond1 i = 1#1) : arg12.view.read (Elt F) (arg12.view.writes (Elt F) fS [⟨Rect.unit (s := S2x4x512x512) (k0_off1 i) S1x1x512x512.size (k0_off1_inb i h1),
        k0_pay1 (View.readAt (Elt F) arg2.view (Rect.unit (s := S512x5632) ![0, 0] S512x5632.size inb_S512x5632_S512x5632_0_0).toLoadRect f0)
          (View.readAt (Elt F) arg3.view (Rect.unit (s := S512x5632) ![0, 0] S512x5632.size inb_S512x5632_S512x5632_0_0).toLoadRect f1)
          (View.readAt (Elt F) arg4.view (Rect.unit (s := S512x5632) ![0, 0] S512x5632.size inb_S512x5632_S512x5632_0_0).toLoadRect f2)
          (View.readAt (Elt F) arg5.view (Rect.unit (s := S512x5632) ![0, 0] S512x5632.size inb_S512x5632_S512x5632_0_0).toLoadRect f3)⟩])
      = ring i p q (k0_pay1 (arg2.view.read (Elt F) f0) (arg3.view.read (Elt F) f1) (arg4.view.read (Elt F) f2) (arg5.view.read (Elt F) f3)) (arg12.view.read (Elt F) fS) := by
    rw [ring, if_pos h1, read_put _ _ _ _ _ _ _ ho, Whole.readAt_all _ _ _ Whole.zeros, Whole.readAt_all _ _ _ Whole.zeros, Whole.readAt_all _ _ _ Whole.zeros, Whole.readAt_all _ _ _ Whole.zeros]
  have e' (h1 : ¬ k0_cond1 i = 1#1) : arg12.view.read (Elt F) fS
      = ring i p q (k0_pay1 (arg2.view.read (Elt F) f0) (arg3.view.read (Elt F) f1) (arg4.view.read (Elt F) f2) (arg5.view.read (Elt F) f3)) (arg12.view.read (Elt F) fS) := by
    rw [ring, if_neg h1]
  rw [← Whole.readAt_all arg6.view f4 inb_S128x2048_S128x2048_0_0 Whole.zeros, ← Whole.readAt_all arg7.view f5 inb_S1x2048_S1x2048_0_0 Whole.zeros,
    ← Whole.readAt_all arg8.view f6 inb_S128x2048_S128x2048_0_0 Whole.zeros]
  rcases hc with ⟨h1, h3, h4⟩ | ⟨h1, h3, h4⟩ | ⟨h1, h3, h4⟩
  all_goals
    first | rw [← e h1] | rw [← e' h1]
    sl_exec (disch := first | sl_exact h1 | sl_exact h2 | sl_exact h3 | sl_exact h4)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; exact (Whole.readAt_all _ _ _ Whole.zeros).symm
      iexact H4
    isplitl [H5]
    · iexists f5; isplitr; · ipureintro; exact (Whole.readAt_all _ _ _ Whole.zeros).symm
      iexact H5
    isplitl [H6]
    · iexists f6; isplitr; · ipureintro; exact (Whole.readAt_all _ _ _ Whole.zeros).symm
      iexact H6
    isplitl [H7]
    · iexists _; isplitr
      swap; · iexact H7
      ipureintro
      exact Whole.read_store _ _ _ _ Whole.zeros
    isplitl [H8]
    · iexists _; isplitr
      swap; · iexact H8
      ipureintro
      exact Whole.read_store _ _ _ _ Whole.zeros
    isplitl [H9]
    · iexists _; isplitr
      swap; · iexact H9
      ipureintro
      first
        | rw [if_pos h3]
          exact Whole.read_store _ _ _ _ Whole.zeros
        | rw [if_neg h3, ← Whole.readAt_all arg11.view f9 inb_S1x2048_S1x2048_0_0 Whole.zeros]
          exact Whole.read_store _ _ _ _ Whole.zeros
    iexists _; isplitr
    swap; · iexact HS
    ipureintro
    rfl

end Cert.Kernel3Ideal.Gen
end
-- ==== Proof.FfnInFrame.lean ====
/- The gradient in the input of the gated product: every run ends. Between the points the ring holds the parts of the last
   two row tiles, and the gain's gradient stays in its buffer. -/
module

public import proofs.«01_k».proof.Proof.FfnInBody

@[expose] public section

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the ring holds -/

/-- The part of the gradient in the normed rows that a point stores. -/
def part (c : Dev nD) (t : Fin cfg0.N) : Vec F S1x1x512x512 .f32 :=
  k0_pay1 (iblk m c 0 t) (iblk m c 1 t) (iblk m c 2 t) (iblk m c 3 t)

/-- The point that stored the part of a column tile of the row tile before. -/
def source (t : Fin cfg0.N) (j : Fin 4) : Fin cfg0.N := ⟨4 * (t.val / 4 - 1) + j.val, by
  have h : t.val < 68 := t.isLt
  have hj := j.isLt
  show _ < 68
  omega⟩

/-- The 128 rows of that part that a point loads. -/
def strip (c : Dev nD) (t : Fin cfg0.N) (j : Fin 4) : Vec F S1x1x128x512 .f32 := fun y =>
  part m c (source t j) (ix4 0 0 ⟨128 * (t.val % 4) + (y 2 : Fin 128).val, by
    have h : (y 2 : Fin 128).val < 128 := (y 2 : Fin 128).isLt
    omega⟩ (y 3 : Fin 512))

/-- The 128 rows of the gradient in the normed rows that a point carries through the norm. -/
def dh (c : Dev nD) (t : Fin cfg0.N) : Vec F S128x2048 .f32 :=
  k0_pay8 (k0_pay6 (strip m c t 0)) (k0_pay7 (strip m c t 1)) (strip m c t 2) (strip m c t 3)

/-- After `n` points the ring holds the parts of the last eight of them, as far as they have any. -/
def Held (c : Dev nD) (n : ℕ) (d : Vec F S2x4x512x512 .f32) : Prop :=
  ∀ t : Fin cfg0.N, t.val < 64 → t.val < n → n ≤ t.val + 8 → ∀ a b : Fin 512,
    d (ix4 ⟨t.val / 4 % 2, Nat.mod_lt _ (by decide)⟩ ⟨t.val % 4, Nat.mod_lt _ (by decide)⟩ a b) = part m c t (ix4 0 0 a b)

theorem held_step (c : Dev nD) (t : Fin cfg0.N) (d : Vec F S2x4x512x512 .f32) (h : Held m c t.val d) :
    Held m c (t.val + 1) (ring (grid0.coords t) (t.val / 4 % 2) (t.val % 4) (part m c t) d) := by
  intro s h64 hs hle a b
  unfold ring
  split
  · unfold put
    by_cases e : s.val = t.val
    · obtain rfl : s = t := Fin.ext e
      exact if_pos ⟨rfl, rfl⟩
    · refine (if_neg fun ⟨h0, h1⟩ => ?_).trans (h s h64 (by omega) (by omega) a b)
      have h0 : s.val / 4 % 2 = t.val / 4 % 2 := h0
      have h1 : s.val % 4 = t.val % 4 := h1
      omega
  · rename_i h1
    have := (stores_iff t).not.mp h1
    exact h s h64 (by omega) (by omega) a b

theorem strip_eq (c : Dev nD) (t : Fin cfg0.N) (ht : 4 ≤ t.val) (d : Vec F S2x4x512x512 .f32) (h : Held m c (t.val + 1) d) (j : Fin 4)
    (off : Fin 4 → ℕ) (inb : ∀ a, off a + S1x1x128x512.size a ≤ S2x4x512x512.size a) (ho : off = ![(t.val / 4 - 1) % 2, j.val, 128 * (t.val % 4), 0]) :
    View.ld d (Rect.unit (s := S2x4x512x512) off S1x1x128x512.size inb) = strip m c t j := by
  subst ho
  refine funext fun (y : S1x1x128x512.Idx) => ?_
  have h68 : t.val < 68 := t.isLt
  have hj := j.isLt
  have hs : (source t j).val = 4 * (t.val / 4 - 1) + j.val := rfl
  refine Eq.trans ?_ (h (source t j) (by omega) (by omega) (by omega) _ _)
  have h0 : (y 0).val < 1 := (y 0).isLt
  have h1 : (y 1).val < 1 := (y 1).isLt
  refine congrArg d (funext fun a => Fin.ext ?_)
  fin_cases a
  · show (t.val / 4 - 1) % 2 + 1 * (y 0).val = (source t j).val / 4 % 2
    omega
  · show j.val + 1 * (y 1).val = (source t j).val % 4
    omega
  · show 128 * (t.val % 4) + 1 * (y 2).val = 128 * (t.val % 4) + (y 2).val
    omega
  · show 0 + 1 * (y 3).val = (y 3).val
    omega

/-- What a point loads off such a ring. -/
theorem loaded_eq (c : Dev nD) (t : Fin cfg0.N) (ht : 4 ≤ t.val) (h2 : k0_cond2 (grid0.coords t) = 1#1) (d : Vec F S2x4x512x512 .f32)
    (h : Held m c (t.val + 1) d) : loaded (grid0.coords t) h2 d = dh m c t := by
  unfold loaded dh
  rw [strip_eq m c t ht d h 0 _ _ (off2_eq t ht), strip_eq m c t ht d h 1 _ _ (off3_eq t ht), strip_eq m c t ht d h 2 _ _ (off4_eq t ht),
    strip_eq m c t ht d h 3 _ _ (off5_eq t ht)]

/-- The point of the `n`-th 128 rows that are loaded. -/
def pt (n : ℕ) : Fin cfg0.N := ⟨(n + 4) % cfg0.N, Nat.mod_lt _ (by decide)⟩

/-- The gain's gradient over the first `n + 1` of them. -/
def gainAt (c : Dev nD) : ℕ → Vec F S1x2048 .f32
  | 0 => k0_pay4 (dh m c (pt 0)) (k0_pay10 (iblk m c 4 (pt 0)))
  | n + 1 => k0_pay5 (dh m c (pt (n + 1))) (k0_pay10 (iblk m c 4 (pt (n + 1)))) (gainAt c n)

/-- The ring between the points. -/
def Ring (c : Dev nD) (n : ℕ) : sProp 𝕄 :=
  iprop((∃ d, ⌜Held m c n d⌝ ∗ owns (c : Thread nD τ) (Memref.whole cc0_scratch0) fullShare d) ∗ ∃ r, prngReg c r)

/-- The proof data: an input's buffer at its block; the results in rows at their payloads; the gain's gradient at its sum so far. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay2 (dh m c t) (k0_pay9 (iblk m c 4 t)) (k0_pay10 (iblk m c 4 t)) (k0_pay11 (iblk m c 5 t)) (iblk m c 6 t)
    | ⟨8, _⟩ => k0_pay3 (dh m c t) (k0_pay9 (iblk m c 4 t)) (k0_pay10 (iblk m c 4 t)) (k0_pay11 (iblk m c 5 t)) (iblk m c 6 t)
    | ⟨9, _⟩ => gainAt m c (t.val - 4)
  Φ t := Ring m c t.val
  q _ := fullShare
  owed _ := 0

/-- The arrays the pipeline finds. -/
theorem A_eq (c : Dev nD) (w : Fin cfg0.W) : (dats m 0 c).A w = V m c (Pipeline.arrRef spec0 w) := by
  dsimp only [dats]

/-! What each window's buffer holds after a point, -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t
    = k0_pay2 (dh m c t) (k0_pay9 (iblk m c 4 t)) (k0_pay10 (iblk m c 4 t)) (k0_pay11 (iblk m c 5 t)) (iblk m c 6 t) := by dsimp only [dats]
theorem after0_8 (c : Dev nD) (t : Fin cfg0.N) : (dats m 0 c).after 8 t
    = k0_pay3 (dh m c t) (k0_pay9 (iblk m c 4 t)) (k0_pay10 (iblk m c 4 t)) (k0_pay11 (iblk m c 5 t)) (iblk m c 6 t) := by dsimp only [dats]
theorem after0_9 (c : Dev nD) (t : Fin cfg0.N) : (dats m 0 c).after 9 t = gainAt m c (t.val - 4) := by dsimp only [dats]

/-! and what an input's holds before it. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! During the first row tile the results' buffers are left alone. -/

theorem idle0_7 : ∀ t : Fin cfg0.N, cfg0.idle 7 (cfg0.grid.coords t) = decide (t.val < 4) := by decide +kernel
theorem idle0_8 : ∀ t : Fin cfg0.N, cfg0.idle 8 (cfg0.grid.coords t) = decide (t.val < 4) := by decide +kernel
theorem idle0_9 : ∀ t : Fin cfg0.N, cfg0.idle 9 (cfg0.grid.coords t) = decide (t.val < 4) := by decide +kernel

/-- The point before. -/
abbrev prev (t : Fin cfg0.N) : Fin cfg0.N := ⟨t.val - 1, Nat.lt_of_le_of_lt (Nat.sub_le _ _) t.isLt⟩

/-- After its first sum the gain's gradient stays in its buffer. -/
theorem before0_9 (c : Dev nD) (t : Fin cfg0.N) (ht : 4 < t.val) (d) : (dats m 0 c).before 9 t d = gainAt m c (t.val - 5) := by
  have h68 : t.val < 68 := t.isLt
  have hp : (prev t).val = t.val - 1 := rfl
  have hfl : (cfg0.win 9).flush (prev t) = false := Bool.eq_false_iff.mpr fun h => by
    have := (flush0_9 (prev t)).mp h
    omega
  have hfe : (cfg0.win 9).fetch t = false := (cfg0.win 9).fetch_out rfl t
  have hi : cfg0.idle 9 (cfg0.grid.coords (prev t)) = false := (idle0_9 (prev t)).trans (decide_eq_false (by omega))
  rw [(dats m 0 c).before_of_pos 9 t (by omega) hfe, hfl, if_neg Bool.false_ne_true]
  unfold Dat.left
  rw [hi]
  show (dats m 0 c).kept 9 (prev t) d = _
  unfold Dat.kept
  rw [after0_9]
  exact (cfg0.win 9).fill_cut (cfg0.grid.coords (prev t)) _

theorem pt_eq (t : Fin cfg0.N) (n : ℕ) (h : t.val = n + 4) : pt n = t :=
  Fin.ext ((congrArg (· % cfg0.N) h.symm).trans (Nat.mod_eq_of_lt t.isLt))

/-- The gain's gradient over the rows up to a point's. -/
theorem gain_step (c : Dev nD) (t : Fin cfg0.N) (ht : 4 ≤ t.val) (d) :
    (if k0_cond3 (grid0.coords t) = 1#1 then k0_pay4 (dh m c t) (k0_pay10 (iblk m c 4 t))
      else k0_pay5 (dh m c t) (k0_pay10 (iblk m c 4 t)) ((dats m 0 c).before 9 t d)) = gainAt m c (t.val - 4) := by
  by_cases h : t.val = 4
  · rw [if_pos ((begins_iff t).mpr h), h, Nat.sub_self, gainAt, pt_eq t 0 h]
  · rw [if_neg fun h' => h ((begins_iff t).mp h'), before0_9 m c t (by omega)]
    obtain ⟨n, hn⟩ : ∃ n, t.val = n + 1 + 4 := ⟨t.val - 5, by omega⟩
    have h5 : t.val - 5 = n := by omega
    have h4 : t.val - 4 = n + 1 := by omega
    rw [h4, h5, gainAt, pt_eq t (n + 1) hn]

/-! ## The body's obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (dats m 0 c).leavesExact 7 t
    ∗ (dats m 0 c).leavesExact 8 t
    ∗ (dats m 0 c).leavesExact 9 t)

/-- The body at a point of the first row tile. -/
theorem sound_first (c : Dev nD) (t : Fin cfg0.N) (ht : t.val < 4) :
    bodyPre m c t ⊢ wp frame (wpE (defs₀ (F := F)) Variants.none c none) Set.univ (bodyAt0 t) (fun _ => bodyPost m c t) := by
  have f7 : (cfg0.win 7).flush t = false := Bool.eq_false_iff.mpr fun h => absurd ((flush0_7 t).mp h) (by omega)
  have f8 : (cfg0.win 8).flush t = false := Bool.eq_false_iff.mpr fun h => absurd ((flush0_8 t).mp h) (by omega)
  have f9 : (cfg0.win 9).flush t = false := Bool.eq_false_iff.mpr fun h => absurd ((flush0_9 t).mp h) (by omega)
  have hi7 := (idle0_7 t).trans (decide_eq_true ht)
  have hi8 := (idle0_8 t).trans (decide_eq_true ht)
  have hi9 := (idle0_9 t).trans (decide_eq_true ht)
  unfold bodyPre bodyPost bodyAt0
  rw [(dats m 0 c).leavesExact_idle 7 t hi7 f7, (dats m 0 c).leavesExact_idle 8 t hi8 f8, (dats m 0 c).leavesExact_idle 9 t hi9 f9]
  simp only [before0_0, before0_1, before0_2, before0_3, before0_4, before0_5, before0_6]
  rw [show (dats m 0 c).Φ t.castSucc = Ring m c t.val from rfl, show (dats m 0 c).Φ t.succ = Ring m c (t.val + 1) from rfl,
    show (dats m 0 c).owesAt () t.succ = (dats m 0 c).owesAt () t.castSucc from rfl,
    after0_0, after0_1, after0_2, after0_3, after0_4, after0_5, after0_6]
  unfold Ring
  iintro ⟨⟨⟨%d, %hd, HS⟩, HP⟩, Ho, ⟨%d0, H0⟩, ⟨%d1, H1⟩, ⟨%d2, H2⟩, ⟨%d3, H3⟩, ⟨%d4, H4⟩, ⟨%d5, H5⟩, ⟨%d6, H6⟩, H7, H8, H9⟩
  iapply (sound_store c Set.univ (grid0.coords t) _ _ _ _ _ _ _ _ _ _ _ _ _ _ _ _ _ _ _ _ _ _ ((stores_iff t).mpr (by omega)) (fun h => absurd ((loads_iff t).mp h) (by omega)) _ _ (off1_eq t) (iblk m c 0 t) (iblk m c 1 t) (iblk m c 2 t) (iblk m c 3 t) d _)
  isplitl [H0]; · iexact H0
  isplitl [H1]; · iexact H1
  isplitl [H2]; · iexact H2
  isplitl [H3]; · iexact H3
  isplitl [HS]; · iexact HS
  iintro ⟨H0, H1, H2, H3, HS⟩
  isplitl [HS HP]
  · isplitl [HS]
    · iexists _; isplitr
      swap; · iexact HS
      ipureintro
      have h := held_step m c t d hd
      unfold ring at h
      rw [if_pos ((stores_iff t).mpr (by omega))] at h
      exact h
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The conditions at a later point. -/
theorem cases_later (t : Fin cfg0.N) :
    (k0_cond1 (grid0.coords t) = 1#1 ∧ k0_cond3 (grid0.coords t) = 1#1 ∧ ¬ k0_cond4 (grid0.coords t) = 1#1)
      ∨ (k0_cond1 (grid0.coords t) = 1#1 ∧ ¬ k0_cond3 (grid0.coords t) = 1#1 ∧ k0_cond4 (grid0.coords t) = 1#1)
      ∨ (¬ k0_cond1 (grid0.coords t) = 1#1 ∧ ¬ k0_cond3 (grid0.coords t) = 1#1 ∧ k0_cond4 (grid0.coords t) = 1#1) := by
  rw [stores_iff, begins_iff, adds_iff]
  omega

/-- The body at a later point. -/
theorem sound_later (c : Dev nD) (t : Fin cfg0.N) (ht : 4 ≤ t.val) :
    bodyPre m c t ⊢ wp frame (wpE (defs₀ (F := F)) Variants.none c none) Set.univ (bodyAt0 t) (fun _ => bodyPost m c t) := by
  have hi7 := (idle0_7 t).trans (decide_eq_false (Nat.not_lt.mpr ht))
  have hi8 := (idle0_8 t).trans (decide_eq_false (Nat.not_lt.mpr ht))
  have hi9 := (idle0_9 t).trans (decide_eq_false (Nat.not_lt.mpr ht))
  have e7 : (dats m 0 c).leavesExact 7 t = (owns (c : Thread nD τ) (st0_7 t) fullShare ((dats m 0 c).after 7 t) : sProp 𝕄) := by
    unfold Dat.leavesExact; rw [hi7]
  have e8 : (dats m 0 c).leavesExact 8 t = (owns (c : Thread nD τ) (st0_8 t) fullShare ((dats m 0 c).after 8 t) : sProp 𝕄) := by
    unfold Dat.leavesExact; rw [hi8]
  have e9 : (dats m 0 c).leavesExact 9 t = (owns (c : Thread nD τ) (st0_9 t) fullShare ((dats m 0 c).after 9 t) : sProp 𝕄) := by
    unfold Dat.leavesExact; rw [hi9]
  have h2 := (loads_iff t).mpr ht
  unfold bodyPre bodyPost bodyAt0
  rw [e7, e8, e9]
  simp only [before0_0, before0_1, before0_2, before0_3, before0_4, before0_5, before0_6]
  rw [show (dats m 0 c).Φ t.castSucc = Ring m c t.val from rfl, show (dats m 0 c).Φ t.succ = Ring m c (t.val + 1) from rfl,
    show (dats m 0 c).owesAt () t.succ = (dats m 0 c).owesAt () t.castSucc from rfl,
    after0_0, after0_1, after0_2, after0_3, after0_4, after0_5, after0_6, after0_7, after0_8, after0_9]
  unfold Ring
  iintro ⟨⟨⟨%d, %hd, HS⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hr := held_step m c t d hd
  rw [← gain_step m c t ht d9, ← loaded_eq m c t ht h2 _ hr]
  iapply (sound_both c Set.univ (grid0.coords t) _ _ _ _ _ _ _ _ _ _ _ _ _ _ _ _ _ _ _ _ _ _ h2 (cases_later t) _ _ _ _ (off1_eq t) (off2_eq t ht) (off3_eq t ht) (off4_eq t ht) (off5_eq t ht) (iblk m c 0 t) (iblk m c 1 t) (iblk m c 2 t) (iblk m c 3 t) (iblk m c 4 t) (iblk m c 6 t) (iblk m c 5 t) ((dats m 0 c).before 9 t d9) d _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexact H9
  isplitl [HS]; · iexact HS
  iintro ⟨H0, H1, H2, H3, H4, H5, H6, H7, H8, H9, HS⟩
  isplitl [HS HP]
  · isplitl [HS]
    · iexists _; isplitr
      swap; · iexact HS
      ipureintro
      exact hr
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The call of the body at a point. -/
theorem defs₀_row (t : Fin cfg0.N) :
    defs₀ (F := F) .tc cfg0.body (cfg0.bodyArgs t (cfg0.slots t)) = bodyAt0 t := by
  unfold defs₀; rw [Defs.onTc_tc]

/-- What the pipeline asks of the body. -/
theorem body_obligation (c : Dev nD) : BodyObligation (dats (F := F) m 0 c) (defs₀ (F := F)) Variants.none () Set.univ := fun t => by
  rw [bigSep_W0, bigSep_W0, defs₀_row]
  refine triple_restated ?_ rfl .rfl fun _ => .rfl
  exact (Nat.lt_or_ge t.val 4).elim (sound_first m c t) (sound_later m c t)

/-- Before the first point the ring may hold anything, -/
theorem ring_in (c : Dev nD) : (Pipeline.ΦA spec0 c : sProp 𝕄) ⊢ Ring m c 0 := by
  unfold Pipeline.ΦA Ring
  rw [scopedRest0_eq]
  simp only [owns_whole]
  iintro ⟨⟨%f, H⟩, HP⟩
  isplitl [H]
  · iexists f; isplitr
    · ipureintro
      exact fun t _ h => absurd h (Nat.not_lt_zero _)
    iexact H
  iexact HP

/-- and after the last one what it holds is forgotten. -/
theorem ring_out (c : Dev nD) (n : ℕ) : (Ring m c n : sProp 𝕄) ⊢ Pipeline.ΦA spec0 c := by
  unfold Pipeline.ΦA Ring
  rw [scopedRest0_eq]
  simp only [owns_whole]
  iintro ⟨⟨%f, -, H⟩, HP⟩
  isplitl [H]
  · iexists f
    iexact H
  iexact HP

set_option backward.isDefEq.respectTransparency.types false in
set_option maxHeartbeats 800000 in
/-- Every run ends, each array of the pipeline at what the library computes from the proof data. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => ring_in m c) (hout := fun c => ring_out m c _)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- Every run ends, the arguments unchanged and the semaphores back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel3Ideal.Gen
end
-- ==== Proof.Rms.lean ====
/- The root-mean-square norm of a row. -/
module

public import Idealize.ShloMosaic.Lib.Pipeline.ValueKit

@[expose] public section

noncomputable section

namespace Cert.Rms

open Idealize.ShloMosaic

/-- A row over the square root of its mean square, times the gain. -/
def rms (f g : Fin 2048 → EReal) (l : Fin 2048) : EReal :=
  f l * Ideal.rsqrt (Ideal.div (∑ k : Fin 2048, f k * f k) (Ideal.ofBits .f32 0x45000000#32) + Ideal.ofBits .f32 0x358637BD#32) * g l

theorem rms_congr {f f' g g' : Fin 2048 → EReal} (hf : ∀ k, f k = f' k) (hg : ∀ k, g k = g' k) (l : Fin 2048) : rms f g l = rms f' g' l := by
  rw [funext hf, funext hg]

end Cert.Rms

end
-- ==== Proof.NormBwd.lean ====
/- The derivative of the root-mean-square norm: the form that a body computes, and the one that differentiating the norm gives. -/
module

public import proofs.«01_k».proof.Proof.Rms
public import Mathlib.Tactic.Ring
public import Mathlib.Tactic.FieldSimp
public import Mathlib.Tactic.Positivity

@[expose] public section

noncomputable section

namespace Cert.Rms

open Idealize.ShloMosaic

/-- A row's mean square, and a little. -/
def ms (f : Fin 2048 → EReal) : EReal :=
  Ideal.div (∑ k : Fin 2048, f k * f k) (Ideal.ofBits .f32 0x45000000#32) + Ideal.ofBits .f32 0x358637BD#32

/-- A row over the root of its mean square. -/
def unit (f : Fin 2048 → EReal) (l : Fin 2048) : EReal := f l * Ideal.rsqrt (ms f)

/-- The gradient in a row, from what reaches it besides the norm and the gradient in the normed row, as a body computes it. -/
def back (d : EReal) (f g h : Fin 2048 → EReal) (l : Fin 2048) : EReal :=
  d + Ideal.rsqrt (ms f) * (h l * g l - f l * Ideal.rsqrt (ms f)
    * Ideal.div (∑ k : Fin 2048, h k * g k * (f k * Ideal.rsqrt (ms f))) (Ideal.ofBits .f32 0x45000000#32))

/-- What reaches each entry of a row through its mean square, up to the entry. -/
def through (f y : Fin 2048 → EReal) : EReal :=
  Ideal.div ((∑ k : Fin 2048, f k * y k) * (Ideal.ofBits .f32 0xBF000000#32 * Ideal.div (Ideal.rsqrt (ms f)) (ms f)))
    (Ideal.ofBits .f32 0x45000000#32)

theorem word_2048 : Ideal.ofBits .f32 0x45000000#32 = ((2048 : ℝ) : EReal) := by
  simp [Ideal.ofBits, Ideal.ieee, -EReal.coe_mul]; norm_num

theorem word_neg_half : Ideal.ofBits .f32 0xBF000000#32 = ((-(1 / 2) : ℝ) : EReal) := by
  simp [Ideal.ofBits, Ideal.ieee, -EReal.coe_mul]; norm_num

theorem word_eps : ∃ e : ℝ, 0 < e ∧ Ideal.ofBits .f32 0x358637BD#32 = (e : EReal) := by
  refine ⟨8796093 * 2 ^ (-43 : ℤ), by positivity, ?_⟩
  simp [Ideal.ofBits, Ideal.ieee, -EReal.coe_mul]

/-- A quotient by the row's length. -/
theorem div_2048 (x : EReal) : Ideal.div x (Ideal.ofBits .f32 0x45000000#32) = x * ((1 / 2048 : ℝ) : EReal) := by
  have h : ((2048 : ℝ) : EReal) ≠ 0 := by
    rw [← EReal.coe_zero]
    exact fun h => absurd (EReal.coe_injective h) (by norm_num)
  rw [word_2048, Ideal.div, if_neg h, ← EReal.coe_inv, one_div]

theorem sq_nonneg' (x : EReal) : 0 ≤ x * x := by
  induction x with
  | bot => simp
  | top => simp
  | coe x =>
    rw [← EReal.coe_mul]
    exact_mod_cast mul_self_nonneg x

/-- A mean square and a little is a positive number, or infinite. -/
theorem ms_cases (f : Fin 2048 → EReal) : ms f = ⊤ ∨ ∃ v : ℝ, 0 < v ∧ ms f = (v : EReal) := by
  obtain ⟨e, he, e'⟩ := word_eps
  unfold ms
  rw [e', div_2048]
  have h : 0 ≤ ∑ k : Fin 2048, f k * f k := Finset.sum_nonneg fun k _ => sq_nonneg' (f k)
  revert h
  generalize (∑ k : Fin 2048, f k * f k) = s
  intro h
  induction s with
  | bot => simp at h
  | top =>
    left
    rw [EReal.top_mul_coe_of_pos (by norm_num), EReal.top_add_coe]
  | coe s =>
    right
    have h : 0 ≤ s := by exact_mod_cast h
    exact ⟨s * (1 / 2048) + e, by positivity, by rw [← EReal.coe_mul, ← EReal.coe_add]⟩

/-- A factor that is a number and not negative goes into a sum. -/
theorem mul_sum_of_nonneg {ι : Type} (s : Finset ι) (f : ι → EReal) (r : ℝ) (h : 0 ≤ r) : (r : EReal) * ∑ k ∈ s, f k = ∑ k ∈ s, (r : EReal) * f k := by
  classical
  induction s using Finset.induction_on with
  | empty => simp
  | insert a s ha ih => rw [Finset.sum_insert ha, Finset.sum_insert ha, EReal.left_distrib_of_nonneg_of_ne_top (by exact_mod_cast h) (EReal.coe_ne_top r), ih]

/-- Twice a negative multiple. -/
theorem twice (t : EReal) (q : ℝ) (h : q < 0) : t * (q : EReal) + t * (q : EReal) = t * ((q + q : ℝ) : EReal) := by
  have h2 : q + q < 0 := by linarith
  induction t with
  | bot => rw [EReal.bot_mul_coe_of_neg h, EReal.bot_mul_coe_of_neg h2]; rfl
  | top => rw [EReal.top_mul_coe_of_neg h, EReal.top_mul_coe_of_neg h2]; rfl
  | coe t =>
    rw [← EReal.coe_mul, ← EReal.coe_mul, ← EReal.coe_add]
    congr 1
    ring

/-- The two forms of the derivative agree, of any extended reals. -/
theorem back_eq (d : EReal) (f g h : Fin 2048 → EReal) (l : Fin 2048) :
    d + h l * g l * Ideal.rsqrt (ms f) + f l * through f (fun k => h k * g k) + through f (fun k => h k * g k) * f l = back d f g h l := by
  unfold back through
  simp only [div_2048]
  rw [word_neg_half]
  rcases ms_cases f with e | ⟨v, hv, e⟩
  · rw [e, Ideal.rsqrt_top, Ideal.div, if_neg (by simp)]
    simp
  · have hr : Ideal.rsqrt (v : EReal) = (((Real.sqrt v)⁻¹ : ℝ) : EReal) := by
      rw [Ideal.rsqrt_coe, if_neg (not_lt.mpr hv.le), if_neg hv.ne']
    have hd (x : ℝ) : Ideal.div (x : EReal) (v : EReal) = ((x * v⁻¹ : ℝ) : EReal) := by
      rw [Ideal.div, if_neg (by exact_mod_cast hv.ne'), ← EReal.coe_inv, ← EReal.coe_mul]
    have hs : (Real.sqrt v)⁻¹ * (Real.sqrt v)⁻¹ = v⁻¹ := by
      rw [← mul_inv, Real.mul_self_sqrt hv.le]
    have hp : 0 < (Real.sqrt v)⁻¹ := inv_pos.mpr (Real.sqrt_pos.mpr hv)
    rw [e, hr, hd]
    generalize (Real.sqrt v)⁻¹ = r at *
    have hS : ∑ k : Fin 2048, h k * g k * (f k * (r : EReal)) = (r : EReal) * ∑ k : Fin 2048, f k * (h k * g k) := by
      rw [mul_sum_of_nonneg _ _ r hp.le]
      exact Finset.sum_congr rfl fun k _ => by ac_rfl
    rw [hS]
    generalize (∑ k : Fin 2048, f k * (h k * g k)) = S
    generalize h l * g l = a
    generalize f l = X
    have e1 : X * (r : EReal) * ((r : EReal) * S * ((1 / 2048 : ℝ) : EReal)) = X * S * ((r * r * (1 / 2048) : ℝ) : EReal) := by
      rw [EReal.coe_mul, EReal.coe_mul]
      ac_rfl
    have e2 : S * (((-(1 / 2) : ℝ) : EReal) * ((r * v⁻¹ : ℝ) : EReal)) * ((1 / 2048 : ℝ) : EReal) = S * ((-(1 / 2) * (r * v⁻¹) * (1 / 2048) : ℝ) : EReal) := by
      rw [EReal.coe_mul (-(1 / 2) * (r * v⁻¹)), EReal.coe_mul (-(1 / 2)), mul_assoc]
    rw [e1, e2]
    have hq : -(1 / 2) * (r * v⁻¹) * (1 / 2048) < 0 := by
      have := mul_pos hp (inv_pos.mpr hv)
      linarith
    have e3 (q : ℝ) : X * (S * (q : EReal)) = X * S * (q : EReal) := (mul_assoc _ _ _).symm
    have e4 (q : ℝ) : S * (q : EReal) * X = X * S * (q : EReal) := by ac_rfl
    rw [e3, e4]
    generalize X * S = T
    rw [add_assoc, twice T _ hq, sub_eq_add_neg, EReal.left_distrib_of_nonneg_of_ne_top (by exact_mod_cast hp.le) (EReal.coe_ne_top r), add_assoc, mul_comm a]
    congr 2
    rw [← mul_neg, ← EReal.coe_neg, mul_left_comm (r : EReal) T, ← EReal.coe_mul r]
    congr 2
    rw [hs]
    ring

end Cert.Rms

end
-- ==== Proof.FfnInBwd.lean ====
/- The gradients behind the gate and the up projection: two products with the transposed weights, and the norm's derivative. -/
module

public import proofs.«01_k».proof.Proof.FfnInFrame
public import proofs.«01_k».proof.Proof.Gen.Kernel3
public import proofs.«01_k».proof.Proof.Gen.Reference3Ideal.Run
public import proofs.«01_k».proof.Defs
public import proofs.«01_k».proof.Proof.NormBwd
public import Idealize.ShloMosaic.Lib.Pipeline.ValueKit
public import Idealize.ShloMosaic.Adequacy
public import Idealize.ShloMosaic.Init

@[expose] public section

set_option maxRecDepth 16384

noncomputable section

namespace Cert.Kernel3Ideal.Host

open Idealize.ShloMosaic Idealize.ShloMosaic.TcCoe Idealize.SL.Sem
open Cert.Rms Cert.Kernel3Ideal Cert.Kernel3Ideal.Facts₀ Cert.Kernel3Ideal.Facts

/-- What a storing point stores. -/
theorem pay1_at (p q p' q' : Vec Ideal S512x5632 .bf16) (a b : Fin 512) : Gen.k0_pay1 p q p' q' (ix4 0 0 a b)
    = ∑ k : Fin 5632, p (ix2 a k) * q (ix2 b k) + ∑ k : Fin 5632, p' (ix2 a k) * q' (ix2 b k) := by
  pointwise [Gen.k0_pay1]

/-- The four column tiles side by side. -/
theorem pay8_at (s : Fin 4 → Vec Ideal S1x1x128x512 .f32) (r : Fin 128) (l : Fin 2048) :
    Gen.k0_pay8 (Gen.k0_pay6 (s 0)) (Gen.k0_pay7 (s 1)) (s 2) (s 3) (ix2 r l)
      = s ⟨l.val / 512, by omega⟩ (ix4 0 0 r ⟨l.val % 512, Nat.mod_lt _ (by decide)⟩) := by
  have h (j : Fin 4) (b : Fin 512) (hj : j.val = l.val / 512) (hb : b.val = l.val % 512) :
      s j (ix4 0 0 r b) = s ⟨l.val / 512, by omega⟩ (ix4 0 0 r ⟨l.val % 512, Nat.mod_lt _ (by decide)⟩) := by
    have ej : j = ⟨l.val / 512, by omega⟩ := Fin.ext hj
    have eb : b = ⟨l.val % 512, Nat.mod_lt _ (by decide)⟩ := Fin.ext hb
    exact congrArg₂ (fun j b => s j (ix4 0 0 r b)) ej eb
  pointwise [Gen.k0_pay8, Gen.k0_pay6, Gen.k0_pay7]
  split
  · exact h 0 _ (by show 0 = _; omega) (by show l.val = _; omega)
  split
  · exact h 1 _ (by show 1 = _; omega) (by show l.val - 512 = _; omega)
  split
  · exact h 2 _ (by show 2 = _; omega) (by show l.val - 512 - 512 = _; omega)
  · exact h 3 _ (by show 3 = _; omega) (by show l.val - 512 - 512 - 512 = _; omega)

/-- The gradient in the rows. -/
theorem pay2_at (h x : Vec Ideal S128x2048 .f32) (g : Vec Ideal S1x2048 .f32) (d : Vec Ideal S128x2048 .f32) (r : Fin 128) (l : Fin 2048) :
    Gen.k0_pay2 h (Gen.k0_pay9 x) (Gen.k0_pay10 x) (Gen.k0_pay11 g) d (ix2 r l)
      = back (d (ix2 r l)) (fun k => x (ix2 r k)) (fun k => g (ix2 0 k)) (fun k => h (ix2 r k)) l := by
  unfold back ms
  pointwise [Gen.k0_pay2, Gen.k0_pay9, Gen.k0_pay10, Gen.k0_pay11]

/-- The gain's gradient over 128 rows. -/
theorem pay4_at (h x : Vec Ideal S128x2048 .f32) (l : Fin 2048) :
    Gen.k0_pay4 h (Gen.k0_pay10 x) (ix2 0 l) = ∑ r : Fin 128, h (ix2 r l) * unit (fun k => x (ix2 r k)) l := by
  unfold unit ms
  pointwise [Gen.k0_pay4, Gen.k0_pay9, Gen.k0_pay10]

/-- The same added to what is there. -/
theorem pay5_at (h x : Vec Ideal S128x2048 .f32) (o : Vec Ideal S1x2048 .f32) (l : Fin 2048) :
    Gen.k0_pay5 h (Gen.k0_pay10 x) o (ix2 0 l) = o (ix2 0 l) + ∑ r : Fin 128, h (ix2 r l) * unit (fun k => x (ix2 r k)) l := by
  unfold unit ms
  pointwise [Gen.k0_pay5, Gen.k0_pay4, Gen.k0_pay9, Gen.k0_pay10]

variable (m : (ℓ : Loc nD τ sig) → Buf (Elt Ideal) ℓ) (c : Dev nD)

theorem v0 : (Gen.V m c main_v0 : S8192x5632.Idx → EReal) = m ((c : Thread nD τ).loc main_arg4) := by
  unfold Gen.V
  simp only [Gen.hostOps0]
  after_results_simp <;> rfl
theorem v1 : (Gen.V m c main_v1 : S2048x5632.Idx → EReal) = m ((c : Thread nD τ).loc main_arg2) := by
  unfold Gen.V
  simp only [Gen.hostOps0]
  after_results_simp <;> rfl
theorem v2 : (Gen.V m c main_v2 : S8192x5632.Idx → EReal) = m ((c : Thread nD τ).loc main_arg5) := by
  unfold Gen.V
  simp only [Gen.hostOps0]
  after_results_simp <;> rfl
theorem v3 : (Gen.V m c main_v3 : S2048x5632.Idx → EReal) = m ((c : Thread nD τ).loc main_arg3) := by
  unfold Gen.V
  simp only [Gen.hostOps0]
  after_results_simp <;> rfl
theorem varg0 : (Gen.V m c main_arg0 : S8192x2048.Idx → EReal) = m ((c : Thread nD τ).loc main_arg0) := by
  unfold Gen.V
  simp only [Gen.hostOps0]
  after_results_simp <;> rfl
theorem varg6 : (Gen.V m c main_arg6 : S8192x2048.Idx → EReal) = m ((c : Thread nD τ).loc main_arg6) := by
  unfold Gen.V
  simp only [Gen.hostOps0]
  after_results_simp <;> rfl

/-- The gain as a row. -/
def row (x : Vec Ideal S2048 .f32) : Vec Ideal S1x2048 .f32 := shapeCast S1x2048 x Gen.shapeCasts_S2048_S1x2048

theorem row_at (x : Vec Ideal S2048 .f32) (l : Fin 2048) : row x (ix2 0 l) = x (ix1 l) := by
  pointwise [row]

theorem eq_row (y : S1x2048.Idx) : y = ix2 0 (y 1) :=
  (eq_ix2 y).trans (congrArg (fun k : Fin 1 => ix2 k (y 1 : Fin 2048)) (Subsingleton.elim (α := Fin 1) (y 0) 0))

theorem v4 : (Gen.V m c main_v4 : S1x2048.Idx → EReal) = row (m ((c : Thread nD τ).loc main_arg1)) := by
  unfold Gen.V
  simp only [Gen.hostOps0]
  after_results_simp <;> rfl

/-- The blocks of step `t`: at the first 64, row tile `t / 4` of the gradients and `t % 4` of the weights; from the fourth on, 128 rows. -/
theorem places : ∀ t : Fin cfg0.N, (t.val < 64 → win0_0.index t = ![t.val / 4, 0] ∧ win0_1.index t = ![t.val % 4, 0] ∧ win0_2.index t = ![t.val / 4, 0]
        ∧ win0_3.index t = ![t.val % 4, 0])
      ∧ (4 ≤ t.val → win0_4.index t = ![t.val - 4, 0] ∧ win0_6.index t = ![t.val - 4, 0] ∧ win0_7.index t = ![t.val - 4, 0] ∧ win0_8.index t = ![t.val - 4, 0])
      ∧ win0_5.index t = ![0, 0] ∧ win0_9.index t = ![0, 0] :=
  (by decide +kernel : ∀ t : Fin grid0.N, (t.val < 64 → win0_0.index t = ![t.val / 4, 0] ∧ win0_1.index t = ![t.val % 4, 0] ∧ win0_2.index t = ![t.val / 4, 0]
        ∧ win0_3.index t = ![t.val % 4, 0])
      ∧ (4 ≤ t.val → win0_4.index t = ![t.val - 4, 0] ∧ win0_6.index t = ![t.val - 4, 0] ∧ win0_7.index t = ![t.val - 4, 0] ∧ win0_8.index t = ![t.val - 4, 0])
      ∧ win0_5.index t = ![0, 0] ∧ win0_9.index t = ![0, 0])

theorem ltN (t : Fin cfg0.N) : t.val < 68 := t.2

theorem read0 (X : (b : Ref sig .tc) → Buf (Elt Ideal) ((c : Thread nD τ).loc b)) (t : Fin cfg0.N) (r : Fin 512) (l : Fin 5632) :
    ((cfg0.win 0).blk t).view.read (Elt Ideal) (X (Pipeline.arrRef spec0 0)) (ix2 r l) = X main_v0 ((win0_0.blk t).view.emb (ix2 r l)) := rfl

theorem blk0 (t : Fin cfg0.N) (h64 : t.val < 64) (r : Fin 512) (l : Fin 5632) :
    Gen.iblk m c 0 t (ix2 r l) = (m ((c : Thread nD τ).loc main_arg4) : S8192x5632.Idx → EReal) (ix2 ⟨t.val / 4 * 512 + r, by omega⟩ l) := by
  unfold Gen.iblk
  refine (read0 c (Gen.V m c) t r l).trans ?_
  rw [v0]
  refine congrArg _ (funext fun a => ?_)
  fin_cases a <;> apply Fin.ext <;> blk_simp [((places t).1 h64).1] <;> simp

theorem read1 (X : (b : Ref sig .tc) → Buf (Elt Ideal) ((c : Thread nD τ).loc b)) (t : Fin cfg0.N) (r : Fin 512) (l : Fin 5632) :
    ((cfg0.win 1).blk t).view.read (Elt Ideal) (X (Pipeline.arrRef spec0 1)) (ix2 r l) = X main_v1 ((win0_1.blk t).view.emb (ix2 r l)) := rfl

theorem blk1 (t : Fin cfg0.N) (h64 : t.val < 64) (r : Fin 512) (l : Fin 5632) :
    Gen.iblk m c 1 t (ix2 r l) = (m ((c : Thread nD τ).loc main_arg2) : S2048x5632.Idx → EReal) (ix2 ⟨t.val % 4 * 512 + r, by omega⟩ l) := by
  unfold Gen.iblk
  refine (read1 c (Gen.V m c) t r l).trans ?_
  rw [v1]
  refine congrArg _ (funext fun a => ?_)
  fin_cases a <;> apply Fin.ext <;> blk_simp [((places t).1 h64).2.1] <;> simp

theorem read2 (X : (b : Ref sig .tc) → Buf (Elt Ideal) ((c : Thread nD τ).loc b)) (t : Fin cfg0.N) (r : Fin 512) (l : Fin 5632) :
    ((cfg0.win 2).blk t).view.read (Elt Ideal) (X (Pipeline.arrRef spec0 2)) (ix2 r l) = X main_v2 ((win0_2.blk t).view.emb (ix2 r l)) := rfl

theorem blk2 (t : Fin cfg0.N) (h64 : t.val < 64) (r : Fin 512) (l : Fin 5632) :
    Gen.iblk m c 2 t (ix2 r l) = (m ((c : Thread nD τ).loc main_arg5) : S8192x5632.Idx → EReal) (ix2 ⟨t.val / 4 * 512 + r, by omega⟩ l) := by
  unfold Gen.iblk
  refine (read2 c (Gen.V m c) t r l).trans ?_
  rw [v2]
  refine congrArg _ (funext fun a => ?_)
  fin_cases a <;> apply Fin.ext <;> blk_simp [((places t).1 h64).2.2.1] <;> simp

theorem read3 (X : (b : Ref sig .tc) → Buf (Elt Ideal) ((c : Thread nD τ).loc b)) (t : Fin cfg0.N) (r : Fin 512) (l : Fin 5632) :
    ((cfg0.win 3).blk t).view.read (Elt Ideal) (X (Pipeline.arrRef spec0 3)) (ix2 r l) = X main_v3 ((win0_3.blk t).view.emb (ix2 r l)) := rfl

theorem blk3 (t : Fin cfg0.N) (h64 : t.val < 64) (r : Fin 512) (l : Fin 5632) :
    Gen.iblk m c 3 t (ix2 r l) = (m ((c : Thread nD τ).loc main_arg3) : S2048x5632.Idx → EReal) (ix2 ⟨t.val % 4 * 512 + r, by omega⟩ l) := by
  unfold Gen.iblk
  refine (read3 c (Gen.V m c) t r l).trans ?_
  rw [v3]
  refine congrArg _ (funext fun a => ?_)
  fin_cases a <;> apply Fin.ext <;> blk_simp [((places t).1 h64).2.2.2] <;> simp

theorem read4 (X : (b : Ref sig .tc) → Buf (Elt Ideal) ((c : Thread nD τ).loc b)) (t : Fin cfg0.N) (r : Fin 128) (l : Fin 2048) :
    ((cfg0.win 4).blk t).view.read (Elt Ideal) (X (Pipeline.arrRef spec0 4)) (ix2 r l) = X main_arg0 ((win0_4.blk t).view.emb (ix2 r l)) := rfl

theorem blk4 (t : Fin cfg0.N) (h4 : 4 ≤ t.val) (r : Fin 128) (l : Fin 2048) (a : Fin 8192) (ha : a.val = (t.val - 4) * 128 + r.val) :
    Gen.iblk m c 4 t (ix2 r l) = (m ((c : Thread nD τ).loc main_arg0) : S8192x2048.Idx → EReal) (ix2 a l) := by
  have hlt : (t.val - 4) * 128 + r.val < 8192 := ha ▸ a.isLt
  obtain rfl : a = ⟨(t.val - 4) * 128 + r.val, hlt⟩ := Fin.ext ha
  unfold Gen.iblk
  refine (read4 c (Gen.V m c) t r l).trans ?_
  rw [varg0]
  refine congrArg _ (funext fun a => ?_)
  fin_cases a <;> apply Fin.ext <;> blk_simp [((places t).2.1 h4).1] <;> simp

theorem read5 (X : (b : Ref sig .tc) → Buf (Elt Ideal) ((c : Thread nD τ).loc b)) (t : Fin cfg0.N) (r : Fin 1) (l : Fin 2048) :
    ((cfg0.win 5).blk t).view.read (Elt Ideal) (X (Pipeline.arrRef spec0 5)) (ix2 r l) = X main_v4 ((win0_5.blk t).view.emb (ix2 r l)) := rfl

theorem blk5 (t : Fin cfg0.N) (r : Fin 1) (l : Fin 2048) :
    Gen.iblk m c 5 t (ix2 r l) = (row (m ((c : Thread nD τ).loc main_arg1)) : S1x2048.Idx → EReal) (ix2 r l) := by
  unfold Gen.iblk
  refine (read5 c (Gen.V m c) t r l).trans ?_
  rw [v4]
  refine congrArg _ (funext fun a => ?_)
  fin_cases a <;> apply Fin.ext <;> blk_simp [(places t).2.2.1] <;> simp

theorem read6 (X : (b : Ref sig .tc) → Buf (Elt Ideal) ((c : Thread nD τ).loc b)) (t : Fin cfg0.N) (r : Fin 128) (l : Fin 2048) :
    ((cfg0.win 6).blk t).view.read (Elt Ideal) (X (Pipeline.arrRef spec0 6)) (ix2 r l) = X main_arg6 ((win0_6.blk t).view.emb (ix2 r l)) := rfl

theorem blk6 (t : Fin cfg0.N) (h4 : 4 ≤ t.val) (r : Fin 128) (l : Fin 2048) (a : Fin 8192) (ha : a.val = (t.val - 4) * 128 + r.val) :
    Gen.iblk m c 6 t (ix2 r l) = (m ((c : Thread nD τ).loc main_arg6) : S8192x2048.Idx → EReal) (ix2 a l) := by
  have hlt : (t.val - 4) * 128 + r.val < 8192 := ha ▸ a.isLt
  obtain rfl : a = ⟨(t.val - 4) * 128 + r.val, hlt⟩ := Fin.ext ha
  unfold Gen.iblk
  refine (read6 c (Gen.V m c) t r l).trans ?_
  rw [varg6]
  refine congrArg _ (funext fun a => ?_)
  fin_cases a <;> apply Fin.ext <;> blk_simp [((places t).2.1 h4).2.1] <;> simp

/-- A product with transposed weights. -/
def ct (d : S8192x5632.Idx → EReal) (w : S2048x5632.Idx → EReal) (a : Fin 8192) (b : Fin 2048) : EReal :=
  ∑ k : Fin 5632, d (ix2 a k) * w (ix2 b k)

/-- The gradient in the normed rows. -/
def dh (wg wu : S2048x5632.Idx → EReal) (dg du : S8192x5632.Idx → EReal) (a : Fin 8192) (b : Fin 2048) : EReal := ct dg wg a b + ct du wu a b

/-- The same, of the launch contents. -/
def dhm (a : Fin 8192) (b : Fin 2048) : EReal :=
  dh (m ((c : Thread nD τ).loc main_arg2)) (m ((c : Thread nD τ).loc main_arg3)) (m ((c : Thread nD τ).loc main_arg4)) (m ((c : Thread nD τ).loc main_arg5)) a b

/-- A part that a point stores is the gradient at its place. -/
theorem part_eq (t : Fin cfg0.N) (h64 : t.val < 64) (r l : Fin 512) (a : Fin 8192) (b : Fin 2048)
    (ha : a.val = t.val / 4 * 512 + r.val) (hb : b.val = t.val % 4 * 512 + l.val) : Gen.part m c t (ix4 0 0 r l) = dhm m c a b := by
  have ha' : t.val / 4 * 512 + r.val < 8192 := ha ▸ a.isLt
  have hb' : t.val % 4 * 512 + l.val < 2048 := hb ▸ b.isLt
  obtain rfl : a = ⟨t.val / 4 * 512 + r.val, ha'⟩ := Fin.ext ha
  obtain rfl : b = ⟨t.val % 4 * 512 + l.val, hb'⟩ := Fin.ext hb
  unfold Gen.part
  refine (pay1_at _ _ _ _ r l).trans (congrArg₂ (· + ·) ?_ ?_)
  · exact Finset.sum_congr rfl fun k _ => congrArg₂ (· * ·) (blk0 m c t h64 r k) (blk1 m c t h64 l k)
  · exact Finset.sum_congr rfl fun k _ => congrArg₂ (· * ·) (blk2 m c t h64 r k) (blk3 m c t h64 l k)

/-- The rows that a point carries through the norm are the gradient's. -/
theorem rows_eq (t : Fin cfg0.N) (h4 : 4 ≤ t.val) (r : Fin 128) (l : Fin 2048) (a : Fin 8192) (ha : a.val = (t.val - 4) * 128 + r.val) :
    Gen.dh m c t (ix2 r l) = dhm m c a l := by
  have ht := ltN t
  unfold Gen.dh
  refine (pay8_at (Gen.strip m c t) r l).trans ?_
  have hs : (Gen.source t ⟨l.val / 512, by omega⟩).val = 4 * (t.val / 4 - 1) + l.val / 512 := rfl
  unfold Gen.strip
  refine part_eq m c _ (by omega) _ _ a l ?_ ?_
  · show a.val = _ / 4 * 512 + (128 * (t.val % 4) + r.val)
    omega
  · show l.val = _ % 4 * 512 + l.val % 512
    omega

/-- The gradient in the rows. -/
def dx (a : Fin 8192) (b : Fin 2048) : EReal :=
  back ((m ((c : Thread nD τ).loc main_arg6) : S8192x2048.Idx → EReal) (ix2 a b)) (fun k => (m ((c : Thread nD τ).loc main_arg0) : S8192x2048.Idx → EReal) (ix2 a k))
    (fun k => (m ((c : Thread nD τ).loc main_arg1) : S2048.Idx → EReal) (ix1 k)) (dhm m c a) b

theorem back_congr {d d' : EReal} {f f' g g' h h' : Fin 2048 → EReal} (hd : d = d') (hf : ∀ k, f k = f' k) (hg : ∀ k, g k = g' k) (hh : ∀ k, h k = h' k)
    (l : Fin 2048) : back d f g h l = back d' f' g' h' l := by
  rw [hd, funext hf, funext hg, funext hh]

/-- What a point stores of it. -/
theorem dx_eq (t : Fin cfg0.N) (h4 : 4 ≤ t.val) (i : S128x2048.Idx) (a : Fin 8192) (b : Fin 2048)
    (ha : a.val = (t.val - 4) * 128 + (i 0).val) (hb : b.val = (i 1).val) :
    Gen.k0_pay2 (Gen.dh m c t) (Gen.k0_pay9 (Gen.iblk m c 4 t)) (Gen.k0_pay10 (Gen.iblk m c 4 t)) (Gen.k0_pay11 (Gen.iblk m c 5 t)) (Gen.iblk m c 6 t) i = dx m c a b := by
  obtain rfl : b = (i 1 : Fin 2048) := Fin.ext hb
  refine (congrArg (Gen.k0_pay2 _ _ _ _ _) (eq_ix2 i)).trans ((pay2_at _ _ _ _ (i 0) (i 1)).trans ?_)
  exact back_congr (blk6 m c t h4 (i 0) (i 1) a ha) (fun k => blk4 m c t h4 (i 0) k a ha) (fun k => (blk5 m c t 0 k).trans (row_at _ k))
    (fun k => rows_eq m c t h4 (i 0) k a ha) (i 1)

/-- Result 0: the gradient in the rows. -/
def res7 (i : S8192x2048.Idx) : EReal := dx m c (i 0) (i 1)

/-- Result 0 after the run. -/
theorem final7 (i : S8192x2048.Idx) : (Gen.dats m 0 c).arrAt 7 cfg0.N i = res7 m c i := by
  refine congrFun ((Gen.dats m 0 c).arrAt_eq_of_covers 7 (res7 m c) (by decide +kernel) fun t hf y => ?_) i
  have h4 : 4 ≤ t.val := (Gen.flush0_7 t).mp hf
  have e := ((places t).2.1 h4).2.2.1
  rw [Gen.after0_7]
  have h0 : (((cfg0.win 7).blk t).view.emb y 0).val = (t.val - 4) * 128 + (y 0).val := by blk_simp [e] <;> simp
  have h1 : (((cfg0.win 7).blk t).view.emb y 1).val = (y 1).val := by blk_simp [e] <;> simp
  have h := dx_eq m c t h4 y _ _ h0 h1
  generalize Gen.k0_pay2 (Gen.dh m c t) (Gen.k0_pay9 (Gen.iblk m c 4 t)) (Gen.k0_pay10 (Gen.iblk m c 4 t)) (Gen.k0_pay11 (Gen.iblk m c 5 t)) (Gen.iblk m c 6 t) = z at h ⊢
  exact h

theorem pay3_at (h x : Vec Ideal S128x2048 .f32) (g : Vec Ideal S1x2048 .f32) (d : Vec Ideal S128x2048 .f32) (i : S128x2048.Idx) :
    Gen.k0_pay3 h (Gen.k0_pay9 x) (Gen.k0_pay10 x) (Gen.k0_pay11 g) d i = Gen.k0_pay2 h (Gen.k0_pay9 x) (Gen.k0_pay10 x) (Gen.k0_pay11 g) d i := rfl

/-- Result 1 after the run: the same. -/
theorem final8 (i : S8192x2048.Idx) : (Gen.dats m 0 c).arrAt 8 cfg0.N i = res7 m c i := by
  refine congrFun ((Gen.dats m 0 c).arrAt_eq_of_covers 8 (res7 m c) (by decide +kernel) fun t hf y => ?_) i
  have h4 : 4 ≤ t.val := (Gen.flush0_8 t).mp hf
  have e := ((places t).2.1 h4).2.2.2
  rw [Gen.after0_8]
  have h0 : (((cfg0.win 8).blk t).view.emb y 0).val = (t.val - 4) * 128 + (y 0).val := by blk_simp [e] <;> simp
  have h1 : (((cfg0.win 8).blk t).view.emb y 1).val = (y 1).val := by blk_simp [e] <;> simp
  have h := (pay3_at _ _ _ _ y).trans (dx_eq m c t h4 y _ _ h0 h1)
  generalize Gen.k0_pay3 (Gen.dh m c t) (Gen.k0_pay9 (Gen.iblk m c 4 t)) (Gen.k0_pay10 (Gen.iblk m c 4 t)) (Gen.k0_pay11 (Gen.iblk m c 5 t)) (Gen.iblk m c 6 t) = z at h ⊢
  exact h

/-- What a row adds to the gain's gradient. -/
def term (l : Fin 2048) (n : ℕ) : EReal :=
  if h : n < 8192 then dhm m c ⟨n, h⟩ l * unit (fun k => (m ((c : Thread nD τ).loc main_arg0) : S8192x2048.Idx → EReal) (ix2 ⟨n, h⟩ k)) l else 0

theorem unit_congr {f f' : Fin 2048 → EReal} (hf : ∀ k, f k = f' k) (l : Fin 2048) : unit f l = unit f' l := by
  rw [funext hf]

/-- What 128 rows add to it. -/
theorem sum_eq (n : ℕ) (hn : n < 64) (l : Fin 2048) :
    ∑ r : Fin 128, Gen.dh m c (Gen.pt n) (ix2 r l) * unit (fun k => Gen.iblk m c 4 (Gen.pt n) (ix2 r k)) l = ∑ r ∈ Finset.range 128, term m c l (n * 128 + r) := by
  rw [Finset.sum_range]
  have hp : (Gen.pt n).val = n + 4 := Nat.mod_eq_of_lt (by show n + 4 < 68; omega)
  refine Finset.sum_congr rfl fun r _ => ?_
  have hr : n * 128 + r.val < 8192 := by omega
  have ha : (⟨n * 128 + r.val, hr⟩ : Fin 8192).val = ((Gen.pt n).val - 4) * 128 + r.val := by show n * 128 + r.val = _; omega
  unfold term
  rw [dif_pos hr]
  exact congrArg₂ (· * ·) (rows_eq m c _ (by omega) r l _ ha) (unit_congr (fun k => blk4 m c _ (by omega) r k _ ha) l)

/-- The gain's gradient over the first rows. -/
theorem gain_eq (n : ℕ) (hn : n < 64) (l : Fin 2048) : Gen.gainAt m c n (ix2 0 l) = ∑ a ∈ Finset.range ((n + 1) * 128), term m c l a := by
  induction n with
  | zero =>
    unfold Gen.gainAt
    refine (pay4_at _ _ l).trans ((sum_eq m c 0 hn l).trans ?_)
    simp only [Nat.zero_mul, Nat.zero_add, Nat.one_mul]
  | succ n ih =>
    unfold Gen.gainAt
    refine (pay5_at _ _ _ l).trans ?_
    rw [ih (by omega), sum_eq m c (n + 1) hn l, show (n + 1 + 1) * 128 = (n + 1) * 128 + 128 by ring, Finset.sum_range_add]

/-- Result 2: the gain's gradient. -/
def dgain (l : Fin 2048) : EReal :=
  ∑ a : Fin 8192, dhm m c a l * unit (fun k => (m ((c : Thread nD τ).loc main_arg0) : S8192x2048.Idx → EReal) (ix2 a k)) l

theorem gain_all (l : Fin 2048) : Gen.gainAt m c 63 (ix2 0 l) = dgain m c l := by
  refine (gain_eq m c 63 (by decide) l).trans ?_
  rw [show (63 + 1) * 128 = 8192 by norm_num, Finset.sum_range]
  exact Finset.sum_congr rfl fun a _ => dif_pos a.isLt

def res9 (i : S1x2048.Idx) : EReal := dgain m c (i 1)

/-- Result 2 after the run. -/
theorem final9 (i : S1x2048.Idx) : (Gen.dats m 0 c).arrAt 9 cfg0.N i = res9 m c i := by
  refine congrFun ((Gen.dats m 0 c).arrAt_eq_of_covers 9 (res9 m c) (by decide +kernel) fun t hf y => ?_) i
  have ht := ltN t
  have h67 : t.val - 4 = 63 := by
    have := (Gen.flush0_9 t).mp hf
    omega
  have e := (places t).2.2.2
  rw [Gen.after0_9, h67]
  have h1 : (((cfg0.win 9).blk t).view.emb y 1).val = (y 1).val := by blk_simp [e] <;> simp
  have e1 : ((cfg0.win 9).blk t).view.emb y 1 = (y 1 : Fin 2048) := Fin.ext h1
  have h := (congrArg (Gen.gainAt m c 63) (eq_row y)).trans (gain_all m c (y 1))
  unfold res9
  rw [e1]
  generalize Gen.gainAt m c 63 = z at h ⊢
  exact h

variable {F : FTy → Type} [FloatOps F] in
/-- The run, each result named. -/
theorem run_blocks (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v5_0) = (Gen.dats m 0 c).arrAt 7 cfg0.N
      ∧ r.2.mem ((c : Thread nD τ).loc main_v5_1) = (Gen.dats m 0 c).arrAt 8 cfg0.N
      ∧ r.2.mem ((c : Thread nD τ).loc main_v5_2) = (Gen.dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h.1 c).1 7, (h.1 c).1 8, (h.1 c).1 9, h.2 c⟩)
    (θ_run_and (Gen.run_main m ρ) (Gen.unchanged m ρ))

end Cert.Kernel3Ideal.Host

namespace Cert.Reference3Ideal.Host

open Idealize.ShloMosaic Idealize.ShloMosaic.TcCoe
open Cert.Rms Cert.Reference3Ideal Cert.Reference3Ideal.Facts

/-- The rows' mean squares and a little. -/
def sq (x : FVec Ideal S8192x2048 .f32) : FVec Ideal S8192x1 .f32 :=
  addf (Host.divf (broadcastInDim S8192x1 ![0] Gen.bcast_S8192_S8192x1_0 (Host.reduceAdd (mulf x x) (constant S_ .f32 0x00000000#32)
    Gen.reducesTo_S8192x2048_S8192_d1 Gen.h_S_)) (broadcastInDim S8192x1 ![] Gen.bcast_S_S8192x1 (constant S_ .f32 0x45000000#32)))
    (broadcastInDim S8192x1 ![] Gen.bcast_S_S8192x1 (constant S_ .f32 0x358637BD#32))

/-- The gradient in the normed rows. -/
def dh (wg wu : FVec Ideal S2048x5632 .f32) (dg du : FVec Ideal S8192x5632 .f32) : FVec Ideal S8192x2048 .f32 :=
  addf (Host.dotGeneral dot_S8192x5632_S2048x5632_S8192x2048_1_1_0_0_n_n none du wu)
    (Host.dotGeneral dot_S8192x5632_S2048x5632_S8192x2048_1_1_0_0_n_n none dg wg)

/-- The same times the gain. -/
def dy (h : FVec Ideal S8192x2048 .f32) (g : FVec Ideal S2048 .f32) : FVec Ideal S8192x2048 .f32 :=
  mulf h (broadcastInDim S8192x2048 ![0, 1] Gen.bcast_S1x2048_S8192x2048_0_1 (broadcastInDim S1x2048 ![1] Gen.bcast_S2048_S1x2048_1 g))

/-- What reaches the entries of each row through its mean square, up to the entry. -/
def half (x : FVec Ideal S8192x2048 .f32) (v : FVec Ideal S8192x1 .f32) (y : FVec Ideal S8192x2048 .f32) : FVec Ideal S8192x2048 .f32 :=
  broadcastInDim S8192x2048 ![0] Gen.bcast_S8192_S8192x2048_0 (Host.reduceAdd (Host.divf (mulf (shapeCast _ (Host.reduceAdd (mulf x y)
    (constant S_ .f32 0x00000000#32) Gen.reducesTo_S8192x2048_S8192_d1 Gen.h_S_) Gen.shapeCasts_S8192_S8192x1)
    (mulf (broadcastInDim S8192x1 ![] Gen.bcast_S_S8192x1 (constant S_ .f32 0xBF000000#32)) (Host.divf (Host.rsqrt v) v)))
    (broadcastInDim S8192x1 ![] Gen.bcast_S_S8192x1 (constant S_ .f32 0x45000000#32))) (constant S_ .f32 0x00000000#32)
    Gen.reducesTo_S8192x1_S8192_d1 Gen.h_S_)

/-- The gradient in the rows. -/
def out0 (x d y : FVec Ideal S8192x2048 .f32) (v : FVec Ideal S8192x1 .f32) : FVec Ideal S8192x2048 .f32 :=
  addf (addf (addf d (mulf y (broadcastInDim S8192x2048 ![0, 1] Gen.bcast_S8192x1_S8192x2048_0_1 (Host.rsqrt v)))) (mulf x (half x v y)))
    (mulf (half x v y) x)

/-- The gain's gradient. -/
def out2 (x h : FVec Ideal S8192x2048 .f32) (v : FVec Ideal S8192x1 .f32) : FVec Ideal S1x2048 .f32 :=
  shapeCast _ (Host.reduceAdd (shapeCast _ (Host.reduceAdd (mulf (mulf x (broadcastInDim S8192x2048 ![0, 1] Gen.bcast_S8192x1_S8192x2048_0_1
    (Host.rsqrt v))) h) (constant S_ .f32 0x00000000#32) Gen.reducesTo_S8192x2048_S2048_d0 Gen.h_S_) Gen.shapeCasts_S2048_S1x2048)
    (constant S_ .f32 0x00000000#32) Gen.reducesTo_S1x2048_S2048_d0 Gen.h_S_) Gen.shapeCasts_S2048_S1x2048

theorem sq_at (x : FVec Ideal S8192x2048 .f32) (a : Fin 8192) : sq x (ix2 a 0) = ms (fun k => x (ix2 a k)) := by
  unfold ms
  pointwise [sq]

theorem dh_at (wg wu : FVec Ideal S2048x5632 .f32) (dg du : FVec Ideal S8192x5632 .f32) (a : Fin 8192) (l : Fin 2048) :
    dh wg wu dg du (ix2 a l) = Cert.Kernel3Ideal.Host.dh wg wu dg du a l := by
  unfold Cert.Kernel3Ideal.Host.dh Cert.Kernel3Ideal.Host.ct
  rw [add_comm]
  pointwise [dh]

theorem dy_at (h : FVec Ideal S8192x2048 .f32) (g : FVec Ideal S2048 .f32) (a : Fin 8192) (l : Fin 2048) : dy h g (ix2 a l) = h (ix2 a l) * g (ix1 l) := by
  pointwise [dy]

theorem half_at (x y : FVec Ideal S8192x2048 .f32) (v : FVec Ideal S8192x1 .f32) (a : Fin 8192) (l : Fin 2048) (hv : v (ix2 a 0) = ms (fun k => x (ix2 a k))) :
    half x v y (ix2 a l) = through (fun k => x (ix2 a k)) (fun k => y (ix2 a k)) := by
  unfold through
  rw [← hv]
  pointwise [half]
  exact Fin.sum_univ_one _

theorem out0_at (x d y : FVec Ideal S8192x2048 .f32) (v : FVec Ideal S8192x1 .f32) (a : Fin 8192) (l : Fin 2048) :
    out0 x d y v (ix2 a l) = d (ix2 a l) + y (ix2 a l) * Ideal.rsqrt (v (ix2 a 0)) + x (ix2 a l) * half x v y (ix2 a l) + half x v y (ix2 a l) * x (ix2 a l) := by
  pointwise [out0]

theorem out2_at (x h : FVec Ideal S8192x2048 .f32) (v : FVec Ideal S8192x1 .f32) (l : Fin 2048) :
    out2 x h v (ix2 0 l) = ∑ a : Fin 8192, x (ix2 a l) * Ideal.rsqrt (v (ix2 a 0)) * h (ix2 a l) := by
  pointwise [out2]
  exact Fin.sum_univ_one _

/-- The gradient in the rows is the kernel's. -/
theorem dx_at (x d h : FVec Ideal S8192x2048 .f32) (g : FVec Ideal S2048 .f32) (f : Fin 8192 → Fin 2048 → EReal) (hh : ∀ a l, h (ix2 a l) = f a l)
    (a : Fin 8192) (l : Fin 2048) :
    out0 x d (dy h g) (sq x) (ix2 a l) = back (d (ix2 a l)) (fun k => x (ix2 a k)) (fun k => g (ix1 k)) (f a) l := by
  rw [out0_at, half_at x _ _ a l (sq_at x a), sq_at, funext fun k => dy_at h g a k, dy_at, funext fun k => congrArg (· * g (ix1 k)) (hh a k), hh]
  exact back_eq (d (ix2 a l)) (fun k => x (ix2 a k)) (fun k => g (ix1 k)) (f a) l

/-- The gain's gradient is the kernel's. -/
theorem dg_at (x h : FVec Ideal S8192x2048 .f32) (f : Fin 8192 → Fin 2048 → EReal) (hh : ∀ a l, h (ix2 a l) = f a l) (l : Fin 2048) :
    out2 x h (sq x) (ix2 0 l) = ∑ a : Fin 8192, f a l * unit (fun k => x (ix2 a k)) l := by
  rw [out2_at]
  refine Finset.sum_congr rfl fun a _ => ?_
  rw [sq_at, hh, mul_comm]
  rfl

/-- The gradient in the rows as the run names it, -/
theorem res0_eq (m : (ℓ : Loc nD τ sig) → Buf (Elt Ideal) ℓ) (c : Dev nD) : Value.res_out0 m c
    = out0 (m ((c : Thread nD τ).loc main_arg0)) (m ((c : Thread nD τ).loc main_arg6)) (dy (dh (m ((c : Thread nD τ).loc main_arg2)) (m ((c : Thread nD τ).loc main_arg3))
      (m ((c : Thread nD τ).loc main_arg4)) (m ((c : Thread nD τ).loc main_arg5))) (m ((c : Thread nD τ).loc main_arg1))) (sq (m ((c : Thread nD τ).loc main_arg0))) := rfl

/-- and in the second format. -/
theorem res1_eq (m : (ℓ : Loc nD τ sig) → Buf (Elt Ideal) ℓ) (c : Dev nD) (i : S8192x2048.Idx) : Value.res_out1 m c i = Value.res_out0 m c i := rfl

end Cert.Reference3Ideal.Host

namespace Cert.Proof.FfnInBwd

open Idealize.ShloMosaic Idealize.ShloMosaic.TcCoe Idealize.SL.Sem

/-- The idealized kernel has the kernel's body: nothing of it is rewritten. -/
theorem body_eq : Cert.Kernel3.defs₀ (F := Bits) = Cert.Kernel3Ideal.defs₀ (F := Bits) := by
  refine congrArg Defs.onTc (funext fun l => funext fun a => ?_)
  match l, a with
  | 0, (t, s) => with_unfolding_all rfl
  | ⟨_ + 1, h⟩, _ => exact absurd h (Nat.not_lt.2 (Nat.le_add_left _ _))

theorem defs_eq : Cert.Kernel3.defs (F := Bits) = Cert.Kernel3Ideal.defs (F := Bits) :=
  congrArg (Pipeline.defs Cert.Kernel3.pcfgs) body_eq

/-- The kernel ends, whatever its arguments hold, with its semaphores back at zero. -/
theorem frame_p : Cert.quiescent_Kernel3 (hKernel3 := Cert.Kernel3.Gen.facts) := fun m ρ _ => by
  have h := Cert.Kernel3Ideal.Gen.frame (F := Bits) m ρ
  rw [← defs_eq] at h
  exact h

/-- The same of the idealized kernel. -/
theorem frame_pi : Cert.quiescent_Kernel3Ideal := fun m ρ _ => Cert.Kernel3Ideal.Gen.frame m ρ

/-- The reference ends. -/
theorem frame_ri : Cert.quiescent_Reference3Ideal := fun m ρ _ =>
  (θ_run Cert.Reference3Ideal.defs _ _).mono (fun r h => ⟨fun c => (h c).2.2.2,
      Idealize.ShloMosaic.sem_eq_zero_of_no_sems (by decide) r.2⟩)
    (Cert.Reference3Ideal.Value.run (F := Ideal) m ρ)

/-- The kernel's three results are the reference's. -/
theorem algebraic : Cert.algebraic_Kernel3Ideal_Reference3Ideal (hKernel3Ideal := Cert.Kernel3Ideal.Gen.facts)
    (hReference3Ideal := Cert.Reference3Ideal.Gen.facts) := by
  intro m ρ m' ρ' _ ha
  refine ⟨_, _, _, (θ_run Cert.Kernel3Ideal.defs _ _).mono (fun _ h => h) (Cert.Kernel3Ideal.Host.run_blocks (F := Ideal) m ρ), ?_⟩
  refine (θ_run Cert.Reference3Ideal.defs _ _).mono (fun r h c => ?_) (Cert.Reference3Ideal.Value.run (F := Ideal) m' ρ')
  obtain ⟨h0, h1, h2, ha'⟩ := h c
  obtain ⟨a0, a1, a2, a3, a4, a5, a6⟩ := ha c
  have e (i : Cert.Kernel3Ideal.S8192x2048.Idx) : Cert.Reference3Ideal.Value.res_out0 m' c i = Cert.Kernel3Ideal.Host.res7 m c i := by
    rw [Cert.Reference3Ideal.Host.res0_eq, a0, a1, a2, a3, a4, a5, a6, eq_ix2 i]
    exact Cert.Reference3Ideal.Host.dx_at _ _ _ _ _ (Cert.Reference3Ideal.Host.dh_at _ _ _ _) (i 0) (i 1)
  refine ⟨h0.trans ?_, h1.trans ?_, h2.trans ?_, ha'⟩
  · funext i
    exact (e i).trans (Cert.Kernel3Ideal.Host.final7 m c i).symm
  · funext i
    exact ((Cert.Reference3Ideal.Host.res1_eq m' c i).trans (e i)).trans (Cert.Kernel3Ideal.Host.final8 m c i).symm
  · funext i
    refine Eq.trans ?_ (Cert.Kernel3Ideal.Host.final9 m c i).symm
    rw [a0, a2, a3, a4, a5]
    rw [Cert.Kernel3Ideal.Host.eq_row i]
    exact Cert.Reference3Ideal.Host.dg_at _ _ _ (Cert.Reference3Ideal.Host.dh_at _ _ _ _) (i 1)

end Cert.Proof.FfnInBwd

end
-- ==== Proof.GradDown.lean ====
/- The gradient of w_down: a product accumulated over four blocks of tokens. -/
module

public import proofs.«01_k».proof.Proof.Gen.Kernel4.Frame
public import proofs.«01_k».proof.Proof.Gen.Kernel4Ideal.Value
public import proofs.«01_k».proof.Proof.Gen.Reference4Ideal.Run
public import proofs.«01_k».proof.Defs
public import Idealize.ShloMosaic.Lib.Pipeline.ValueKit
public import Idealize.ShloMosaic.Adequacy
public import Idealize.ShloMosaic.Init

@[expose] public section

set_option maxRecDepth 16384

noncomputable section

namespace Cert.Kernel4Ideal.Host

open Idealize.ShloMosaic Idealize.ShloMosaic.TcCoe
open Cert.Kernel4Ideal Cert.Kernel4Ideal.Facts₀ Cert.Kernel4Ideal.Facts

/-- The first block of tokens stores its own product. -/
theorem pay1_at (x : Vec Ideal S2048x1408 .bf16) (y : Vec Ideal S2048x1024 .bf16) (j : Fin 1408) (l : Fin 1024) :
    Gen.k0_pay1 x y (ix2 j l) = ∑ r : Fin 2048, x (ix2 r j) * y (ix2 r l) := by
  pointwise [Gen.k0_pay1]

/-- A later block of tokens adds its product to what is there. -/
theorem pay2_at (x : Vec Ideal S2048x1408 .bf16) (y : Vec Ideal S2048x1024 .bf16) (z : Vec Ideal S1408x1024 .f32) (j : Fin 1408) (l : Fin 1024) :
    Gen.k0_pay2 x y z (ix2 j l) = z (ix2 j l) + ∑ r : Fin 2048, x (ix2 r j) * y (ix2 r l) := by
  pointwise [Gen.k0_pay2, Gen.k0_pay1]

variable (m : (ℓ : Loc nD τ sig) → Buf (Elt Ideal) ℓ) (c : Dev nD)

theorem v0 : (Gen.V m c main_v0 : S8192x5632.Idx → EReal) = m ((c : Thread nD τ).loc main_arg0) := by
  unfold Gen.V
  simp only [Gen.hostOps0]
  after_results_simp <;> rfl
theorem v1 : (Gen.V m c main_v1 : S8192x2048.Idx → EReal) = m ((c : Thread nD τ).loc main_arg2) := by
  unfold Gen.V
  simp only [Gen.hostOps0]
  after_results_simp <;> rfl

theorem read0 (X : (b : Ref sig .tc) → Buf (Elt Ideal) ((c : Thread nD τ).loc b)) (t : Fin cfg0.N) (r : Fin 2048) (l : Fin 1408) :
    ((cfg0.win 0).blk t).view.read (Elt Ideal) (X (Pipeline.arrRef spec0 0)) (ix2 r l) = X main_v0 ((win0_0.blk t).view.emb (ix2 r l)) := rfl
theorem read1 (X : (b : Ref sig .tc) → Buf (Elt Ideal) ((c : Thread nD τ).loc b)) (t : Fin cfg0.N) (r : Fin 2048) (l : Fin 1024) :
    ((cfg0.win 1).blk t).view.read (Elt Ideal) (X (Pipeline.arrRef spec0 1)) (ix2 r l) = X main_v1 ((win0_1.blk t).view.emb (ix2 r l)) := rfl

/-- The blocks of step `t`: block `t % 4` of the tokens, tile `t / 8` of the rows and `t / 4 % 2` of the columns. -/
theorem places : ∀ t : Fin cfg0.N, win0_0.index t = ![t.val % 4, t.val / 8] ∧ win0_1.index t = ![t.val % 4, t.val / 4 % 2]
    ∧ win0_2.index t = ![t.val / 8, t.val / 4 % 2] :=
  (by decide +kernel : ∀ t : Fin grid0.N, win0_0.index t = ![t.val % 4, t.val / 8] ∧ win0_1.index t = ![t.val % 4, t.val / 4 % 2]
    ∧ win0_2.index t = ![t.val / 8, t.val / 4 % 2])

/-- The product of row `a` of the transposed first array with column `b` of the second. -/
def prod (x : S8192x5632.Idx → EReal) (y : S8192x2048.Idx → EReal) (a : Fin 5632) (b : Fin 2048) : EReal :=
  ∑ k : Fin 8192, x (ix2 k a) * y (ix2 k b)

theorem lt32 (t : Fin cfg0.N) : t.val < 32 := t.2

theorem blk0 (t : Fin cfg0.N) (r : Fin 2048) (l : Fin 1408) :
    Gen.iblk m c 0 t (ix2 r l) = (m ((c : Thread nD τ).loc main_arg0) : S8192x5632.Idx → EReal)
      (ix2 ⟨t.val % 4 * 2048 + r, by omega⟩ ⟨t.val / 8 * 1408 + l, by have := lt32 t; omega⟩) := by
  unfold Gen.iblk
  refine (read0 c (Gen.V m c) t r l).trans ?_
  rw [v0]
  refine congrArg _ (funext fun a => ?_)
  fin_cases a <;> apply Fin.ext <;> blk_simp [(places t).1] <;> simp

theorem blk1 (t : Fin cfg0.N) (r : Fin 2048) (l : Fin 1024) :
    Gen.iblk m c 1 t (ix2 r l) = (m ((c : Thread nD τ).loc main_arg2) : S8192x2048.Idx → EReal)
      (ix2 ⟨t.val % 4 * 2048 + r, by omega⟩ ⟨t.val / 4 % 2 * 1024 + l, by omega⟩) := by
  unfold Gen.iblk
  refine (read1 c (Gen.V m c) t r l).trans ?_
  rw [v1]
  refine congrArg _ (funext fun a => ?_)
  fin_cases a <;> apply Fin.ext <;> blk_simp [(places t).2.1] <;> simp

/-- What step `t` adds to its tile. -/
def term (x : S8192x5632.Idx → EReal) (y : S8192x2048.Idx → EReal) (t : Fin cfg0.N) (i : S1408x1024.Idx) : EReal :=
  ∑ r : Fin 2048, x (ix2 ⟨t.val % 4 * 2048 + r, by omega⟩ ⟨t.val / 8 * 1408 + (i 0).val, by have := lt32 t; have := (i 0).2; simp at this; omega⟩)
    * y (ix2 ⟨t.val % 4 * 2048 + r, by omega⟩ ⟨t.val / 4 % 2 * 1024 + (i 1).val, by have := (i 1).2; simp at this; omega⟩)

theorem step_A (t : Fin cfg0.N) (h : t.val % 4 = 0) (i : S1408x1024.Idx) :
    Gen.outsAt0 m c t.val t.isLt i = 0 + term (m ((c : Thread nD τ).loc main_arg0)) (m ((c : Thread nD τ).loc main_arg2)) t i := by
  rw [Gen.outsAt0_A m c t h (by omega)]
  frame_out
  rw [eq_ix2 i, zero_add]
  refine (pay1_at _ _ (i 0) (i 1)).trans (Finset.sum_congr rfl fun r _ =>
    congrArg₂ (· * ·) (blk0 m c t r (i 0)) (blk1 m c t r (i 1)))

theorem step_B (t : Fin cfg0.N) (h : ¬t.val % 4 = 0) (i : S1408x1024.Idx) :
    Gen.outsAt0 m c t.val t.isLt i = Gen.outsAt0 m c (t.val - 1) (Nat.lt_of_le_of_lt (Nat.sub_le _ _) t.isLt) i
      + term (m ((c : Thread nD τ).loc main_arg0)) (m ((c : Thread nD τ).loc main_arg2)) t i := by
  rw [Gen.outsAt0_B m c t h (by omega)]
  frame_out
  rw [eq_ix2 i]
  refine (pay2_at _ _ _ (i 0) (i 1)).trans (congrArg _ (Finset.sum_congr rfl fun r _ =>
    congrArg₂ (· * ·) (blk0 m c t r (i 0)) (blk1 m c t r (i 1))))

/-- The four blocks of tokens make up all of them. -/
theorem term_sum (x : S8192x5632.Idx → EReal) (y : S8192x2048.Idx → EReal) (t : Fin cfg0.N) (i : S1408x1024.Idx) (a : Fin 5632) (b : Fin 2048)
    (ha : a.val = t.val / 8 * 1408 + (i 0).val) (hb : b.val = t.val / 4 % 2 * 1024 + (i 1).val)
    (hlt : ∀ s : Fin 4, 4 * (t.val / 4) + s.val < cfg0.N) :
    ∑ s : Fin 4, term x y ⟨4 * (t.val / 4) + s.val, hlt s⟩ i = prod x y a b := by
  unfold term prod
  refine Fin.sum_mul_add_congr (S := 4) (n := 2048) fun s k hl => ?_
  have e : (4 * (t.val / 4) + s.val) % 4 = s.val := by omega
  have e1 : (4 * (t.val / 4) + s.val) / 8 = t.val / 8 := by omega
  have e2 : (4 * (t.val / 4) + s.val) / 4 % 2 = t.val / 4 % 2 := by omega
  simp only [e, e1, e2, ← ha, ← hb, Fin.eta]

/-- The tile a step leaves when the tokens are all in. -/
theorem tile (t : Fin cfg0.N) (h : t.val % 4 = 3) (i : S1408x1024.Idx) (a : Fin 5632) (b : Fin 2048)
    (ha : a.val = t.val / 8 * 1408 + (i 0).val) (hb : b.val = t.val / 4 % 2 * 1024 + (i 1).val) :
    Gen.outsAt0 m c t.val t.isLt i = prod (m ((c : Thread nD τ).loc main_arg0)) (m ((c : Thread nD τ).loc main_arg2)) a b := by
  refine (Pipeline.eq_sum_fin_of_reset_step_apply_of_flush (Gen.outsAt0 m c) 4 (fun _ => (0 : EReal)) _
    (step_A m c) (step_B m c) t h i).trans ?_
  exact (zero_add _).trans (term_sum _ _ t i a b ha hb _)

/-- The result after the run. -/
theorem final (i : S5632x2048.Idx) : (Gen.dats m 0 c).arrAt 2 cfg0.N i
    = prod (m ((c : Thread nD τ).loc main_arg0)) (m ((c : Thread nD τ).loc main_arg2)) (i 0) (i 1) := by
  refine congrFun ((Gen.dats m 0 c).arrAt_eq_of_covers 2
    (fun i : S5632x2048.Idx => prod (m ((c : Thread nD τ).loc main_arg0)) (m ((c : Thread nD τ).loc main_arg2)) (i 0) (i 1))
    (by decide +kernel) fun t hf y => ?_) i
  have e := (places t).2.2
  rw [Gen.after0_2]
  refine tile m c t ((Gen.flush0_2 t).mp hf) y _ _ ?_ ?_ <;> blk_simp [e] <;> simp

end Cert.Kernel4Ideal.Host

namespace Cert.Reference4Ideal.Host

open Idealize.ShloMosaic Idealize.ShloMosaic.TcCoe
open Cert.Reference4Ideal Cert.Reference4Ideal.Facts

/-- The reference's result as a function of its arguments. -/
def out (x : FVec Ideal S8192x5632 .f32) (y : FVec Ideal S8192x2048 .f32) : FVec Ideal S5632x2048 .f32 :=
  transpose S5632x2048 [1, 0] (Host.dotGeneral dot_S8192x2048_S8192x5632_S2048x5632_0_0_1_1_n_n none y x) Gen.transposes_S2048x5632_S5632x2048_1_0

/-- An element of it: a sum over the tokens. -/
theorem out_at (x : FVec Ideal S8192x5632 .f32) (y : FVec Ideal S8192x2048 .f32) (a : Fin 5632) (b : Fin 2048) :
    out x y (ix2 a b) = ∑ k : Fin 8192, y (ix2 k b) * x (ix2 k a) := by
  pointwise [out]

end Cert.Reference4Ideal.Host

namespace Cert.Proof.GradDown

open Idealize.ShloMosaic Idealize.ShloMosaic.TcCoe Idealize.SL.Sem

/-- The kernel ends, whatever its arguments hold, with its semaphores back at zero. -/
theorem frame_p : Cert.quiescent_Kernel4 := fun m ρ _ => Cert.Kernel4.Gen.frame m ρ

/-- The same of the idealized kernel. -/
theorem frame_pi : Cert.quiescent_Kernel4Ideal := fun m ρ _ => Cert.Kernel4Ideal.Gen.frame m ρ

/-- The reference ends. -/
theorem frame_ri : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- The kernel's gradient is the reference's, of any arguments. -/
theorem algebraic : Cert.algebraic_Kernel4Ideal_Reference4Ideal (hKernel4Ideal := Cert.Kernel4Ideal.Gen.facts)
    (hReference4Ideal := Cert.Reference4Ideal.Gen.facts) := by
  intro m ρ m' ρ' _ ha
  refine ⟨_, (θ_run Cert.Kernel4Ideal.defs _ _).mono (fun _ h => h) (Cert.Kernel4Ideal.Value.run_blocks (F := Ideal) m ρ), ?_⟩
  refine (θ_run Cert.Reference4Ideal.defs _ _).mono (fun r h c => ?_) (Cert.Reference4Ideal.Value.run (F := Ideal) m' ρ')
  obtain ⟨h0, ha'⟩ := h c
  obtain ⟨a0, a1, a2⟩ := ha c
  refine ⟨h0.trans ?_, ha'⟩
  funext i
  refine Eq.trans ?_ (Cert.Kernel4Ideal.Host.final m c i).symm
  rw [a0, a2, eq_ix2 i]
  exact (Cert.Reference4Ideal.Host.out_at _ _ (i 0) (i 1)).trans (Finset.sum_congr rfl fun k _ => mul_comm _ _)

end Cert.Proof.GradDown

end
-- ==== Proof.GradGate.lean ====
/- The gradient of w_gate, and of w_up: a product accumulated over four blocks of tokens, the columns of each chip together. -/
module

public import proofs.«01_k».proof.Proof.Gen.Kernel5.Frame
public import proofs.«01_k».proof.Proof.Gen.Kernel5Ideal.Value
public import proofs.«01_k».proof.Proof.Gen.Reference5Ideal.Run
public import proofs.«01_k».proof.Defs
public import Idealize.ShloMosaic.Lib.Pipeline.ValueKit
public import Idealize.ShloMosaic.Adequacy
public import Idealize.ShloMosaic.Init

@[expose] public section

set_option maxRecDepth 16384

noncomputable section

namespace Cert.Kernel5Ideal.Host

open Idealize.ShloMosaic Idealize.ShloMosaic.TcCoe
open Cert.Kernel5Ideal Cert.Kernel5Ideal.Facts₀ Cert.Kernel5Ideal.Facts

/-- The first coordinate of a tile's index is zero. -/
theorem at_zero (i : S1x1024x1408.Idx) : i = ix3 0 (i 1) (i 2) := by
  funext a
  fin_cases a
  · exact Subsingleton.elim (α := Fin 1) _ _
  · rfl
  · rfl

/-- The first block of tokens stores its own product. -/
theorem pay2_at (x : Vec Ideal S2048x1024 .bf16) (y : Vec Ideal S2048x1408 .bf16) (i : S1x1024x1408.Idx) :
    Gen.k0_pay2 x y i = ∑ r : Fin 2048, x (ix2 r (i 1)) * y (ix2 r (i 2)) := by
  have h (j : Fin 1024) (l : Fin 1408) : Gen.k0_pay2 x y (ix3 0 j l) = ∑ r : Fin 2048, x (ix2 r j) * y (ix2 r l) := by
    pointwise [Gen.k0_pay2, Gen.k0_pay1]
  exact (congrArg (Gen.k0_pay2 x y) (at_zero i)).trans (h (i 1) (i 2))

/-- A later block of tokens adds its product to what is there. -/
theorem pay3_at (x : Vec Ideal S2048x1024 .bf16) (y : Vec Ideal S2048x1408 .bf16) (z : Vec Ideal S1x1024x1408 .f32)
    (i : S1x1024x1408.Idx) :
    Gen.k0_pay3 x y z i = z i + ∑ r : Fin 2048, x (ix2 r (i 1)) * y (ix2 r (i 2)) := by
  have h (j : Fin 1024) (l : Fin 1408) :
      Gen.k0_pay3 x y z (ix3 0 j l) = z (ix3 0 j l) + ∑ r : Fin 2048, x (ix2 r j) * y (ix2 r l) := by
    pointwise [Gen.k0_pay3, Gen.k0_pay1]
  exact (congrArg (Gen.k0_pay3 x y z) (at_zero i)).trans ((h (i 1) (i 2)).trans
    (congrArg (fun k => z k + ∑ r : Fin 2048, x (ix2 r (i 1)) * y (ix2 r (i 2))) (at_zero i).symm))

variable (m : (ℓ : Loc nD τ sig) → Buf (Elt Ideal) ℓ) (c : Dev nD)

theorem v0 : (Gen.V m c main_v0 : S8192x2048.Idx → EReal) = m ((c : Thread nD τ).loc main_arg0) := by
  unfold Gen.V
  simp only [Gen.hostOps0]
  after_results_simp <;> rfl
theorem v1 : (Gen.V m c main_v1 : S8192x5632.Idx → EReal) = m ((c : Thread nD τ).loc main_arg2) := by
  unfold Gen.V
  simp only [Gen.hostOps0]
  after_results_simp <;> rfl

theorem read0 (X : (b : Ref sig .tc) → Buf (Elt Ideal) ((c : Thread nD τ).loc b)) (t : Fin cfg0.N) (r : Fin 2048) (l : Fin 1024) :
    ((cfg0.win 0).blk t).view.read (Elt Ideal) (X (Pipeline.arrRef spec0 0)) (ix2 r l) = X main_v0 ((win0_0.blk t).view.emb (ix2 r l)) := rfl
theorem read1 (X : (b : Ref sig .tc) → Buf (Elt Ideal) ((c : Thread nD τ).loc b)) (t : Fin cfg0.N) (r : Fin 2048) (l : Fin 1408) :
    ((cfg0.win 1).blk t).view.read (Elt Ideal) (X (Pipeline.arrRef spec0 1)) (ix2 r l) = X main_v1 ((win0_1.blk t).view.emb (ix2 r l)) := rfl

/-- The blocks of step `t`: block `t % 4` of the tokens, tile `t / 16` of the rows and `t / 4 % 4` of the columns. -/
theorem places : ∀ t : Fin cfg0.N, win0_0.index t = ![t.val % 4, t.val / 16] ∧ win0_1.index t = ![t.val % 4, t.val / 4 % 4]
    ∧ win0_2.index t = ![t.val / 4 % 4, t.val / 16, 0] :=
  (by decide +kernel : ∀ t : Fin grid0.N, win0_0.index t = ![t.val % 4, t.val / 16] ∧ win0_1.index t = ![t.val % 4, t.val / 4 % 4]
    ∧ win0_2.index t = ![t.val / 4 % 4, t.val / 16, 0])

/-- The product of row `a` of the transposed first array with column `b` of the second. -/
def prod (x : S8192x2048.Idx → EReal) (y : S8192x5632.Idx → EReal) (a : Fin 2048) (b : Fin 5632) : EReal :=
  ∑ k : Fin 8192, x (ix2 k a) * y (ix2 k b)

theorem ltN (t : Fin cfg0.N) : t.val < 32 := t.2

theorem blk0 (t : Fin cfg0.N) (r : Fin 2048) (l : Fin 1024) :
    Gen.iblk m c 0 t (ix2 r l) = (m ((c : Thread nD τ).loc main_arg0) : S8192x2048.Idx → EReal)
      (ix2 ⟨t.val % 4 * 2048 + r, by omega⟩ ⟨t.val / 16 * 1024 + l, by have := ltN t; omega⟩) := by
  unfold Gen.iblk
  refine (read0 c (Gen.V m c) t r l).trans ?_
  rw [v0]
  refine congrArg _ (funext fun a => ?_)
  fin_cases a <;> apply Fin.ext <;> blk_simp [(places t).1] <;> simp

theorem blk1 (t : Fin cfg0.N) (r : Fin 2048) (l : Fin 1408) :
    Gen.iblk m c 1 t (ix2 r l) = (m ((c : Thread nD τ).loc main_arg2) : S8192x5632.Idx → EReal)
      (ix2 ⟨t.val % 4 * 2048 + r, by omega⟩ ⟨t.val / 4 % 4 * 1408 + l, by omega⟩) := by
  unfold Gen.iblk
  refine (read1 c (Gen.V m c) t r l).trans ?_
  rw [v1]
  refine congrArg _ (funext fun a => ?_)
  fin_cases a <;> apply Fin.ext <;> blk_simp [(places t).2.1] <;> simp

/-- What step `t` adds to its tile. -/
def term (x : S8192x2048.Idx → EReal) (y : S8192x5632.Idx → EReal) (t : Fin cfg0.N) (i : S1x1024x1408.Idx) : EReal :=
  ∑ r : Fin 2048, x (ix2 ⟨t.val % 4 * 2048 + r, by omega⟩ ⟨t.val / 16 * 1024 + (i 1).val, by have := ltN t; have := (i 1).2; simp at this; omega⟩)
    * y (ix2 ⟨t.val % 4 * 2048 + r, by omega⟩ ⟨t.val / 4 % 4 * 1408 + (i 2).val, by have := (i 2).2; simp at this; omega⟩)

theorem step_A (t : Fin cfg0.N) (h : t.val % 4 = 0) (i : S1x1024x1408.Idx) :
    Gen.outsAt0 m c t.val t.isLt i = 0 + term (m ((c : Thread nD τ).loc main_arg0)) (m ((c : Thread nD τ).loc main_arg2)) t i := by
  rw [Gen.outsAt0_A m c t h (by omega)]
  frame_out
  rw [zero_add]
  refine (pay2_at _ _ i).trans (Finset.sum_congr rfl fun r _ =>
    congrArg₂ (· * ·) (blk0 m c t r (i 1)) (blk1 m c t r (i 2)))

theorem step_B (t : Fin cfg0.N) (h : ¬t.val % 4 = 0) (i : S1x1024x1408.Idx) :
    Gen.outsAt0 m c t.val t.isLt i = Gen.outsAt0 m c (t.val - 1) (Nat.lt_of_le_of_lt (Nat.sub_le _ _) t.isLt) i
      + term (m ((c : Thread nD τ).loc main_arg0)) (m ((c : Thread nD τ).loc main_arg2)) t i := by
  rw [Gen.outsAt0_B m c t h (by omega)]
  frame_out
  refine (pay3_at _ _ _ i).trans (congrArg _ (Finset.sum_congr rfl fun r _ =>
    congrArg₂ (· * ·) (blk0 m c t r (i 1)) (blk1 m c t r (i 2))))

/-- The four blocks of tokens make up all of them. -/
theorem term_sum (x : S8192x2048.Idx → EReal) (y : S8192x5632.Idx → EReal) (t : Fin cfg0.N) (i : S1x1024x1408.Idx) (a : Fin 2048) (b : Fin 5632)
    (ha : a.val = t.val / 16 * 1024 + (i 1).val) (hb : b.val = t.val / 4 % 4 * 1408 + (i 2).val)
    (hlt : ∀ s : Fin 4, 4 * (t.val / 4) + s.val < cfg0.N) :
    ∑ s : Fin 4, term x y ⟨4 * (t.val / 4) + s.val, hlt s⟩ i = prod x y a b := by
  unfold term prod
  refine Fin.sum_mul_add_congr (S := 4) (n := 2048) fun s k hl => ?_
  have e : (4 * (t.val / 4) + s.val) % 4 = s.val := by omega
  have e1 : (4 * (t.val / 4) + s.val) / 16 = t.val / 16 := by omega
  have e2 : (4 * (t.val / 4) + s.val) / 4 % 4 = t.val / 4 % 4 := by omega
  simp only [e, e1, e2, ← ha, ← hb, Fin.eta]

/-- The tile a step leaves when the tokens are all in. -/
theorem tile (t : Fin cfg0.N) (h : t.val % 4 = 3) (i : S1x1024x1408.Idx) (a : Fin 2048) (b : Fin 5632)
    (ha : a.val = t.val / 16 * 1024 + (i 1).val) (hb : b.val = t.val / 4 % 4 * 1408 + (i 2).val) :
    Gen.outsAt0 m c t.val t.isLt i = prod (m ((c : Thread nD τ).loc main_arg0)) (m ((c : Thread nD τ).loc main_arg2)) a b := by
  refine (Pipeline.eq_sum_fin_of_reset_step_apply_of_flush (Gen.outsAt0 m c) 4 (fun _ => (0 : EReal)) _
    (step_A m c) (step_B m c) t h i).trans ?_
  exact (zero_add _).trans (term_sum _ _ t i a b ha hb _)

/-- The column of the whole gradient that is column `l` of chip `j`'s. -/
def col (j : Fin 4) (l : Fin 1408) : Fin 5632 := ⟨j.val * 1408 + l.val, by omega⟩

/-- The result after the run. -/
theorem final (i : S4x2048x1408.Idx) : (Gen.dats m 0 c).arrAt 2 cfg0.N i
    = prod (m ((c : Thread nD τ).loc main_arg0)) (m ((c : Thread nD τ).loc main_arg2)) (i 1) (col (i 0) (i 2)) := by
  refine congrFun ((Gen.dats m 0 c).arrAt_eq_of_covers 2
    (fun i : S4x2048x1408.Idx => prod (m ((c : Thread nD τ).loc main_arg0)) (m ((c : Thread nD τ).loc main_arg2)) (i 1) (col (i 0) (i 2)))
    (by decide +kernel) fun t hf y => ?_) i
  have e := (places t).2.2
  have h0 : (y 0).val = 0 := Nat.lt_one_iff.mp (y 0).isLt
  rw [Gen.after0_2]
  refine tile m c t ((Gen.flush0_2 t).mp hf) y _ _ ?_ ?_
  · blk_simp [e] <;> simp
  · unfold col
    blk_simp [e] <;> simp [h0]

end Cert.Kernel5Ideal.Host

namespace Cert.Reference5Ideal.Host

open Idealize.ShloMosaic Idealize.ShloMosaic.TcCoe
open Cert.Reference5Ideal Cert.Reference5Ideal.Facts

/-- The reference's result as a function of its arguments. -/
def out (x : FVec Ideal S8192x2048 .f32) (y : FVec Ideal S8192x5632 .f32) : FVec Ideal S4x2048x1408 .f32 :=
  transpose S4x2048x1408 [1, 0, 2] (shapeCast _ (transpose S2048x5632 [1, 0]
    (Host.dotGeneral dot_S8192x5632_S8192x2048_S5632x2048_0_0_1_1_n_n none y x) Gen.transposes_S5632x2048_S2048x5632_1_0)
    Gen.shapeCasts_S2048x5632_S2048x4x1408) Gen.transposes_S2048x4x1408_S4x2048x1408_1_0_2

/-- An element of it: a sum over the tokens. -/
theorem out_at (x : FVec Ideal S8192x2048 .f32) (y : FVec Ideal S8192x5632 .f32) (j : Fin 4) (a : Fin 2048) (b : Fin 1408) :
    out x y (ix3 j a b) = ∑ k : Fin 8192, y (ix2 k (Cert.Kernel5Ideal.Host.col j b)) * x (ix2 k a) := by
  unfold Cert.Kernel5Ideal.Host.col
  pointwise [out]

end Cert.Reference5Ideal.Host

namespace Cert.Proof.GradGate

open Idealize.ShloMosaic Idealize.ShloMosaic.TcCoe Idealize.SL.Sem

/-- The kernel ends, whatever its arguments hold, with its semaphores back at zero. -/
theorem frame_p : Cert.quiescent_Kernel5 := fun m ρ _ => Cert.Kernel5.Gen.frame m ρ

/-- The same of the idealized kernel. -/
theorem frame_pi : Cert.quiescent_Kernel5Ideal := fun m ρ _ => Cert.Kernel5Ideal.Gen.frame m ρ

/-- The reference ends. -/
theorem frame_ri : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

/-- The kernel's gradient is the reference's, of any arguments. -/
theorem algebraic : Cert.algebraic_Kernel5Ideal_Reference5Ideal (hKernel5Ideal := Cert.Kernel5Ideal.Gen.facts)
    (hReference5Ideal := Cert.Reference5Ideal.Gen.facts) := by
  intro m ρ m' ρ' _ ha
  refine ⟨_, (θ_run Cert.Kernel5Ideal.defs _ _).mono (fun _ h => h) (Cert.Kernel5Ideal.Value.run_blocks (F := Ideal) m ρ), ?_⟩
  refine (θ_run Cert.Reference5Ideal.defs _ _).mono (fun r h c => ?_) (Cert.Reference5Ideal.Value.run (F := Ideal) m' ρ')
  obtain ⟨h0, ha'⟩ := h c
  obtain ⟨a0, a1, a2⟩ := ha c
  refine ⟨h0.trans ?_, ha'⟩
  funext i
  refine Eq.trans ?_ (Cert.Kernel5Ideal.Host.final m c i).symm
  rw [a0, a2, eq_ix3 i]
  exact (Cert.Reference5Ideal.Host.out_at _ _ (i 0) (i 1) (i 2)).trans (Finset.sum_congr rfl fun k _ => mul_comm _ _)

end Cert.Proof.GradGate

end
-- ==== Proof.GradOut.lean ====
/- The gradient of w_out: a product accumulated over four blocks of tokens. -/
module

public import proofs.«01_k».proof.Proof.Gen.Kernel6.Frame
public import proofs.«01_k».proof.Proof.Gen.Kernel6Ideal.Value
public import proofs.«01_k».proof.Proof.Gen.Reference6Ideal.Run
public import proofs.«01_k».proof.Defs
public import Idealize.ShloMosaic.Lib.Pipeline.ValueKit
public import Idealize.ShloMosaic.Adequacy
public import Idealize.ShloMosaic.Init

@[expose] public section

set_option maxRecDepth 16384

noncomputable section

namespace Cert.Kernel6Ideal.Host

open Idealize.ShloMosaic Idealize.ShloMosaic.TcCoe
open Cert.Kernel6Ideal Cert.Kernel6Ideal.Facts₀ Cert.Kernel6Ideal.Facts

/-- The first block of tokens stores its own product. -/
theorem pay1_at (x : Vec Ideal S2048x1024 .bf16) (y : Vec Ideal S2048x1024 .bf16) (j : Fin 1024) (l : Fin 1024) :
    Gen.k0_pay1 x y (ix2 j l) = ∑ r : Fin 2048, x (ix2 r j) * y (ix2 r l) := by
  pointwise [Gen.k0_pay1]

/-- A later block of tokens adds its product to what is there. -/
theorem pay2_at (x : Vec Ideal S2048x1024 .bf16) (y : Vec Ideal S2048x1024 .bf16) (z : Vec Ideal S1024x1024 .f32) (j : Fin 1024) (l : Fin 1024) :
    Gen.k0_pay2 x y z (ix2 j l) = z (ix2 j l) + ∑ r : Fin 2048, x (ix2 r j) * y (ix2 r l) := by
  pointwise [Gen.k0_pay2, Gen.k0_pay1]

variable (m : (ℓ : Loc nD τ sig) → Buf (Elt Ideal) ℓ) (c : Dev nD)

theorem v0 : (Gen.V m c main_v0 : S8192x2048.Idx → EReal) = m ((c : Thread nD τ).loc main_arg0) := by
  unfold Gen.V
  simp only [Gen.hostOps0]
  after_results_simp <;> rfl
theorem v1 : (Gen.V m c main_v1 : S8192x2048.Idx → EReal) = m ((c : Thread nD τ).loc main_arg2) := by
  unfold Gen.V
  simp only [Gen.hostOps0]
  after_results_simp <;> rfl

theorem read0 (X : (b : Ref sig .tc) → Buf (Elt Ideal) ((c : Thread nD τ).loc b)) (t : Fin cfg0.N) (r : Fin 2048) (l : Fin 1024) :
    ((cfg0.win 0).blk t).view.read (Elt Ideal) (X (Pipeline.arrRef spec0 0)) (ix2 r l) = X main_v0 ((win0_0.blk t).view.emb (ix2 r l)) := rfl
theorem read1 (X : (b : Ref sig .tc) → Buf (Elt Ideal) ((c : Thread nD τ).loc b)) (t : Fin cfg0.N) (r : Fin 2048) (l : Fin 1024) :
    ((cfg0.win 1).blk t).view.read (Elt Ideal) (X (Pipeline.arrRef spec0 1)) (ix2 r l) = X main_v1 ((win0_1.blk t).view.emb (ix2 r l)) := rfl

/-- The blocks of step `t`: block `t % 4` of the tokens, tile `t / 8` of the rows and `t / 4 % 2` of the columns. -/
theorem places : ∀ t : Fin cfg0.N, win0_0.index t = ![t.val % 4, t.val / 8] ∧ win0_1.index t = ![t.val % 4, t.val / 4 % 2]
    ∧ win0_2.index t = ![t.val / 8, t.val / 4 % 2] :=
  (by decide +kernel : ∀ t : Fin grid0.N, win0_0.index t = ![t.val % 4, t.val / 8] ∧ win0_1.index t = ![t.val % 4, t.val / 4 % 2]
    ∧ win0_2.index t = ![t.val / 8, t.val / 4 % 2])

/-- The product of row `a` of the transposed first array with column `b` of the second. -/
def prod (x : S8192x2048.Idx → EReal) (y : S8192x2048.Idx → EReal) (a : Fin 2048) (b : Fin 2048) : EReal :=
  ∑ k : Fin 8192, x (ix2 k a) * y (ix2 k b)

theorem ltN (t : Fin cfg0.N) : t.val < 16 := t.2

theorem blk0 (t : Fin cfg0.N) (r : Fin 2048) (l : Fin 1024) :
    Gen.iblk m c 0 t (ix2 r l) = (m ((c : Thread nD τ).loc main_arg0) : S8192x2048.Idx → EReal)
      (ix2 ⟨t.val % 4 * 2048 + r, by omega⟩ ⟨t.val / 8 * 1024 + l, by have := ltN t; omega⟩) := by
  unfold Gen.iblk
  refine (read0 c (Gen.V m c) t r l).trans ?_
  rw [v0]
  refine congrArg _ (funext fun a => ?_)
  fin_cases a <;> apply Fin.ext <;> blk_simp [(places t).1] <;> simp

theorem blk1 (t : Fin cfg0.N) (r : Fin 2048) (l : Fin 1024) :
    Gen.iblk m c 1 t (ix2 r l) = (m ((c : Thread nD τ).loc main_arg2) : S8192x2048.Idx → EReal)
      (ix2 ⟨t.val % 4 * 2048 + r, by omega⟩ ⟨t.val / 4 % 2 * 1024 + l, by omega⟩) := by
  unfold Gen.iblk
  refine (read1 c (Gen.V m c) t r l).trans ?_
  rw [v1]
  refine congrArg _ (funext fun a => ?_)
  fin_cases a <;> apply Fin.ext <;> blk_simp [(places t).2.1] <;> simp

/-- What step `t` adds to its tile. -/
def term (x : S8192x2048.Idx → EReal) (y : S8192x2048.Idx → EReal) (t : Fin cfg0.N) (i : S1024x1024.Idx) : EReal :=
  ∑ r : Fin 2048, x (ix2 ⟨t.val % 4 * 2048 + r, by omega⟩ ⟨t.val / 8 * 1024 + (i 0).val, by have := ltN t; have := (i 0).2; simp at this; omega⟩)
    * y (ix2 ⟨t.val % 4 * 2048 + r, by omega⟩ ⟨t.val / 4 % 2 * 1024 + (i 1).val, by have := (i 1).2; simp at this; omega⟩)

theorem step_A (t : Fin cfg0.N) (h : t.val % 4 = 0) (i : S1024x1024.Idx) :
    Gen.outsAt0 m c t.val t.isLt i = 0 + term (m ((c : Thread nD τ).loc main_arg0)) (m ((c : Thread nD τ).loc main_arg2)) t i := by
  rw [Gen.outsAt0_A m c t h (by omega)]
  frame_out
  rw [eq_ix2 i, zero_add]
  refine (pay1_at _ _ (i 0) (i 1)).trans (Finset.sum_congr rfl fun r _ =>
    congrArg₂ (· * ·) (blk0 m c t r (i 0)) (blk1 m c t r (i 1)))

theorem step_B (t : Fin cfg0.N) (h : ¬t.val % 4 = 0) (i : S1024x1024.Idx) :
    Gen.outsAt0 m c t.val t.isLt i = Gen.outsAt0 m c (t.val - 1) (Nat.lt_of_le_of_lt (Nat.sub_le _ _) t.isLt) i
      + term (m ((c : Thread nD τ).loc main_arg0)) (m ((c : Thread nD τ).loc main_arg2)) t i := by
  rw [Gen.outsAt0_B m c t h (by omega)]
  frame_out
  rw [eq_ix2 i]
  refine (pay2_at _ _ _ (i 0) (i 1)).trans (congrArg _ (Finset.sum_congr rfl fun r _ =>
    congrArg₂ (· * ·) (blk0 m c t r (i 0)) (blk1 m c t r (i 1))))

/-- The four blocks of tokens make up all of them. -/
theorem term_sum (x : S8192x2048.Idx → EReal) (y : S8192x2048.Idx → EReal) (t : Fin cfg0.N) (i : S1024x1024.Idx) (a : Fin 2048) (b : Fin 2048)
    (ha : a.val = t.val / 8 * 1024 + (i 0).val) (hb : b.val = t.val / 4 % 2 * 1024 + (i 1).val)
    (hlt : ∀ s : Fin 4, 4 * (t.val / 4) + s.val < cfg0.N) :
    ∑ s : Fin 4, term x y ⟨4 * (t.val / 4) + s.val, hlt s⟩ i = prod x y a b := by
  unfold term prod
  refine Fin.sum_mul_add_congr (S := 4) (n := 2048) fun s k hl => ?_
  have e : (4 * (t.val / 4) + s.val) % 4 = s.val := by omega
  have e1 : (4 * (t.val / 4) + s.val) / 8 = t.val / 8 := by omega
  have e2 : (4 * (t.val / 4) + s.val) / 4 % 2 = t.val / 4 % 2 := by omega
  simp only [e, e1, e2, ← ha, ← hb, Fin.eta]

/-- The tile a step leaves when the tokens are all in. -/
theorem tile (t : Fin cfg0.N) (h : t.val % 4 = 3) (i : S1024x1024.Idx) (a : Fin 2048) (b : Fin 2048)
    (ha : a.val = t.val / 8 * 1024 + (i 0).val) (hb : b.val = t.val / 4 % 2 * 1024 + (i 1).val) :
    Gen.outsAt0 m c t.val t.isLt i = prod (m ((c : Thread nD τ).loc main_arg0)) (m ((c : Thread nD τ).loc main_arg2)) a b := by
  refine (Pipeline.eq_sum_fin_of_reset_step_apply_of_flush (Gen.outsAt0 m c) 4 (fun _ => (0 : EReal)) _
    (step_A m c) (step_B m c) t h i).trans ?_
  exact (zero_add _).trans (term_sum _ _ t i a b ha hb _)

/-- The result after the run. -/
theorem final (i : S2048x2048.Idx) : (Gen.dats m 0 c).arrAt 2 cfg0.N i
    = prod (m ((c : Thread nD τ).loc main_arg0)) (m ((c : Thread nD τ).loc main_arg2)) (i 0) (i 1) := by
  refine congrFun ((Gen.dats m 0 c).arrAt_eq_of_covers 2
    (fun i : S2048x2048.Idx => prod (m ((c : Thread nD τ).loc main_arg0)) (m ((c : Thread nD τ).loc main_arg2)) (i 0) (i 1))
    (by decide +kernel) fun t hf y => ?_) i
  have e := (places t).2.2
  rw [Gen.after0_2]
  refine tile m c t ((Gen.flush0_2 t).mp hf) y _ _ ?_ ?_ <;> blk_simp [e] <;> simp

end Cert.Kernel6Ideal.Host

namespace Cert.Reference6Ideal.Host

open Idealize.ShloMosaic Idealize.ShloMosaic.TcCoe
open Cert.Reference6Ideal Cert.Reference6Ideal.Facts

/-- The reference's result as a function of its arguments. -/
def out (x : FVec Ideal S8192x2048 .f32) (y : FVec Ideal S8192x2048 .f32) : FVec Ideal S2048x2048 .f32 :=
  transpose S2048x2048 [1, 0] (Host.dotGeneral dot_S8192x2048_S8192x2048_S2048x2048_0_0_1_1_n_n none y x) Gen.transposes_S2048x2048_S2048x2048_1_0

/-- An element of it: a sum over the tokens. -/
theorem out_at (x : FVec Ideal S8192x2048 .f32) (y : FVec Ideal S8192x2048 .f32) (a : Fin 2048) (b : Fin 2048) :
    out x y (ix2 a b) = ∑ k : Fin 8192, y (ix2 k b) * x (ix2 k a) := by
  pointwise [out]

end Cert.Reference6Ideal.Host

namespace Cert.Proof.GradOut

open Idealize.ShloMosaic Idealize.ShloMosaic.TcCoe Idealize.SL.Sem

/-- The kernel ends, whatever its arguments hold, with its semaphores back at zero. -/
theorem frame_p : Cert.quiescent_Kernel6 := fun m ρ _ => Cert.Kernel6.Gen.frame m ρ

/-- The same of the idealized kernel. -/
theorem frame_pi : Cert.quiescent_Kernel6Ideal := fun m ρ _ => Cert.Kernel6Ideal.Gen.frame m ρ

/-- The reference ends. -/
theorem frame_ri : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

/-- The kernel's gradient is the reference's, of any arguments. -/
theorem algebraic : Cert.algebraic_Kernel6Ideal_Reference6Ideal (hKernel6Ideal := Cert.Kernel6Ideal.Gen.facts)
    (hReference6Ideal := Cert.Reference6Ideal.Gen.facts) := by
  intro m ρ m' ρ' _ ha
  refine ⟨_, (θ_run Cert.Kernel6Ideal.defs _ _).mono (fun _ h => h) (Cert.Kernel6Ideal.Value.run_blocks (F := Ideal) m ρ), ?_⟩
  refine (θ_run Cert.Reference6Ideal.defs _ _).mono (fun r h c => ?_) (Cert.Reference6Ideal.Value.run (F := Ideal) m' ρ')
  obtain ⟨h0, ha'⟩ := h c
  obtain ⟨a0, a1, a2⟩ := ha c
  refine ⟨h0.trans ?_, ha'⟩
  funext i
  refine Eq.trans ?_ (Cert.Kernel6Ideal.Host.final m c i).symm
  rw [a0, a2, eq_ix2 i]
  exact (Cert.Reference6Ideal.Host.out_at _ _ (i 0) (i 1)).trans (Finset.sum_congr rfl fun k _ => mul_comm _ _)

end Cert.Proof.GradOut

end
-- ==== Proof.GradIn.lean ====
/- The gradient of w_in: a product accumulated over four blocks of tokens. -/
module

public import proofs.«01_k».proof.Proof.Gen.Kernel7.Frame
public import proofs.«01_k».proof.Proof.Gen.Kernel7Ideal.Value
public import proofs.«01_k».proof.Proof.Gen.Reference7Ideal.Run
public import proofs.«01_k».proof.Defs
public import Idealize.ShloMosaic.Lib.Pipeline.ValueKit
public import Idealize.ShloMosaic.Adequacy
public import Idealize.ShloMosaic.Init

@[expose] public section

set_option maxRecDepth 16384

noncomputable section

namespace Cert.Kernel7Ideal.Host

open Idealize.ShloMosaic Idealize.ShloMosaic.TcCoe
open Cert.Kernel7Ideal Cert.Kernel7Ideal.Facts₀ Cert.Kernel7Ideal.Facts

/-- The first block of tokens stores its own product. -/
theorem pay1_at (x : Vec Ideal S2048x1024 .bf16) (y : Vec Ideal S2048x1280 .bf16) (j : Fin 1024) (l : Fin 1280) :
    Gen.k0_pay1 x y (ix2 j l) = ∑ r : Fin 2048, x (ix2 r j) * y (ix2 r l) := by
  pointwise [Gen.k0_pay1]

/-- A later block of tokens adds its product to what is there. -/
theorem pay2_at (x : Vec Ideal S2048x1024 .bf16) (y : Vec Ideal S2048x1280 .bf16) (z : Vec Ideal S1024x1280 .f32) (j : Fin 1024) (l : Fin 1280) :
    Gen.k0_pay2 x y z (ix2 j l) = z (ix2 j l) + ∑ r : Fin 2048, x (ix2 r j) * y (ix2 r l) := by
  pointwise [Gen.k0_pay2, Gen.k0_pay1]

variable (m : (ℓ : Loc nD τ sig) → Buf (Elt Ideal) ℓ) (c : Dev nD)

theorem v0 : (Gen.V m c main_v0 : S8192x2048.Idx → EReal) = m ((c : Thread nD τ).loc main_arg0) := by
  unfold Gen.V
  simp only [Gen.hostOps0]
  after_results_simp <;> rfl
theorem v1 : (Gen.V m c main_v1 : S8192x3840.Idx → EReal) = m ((c : Thread nD τ).loc main_arg2) := by
  unfold Gen.V
  simp only [Gen.hostOps0]
  after_results_simp <;> rfl

theorem read0 (X : (b : Ref sig .tc) → Buf (Elt Ideal) ((c : Thread nD τ).loc b)) (t : Fin cfg0.N) (r : Fin 2048) (l : Fin 1024) :
    ((cfg0.win 0).blk t).view.read (Elt Ideal) (X (Pipeline.arrRef spec0 0)) (ix2 r l) = X main_v0 ((win0_0.blk t).view.emb (ix2 r l)) := rfl
theorem read1 (X : (b : Ref sig .tc) → Buf (Elt Ideal) ((c : Thread nD τ).loc b)) (t : Fin cfg0.N) (r : Fin 2048) (l : Fin 1280) :
    ((cfg0.win 1).blk t).view.read (Elt Ideal) (X (Pipeline.arrRef spec0 1)) (ix2 r l) = X main_v1 ((win0_1.blk t).view.emb (ix2 r l)) := rfl

/-- The blocks of step `t`: block `t % 4` of the tokens, tile `t / 12` of the rows and `t / 4 % 3` of the columns. -/
theorem places : ∀ t : Fin cfg0.N, win0_0.index t = ![t.val % 4, t.val / 12] ∧ win0_1.index t = ![t.val % 4, t.val / 4 % 3]
    ∧ win0_2.index t = ![t.val / 12, t.val / 4 % 3] :=
  (by decide +kernel : ∀ t : Fin grid0.N, win0_0.index t = ![t.val % 4, t.val / 12] ∧ win0_1.index t = ![t.val % 4, t.val / 4 % 3]
    ∧ win0_2.index t = ![t.val / 12, t.val / 4 % 3])

/-- The product of row `a` of the transposed first array with column `b` of the second. -/
def prod (x : S8192x2048.Idx → EReal) (y : S8192x3840.Idx → EReal) (a : Fin 2048) (b : Fin 3840) : EReal :=
  ∑ k : Fin 8192, x (ix2 k a) * y (ix2 k b)

theorem ltN (t : Fin cfg0.N) : t.val < 24 := t.2

theorem blk0 (t : Fin cfg0.N) (r : Fin 2048) (l : Fin 1024) :
    Gen.iblk m c 0 t (ix2 r l) = (m ((c : Thread nD τ).loc main_arg0) : S8192x2048.Idx → EReal)
      (ix2 ⟨t.val % 4 * 2048 + r, by omega⟩ ⟨t.val / 12 * 1024 + l, by have := ltN t; omega⟩) := by
  unfold Gen.iblk
  refine (read0 c (Gen.V m c) t r l).trans ?_
  rw [v0]
  refine congrArg _ (funext fun a => ?_)
  fin_cases a <;> apply Fin.ext <;> blk_simp [(places t).1] <;> simp

theorem blk1 (t : Fin cfg0.N) (r : Fin 2048) (l : Fin 1280) :
    Gen.iblk m c 1 t (ix2 r l) = (m ((c : Thread nD τ).loc main_arg2) : S8192x3840.Idx → EReal)
      (ix2 ⟨t.val % 4 * 2048 + r, by omega⟩ ⟨t.val / 4 % 3 * 1280 + l, by omega⟩) := by
  unfold Gen.iblk
  refine (read1 c (Gen.V m c) t r l).trans ?_
  rw [v1]
  refine congrArg _ (funext fun a => ?_)
  fin_cases a <;> apply Fin.ext <;> blk_simp [(places t).2.1] <;> simp

/-- What step `t` adds to its tile. -/
def term (x : S8192x2048.Idx → EReal) (y : S8192x3840.Idx → EReal) (t : Fin cfg0.N) (i : S1024x1280.Idx) : EReal :=
  ∑ r : Fin 2048, x (ix2 ⟨t.val % 4 * 2048 + r, by omega⟩ ⟨t.val / 12 * 1024 + (i 0).val, by have := ltN t; have := (i 0).2; simp at this; omega⟩)
    * y (ix2 ⟨t.val % 4 * 2048 + r, by omega⟩ ⟨t.val / 4 % 3 * 1280 + (i 1).val, by have := (i 1).2; simp at this; omega⟩)

theorem step_A (t : Fin cfg0.N) (h : t.val % 4 = 0) (i : S1024x1280.Idx) :
    Gen.outsAt0 m c t.val t.isLt i = 0 + term (m ((c : Thread nD τ).loc main_arg0)) (m ((c : Thread nD τ).loc main_arg2)) t i := by
  rw [Gen.outsAt0_A m c t h (by omega)]
  frame_out
  rw [eq_ix2 i, zero_add]
  refine (pay1_at _ _ (i 0) (i 1)).trans (Finset.sum_congr rfl fun r _ =>
    congrArg₂ (· * ·) (blk0 m c t r (i 0)) (blk1 m c t r (i 1)))

theorem step_B (t : Fin cfg0.N) (h : ¬t.val % 4 = 0) (i : S1024x1280.Idx) :
    Gen.outsAt0 m c t.val t.isLt i = Gen.outsAt0 m c (t.val - 1) (Nat.lt_of_le_of_lt (Nat.sub_le _ _) t.isLt) i
      + term (m ((c : Thread nD τ).loc main_arg0)) (m ((c : Thread nD τ).loc main_arg2)) t i := by
  rw [Gen.outsAt0_B m c t h (by omega)]
  frame_out
  rw [eq_ix2 i]
  refine (pay2_at _ _ _ (i 0) (i 1)).trans (congrArg _ (Finset.sum_congr rfl fun r _ =>
    congrArg₂ (· * ·) (blk0 m c t r (i 0)) (blk1 m c t r (i 1))))

/-- The four blocks of tokens make up all of them. -/
theorem term_sum (x : S8192x2048.Idx → EReal) (y : S8192x3840.Idx → EReal) (t : Fin cfg0.N) (i : S1024x1280.Idx) (a : Fin 2048) (b : Fin 3840)
    (ha : a.val = t.val / 12 * 1024 + (i 0).val) (hb : b.val = t.val / 4 % 3 * 1280 + (i 1).val)
    (hlt : ∀ s : Fin 4, 4 * (t.val / 4) + s.val < cfg0.N) :
    ∑ s : Fin 4, term x y ⟨4 * (t.val / 4) + s.val, hlt s⟩ i = prod x y a b := by
  unfold term prod
  refine Fin.sum_mul_add_congr (S := 4) (n := 2048) fun s k hl => ?_
  have e : (4 * (t.val / 4) + s.val) % 4 = s.val := by omega
  have e1 : (4 * (t.val / 4) + s.val) / 12 = t.val / 12 := by omega
  have e2 : (4 * (t.val / 4) + s.val) / 4 % 3 = t.val / 4 % 3 := by omega
  simp only [e, e1, e2, ← ha, ← hb, Fin.eta]

/-- The tile a step leaves when the tokens are all in. -/
theorem tile (t : Fin cfg0.N) (h : t.val % 4 = 3) (i : S1024x1280.Idx) (a : Fin 2048) (b : Fin 3840)
    (ha : a.val = t.val / 12 * 1024 + (i 0).val) (hb : b.val = t.val / 4 % 3 * 1280 + (i 1).val) :
    Gen.outsAt0 m c t.val t.isLt i = prod (m ((c : Thread nD τ).loc main_arg0)) (m ((c : Thread nD τ).loc main_arg2)) a b := by
  refine (Pipeline.eq_sum_fin_of_reset_step_apply_of_flush (Gen.outsAt0 m c) 4 (fun _ => (0 : EReal)) _
    (step_A m c) (step_B m c) t h i).trans ?_
  exact (zero_add _).trans (term_sum _ _ t i a b ha hb _)

/-- The result after the run. -/
theorem final (i : S2048x3840.Idx) : (Gen.dats m 0 c).arrAt 2 cfg0.N i
    = prod (m ((c : Thread nD τ).loc main_arg0)) (m ((c : Thread nD τ).loc main_arg2)) (i 0) (i 1) := by
  refine congrFun ((Gen.dats m 0 c).arrAt_eq_of_covers 2
    (fun i : S2048x3840.Idx => prod (m ((c : Thread nD τ).loc main_arg0)) (m ((c : Thread nD τ).loc main_arg2)) (i 0) (i 1))
    (by decide +kernel) fun t hf y => ?_) i
  have e := (places t).2.2
  rw [Gen.after0_2]
  refine tile m c t ((Gen.flush0_2 t).mp hf) y _ _ ?_ ?_ <;> blk_simp [e] <;> simp

end Cert.Kernel7Ideal.Host

namespace Cert.Reference7Ideal.Host

open Idealize.ShloMosaic Idealize.ShloMosaic.TcCoe
open Cert.Reference7Ideal Cert.Reference7Ideal.Facts

/-- The reference's result as a function of its arguments. -/
def out (x : FVec Ideal S8192x2048 .f32) (y : FVec Ideal S8192x3840 .f32) : FVec Ideal S2048x3840 .f32 :=
  transpose S2048x3840 [1, 0] (Host.dotGeneral dot_S8192x3840_S8192x2048_S3840x2048_0_0_1_1_n_n none y x) Gen.transposes_S3840x2048_S2048x3840_1_0

/-- An element of it: a sum over the tokens. -/
theorem out_at (x : FVec Ideal S8192x2048 .f32) (y : FVec Ideal S8192x3840 .f32) (a : Fin 2048) (b : Fin 3840) :
    out x y (ix2 a b) = ∑ k : Fin 8192, y (ix2 k b) * x (ix2 k a) := by
  pointwise [out]

end Cert.Reference7Ideal.Host

namespace Cert.Proof.GradIn

open Idealize.ShloMosaic Idealize.ShloMosaic.TcCoe Idealize.SL.Sem

/-- The kernel ends, whatever its arguments hold, with its semaphores back at zero. -/
theorem frame_p : Cert.quiescent_Kernel7 := fun m ρ _ => Cert.Kernel7.Gen.frame m ρ

/-- The same of the idealized kernel. -/
theorem frame_pi : Cert.quiescent_Kernel7Ideal := fun m ρ _ => Cert.Kernel7Ideal.Gen.frame m ρ

/-- The reference ends. -/
theorem frame_ri : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

/-- The kernel's gradient is the reference's, of any arguments. -/
theorem algebraic : Cert.algebraic_Kernel7Ideal_Reference7Ideal (hKernel7Ideal := Cert.Kernel7Ideal.Gen.facts)
    (hReference7Ideal := Cert.Reference7Ideal.Gen.facts) := by
  intro m ρ m' ρ' _ ha
  refine ⟨_, (θ_run Cert.Kernel7Ideal.defs _ _).mono (fun _ h => h) (Cert.Kernel7Ideal.Value.run_blocks (F := Ideal) m ρ), ?_⟩
  refine (θ_run Cert.Reference7Ideal.defs _ _).mono (fun r h c => ?_) (Cert.Reference7Ideal.Value.run (F := Ideal) m' ρ')
  obtain ⟨h0, ha'⟩ := h c
  obtain ⟨a0, a1, a2⟩ := ha c
  refine ⟨h0.trans ?_, ha'⟩
  funext i
  refine Eq.trans ?_ (Cert.Kernel7Ideal.Host.final m c i).symm
  rw [a0, a2, eq_ix2 i]
  exact (Cert.Reference7Ideal.Host.out_at _ _ (i 0) (i 1)).trans (Finset.sum_congr rfl fun k _ => mul_comm _ _)

end Cert.Proof.GradIn

end
-- ==== Proof.OutBwd.lean ====
/- The gradient the output projection's input receives: a product with the transposed weights. -/
module

public import proofs.«01_k».proof.Proof.Gen.Kernel8.Frame
public import proofs.«01_k».proof.Proof.Gen.Kernel8Ideal.Value
public import proofs.«01_k».proof.Proof.Gen.Reference8Ideal.Run
public import proofs.«01_k».proof.Defs
public import Idealize.ShloMosaic.Lib.Pipeline.ValueKit
public import Idealize.ShloMosaic.Adequacy
public import Idealize.ShloMosaic.Init

@[expose] public section

set_option maxRecDepth 16384

noncomputable section

namespace Cert.Kernel8Ideal.Host

open Idealize.ShloMosaic Idealize.ShloMosaic.TcCoe Idealize.SL.Sem
open Cert.Kernel8Ideal Cert.Kernel8Ideal.Facts₀ Cert.Kernel8Ideal.Facts

/-- What the body stores: the product with the transposed weights. -/
theorem pay_at (x : Vec Ideal S1024x2048 .bf16) (y : Vec Ideal S1024x2048 .bf16) (i : S1024x1024.Idx) :
    Gen.k0_pay1 x y i = ∑ k : Fin 2048, x (ix2 (i 0) k) * y (ix2 (i 1) k) := by
  have h (j : Fin 1024) (l : Fin 1024) : Gen.k0_pay1 x y (ix2 j l) = ∑ k : Fin 2048, x (ix2 j k) * y (ix2 l k) := by
    pointwise [Gen.k0_pay1]
  exact (congrArg (Gen.k0_pay1 x y) (eq_ix2 i)).trans (h (i 0) (i 1))

variable (m : (ℓ : Loc nD τ sig) → Buf (Elt Ideal) ℓ) (c : Dev nD)

theorem v0 : (Gen.V m c main_v0 : S8192x2048.Idx → EReal) = m ((c : Thread nD τ).loc main_arg2) := by
  unfold Gen.V
  simp only [Gen.hostOps0]
  after_results_simp <;> rfl
theorem v1 : (Gen.V m c main_v1 : S2048x2048.Idx → EReal) = m ((c : Thread nD τ).loc main_arg1) := by
  unfold Gen.V
  simp only [Gen.hostOps0]
  after_results_simp <;> rfl

/-- The blocks of step `t`: tile `t / 2` of the rows and `t % 2` of the columns. -/
theorem places : ∀ t : Fin cfg0.N, win0_0.index t = ![t.val / 2, 0] ∧ win0_1.index t = ![t.val % 2, 0] ∧ win0_2.index t = ![t.val / 2, t.val % 2] :=
  (by decide +kernel : ∀ t : Fin grid0.N, win0_0.index t = ![t.val / 2, 0] ∧ win0_1.index t = ![t.val % 2, 0] ∧ win0_2.index t = ![t.val / 2, t.val % 2])

theorem ltN (t : Fin cfg0.N) : t.val < 16 := t.2

theorem read0 (X : (b : Ref sig .tc) → Buf (Elt Ideal) ((c : Thread nD τ).loc b)) (t : Fin cfg0.N) (r : Fin 1024) (l : Fin 2048) :
    ((cfg0.win 0).blk t).view.read (Elt Ideal) (X (Pipeline.arrRef spec0 0)) (ix2 r l) = X main_v0 ((win0_0.blk t).view.emb (ix2 r l)) := rfl

theorem blk0 (t : Fin cfg0.N) (r : Fin 1024) (l : Fin 2048) :
    Gen.iblk m c 0 t (ix2 r l) = (m ((c : Thread nD τ).loc main_arg2) : S8192x2048.Idx → EReal)
      (ix2 ⟨t.val / 2 * 1024 + r, by have := ltN t; omega⟩ l) := by
  have ht := ltN t
  unfold Gen.iblk
  refine (read0 c (Gen.V m c) t r l).trans ?_
  rw [v0]
  refine congrArg _ (funext fun a => ?_)
  fin_cases a <;> apply Fin.ext <;> blk_simp [(places t).1] <;> simp

theorem read1 (X : (b : Ref sig .tc) → Buf (Elt Ideal) ((c : Thread nD τ).loc b)) (t : Fin cfg0.N) (r : Fin 1024) (l : Fin 2048) :
    ((cfg0.win 1).blk t).view.read (Elt Ideal) (X (Pipeline.arrRef spec0 1)) (ix2 r l) = X main_v1 ((win0_1.blk t).view.emb (ix2 r l)) := rfl

theorem blk1 (t : Fin cfg0.N) (r : Fin 1024) (l : Fin 2048) :
    Gen.iblk m c 1 t (ix2 r l) = (m ((c : Thread nD τ).loc main_arg1) : S2048x2048.Idx → EReal)
      (ix2 ⟨t.val % 2 * 1024 + r, by omega⟩ l) := by
  have ht := ltN t
  unfold Gen.iblk
  refine (read1 c (Gen.V m c) t r l).trans ?_
  rw [v1]
  refine congrArg _ (funext fun a => ?_)
  fin_cases a <;> apply Fin.ext <;> blk_simp [(places t).2.1] <;> simp

/-- The product of row `a` and column `b`. -/
def prod (x : S8192x2048.Idx → EReal) (y : S2048x2048.Idx → EReal) (a : Fin 8192) (b : Fin 2048) : EReal :=
  ∑ k : Fin 2048, x (ix2 a k) * y (ix2 b k)

/-- The tile a step leaves. -/
theorem tile (t : Fin cfg0.N) (i : S1024x1024.Idx) (a : Fin 8192) (b : Fin 2048)
    (ha : a.val = t.val / 2 * 1024 + (i 0).val) (hb : b.val = t.val % 2 * 1024 + (i 1).val) :
    Gen.out0_2 (Gen.iblk m c 0 t) (Gen.iblk m c 1 t) i = prod (m ((c : Thread nD τ).loc main_arg2)) (m ((c : Thread nD τ).loc main_arg1)) a b := by
  have ht := ltN t
  have ea : (⟨t.val / 2 * 1024 + (i 0).val, by omega⟩ : Fin 8192) = a := Fin.ext ha.symm
  have eb : (⟨t.val % 2 * 1024 + (i 1).val, by omega⟩ : Fin 2048) = b := Fin.ext hb.symm
  rw [← ea, ← eb]
  unfold prod
  refine Eq.trans (by frame_out) ((pay_at (Gen.iblk m c 0 t) (Gen.iblk m c 1 t) i).trans ?_)
  exact Finset.sum_congr rfl fun k _ => congrArg₂ (· * ·) (blk0 m c t (i 0) k) (blk1 m c t (i 1) k)

/-- The result after the run. -/
theorem final (i : S8192x2048.Idx) : (Gen.dats m 0 c).arrAt 2 cfg0.N i
    = prod (m ((c : Thread nD τ).loc main_arg2)) (m ((c : Thread nD τ).loc main_arg1)) (i 0) (i 1) := by
  refine congrFun ((Gen.dats m 0 c).arrAt_eq_of_covers 2
    (fun i : S8192x2048.Idx => prod (m ((c : Thread nD τ).loc main_arg2)) (m ((c : Thread nD τ).loc main_arg1)) (i 0) (i 1))
    (by decide +kernel) fun t hf y => ?_) i
  have e := (places t).2.2
  rw [Gen.after0_2]
  have h0 : (((cfg0.win 2).blk t).view.emb y 0).val = t.val / 2 * 1024 + (y 0).val := by blk_simp [e] <;> simp
  have h1 : (((cfg0.win 2).blk t).view.emb y 1).val = t.val % 2 * 1024 + (y 1).val := by blk_simp [e] <;> simp
  have h := tile m c t y _ _ h0 h1
  generalize Gen.out0_2 (Gen.iblk m c 0 t) (Gen.iblk m c 1 t) = z at h ⊢
  exact h

end Cert.Kernel8Ideal.Host

namespace Cert.Reference8Ideal.Host

open Idealize.ShloMosaic Idealize.ShloMosaic.TcCoe
open Cert.Reference8Ideal Cert.Reference8Ideal.Facts

/-- The reference's result as a function of its arguments. -/
def out (x : FVec Ideal S8192x2048 .f32) (y : FVec Ideal S2048x2048 .f32) : FVec Ideal S8192x2048 .f32 :=
  Host.dotGeneral dot_S8192x2048_S2048x2048_S8192x2048_1_1_0_0_n_n none x y

/-- An element of it. -/
theorem out_at (x : FVec Ideal S8192x2048 .f32) (y : FVec Ideal S2048x2048 .f32) (a : Fin 8192) (b : Fin 2048) :
    out x y (ix2 a b) = ∑ k : Fin 2048, x (ix2 a k) * y (ix2 b k) := by
  pointwise [out]

end Cert.Reference8Ideal.Host

namespace Cert.Proof.OutBwd

open Idealize.ShloMosaic Idealize.ShloMosaic.TcCoe Idealize.SL.Sem

/-- The kernel ends, whatever its arguments hold, with its semaphores back at zero. -/
theorem frame_p : Cert.quiescent_Kernel8 := fun m ρ _ => Cert.Kernel8.Gen.frame m ρ

/-- The same of the idealized kernel. -/
theorem frame_pi : Cert.quiescent_Kernel8Ideal := fun m ρ _ => Cert.Kernel8Ideal.Gen.frame m ρ

/-- The reference ends. -/
theorem frame_ri : Cert.quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)

/-- The kernel's result is the reference's, of any arguments. -/
theorem algebraic : Cert.algebraic_Kernel8Ideal_Reference8Ideal (hKernel8Ideal := Cert.Kernel8Ideal.Gen.facts)
    (hReference8Ideal := Cert.Reference8Ideal.Gen.facts) := by
  intro m ρ m' ρ' _ ha
  refine ⟨_, (θ_run Cert.Kernel8Ideal.defs _ _).mono (fun _ h => h) (Cert.Kernel8Ideal.Value.run_blocks (F := Ideal) m ρ), ?_⟩
  refine (θ_run Cert.Reference8Ideal.defs _ _).mono (fun r h c => ?_) (Cert.Reference8Ideal.Value.run (F := Ideal) m' ρ')
  obtain ⟨h0, ha'⟩ := h c
  obtain ⟨a0, a1, a2⟩ := ha c
  refine ⟨h0.trans ?_, ha'⟩
  funext i
  refine Eq.trans ?_ (Cert.Kernel8Ideal.Host.final m c i).symm
  rw [a1, a2, eq_ix2 i]
  exact Cert.Reference8Ideal.Host.out_at _ _ (i 0) (i 1)

end Cert.Proof.OutBwd

end
-- ==== Proof.Down.lean ====
/- The down projection and the residual it is added to. -/
module

public import proofs.«01_k».proof.Proof.Gen.Kernel9.Frame
public import proofs.«01_k».proof.Proof.Gen.Kernel9Ideal.Value
public import proofs.«01_k».proof.Proof.Gen.Reference9Ideal.Run
public import proofs.«01_k».proof.Defs
public import Idealize.ShloMosaic.Lib.Pipeline.ValueKit
public import Idealize.ShloMosaic.Adequacy
public import Idealize.ShloMosaic.Init

@[expose] public section

set_option maxRecDepth 16384

noncomputable section

namespace Cert.Kernel9Ideal.Host

open Idealize.ShloMosaic Idealize.ShloMosaic.TcCoe Idealize.SL.Sem
open Cert.Kernel9Ideal Cert.Kernel9Ideal.Facts₀ Cert.Kernel9Ideal.Facts

/-- What the body stores: the residual and the product. -/
theorem pay_at (z : Vec Ideal S1024x512 .f32) (x : Vec Ideal S1024x5632 .bf16) (y : Vec Ideal S5632x512 .bf16) (i : S1024x512.Idx) :
    Gen.k0_pay1 z x y i = z i + ∑ k : Fin 5632, x (ix2 (i 0) k) * y (ix2 k (i 1)) := by
  have h (j : Fin 1024) (l : Fin 512) : Gen.k0_pay1 z x y (ix2 j l) = z (ix2 j l) + ∑ k : Fin 5632, x (ix2 j k) * y (ix2 k l) := by
    pointwise [Gen.k0_pay1]
  exact (congrArg (Gen.k0_pay1 z x y) (eq_ix2 i)).trans ((h (i 0) (i 1)).trans
    (congrArg (fun k => z k + ∑ k : Fin 5632, x (ix2 (i 0) k) * y (ix2 k (i 1))) (eq_ix2 i).symm))

variable (m : (ℓ : Loc nD τ sig) → Buf (Elt Ideal) ℓ) (c : Dev nD)

theorem v0 : (Gen.V m c main_v0 : S8192x5632.Idx → EReal) = m ((c : Thread nD τ).loc main_arg0) := by
  unfold Gen.V
  simp only [Gen.hostOps0]
  after_results_simp <;> rfl
theorem v1 : (Gen.V m c main_v1 : S5632x2048.Idx → EReal) = m ((c : Thread nD τ).loc main_arg1) := by
  unfold Gen.V
  simp only [Gen.hostOps0]
  after_results_simp <;> rfl

/-- The blocks of step `t`: tile `t / 4` of the rows and `t % 4` of the columns. -/
theorem places : ∀ t : Fin cfg0.N, win0_0.index t = ![t.val / 4, 0] ∧ win0_1.index t = ![0, t.val % 4] ∧ win0_2.index t = ![t.val / 4, t.val % 4] ∧ win0_3.index t = ![t.val / 4, t.val % 4] :=
  (by decide +kernel : ∀ t : Fin grid0.N, win0_0.index t = ![t.val / 4, 0] ∧ win0_1.index t = ![0, t.val % 4] ∧ win0_2.index t = ![t.val / 4, t.val % 4] ∧ win0_3.index t = ![t.val / 4, t.val % 4])

theorem ltN (t : Fin cfg0.N) : t.val < 32 := t.2

theorem read0 (X : (b : Ref sig .tc) → Buf (Elt Ideal) ((c : Thread nD τ).loc b)) (t : Fin cfg0.N) (r : Fin 1024) (l : Fin 5632) :
    ((cfg0.win 0).blk t).view.read (Elt Ideal) (X (Pipeline.arrRef spec0 0)) (ix2 r l) = X main_v0 ((win0_0.blk t).view.emb (ix2 r l)) := rfl

theorem blk0 (t : Fin cfg0.N) (r : Fin 1024) (l : Fin 5632) :
    Gen.iblk m c 0 t (ix2 r l) = (m ((c : Thread nD τ).loc main_arg0) : S8192x5632.Idx → EReal)
      (ix2 ⟨t.val / 4 * 1024 + r, by have := ltN t; omega⟩ l) := by
  have ht := ltN t
  unfold Gen.iblk
  refine (read0 c (Gen.V m c) t r l).trans ?_
  rw [v0]
  refine congrArg _ (funext fun a => ?_)
  fin_cases a <;> apply Fin.ext <;> blk_simp [(places t).1] <;> simp

theorem read1 (X : (b : Ref sig .tc) → Buf (Elt Ideal) ((c : Thread nD τ).loc b)) (t : Fin cfg0.N) (r : Fin 5632) (l : Fin 512) :
    ((cfg0.win 1).blk t).view.read (Elt Ideal) (X (Pipeline.arrRef spec0 1)) (ix2 r l) = X main_v1 ((win0_1.blk t).view.emb (ix2 r l)) := rfl

theorem blk1 (t : Fin cfg0.N) (r : Fin 5632) (l : Fin 512) :
    Gen.iblk m c 1 t (ix2 r l) = (m ((c : Thread nD τ).loc main_arg1) : S5632x2048.Idx → EReal)
      (ix2 r ⟨t.val % 4 * 512 + l, by omega⟩) := by
  have ht := ltN t
  unfold Gen.iblk
  refine (read1 c (Gen.V m c) t r l).trans ?_
  rw [v1]
  refine congrArg _ (funext fun a => ?_)
  fin_cases a <;> apply Fin.ext <;> blk_simp [(places t).2.1] <;> simp

theorem read2 (X : (b : Ref sig .tc) → Buf (Elt Ideal) ((c : Thread nD τ).loc b)) (t : Fin cfg0.N) (r : Fin 1024) (l : Fin 512) :
    ((cfg0.win 2).blk t).view.read (Elt Ideal) (X (Pipeline.arrRef spec0 2)) (ix2 r l) = X main_arg2 ((win0_2.blk t).view.emb (ix2 r l)) := rfl

theorem varg2 : (Gen.V m c main_arg2 : S8192x2048.Idx → EReal) = m ((c : Thread nD τ).loc main_arg2) := by
  unfold Gen.V
  simp only [Gen.hostOps0]
  after_results_simp <;> rfl

theorem blk2 (t : Fin cfg0.N) (r : Fin 1024) (l : Fin 512) :
    Gen.iblk m c 2 t (ix2 r l) = (m ((c : Thread nD τ).loc main_arg2) : S8192x2048.Idx → EReal)
      (ix2 ⟨t.val / 4 * 1024 + r, by have := ltN t; omega⟩ ⟨t.val % 4 * 512 + l, by omega⟩) := by
  have ht := ltN t
  unfold Gen.iblk
  refine (read2 c (Gen.V m c) t r l).trans ?_
  rw [varg2]
  refine congrArg _ (funext fun a => ?_)
  fin_cases a <;> apply Fin.ext <;> blk_simp [(places t).2.2.1] <;> simp

/-- The residual and the product of row `a` and column `b`. -/
def prod (x : S8192x5632.Idx → EReal) (y : S5632x2048.Idx → EReal) (z : S8192x2048.Idx → EReal) (a : Fin 8192) (b : Fin 2048) : EReal :=
  z (ix2 a b) + ∑ k : Fin 5632, x (ix2 a k) * y (ix2 k b)

/-- The tile a step leaves. -/
theorem tile (t : Fin cfg0.N) (i : S1024x512.Idx) (a : Fin 8192) (b : Fin 2048)
    (ha : a.val = t.val / 4 * 1024 + (i 0).val) (hb : b.val = t.val % 4 * 512 + (i 1).val) :
    Gen.out0_3 (Gen.iblk m c 0 t) (Gen.iblk m c 1 t) (Gen.iblk m c 2 t) i = prod (m ((c : Thread nD τ).loc main_arg0)) (m ((c : Thread nD τ).loc main_arg1)) (m ((c : Thread nD τ).loc main_arg2)) a b := by
  have ht := ltN t
  have ea : (⟨t.val / 4 * 1024 + (i 0).val, by omega⟩ : Fin 8192) = a := Fin.ext ha.symm
  have eb : (⟨t.val % 4 * 512 + (i 1).val, by omega⟩ : Fin 2048) = b := Fin.ext hb.symm
  rw [← ea, ← eb]
  unfold prod
  refine Eq.trans (by frame_out) ((pay_at (Gen.iblk m c 2 t) (Gen.iblk m c 0 t) (Gen.iblk m c 1 t) i).trans ?_)
  exact congrArg₂ (· + ·) ((congrArg (Gen.iblk m c 2 t) (eq_ix2 i)).trans (blk2 m c t (i 0) (i 1)))
    (Finset.sum_congr rfl fun k _ => congrArg₂ (· * ·) (blk0 m c t (i 0) k) (blk1 m c t k (i 1)))

/-- The result after the run. -/
theorem final (i : S8192x2048.Idx) : (Gen.dats m 0 c).arrAt 3 cfg0.N i
    = prod (m ((c : Thread nD τ).loc main_arg0)) (m ((c : Thread nD τ).loc main_arg1)) (m ((c : Thread nD τ).loc main_arg2)) (i 0) (i 1) := by
  refine congrFun ((Gen.dats m 0 c).arrAt_eq_of_covers 3
    (fun i : S8192x2048.Idx => prod (m ((c : Thread nD τ).loc main_arg0)) (m ((c : Thread nD τ).loc main_arg1)) (m ((c : Thread nD τ).loc main_arg2)) (i 0) (i 1))
    (by decide +kernel) fun t hf y => ?_) i
  have e := (places t).2.2.2
  rw [Gen.after0_3]
  have h0 : (((cfg0.win 3).blk t).view.emb y 0).val = t.val / 4 * 1024 + (y 0).val := by blk_simp [e] <;> simp
  have h1 : (((cfg0.win 3).blk t).view.emb y 1).val = t.val % 4 * 512 + (y 1).val := by blk_simp [e] <;> simp
  have h := tile m c t y _ _ h0 h1
  generalize Gen.out0_3 (Gen.iblk m c 0 t) (Gen.iblk m c 1 t) (Gen.iblk m c 2 t) = z at h ⊢
  exact h

end Cert.Kernel9Ideal.Host

namespace Cert.Reference9Ideal.Host

open Idealize.ShloMosaic Idealize.ShloMosaic.TcCoe
open Cert.Reference9Ideal Cert.Reference9Ideal.Facts

/-- The reference's result as a function of its arguments. -/
def out (x : FVec Ideal S8192x5632 .f32) (y : FVec Ideal S5632x2048 .f32) (z : FVec Ideal S8192x2048 .f32) : FVec Ideal S8192x2048 .f32 :=
  addf z (Host.dotGeneral dot_S8192x5632_S5632x2048_S8192x2048_1_0_0_1_n_n none x y)

/-- An element of it. -/
theorem out_at (x : FVec Ideal S8192x5632 .f32) (y : FVec Ideal S5632x2048 .f32) (z : FVec Ideal S8192x2048 .f32) (a : Fin 8192) (b : Fin 2048) :
    out x y z (ix2 a b) = z (ix2 a b) + ∑ k : Fin 5632, x (ix2 a k) * y (ix2 k b) := by
  pointwise [out]

end Cert.Reference9Ideal.Host

namespace Cert.Proof.Down

open Idealize.ShloMosaic Idealize.ShloMosaic.TcCoe Idealize.SL.Sem

/-- The kernel ends, whatever its arguments hold, with its semaphores back at zero. -/
theorem frame_p : Cert.quiescent_Kernel9 := fun m ρ _ => Cert.Kernel9.Gen.frame m ρ

/-- The same of the idealized kernel. -/
theorem frame_pi : Cert.quiescent_Kernel9Ideal := fun m ρ _ => Cert.Kernel9Ideal.Gen.frame m ρ

/-- The reference ends. -/
theorem frame_ri : Cert.quiescent_Reference9Ideal := fun m ρ _ =>
  (θ_run Cert.Reference9Ideal.defs _ _).mono (fun r h => ⟨fun c => (h c).2,
      Idealize.ShloMosaic.sem_eq_zero_of_no_sems (by decide) r.2⟩)
    (Cert.Reference9Ideal.Value.run (F := Ideal) m ρ)

/-- The kernel's result is the reference's, of any arguments. -/
theorem algebraic : Cert.algebraic_Kernel9Ideal_Reference9Ideal (hKernel9Ideal := Cert.Kernel9Ideal.Gen.facts)
    (hReference9Ideal := Cert.Reference9Ideal.Gen.facts) := by
  intro m ρ m' ρ' _ ha
  refine ⟨_, (θ_run Cert.Kernel9Ideal.defs _ _).mono (fun _ h => h) (Cert.Kernel9Ideal.Value.run_blocks (F := Ideal) m ρ), ?_⟩
  refine (θ_run Cert.Reference9Ideal.defs _ _).mono (fun r h c => ?_) (Cert.Reference9Ideal.Value.run (F := Ideal) m' ρ')
  obtain ⟨h0, ha'⟩ := h c
  obtain ⟨a0, a1, a2⟩ := ha c
  refine ⟨h0.trans ?_, ha'⟩
  funext i
  refine Eq.trans ?_ (Cert.Kernel9Ideal.Host.final m c i).symm
  rw [a0, a1, a2, eq_ix2 i]
  exact Cert.Reference9Ideal.Host.out_at _ _ _ (i 0) (i 1)

end Cert.Proof.Down

end
-- ==== Proof.Out.lean ====
/- The output projection and the residual it is added to. -/
module

public import proofs.«01_k».proof.Proof.Gen.Kernel10.Frame
public import proofs.«01_k».proof.Proof.Gen.Kernel10Ideal.Value
public import proofs.«01_k».proof.Proof.Gen.Reference10Ideal.Run
public import proofs.«01_k».proof.Defs
public import Idealize.ShloMosaic.Lib.Pipeline.ValueKit
public import Idealize.ShloMosaic.Adequacy
public import Idealize.ShloMosaic.Init

@[expose] public section

set_option maxRecDepth 16384

noncomputable section

namespace Cert.Kernel10Ideal.Host

open Idealize.ShloMosaic Idealize.ShloMosaic.TcCoe Idealize.SL.Sem
open Cert.Kernel10Ideal Cert.Kernel10Ideal.Facts₀ Cert.Kernel10Ideal.Facts

/-- What the body stores: the residual and the product. -/
theorem pay_at (z : Vec Ideal S1024x1024 .f32) (x : Vec Ideal S1024x2048 .bf16) (y : Vec Ideal S2048x1024 .bf16) (i : S1024x1024.Idx) :
    Gen.k0_pay1 z x y i = z i + ∑ k : Fin 2048, x (ix2 (i 0) k) * y (ix2 k (i 1)) := by
  have h (j : Fin 1024) (l : Fin 1024) : Gen.k0_pay1 z x y (ix2 j l) = z (ix2 j l) + ∑ k : Fin 2048, x (ix2 j k) * y (ix2 k l) := by
    pointwise [Gen.k0_pay1]
  exact (congrArg (Gen.k0_pay1 z x y) (eq_ix2 i)).trans ((h (i 0) (i 1)).trans
    (congrArg (fun k => z k + ∑ k : Fin 2048, x (ix2 (i 0) k) * y (ix2 k (i 1))) (eq_ix2 i).symm))

variable (m : (ℓ : Loc nD τ sig) → Buf (Elt Ideal) ℓ) (c : Dev nD)

theorem v0 : (Gen.V m c main_v0 : S8192x2048.Idx → EReal) = m ((c : Thread nD τ).loc main_arg0) := by
  unfold Gen.V
  simp only [Gen.hostOps0]
  after_results_simp <;> rfl
theorem v1 : (Gen.V m c main_v1 : S2048x2048.Idx → EReal) = m ((c : Thread nD τ).loc main_arg1) := by
  unfold Gen.V
  simp only [Gen.hostOps0]
  after_results_simp <;> rfl

/-- The blocks of step `t`: tile `t / 2` of the rows and `t % 2` of the columns. -/
theorem places : ∀ t : Fin cfg0.N, win0_0.index t = ![t.val / 2, 0] ∧ win0_1.index t = ![0, t.val % 2] ∧ win0_2.index t = ![t.val / 2, t.val % 2] ∧ win0_3.index t = ![t.val / 2, t.val % 2] :=
  (by decide +kernel : ∀ t : Fin grid0.N, win0_0.index t = ![t.val / 2, 0] ∧ win0_1.index t = ![0, t.val % 2] ∧ win0_2.index t = ![t.val / 2, t.val % 2] ∧ win0_3.index t = ![t.val / 2, t.val % 2])

theorem ltN (t : Fin cfg0.N) : t.val < 16 := t.2

theorem read0 (X : (b : Ref sig .tc) → Buf (Elt Ideal) ((c : Thread nD τ).loc b)) (t : Fin cfg0.N) (r : Fin 1024) (l : Fin 2048) :
    ((cfg0.win 0).blk t).view.read (Elt Ideal) (X (Pipeline.arrRef spec0 0)) (ix2 r l) = X main_v0 ((win0_0.blk t).view.emb (ix2 r l)) := rfl

theorem blk0 (t : Fin cfg0.N) (r : Fin 1024) (l : Fin 2048) :
    Gen.iblk m c 0 t (ix2 r l) = (m ((c : Thread nD τ).loc main_arg0) : S8192x2048.Idx → EReal)
      (ix2 ⟨t.val / 2 * 1024 + r, by have := ltN t; omega⟩ l) := by
  have ht := ltN t
  unfold Gen.iblk
  refine (read0 c (Gen.V m c) t r l).trans ?_
  rw [v0]
  refine congrArg _ (funext fun a => ?_)
  fin_cases a <;> apply Fin.ext <;> blk_simp [(places t).1] <;> simp

theorem read1 (X : (b : Ref sig .tc) → Buf (Elt Ideal) ((c : Thread nD τ).loc b)) (t : Fin cfg0.N) (r : Fin 2048) (l : Fin 1024) :
    ((cfg0.win 1).blk t).view.read (Elt Ideal) (X (Pipeline.arrRef spec0 1)) (ix2 r l) = X main_v1 ((win0_1.blk t).view.emb (ix2 r l)) := rfl

theorem blk1 (t : Fin cfg0.N) (r : Fin 2048) (l : Fin 1024) :
    Gen.iblk m c 1 t (ix2 r l) = (m ((c : Thread nD τ).loc main_arg1) : S2048x2048.Idx → EReal)
      (ix2 r ⟨t.val % 2 * 1024 + l, by omega⟩) := by
  have ht := ltN t
  unfold Gen.iblk
  refine (read1 c (Gen.V m c) t r l).trans ?_
  rw [v1]
  refine congrArg _ (funext fun a => ?_)
  fin_cases a <;> apply Fin.ext <;> blk_simp [(places t).2.1] <;> simp

theorem read2 (X : (b : Ref sig .tc) → Buf (Elt Ideal) ((c : Thread nD τ).loc b)) (t : Fin cfg0.N) (r : Fin 1024) (l : Fin 1024) :
    ((cfg0.win 2).blk t).view.read (Elt Ideal) (X (Pipeline.arrRef spec0 2)) (ix2 r l) = X main_arg2 ((win0_2.blk t).view.emb (ix2 r l)) := rfl

theorem varg2 : (Gen.V m c main_arg2 : S8192x2048.Idx → EReal) = m ((c : Thread nD τ).loc main_arg2) := by
  unfold Gen.V
  simp only [Gen.hostOps0]
  after_results_simp <;> rfl

theorem blk2 (t : Fin cfg0.N) (r : Fin 1024) (l : Fin 1024) :
    Gen.iblk m c 2 t (ix2 r l) = (m ((c : Thread nD τ).loc main_arg2) : S8192x2048.Idx → EReal)
      (ix2 ⟨t.val / 2 * 1024 + r, by have := ltN t; omega⟩ ⟨t.val % 2 * 1024 + l, by omega⟩) := by
  have ht := ltN t
  unfold Gen.iblk
  refine (read2 c (Gen.V m c) t r l).trans ?_
  rw [varg2]
  refine congrArg _ (funext fun a => ?_)
  fin_cases a <;> apply Fin.ext <;> blk_simp [(places t).2.2.1] <;> simp

/-- The residual and the product of row `a` and column `b`. -/
def prod (x : S8192x2048.Idx → EReal) (y : S2048x2048.Idx → EReal) (z : S8192x2048.Idx → EReal) (a : Fin 8192) (b : Fin 2048) : EReal :=
  z (ix2 a b) + ∑ k : Fin 2048, x (ix2 a k) * y (ix2 k b)

/-- The tile a step leaves. -/
theorem tile (t : Fin cfg0.N) (i : S1024x1024.Idx) (a : Fin 8192) (b : Fin 2048)
    (ha : a.val = t.val / 2 * 1024 + (i 0).val) (hb : b.val = t.val % 2 * 1024 + (i 1).val) :
    Gen.out0_3 (Gen.iblk m c 0 t) (Gen.iblk m c 1 t) (Gen.iblk m c 2 t) i = prod (m ((c : Thread nD τ).loc main_arg0)) (m ((c : Thread nD τ).loc main_arg1)) (m ((c : Thread nD τ).loc main_arg2)) a b := by
  have ht := ltN t
  have ea : (⟨t.val / 2 * 1024 + (i 0).val, by omega⟩ : Fin 8192) = a := Fin.ext ha.symm
  have eb : (⟨t.val % 2 * 1024 + (i 1).val, by omega⟩ : Fin 2048) = b := Fin.ext hb.symm
  rw [← ea, ← eb]
  unfold prod
  refine Eq.trans (by frame_out) ((pay_at (Gen.iblk m c 2 t) (Gen.iblk m c 0 t) (Gen.iblk m c 1 t) i).trans ?_)
  exact congrArg₂ (· + ·) ((congrArg (Gen.iblk m c 2 t) (eq_ix2 i)).trans (blk2 m c t (i 0) (i 1)))
    (Finset.sum_congr rfl fun k _ => congrArg₂ (· * ·) (blk0 m c t (i 0) k) (blk1 m c t k (i 1)))

/-- The result after the run. -/
theorem final (i : S8192x2048.Idx) : (Gen.dats m 0 c).arrAt 3 cfg0.N i
    = prod (m ((c : Thread nD τ).loc main_arg0)) (m ((c : Thread nD τ).loc main_arg1)) (m ((c : Thread nD τ).loc main_arg2)) (i 0) (i 1) := by
  refine congrFun ((Gen.dats m 0 c).arrAt_eq_of_covers 3
    (fun i : S8192x2048.Idx => prod (m ((c : Thread nD τ).loc main_arg0)) (m ((c : Thread nD τ).loc main_arg1)) (m ((c : Thread nD τ).loc main_arg2)) (i 0) (i 1))
    (by decide +kernel) fun t hf y => ?_) i
  have e := (places t).2.2.2
  rw [Gen.after0_3]
  have h0 : (((cfg0.win 3).blk t).view.emb y 0).val = t.val / 2 * 1024 + (y 0).val := by blk_simp [e] <;> simp
  have h1 : (((cfg0.win 3).blk t).view.emb y 1).val = t.val % 2 * 1024 + (y 1).val := by blk_simp [e] <;> simp
  have h := tile m c t y _ _ h0 h1
  generalize Gen.out0_3 (Gen.iblk m c 0 t) (Gen.iblk m c 1 t) (Gen.iblk m c 2 t) = z at h ⊢
  exact h

end Cert.Kernel10Ideal.Host

namespace Cert.Reference10Ideal.Host

open Idealize.ShloMosaic Idealize.ShloMosaic.TcCoe
open Cert.Reference10Ideal Cert.Reference10Ideal.Facts

/-- The reference's result as a function of its arguments. -/
def out (x : FVec Ideal S8192x2048 .f32) (y : FVec Ideal S2048x2048 .f32) (z : FVec Ideal S8192x2048 .f32) : FVec Ideal S8192x2048 .f32 :=
  addf z (Host.dotGeneral dot_S8192x2048_S2048x2048_S8192x2048_1_0_0_1_n_n none x y)

/-- An element of it. -/
theorem out_at (x : FVec Ideal S8192x2048 .f32) (y : FVec Ideal S2048x2048 .f32) (z : FVec Ideal S8192x2048 .f32) (a : Fin 8192) (b : Fin 2048) :
    out x y z (ix2 a b) = z (ix2 a b) + ∑ k : Fin 2048, x (ix2 a k) * y (ix2 k b) := by
  pointwise [out]

end Cert.Reference10Ideal.Host

namespace Cert.Proof.Out

open Idealize.ShloMosaic Idealize.ShloMosaic.TcCoe Idealize.SL.Sem

/-- The kernel ends, whatever its arguments hold, with its semaphores back at zero. -/
theorem frame_p : Cert.quiescent_Kernel10 := fun m ρ _ => Cert.Kernel10.Gen.frame m ρ

/-- The same of the idealized kernel. -/
theorem frame_pi : Cert.quiescent_Kernel10Ideal := fun m ρ _ => Cert.Kernel10Ideal.Gen.frame m ρ

/-- The reference ends. -/
theorem frame_ri : Cert.quiescent_Reference10Ideal := fun m ρ _ =>
  (θ_run Cert.Reference10Ideal.defs _ _).mono (fun r h => ⟨fun c => (h c).2,
      Idealize.ShloMosaic.sem_eq_zero_of_no_sems (by decide) r.2⟩)
    (Cert.Reference10Ideal.Value.run (F := Ideal) m ρ)

/-- The kernel's result is the reference's, of any arguments. -/
theorem algebraic : Cert.algebraic_Kernel10Ideal_Reference10Ideal (hKernel10Ideal := Cert.Kernel10Ideal.Gen.facts)
    (hReference10Ideal := Cert.Reference10Ideal.Gen.facts) := by
  intro m ρ m' ρ' _ ha
  refine ⟨_, (θ_run Cert.Kernel10Ideal.defs _ _).mono (fun _ h => h) (Cert.Kernel10Ideal.Value.run_blocks (F := Ideal) m ρ), ?_⟩
  refine (θ_run Cert.Reference10Ideal.defs _ _).mono (fun r h c => ?_) (Cert.Reference10Ideal.Value.run (F := Ideal) m' ρ')
  obtain ⟨h0, ha'⟩ := h c
  obtain ⟨a0, a1, a2⟩ := ha c
  refine ⟨h0.trans ?_, ha'⟩
  funext i
  refine Eq.trans ?_ (Cert.Kernel10Ideal.Host.final m c i).symm
  rw [a0, a1, a2, eq_ix2 i]
  exact Cert.Reference10Ideal.Host.out_at _ _ _ (i 0) (i 1)

end Cert.Proof.Out

end
-- ==== Proof.SwigluFrame.lean ====
/- The normed rows and the gated product: every run ends. The normed rows of a row tile are stored at its first point, in a
   loop over slabs of 128 rows, and stay in their buffer at the ten points after it. -/
module

public import proofs.«01_k».proof.Proof.Gen.Kernel11Ideal.Loops
public import proofs.«01_k».proof.Proof.Gen.Kernel11Ideal.Frame
public import Idealize.ShloMosaic.Lib.Pipeline.ValueKit
public import proofs.«01_k».proof.Proof.Whole

@[expose] public section

noncomputable section

namespace Cert.Kernel11Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A trip of the loop stores one slab. -/
theorem tripL_eq (𝒱 : Variants) (c : Dev nD) (bd : Option 𝒱.V) (i : grid0.Coords)
    (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1024x2048 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (h : k0_cond1 i = 1#1)
    (f0 : BufTy.Contents (Elt F) arg2.view.ty) (f1 : BufTy.Contents (Elt F) arg3.view.ty) (k : Fin k0_t1_loop.trips) :
    tripL_k0_t1 (F := F) 𝒱 c bd i arg2 harg2 arg3 harg3 arg4 harg4 arg5 harg5 arg6 harg6 arg7 harg7 arg8 harg8 arg9 harg9 h f0 f1 k
      = [⟨Rect.unit (s := S1024x2048) (k0_off1 k) S128x2048.size (k0_off1_inb i k h),
          k0_pay1 (View.ld (arg2.view.read (Elt F) f0) (Rect.unit (s := S1024x2048) (k0_off1 k) S128x2048.size (k0_off1_inb i k h)))
            (View.ld (arg3.view.read (Elt F) f1) (Rect.unit (s := S1x2048) ![0, 0] S1x2048.size inb_S1x2048_S1x2048_0_0))⟩] := by
  unfold tripL_k0_t1 trip_k0_t1
  rfl

/-- The slab of 128 rows from the row `128 q` on. -/
def slab (x : Vec F S1024x2048 .f32) (q : Nat) (hq : q < 8) : Vec F S128x2048 .f32 := fun z =>
  x (ix2 ⟨128 * q + (z 0 : Fin 128).val, by
    have h : (z 0 : Fin 128).val < 128 := (z 0 : Fin 128).isLt
    omega⟩
    (z 1 : Fin 2048))

/-- The normed rows, a slab of 128 of them at a time: the row `r` is the row `r % 128` of the slab `r / 128`. -/
def hblk (x : Vec F S1024x2048 .f32) (g : Vec F S1x2048 .f32) : Vec F S1024x2048 .bf16 := fun y =>
  k0_pay1 (slab x ((y 0 : Fin 1024).val / 128) (Nat.div_lt_of_lt_mul (y 0 : Fin 1024).isLt)) g
    (ix2 ⟨(y 0 : Fin 1024).val % 128, Nat.mod_lt _ (by decide)⟩ (y 1 : Fin 2048))

/-- Eight slabs. -/
theorem trips_eq : k0_t1_loop.trips = 8 := by decide +kernel

/-- After `n` trips the first `128 n` rows hold the normed rows. -/
theorem pb_read (𝒱 : Variants) (c : Dev nD) (bd : Option 𝒱.V) (i : grid0.Coords)
    (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1024x2048 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (h : k0_cond1 i = 1#1)
    (f0 : BufTy.Contents (Elt F) arg2.view.ty) (f1 : BufTy.Contents (Elt F) arg3.view.ty) (f : BufTy.Contents (Elt F) arg6.view.ty) (n : Nat)
    (hn : n ≤ k0_t1_loop.trips) (y : S1024x2048.Idx) (hy : (y 0 : Fin 1024).val < 128 * n) :
    arg6.view.read (Elt F) (arg6.view.writes (Elt F) f (pb_k0_t1 (F := F) 𝒱 c bd i arg2 harg2 arg3 harg3 arg4 harg4 arg5 harg5 arg6 harg6 arg7 harg7 arg8 harg8 arg9 harg9 h f0 f1 n)) y
      = hblk (arg2.view.read (Elt F) f0) (arg3.view.read (Elt F) f1) y := by
  induction n with
  | zero => omega
  | succ n ih =>
    rw [pb_k0_t1_succ 𝒱 c bd i arg2 harg2 arg3 harg3 arg4 harg4 arg5 harg5 arg6 harg6 arg7 harg7 arg8 harg8 arg9 harg9 h f0 f1 ⟨n, hn⟩, tripL_eq, List.singleton_append]
    have e := k0_off1_eq ⟨n, hn⟩
    by_cases hy' : (y 0 : Fin 1024).val < 128 * n
    · rw [View.read_writes_cons_unit_of_not_mem _ _ _ _ _ _ e 0 (Or.inl hy')]
      exact ih (Nat.le_of_succ_le hn) hy'
    · have hlt := (y 0 : Fin 1024).isLt
      have hq : (y 0 : Fin 1024).val / 128 = n := by omega
      rw [View.read_writes_cons_unit_of_mem _ _ _ _ _ _ (ix2 ⟨(y 0 : Fin 1024).val % 128, Nat.mod_lt _ (by decide)⟩ (y 1 : Fin 2048)) e]
      · unfold hblk
        refine congrFun (congr (congrArg k0_pay1 (funext fun z => ?_)) (funext fun z => ?_)) _
        · unfold slab
          refine congrArg (arg2.view.read (Elt F) f0) (funext fun a => Fin.ext ?_)
          have e' : ∀ a, k0_off1 ⟨n, hn⟩ a = ![128 * n, 0] a := fun a => congrFun e a
          fin_cases a
          · simp [Rect.emb, Rect.unit, e', hq]
          · simp [Rect.emb, Rect.unit, e']
        · refine congrArg (arg3.view.read (Elt F) f1) (funext fun a => Fin.ext ?_)
          fin_cases a <;> simp [Rect.emb, Rect.unit]
      · intro a
        fin_cases a
        · show (y 0 : Fin 1024).val = 128 * n + (y 0 : Fin 1024).val % 128
          omega
        · show (y 1 : Fin 2048).val = 0 + (y 1 : Fin 2048).val
          omega

local notation "𝕄" => MT nD τ sig Unit (Elt F) ℕ (UR sig nD τ) ℕ

/-- After the loop the buffer holds the normed rows. -/
theorem rows_read (𝒱 : Variants) (c : Dev nD) (bd : Option 𝒱.V) (i : grid0.Coords)
    (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1024x2048 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (h : k0_cond1 i = 1#1)
    (f0 : BufTy.Contents (Elt F) arg2.view.ty) (f1 : BufTy.Contents (Elt F) arg3.view.ty) (f : BufTy.Contents (Elt F) arg6.view.ty) :
    arg6.view.read (Elt F) (arg6.view.writes (Elt F) f (pb_k0_t1 (F := F) 𝒱 c bd i arg2 harg2 arg3 harg3 arg4 harg4 arg5 harg5 arg6 harg6 arg7 harg7 arg8 harg8 arg9 harg9 h f0 f1 (Scf.trips k0_t1_loop.lb k0_t1_loop.ub k0_t1_loop.st)))
      = hblk (arg2.view.read (Elt F) f0) (arg3.view.read (Elt F) f1) :=
  funext fun y => pb_read 𝒱 c bd i arg2 harg2 arg3 harg3 arg4 harg4 arg5 harg5 arg6 harg6 arg7 harg7 arg8 harg8 arg9 harg9 h f0 f1 f _ le_rfl y
    ((y 0 : Fin 1024).isLt.trans_eq (by rw [trips_eq]; rfl))

/-- The body at a row tile's first point. -/
theorem sound_first (c : Dev nD) (E : Set ℕ) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1024x2048 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (h : k0_cond1 i = 1#1)
    (x0 : Vec F S1024x2048 .f32) (x1 : Vec F S1x2048 .f32) (x2 x3 : Vec F S2048x512 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (∃ d, owns (c : Thread nD τ) arg7 fullShare d) ∗ (∃ d, owns (c : Thread nD τ) arg8 fullShare d)
        ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (hblk x0 x1)
            ∗ owns (c : Thread nD τ) arg7 fullShare (k0_pay3 (hblk x0 x1) x2) ∗ owns (c : Thread nD τ) arg8 fullShare (k0_pay4 (hblk x0 x1) x3)
            ∗ owns (c : Thread nD τ) arg9 fullShare (k0_pay5 (hblk x0 x1) x2 x3)) -∗ K ⟨⟩))
      ⊢ wp frame (wpE (defs₀ (F := F)) Variants.none c none) E (cc0_rms_swiglu i arg2 harg2 arg3 harg3 arg4 harg4 arg5 harg5 arg6 harg6 arg7 harg7 arg8 harg8 arg9 harg9) K := by
  simp only [cc0_rms_swiglu_eq_skeleton]; unfold cc0_rms_swiglu_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf0 hf1 hf2 hf3
  sl_exec (disch := sl_exact h)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact rows_read _ _ _ _ _ _ _ _ _ _ _ _ _ _ _ _ _ _ _ _ _ _ _ _
  isplitl [H5]
  · iexists _; isplitr
    swap; · iexact H5
    ipureintro
    rw [Whole.read_store _ _ _ _ Whole.zeros, Whole.readAt_all _ _ _ Whole.zeros, Whole.readAt_all _ _ _ Whole.zeros, rows_read]
  isplitl [H6]
  · iexists _; isplitr
    swap; · iexact H6
    ipureintro
    rw [Whole.read_store _ _ _ _ Whole.zeros, Whole.readAt_all _ _ _ Whole.zeros, Whole.readAt_all _ _ _ Whole.zeros, rows_read]
  iexists _; isplitr
  swap; · iexact H7
  ipureintro
  rw [Whole.read_store _ _ _ _ Whole.zeros, Whole.readAt_all _ _ _ Whole.zeros, Whole.readAt_all _ _ _ Whole.zeros, Whole.readAt_all _ _ _ Whole.zeros, rows_read]

/-- The body at the points after it. -/
theorem sound_later (c : Dev nD) (E : Set ℕ) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1024x2048 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (h : ¬ k0_cond1 i = 1#1)
    (x0 : Vec F S1024x2048 .f32) (x1 : Vec F S1x2048 .f32) (x2 x3 : Vec F S2048x512 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare (hblk x0 x1)
        ∗ (∃ d, owns (c : Thread nD τ) arg7 fullShare d) ∗ (∃ d, owns (c : Thread nD τ) arg8 fullShare d)
        ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (hblk x0 x1)
            ∗ owns (c : Thread nD τ) arg7 fullShare (k0_pay3 (hblk x0 x1) x2) ∗ owns (c : Thread nD τ) arg8 fullShare (k0_pay4 (hblk x0 x1) x3)
            ∗ owns (c : Thread nD τ) arg9 fullShare (k0_pay5 (hblk x0 x1) x2 x3)) -∗ K ⟨⟩))
      ⊢ wp frame (wpE (defs₀ (F := F)) Variants.none c none) E (cc0_rms_swiglu i arg2 harg2 arg3 harg3 arg4 harg4 arg5 harg5 arg6 harg6 arg7 harg7 arg8 harg8 arg9 harg9) K := by
  simp only [cc0_rms_swiglu_eq_skeleton]; unfold cc0_rms_swiglu_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3
  sl_exec (disch := sl_exact h)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact hf4
  isplitl [H5]
  · iexists _; isplitr
    swap; · iexact H5
    ipureintro
    rw [Whole.read_store _ _ _ _ Whole.zeros, Whole.readAt_all _ _ _ Whole.zeros, Whole.readAt_all _ _ _ Whole.zeros, hf4]
  isplitl [H6]
  · iexists _; isplitr
    swap; · iexact H6
    ipureintro
    rw [Whole.read_store _ _ _ _ Whole.zeros, Whole.readAt_all _ _ _ Whole.zeros, Whole.readAt_all _ _ _ Whole.zeros, hf4]
  iexists _; isplitr
  swap; · iexact H7
  ipureintro
  rw [Whole.read_store _ _ _ _ Whole.zeros, Whole.readAt_all _ _ _ Whole.zeros, Whole.readAt_all _ _ _ Whole.zeros, Whole.readAt_all _ _ _ Whole.zeros, hf4]

variable (m : (ℓ : Loc nD τ sig) → Buf (Elt F) ℓ) (ρ : Dev nD → PrngReg)

/-- The proof data: an input's buffer at its block; the normed rows at those of the row tile's block, at every point of the
    tile; the other results at their payloads of the normed rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => hblk (iblk m c 0 t) (iblk m c 1 t)
    | ⟨5, _⟩ => k0_pay3 (hblk (iblk m c 0 t) (iblk m c 1 t)) (iblk m c 2 t)
    | ⟨6, _⟩ => k0_pay4 (hblk (iblk m c 0 t) (iblk m c 1 t)) (iblk m c 3 t)
    | ⟨7, _⟩ => k0_pay5 (hblk (iblk m c 0 t) (iblk m c 1 t)) (iblk m c 2 t) (iblk m c 3 t)
  Φ _ := Pipeline.ΦA spec0 c
  q _ := fullShare
  owed _ := 0

/-- The arrays the pipeline finds. -/
theorem A_eq (c : Dev nD) (w : Fin cfg0.W) : (dats m 0 c).A w = V m c (Pipeline.arrRef spec0 w) := by
  dsimp only [dats]

/-! What each window's buffer holds after a point, -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = hblk (iblk m c 0 t) (iblk m c 1 t) := by dsimp only [dats]
theorem after0_5 (c : Dev nD) (t : Fin cfg0.N) : (dats m 0 c).after 5 t = k0_pay3 (hblk (iblk m c 0 t) (iblk m c 1 t)) (iblk m c 2 t) := by dsimp only [dats]
theorem after0_6 (c : Dev nD) (t : Fin cfg0.N) : (dats m 0 c).after 6 t = k0_pay4 (hblk (iblk m c 0 t) (iblk m c 1 t)) (iblk m c 3 t) := by dsimp only [dats]
theorem after0_7 (c : Dev nD) (t : Fin cfg0.N) : (dats m 0 c).after 7 t = k0_pay5 (hblk (iblk m c 0 t) (iblk m c 1 t)) (iblk m c 2 t) (iblk m c 3 t) := by dsimp only [dats]

/-! and what an input's holds before it. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The first point of a row tile is the one of the first column tile. -/
theorem first_iff : ∀ t : Fin cfg0.N, k0_cond1 (grid0.coords t) = 1#1 ↔ t.val % 11 = 0 := by
  decide +kernel

/-- The point before. -/
abbrev prev (t : Fin cfg0.N) : Fin cfg0.N := ⟨t.val - 1, Nat.lt_of_le_of_lt (Nat.sub_le _ _) t.isLt⟩

/-- Within a row tile the rows' block does not move. -/
theorem rows_prev (c : Dev nD) (t : Fin cfg0.N) (ht : t.val % 11 ≠ 0) :
    (iblk m c 0 t : Vec F S1024x2048 .f32) = iblk m c 0 (prev t) := by
  have hf : (cfg0.win 0).fetch t = false := Bool.eq_false_iff.mpr fun h => ht ((fetch0_0 t).mp h)
  refine (before0_0 m c t (iblk m c 0 t)).symm.trans (((dats m 0 c).before_unfetched_in 0 rfl t hf (fun _ => rfl) _).trans ?_)
  unfold Dat.kept
  rw [after0_0]
  exact (cfg0.win 0).fill_cut (cfg0.grid.coords (prev t)) (iblk m c 0 (prev t))

/-- The gain's block does not move. -/
theorem gain_prev (c : Dev nD) (t : Fin cfg0.N) (ht : t.val % 11 ≠ 0) :
    (iblk m c 1 t : Vec F S1x2048 .f32) = iblk m c 1 (prev t) := by
  have hf : (cfg0.win 1).fetch t = false := Bool.eq_false_iff.mpr fun h => ht (by have := (fetch0_1 t).mp h; omega)
  refine (before0_1 m c t (iblk m c 1 t)).symm.trans (((dats m 0 c).before_unfetched_in 1 rfl t hf (fun _ => rfl) _).trans ?_)
  unfold Dat.kept
  rw [after0_1]
  exact (cfg0.win 1).fill_cut (cfg0.grid.coords (prev t)) (iblk m c 1 (prev t))

/-- After its first point the row tile's normed rows stay in their buffer. -/
theorem before0_4 (c : Dev nD) (n : Nat) (t : Fin cfg0.N) (hn : t.val = n) (ht : t.val % 11 ≠ 0) (d) :
    (dats m 0 c).before 4 t d = hblk (iblk m c 0 t) (iblk m c 1 t) := by
  induction n generalizing t with
  | zero => exact absurd (by rw [hn]) ht
  | succ n ih =>
    have hp : (prev t).val = n := by show t.val - 1 = n; omega
    have hfl : (cfg0.win 4).flush (prev t) = false := Bool.eq_false_iff.mpr fun h => by
      have := (flush0_4 (prev t)).mp h
      omega
    have hfe : (cfg0.win 4).fetch t = false := (cfg0.win 4).fetch_out rfl t
    rw [(dats m 0 c).before_of_pos 4 t (by omega) hfe, hfl, if_neg Bool.false_ne_true]
    rw [rows_prev m c t ht, gain_prev m c t ht]
    by_cases h0 : (prev t).val % 11 = 0
    · have hi : cfg0.idle 4 (cfg0.grid.coords (prev t)) = false := by
        show (!(k0_cond1 (grid0.coords (prev t)) == 1#1)) = false
        rw [(first_iff (prev t)).mpr h0]; rfl
      unfold Dat.left
      rw [hi]
      show (dats m 0 c).kept 4 (prev t) d = _
      unfold Dat.kept
      rw [after0_4]
      exact (cfg0.win 4).fill_cut (cfg0.grid.coords (prev t)) _
    · have hi : cfg0.idle 4 (cfg0.grid.coords (prev t)) = true := by
        show (!(k0_cond1 (grid0.coords (prev t)) == 1#1)) = true
        rw [beq_eq_false_iff_ne.mpr fun h => h0 ((first_iff (prev t)).mp h)]; rfl
      unfold Dat.left
      rw [hi]
      exact ih (prev t) hp h0

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The normed rows in their buffer are what the point has to leave there, be it one that stores them or not. -/
theorem leaves_rows (c : Dev nD) (t : Fin cfg0.N) :
    owns (c : Thread nD τ) (st0_4 t) fullShare (hblk (iblk m c 0 t) (iblk m c 1 t)) ⊢ ((dats m 0 c).leavesExact 4 t : sProp 𝕄) := by
  by_cases h0 : t.val % 11 = 0
  · have hi : cfg0.idle 4 (cfg0.grid.coords t) = false := by
      show (!(k0_cond1 (grid0.coords t) == 1#1)) = false
      rw [(first_iff t).mpr h0]; rfl
    unfold Dat.leavesExact
    rw [hi]
    show _ ⊢ owns (c : Thread nD τ) (st0_4 t) fullShare ((dats m 0 c).after 4 t)
    rw [after0_4]
  · have hi : cfg0.idle 4 (cfg0.grid.coords t) = true := by
      show (!(k0_cond1 (grid0.coords t) == 1#1)) = true
      rw [beq_eq_false_iff_ne.mpr fun h => h0 ((first_iff t).mp h)]; rfl
    cases hf : (cfg0.win 4).flush t
    · rw [(dats m 0 c).leavesExact_idle 4 t hi hf]
      iintro H
      iexists fun _ => hblk (iblk m c 0 t) (iblk m c 1 t) (ix2 0 0)
      rw [before0_4 m c t.val t rfl h0]
      iexact H
    · unfold Dat.leavesExact
      rw [hi, hf]
      show _ ⊢ owns (c : Thread nD τ) (st0_4 t) fullShare ((dats m 0 c).after 4 t)
      rw [after0_4]

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases h0 : t.val % 11 = 0
  · iapply (sound_first c Set.univ (grid0.coords t) _ _ _ _ _ _ _ _ _ _ _ _ _ _ _ _ ((first_iff t).mpr h0) (iblk m c 0 t) (iblk m c 1 t) (iblk m c 2 t) (iblk m c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iapply (leaves_rows m c t) $$ H4
    isplitl [H5]; · iexact H5
    isplitl [H6]; · iexact H6
    iexact H7
  · rw [before0_4 m c t.val t rfl h0 d4]
    iapply (sound_later c Set.univ (grid0.coords t) _ _ _ _ _ _ _ _ _ _ _ _ _ _ _ _ (fun h => h0 ((first_iff t).mp h)) (iblk m c 0 t) (iblk m c 1 t) (iblk m c 2 t) (iblk m c 3 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iapply (leaves_rows m c t) $$ H4
    isplitl [H5]; · iexact H5
    isplitl [H6]; · iexact H6
    iexact H7

/-- The call of the body at a point. -/
theorem defs₀_row (t : Fin cfg0.N) :
    defs₀ (F := F) .tc cfg0.body (cfg0.bodyArgs t (cfg0.slots t)) = bodyAt0 t := by
  unfold defs₀; rw [Defs.onTc_tc]

/-- What the pipeline asks of the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- Every run ends, each array of the pipeline at what the library computes from the proof data. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- Every run ends, the arguments unchanged and the semaphores back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel11Ideal.Gen
end
-- ==== Proof.Swiglu.lean ====
/- The norm before the feed-forward network, the gate and the up projection, and their gated product. -/
module

public import proofs.«01_k».proof.Proof.SwigluFrame
public import proofs.«01_k».proof.Proof.Gen.Kernel11
public import proofs.«01_k».proof.Proof.Gen.Reference11Ideal.Run
public import proofs.«01_k».proof.Defs
public import proofs.«01_k».proof.Proof.Sigmoid
public import proofs.«01_k».proof.Proof.Rms
public import Idealize.ShloMosaic.Lib.Pipeline.ValueKit
public import Idealize.ShloMosaic.Adequacy
public import Idealize.ShloMosaic.Init

@[expose] public section

set_option maxRecDepth 16384

noncomputable section

namespace Cert.Kernel11Ideal.Host

open Idealize.ShloMosaic Idealize.ShloMosaic.TcCoe Idealize.SL.Sem
open Cert.Band Cert.Rms Cert.Kernel11Ideal Cert.Kernel11Ideal.Facts₀ Cert.Kernel11Ideal.Facts

/-- What the loop stores. -/
theorem pay1_at (x : Vec Ideal S128x2048 .f32) (g : Vec Ideal S1x2048 .f32) (r : Fin 128) (l : Fin 2048) :
    Gen.k0_pay1 x g (ix2 r l) = rms (fun k => x (ix2 r k)) (fun k => g (ix2 0 k)) l := by
  unfold rms
  pointwise [Gen.k0_pay1]

/-- The normed rows of a row tile. -/
theorem hblk_at (x : Vec Ideal S1024x2048 .f32) (g : Vec Ideal S1x2048 .f32) (r : Fin 1024) (l : Fin 2048) :
    Gen.hblk x g (ix2 r l) = rms (fun k => x (ix2 r k)) (fun k => g (ix2 0 k)) l := by
  refine (pay1_at _ g _ _).trans (rms_congr (fun k => ?_) (fun _ => rfl) l)
  unfold Gen.slab
  refine congrArg x (funext fun a => ?_)
  fin_cases a <;> apply Fin.ext
  · exact Nat.div_add_mod _ _
  · rfl

/-- A product of normed rows with weights, as the body makes it. -/
def part (h : Vec Ideal S1024x2048 .bf16) (w : Vec Ideal S2048x512 .bf16) (r : Fin 1024) (l : Fin 512) : EReal :=
  ∑ k : Fin 2048, h (ix2 r k) * w (ix2 k l)

theorem pay3_at (h : Vec Ideal S1024x2048 .bf16) (w : Vec Ideal S2048x512 .bf16) (i : S1024x512.Idx) :
    Gen.k0_pay3 h w i = part h w (i 0) (i 1) := by
  have e (j : Fin 1024) (l : Fin 512) : Gen.k0_pay3 h w (ix2 j l) = part h w j l := by
    unfold part
    pointwise [Gen.k0_pay3, Gen.k0_pay2]
  exact (congrArg (Gen.k0_pay3 h w) (eq_ix2 i)).trans (e (i 0) (i 1))

theorem pay4_at (h : Vec Ideal S1024x2048 .bf16) (w : Vec Ideal S2048x512 .bf16) (i : S1024x512.Idx) :
    Gen.k0_pay4 h w i = part h w (i 0) (i 1) := by
  have e (j : Fin 1024) (l : Fin 512) : Gen.k0_pay4 h w (ix2 j l) = part h w j l := by
    unfold part
    pointwise [Gen.k0_pay4, Gen.k0_pay2]
  exact (congrArg (Gen.k0_pay4 h w) (eq_ix2 i)).trans (e (i 0) (i 1))

/-- The gated product of a gate and an up projection. -/
def act (g u : EReal) : EReal := g * Ideal.logistic g * u

theorem pay5_at (h : Vec Ideal S1024x2048 .bf16) (w u : Vec Ideal S2048x512 .bf16) (i : S1024x512.Idx) :
    Gen.k0_pay5 h w u i = act (part h w (i 0) (i 1)) (part h u (i 0) (i 1)) := by
  have e (j : Fin 1024) (l : Fin 512) : Gen.k0_pay5 h w u (ix2 j l) = act (part h w j l) (part h u j l) := by
    unfold act
    rw [← sigmoid]
    unfold part
    pointwise [Gen.k0_pay5, Gen.k0_pay4, Gen.k0_pay3, Gen.k0_pay2]
  exact (congrArg (Gen.k0_pay5 h w u) (eq_ix2 i)).trans (e (i 0) (i 1))

variable (m : (ℓ : Loc nD τ sig) → Buf (Elt Ideal) ℓ) (c : Dev nD)

theorem varg0 : (Gen.V m c main_arg0 : S8192x2048.Idx → EReal) = m ((c : Thread nD τ).loc main_arg0) := by
  unfold Gen.V
  simp only [Gen.hostOps0]
  after_results_simp <;> rfl
/-- The gain as a row. -/
def row (x : Vec Ideal S2048 .f32) : Vec Ideal S1x2048 .f32 := shapeCast S1x2048 x Gen.shapeCasts_S2048_S1x2048

theorem row_at (x : Vec Ideal S2048 .f32) (l : Fin 2048) : row x (ix2 0 l) = x (ix1 l) := by
  pointwise [row]

theorem v0 : (Gen.V m c main_v0 : S1x2048.Idx → EReal) = row (m ((c : Thread nD τ).loc main_arg1)) := by
  unfold Gen.V
  simp only [Gen.hostOps0]
  after_results_simp <;> rfl
theorem v1 : (Gen.V m c main_v1 : S2048x5632.Idx → EReal) = m ((c : Thread nD τ).loc main_arg2) := by
  unfold Gen.V
  simp only [Gen.hostOps0]
  after_results_simp <;> rfl
theorem v2 : (Gen.V m c main_v2 : S2048x5632.Idx → EReal) = m ((c : Thread nD τ).loc main_arg3) := by
  unfold Gen.V
  simp only [Gen.hostOps0]
  after_results_simp <;> rfl

/-- The blocks of step `t`: tile `t / 11` of the rows and `t % 11` of the columns. -/
theorem places : ∀ t : Fin cfg0.N, win0_0.index t = ![t.val / 11, 0] ∧ win0_1.index t = ![0, 0] ∧ win0_2.index t = ![0, t.val % 11] ∧ win0_3.index t = ![0, t.val % 11]
      ∧ win0_4.index t = ![t.val / 11, 0] ∧ win0_5.index t = ![t.val / 11, t.val % 11] ∧ win0_6.index t = ![t.val / 11, t.val % 11]
      ∧ win0_7.index t = ![t.val / 11, t.val % 11] :=
  (by decide +kernel : ∀ t : Fin grid0.N, win0_0.index t = ![t.val / 11, 0] ∧ win0_1.index t = ![0, 0] ∧ win0_2.index t = ![0, t.val % 11] ∧ win0_3.index t = ![0, t.val % 11]
      ∧ win0_4.index t = ![t.val / 11, 0] ∧ win0_5.index t = ![t.val / 11, t.val % 11] ∧ win0_6.index t = ![t.val / 11, t.val % 11]
      ∧ win0_7.index t = ![t.val / 11, t.val % 11])

theorem ltN (t : Fin cfg0.N) : t.val < 88 := t.2

theorem read0 (X : (b : Ref sig .tc) → Buf (Elt Ideal) ((c : Thread nD τ).loc b)) (t : Fin cfg0.N) (r : Fin 1024) (l : Fin 2048) :
    ((cfg0.win 0).blk t).view.read (Elt Ideal) (X (Pipeline.arrRef spec0 0)) (ix2 r l) = X main_arg0 ((win0_0.blk t).view.emb (ix2 r l)) := rfl

theorem blk0 (t : Fin cfg0.N) (r : Fin 1024) (l : Fin 2048) :
    Gen.iblk m c 0 t (ix2 r l) = (m ((c : Thread nD τ).loc main_arg0) : S8192x2048.Idx → EReal) (ix2 ⟨t.val / 11 * 1024 + r, by have := ltN t; omega⟩ l) := by
  have ht := ltN t
  unfold Gen.iblk
  refine (read0 c (Gen.V m c) t r l).trans ?_
  rw [varg0]
  refine congrArg _ (funext fun a => ?_)
  fin_cases a <;> apply Fin.ext <;> blk_simp [(places t).1] <;> simp

theorem read1 (X : (b : Ref sig .tc) → Buf (Elt Ideal) ((c : Thread nD τ).loc b)) (t : Fin cfg0.N) (r : Fin 1) (l : Fin 2048) :
    ((cfg0.win 1).blk t).view.read (Elt Ideal) (X (Pipeline.arrRef spec0 1)) (ix2 r l) = X main_v0 ((win0_1.blk t).view.emb (ix2 r l)) := rfl

theorem blk1 (t : Fin cfg0.N) (r : Fin 1) (l : Fin 2048) :
    Gen.iblk m c 1 t (ix2 r l) = (row (m ((c : Thread nD τ).loc main_arg1)) : S1x2048.Idx → EReal) (ix2 r l) := by
  have ht := ltN t
  unfold Gen.iblk
  refine (read1 c (Gen.V m c) t r l).trans ?_
  rw [v0]
  refine congrArg _ (funext fun a => ?_)
  fin_cases a <;> apply Fin.ext <;> blk_simp [(places t).2.1] <;> simp

theorem read2 (X : (b : Ref sig .tc) → Buf (Elt Ideal) ((c : Thread nD τ).loc b)) (t : Fin cfg0.N) (r : Fin 2048) (l : Fin 512) :
    ((cfg0.win 2).blk t).view.read (Elt Ideal) (X (Pipeline.arrRef spec0 2)) (ix2 r l) = X main_v1 ((win0_2.blk t).view.emb (ix2 r l)) := rfl

theorem blk2 (t : Fin cfg0.N) (r : Fin 2048) (l : Fin 512) :
    Gen.iblk m c 2 t (ix2 r l) = (m ((c : Thread nD τ).loc main_arg2) : S2048x5632.Idx → EReal) (ix2 r ⟨t.val % 11 * 512 + l, by omega⟩) := by
  have ht := ltN t
  unfold Gen.iblk
  refine (read2 c (Gen.V m c) t r l).trans ?_
  rw [v1]
  refine congrArg _ (funext fun a => ?_)
  fin_cases a <;> apply Fin.ext <;> blk_simp [(places t).2.2.1] <;> simp

theorem read3 (X : (b : Ref sig .tc) → Buf (Elt Ideal) ((c : Thread nD τ).loc b)) (t : Fin cfg0.N) (r : Fin 2048) (l : Fin 512) :
    ((cfg0.win 3).blk t).view.read (Elt Ideal) (X (Pipeline.arrRef spec0 3)) (ix2 r l) = X main_v2 ((win0_3.blk t).view.emb (ix2 r l)) := rfl

theorem blk3 (t : Fin cfg0.N) (r : Fin 2048) (l : Fin 512) :
    Gen.iblk m c 3 t (ix2 r l) = (m ((c : Thread nD τ).loc main_arg3) : S2048x5632.Idx → EReal) (ix2 r ⟨t.val % 11 * 512 + l, by omega⟩) := by
  have ht := ltN t
  unfold Gen.iblk
  refine (read3 c (Gen.V m c) t r l).trans ?_
  rw [v2]
  refine congrArg _ (funext fun a => ?_)
  fin_cases a <;> apply Fin.ext <;> blk_simp [(places t).2.2.2.1] <;> simp

/-- The normed rows. -/
def rn (x : S8192x2048.Idx → EReal) (g : S2048.Idx → EReal) (a : Fin 8192) (l : Fin 2048) : EReal :=
  rms (fun k => x (ix2 a k)) (fun k => g (ix1 k)) l

/-- A product of the normed rows with weights. -/
def proj (x : S8192x2048.Idx → EReal) (g : S2048.Idx → EReal) (w : S2048x5632.Idx → EReal) (a : Fin 8192) (b : Fin 5632) : EReal :=
  ∑ k : Fin 2048, rn x g a k * w (ix2 k b)

/-- The tile's normed rows are the array's. -/
theorem rows_eq (t : Fin cfg0.N) (r : Fin 1024) (l : Fin 2048) (a : Fin 8192) (ha : a.val = t.val / 11 * 1024 + r.val) :
    Gen.hblk (Gen.iblk m c 0 t) (Gen.iblk m c 1 t) (ix2 r l) = rn (m ((c : Thread nD τ).loc main_arg0)) (m ((c : Thread nD τ).loc main_arg1)) a l := by
  have ht := ltN t
  have ea : (⟨t.val / 11 * 1024 + r.val, by omega⟩ : Fin 8192) = a := Fin.ext ha.symm
  rw [← ea]
  exact (hblk_at _ _ r l).trans (rms_congr (fun k => blk0 m c t r k) (fun k => (blk1 m c t 0 k).trans (row_at _ k)) l)

theorem gate_eq (t : Fin cfg0.N) (r : Fin 1024) (l : Fin 512) (a : Fin 8192) (b : Fin 5632)
    (ha : a.val = t.val / 11 * 1024 + r.val) (hb : b.val = t.val % 11 * 512 + l.val) :
    part (Gen.hblk (Gen.iblk m c 0 t) (Gen.iblk m c 1 t)) (Gen.iblk m c 2 t) r l = proj (m ((c : Thread nD τ).loc main_arg0)) (m ((c : Thread nD τ).loc main_arg1)) (m ((c : Thread nD τ).loc main_arg2)) a b := by
  have eb : (⟨t.val % 11 * 512 + l.val, by omega⟩ : Fin 5632) = b := Fin.ext hb.symm
  rw [← eb]
  exact Finset.sum_congr rfl fun k _ => congrArg₂ (· * ·) (rows_eq m c t r k a ha) (blk2 m c t k l)

theorem up_eq (t : Fin cfg0.N) (r : Fin 1024) (l : Fin 512) (a : Fin 8192) (b : Fin 5632)
    (ha : a.val = t.val / 11 * 1024 + r.val) (hb : b.val = t.val % 11 * 512 + l.val) :
    part (Gen.hblk (Gen.iblk m c 0 t) (Gen.iblk m c 1 t)) (Gen.iblk m c 3 t) r l = proj (m ((c : Thread nD τ).loc main_arg0)) (m ((c : Thread nD τ).loc main_arg1)) (m ((c : Thread nD τ).loc main_arg3)) a b := by
  have eb : (⟨t.val % 11 * 512 + l.val, by omega⟩ : Fin 5632) = b := Fin.ext hb.symm
  rw [← eb]
  exact Finset.sum_congr rfl fun k _ => congrArg₂ (· * ·) (rows_eq m c t r k a ha) (blk3 m c t k l)

/-- Result 0: the normed rows. -/
def res4 (i : S8192x2048.Idx) : EReal := rn (m ((c : Thread nD τ).loc main_arg0)) (m ((c : Thread nD τ).loc main_arg1)) (i 0) (i 1)

/-- Result 0 after the run. -/
theorem final4 (i : S8192x2048.Idx) : (Gen.dats m 0 c).arrAt 4 cfg0.N i = res4 m c i := by
  refine congrFun ((Gen.dats m 0 c).arrAt_eq_of_covers 4 (res4 m c) (by decide +kernel) fun t hf y => ?_) i
  have e := (places t).2.2.2.2.1
  rw [Gen.after0_4]
  have h0 : (((cfg0.win 4).blk t).view.emb y 0).val = t.val / 11 * 1024 + (y 0).val := by blk_simp [e] <;> simp
  have h1 : (((cfg0.win 4).blk t).view.emb y 1).val = (y 1).val := by blk_simp [e] <;> simp
  have h := rows_eq m c t (y 0) (y 1) _ h0
  have e1 : ((cfg0.win 4).blk t).view.emb y 1 = (y 1 : Fin 2048) := Fin.ext h1
  rw [← eq_ix2 y] at h
  unfold res4
  rw [e1]
  generalize Gen.hblk (Gen.iblk m c 0 t) (Gen.iblk m c 1 t) = z at h ⊢
  exact h

/-- Result 1: the gate. -/
def res5 (i : S8192x5632.Idx) : EReal := proj (m ((c : Thread nD τ).loc main_arg0)) (m ((c : Thread nD τ).loc main_arg1)) (m ((c : Thread nD τ).loc main_arg2)) (i 0) (i 1)

/-- Result 1 after the run. -/
theorem final5 (i : S8192x5632.Idx) : (Gen.dats m 0 c).arrAt 5 cfg0.N i = res5 m c i := by
  refine congrFun ((Gen.dats m 0 c).arrAt_eq_of_covers 5 (res5 m c) (by decide +kernel) fun t hf y => ?_) i
  have e := (places t).2.2.2.2.2.1
  rw [Gen.after0_5]
  have h0 : (((cfg0.win 5).blk t).view.emb y 0).val = t.val / 11 * 1024 + (y 0).val := by blk_simp [e] <;> simp
  have h1 : (((cfg0.win 5).blk t).view.emb y 1).val = t.val % 11 * 512 + (y 1).val := by blk_simp [e] <;> simp
  have h := (pay3_at _ _ y).trans (gate_eq m c t (y 0) (y 1) _ _ h0 h1)
  generalize Gen.k0_pay3 (Gen.hblk (Gen.iblk m c 0 t) (Gen.iblk m c 1 t)) (Gen.iblk m c 2 t) = z at h ⊢
  exact h

/-- Result 2: the up projection. -/
def res6 (i : S8192x5632.Idx) : EReal := proj (m ((c : Thread nD τ).loc main_arg0)) (m ((c : Thread nD τ).loc main_arg1)) (m ((c : Thread nD τ).loc main_arg3)) (i 0) (i 1)

/-- Result 2 after the run. -/
theorem final6 (i : S8192x5632.Idx) : (Gen.dats m 0 c).arrAt 6 cfg0.N i = res6 m c i := by
  refine congrFun ((Gen.dats m 0 c).arrAt_eq_of_covers 6 (res6 m c) (by decide +kernel) fun t hf y => ?_) i
  have e := (places t).2.2.2.2.2.2.1
  rw [Gen.after0_6]
  have h0 : (((cfg0.win 6).blk t).view.emb y 0).val = t.val / 11 * 1024 + (y 0).val := by blk_simp [e] <;> simp
  have h1 : (((cfg0.win 6).blk t).view.emb y 1).val = t.val % 11 * 512 + (y 1).val := by blk_simp [e] <;> simp
  have h := (pay4_at _ _ y).trans (up_eq m c t (y 0) (y 1) _ _ h0 h1)
  generalize Gen.k0_pay4 (Gen.hblk (Gen.iblk m c 0 t) (Gen.iblk m c 1 t)) (Gen.iblk m c 3 t) = z at h ⊢
  exact h

/-- Result 3: the gated product. -/
def res7 (i : S8192x5632.Idx) : EReal := act (proj (m ((c : Thread nD τ).loc main_arg0)) (m ((c : Thread nD τ).loc main_arg1)) (m ((c : Thread nD τ).loc main_arg2)) (i 0) (i 1)) (proj (m ((c : Thread nD τ).loc main_arg0)) (m ((c : Thread nD τ).loc main_arg1)) (m ((c : Thread nD τ).loc main_arg3)) (i 0) (i 1))

/-- Result 3 after the run. -/
theorem final7 (i : S8192x5632.Idx) : (Gen.dats m 0 c).arrAt 7 cfg0.N i = res7 m c i := by
  refine congrFun ((Gen.dats m 0 c).arrAt_eq_of_covers 7 (res7 m c) (by decide +kernel) fun t hf y => ?_) i
  have e := (places t).2.2.2.2.2.2.2
  rw [Gen.after0_7]
  have h0 : (((cfg0.win 7).blk t).view.emb y 0).val = t.val / 11 * 1024 + (y 0).val := by blk_simp [e] <;> simp
  have h1 : (((cfg0.win 7).blk t).view.emb y 1).val = t.val % 11 * 512 + (y 1).val := by blk_simp [e] <;> simp
  have h := (pay5_at _ _ _ y).trans (congrArg₂ act (gate_eq m c t (y 0) (y 1) _ _ h0 h1) (up_eq m c t (y 0) (y 1) _ _ h0 h1))
  generalize Gen.k0_pay5 (Gen.hblk (Gen.iblk m c 0 t) (Gen.iblk m c 1 t)) (Gen.iblk m c 2 t) (Gen.iblk m c 3 t) = z at h ⊢
  exact h

variable {F : FTy → Type} [FloatOps F] in
/-- The run, each result named. -/
theorem run_blocks (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v3_0) = (Gen.dats m 0 c).arrAt 4 cfg0.N
      ∧ r.2.mem ((c : Thread nD τ).loc main_v3_1) = (Gen.dats m 0 c).arrAt 5 cfg0.N
      ∧ r.2.mem ((c : Thread nD τ).loc main_v3_2) = (Gen.dats m 0 c).arrAt 6 cfg0.N
      ∧ r.2.mem ((c : Thread nD τ).loc main_v3_3) = (Gen.dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h.1 c).1 4, (h.1 c).1 5, (h.1 c).1 6, (h.1 c).1 7, h.2 c⟩)
    (θ_run_and (Gen.run_main m ρ) (Gen.unchanged m ρ))

end Cert.Kernel11Ideal.Host

namespace Cert.Reference11Ideal.Host

open Idealize.ShloMosaic Idealize.ShloMosaic.TcCoe
open Cert.Rms Cert.Reference11Ideal Cert.Reference11Ideal.Facts

/-- The normed rows. -/
def rn (x : FVec Ideal S8192x2048 .f32) (g : FVec Ideal S2048 .f32) : FVec Ideal S8192x2048 .f32 :=
  mulf (mulf x (broadcastInDim S8192x2048 ![0, 1] Gen.bcast_S8192x1_S8192x2048_0_1 (Host.rsqrt (addf (Host.divf
    (broadcastInDim S8192x1 ![0] Gen.bcast_S8192_S8192x1_0 (Host.reduceAdd (mulf x x) (constant S_ .f32 0x00000000#32)
      Gen.reducesTo_S8192x2048_S8192_d1 Gen.h_S_)) (broadcastInDim S8192x1 ![] Gen.bcast_S_S8192x1 (constant S_ .f32 0x45000000#32)))
    (broadcastInDim S8192x1 ![] Gen.bcast_S_S8192x1 (constant S_ .f32 0x358637BD#32))))))
    (broadcastInDim S8192x2048 ![0, 1] Gen.bcast_S1x2048_S8192x2048_0_1 (broadcastInDim S1x2048 ![1] Gen.bcast_S2048_S1x2048_1 g))

/-- A product with weights. -/
def proj (h : FVec Ideal S8192x2048 .f32) (w : FVec Ideal S2048x5632 .f32) : FVec Ideal S8192x5632 .f32 :=
  Host.dotGeneral dot_S8192x2048_S2048x5632_S8192x5632_1_0_0_1_n_n none h w

/-- Ones everywhere. -/
def one : FVec Ideal S8192x5632 .f32 := broadcastInDim S8192x5632 ![] Gen.bcast_S_S8192x5632 (constant S_ .f32 0x3F800000#32)

/-- The sigmoid of the gate. -/
def sig (g : FVec Ideal S8192x5632 .f32) : FVec Ideal S8192x5632 .f32 := Host.divf one (addf one (Host.exp (Host.negf g)))

/-- The gated product. -/
def act (g u : FVec Ideal S8192x5632 .f32) : FVec Ideal S8192x5632 .bf16 := truncf .bf16 (mulf (mulf g (sig g)) u) Gen.bitsLt_bf16_f32

theorem rn_at (x : FVec Ideal S8192x2048 .f32) (g : FVec Ideal S2048 .f32) (a : Fin 8192) (l : Fin 2048) :
    rn x g (ix2 a l) = Cert.Kernel11Ideal.Host.rn x g a l := by
  unfold Cert.Kernel11Ideal.Host.rn rms
  pointwise [rn]

/-- The normed rows, in their format. -/
def out0 (x : FVec Ideal S8192x2048 .f32) (g : FVec Ideal S2048 .f32) : FVec Ideal S8192x2048 .bf16 := truncf .bf16 (rn x g) Gen.bitsLt_bf16_f32

theorem out0_at (x : FVec Ideal S8192x2048 .f32) (g : FVec Ideal S2048 .f32) (a : Fin 8192) (l : Fin 2048) :
    out0 x g (ix2 a l) = Cert.Kernel11Ideal.Host.rn x g a l := rn_at x g a l

theorem proj_sum (h : FVec Ideal S8192x2048 .f32) (w : FVec Ideal S2048x5632 .f32) (a : Fin 8192) (b : Fin 5632) :
    proj h w (ix2 a b) = ∑ k : Fin 2048, h (ix2 a k) * w (ix2 k b) := by
  pointwise [proj]

theorem proj_at (x : FVec Ideal S8192x2048 .f32) (g : FVec Ideal S2048 .f32) (w : FVec Ideal S2048x5632 .f32) (a : Fin 8192) (b : Fin 5632) :
    proj (rn x g) w (ix2 a b) = Cert.Kernel11Ideal.Host.proj x g w a b :=
  (proj_sum _ _ a b).trans (Finset.sum_congr rfl fun k _ => congrArg (· * w (ix2 k b)) (rn_at x g a k))

theorem sig_at (g : FVec Ideal S8192x5632 .f32) (a : Fin 8192) (b : Fin 5632) : sig g (ix2 a b) = Ideal.logistic (g (ix2 a b)) := by
  unfold Ideal.logistic
  pointwise [sig, one]

theorem act_form (g u : FVec Ideal S8192x5632 .f32) (a : Fin 8192) (b : Fin 5632) :
    act g u (ix2 a b) = g (ix2 a b) * sig g (ix2 a b) * u (ix2 a b) := by
  pointwise [act]

theorem act_at (x : FVec Ideal S8192x2048 .f32) (g : FVec Ideal S2048 .f32) (w u : FVec Ideal S2048x5632 .f32) (a : Fin 8192) (b : Fin 5632) :
    act (proj (rn x g) w) (proj (rn x g) u) (ix2 a b)
      = Cert.Kernel11Ideal.Host.act (Cert.Kernel11Ideal.Host.proj x g w a b) (Cert.Kernel11Ideal.Host.proj x g u a b) := by
  rw [act_form, sig_at, proj_at, proj_at]
  rfl

end Cert.Reference11Ideal.Host

namespace Cert.Proof.Swiglu

open Idealize.ShloMosaic Idealize.ShloMosaic.TcCoe Idealize.SL.Sem

/-- The idealized kernel has the kernel's body: nothing of it is rewritten. -/
theorem body_eq : Cert.Kernel11.defs₀ (F := Bits) = Cert.Kernel11Ideal.defs₀ (F := Bits) := by
  refine congrArg Defs.onTc (funext fun l => funext fun a => ?_)
  match l, a with
  | 0, (t, s) => with_unfolding_all rfl
  | ⟨_ + 1, h⟩, _ => exact absurd h (Nat.not_lt.2 (Nat.le_add_left _ _))

theorem defs_eq : Cert.Kernel11.defs (F := Bits) = Cert.Kernel11Ideal.defs (F := Bits) :=
  congrArg (Pipeline.defs Cert.Kernel11.pcfgs) body_eq

/-- The kernel ends, whatever its arguments hold, with its semaphores back at zero. -/
theorem frame_p : Cert.quiescent_Kernel11 (hKernel11 := Cert.Kernel11.Gen.facts) := fun m ρ _ => by
  have h := Cert.Kernel11Ideal.Gen.frame (F := Bits) m ρ
  rw [← defs_eq] at h
  exact h

/-- The same of the idealized kernel. -/
theorem frame_pi : Cert.quiescent_Kernel11Ideal := fun m ρ _ => Cert.Kernel11Ideal.Gen.frame m ρ

/-- The reference ends. -/
theorem frame_ri : Cert.quiescent_Reference11Ideal := fun m ρ _ =>
  (θ_run Cert.Reference11Ideal.defs _ _).mono (fun r h => ⟨fun c => (h c).2.2.2.2,
      Idealize.ShloMosaic.sem_eq_zero_of_no_sems (by decide) r.2⟩)
    (Cert.Reference11Ideal.Value.run (F := Ideal) m ρ)

/-- The kernel's four results are the reference's. -/
theorem algebraic : Cert.algebraic_Kernel11Ideal_Reference11Ideal (hKernel11Ideal := Cert.Kernel11Ideal.Gen.facts)
    (hReference11Ideal := Cert.Reference11Ideal.Gen.facts) := by
  intro m ρ m' ρ' _ ha
  refine ⟨_, _, _, _, (θ_run Cert.Kernel11Ideal.defs _ _).mono (fun _ h => h) (Cert.Kernel11Ideal.Host.run_blocks (F := Ideal) m ρ), ?_⟩
  refine (θ_run Cert.Reference11Ideal.defs _ _).mono (fun r h c => ?_) (Cert.Reference11Ideal.Value.run (F := Ideal) m' ρ')
  obtain ⟨h0, h1, h2, h3, ha'⟩ := h c
  obtain ⟨a0, a1, a2, a3⟩ := ha c
  refine ⟨h0.trans ?_, h1.trans ?_, h2.trans ?_, h3.trans ?_, ha'⟩
  · funext i
    refine Eq.trans ?_ (Cert.Kernel11Ideal.Host.final4 m c i).symm
    rw [a0, a1, eq_ix2 i]
    exact Cert.Reference11Ideal.Host.out0_at _ _ (i 0) (i 1)
  · funext i
    refine Eq.trans ?_ (Cert.Kernel11Ideal.Host.final5 m c i).symm
    rw [a0, a1, a2, eq_ix2 i]
    exact Cert.Reference11Ideal.Host.proj_at _ _ _ (i 0) (i 1)
  · funext i
    refine Eq.trans ?_ (Cert.Kernel11Ideal.Host.final6 m c i).symm
    rw [a0, a1, a3, eq_ix2 i]
    exact Cert.Reference11Ideal.Host.proj_at _ _ _ (i 0) (i 1)
  · funext i
    refine Eq.trans ?_ (Cert.Kernel11Ideal.Host.final7 m c i).symm
    rw [a0, a1, a2, a3, eq_ix2 i]
    exact Cert.Reference11Ideal.Host.act_at _ _ _ _ (i 0) (i 1)

end Cert.Proof.Swiglu

end
-- ==== Proof.ProjBody.lean ====
/- The normed rows and their projection: the body. The normed rows of half a row tile are stored at a point, in a loop over
   slabs of 128 rows, both as a result and in the half of a buffer that the tile's parity names; during the next row tile
   that half is multiplied with the weights. -/
module

public import proofs.«01_k».proof.Proof.Gen.Kernel12Ideal.Loops
public import proofs.«01_k».proof.Proof.Gen.Kernel12Ideal.Frame
public import Idealize.ShloMosaic.Lib.Pipeline.ValueKit
public import proofs.«01_k».proof.Proof.Whole

@[expose] public section

noncomputable section

namespace Cert.Kernel12Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The grid

The point `t` is half `t % 2` of row tile `t / 2` for the rows, and column tile `t % 2` of the row tile before for the product. -/

/-- The rows of eight row tiles are stored; -/
theorem stores_iff : ∀ t : Fin cfg0.N, k0_cond1 (grid0.coords t) = 1#1 ↔ t.val < 16 := by decide +kernel
/-- they are multiplied one row tile later. -/
theorem loads_iff : ∀ t : Fin cfg0.N, k0_cond2 (grid0.coords t) = 1#1 ↔ 2 ≤ t.val := by decide +kernel

/-- Where a slab is stored, -/
theorem off2_eq : ∀ (t : Fin cfg0.N) (k : Fin k0_t1_loop.trips), k0_off2 (grid0.coords t) k = ![t.val / 2 % 2, 512 * (t.val % 2) + 128 * k.val, 0] := by
  decide +kernel
/-- and where the half is loaded from. -/
theorem off3_eq : ∀ t : Fin cfg0.N, 2 ≤ t.val → k0_off3 (grid0.coords t) = ![(t.val / 2 - 1) % 2, 0, 0] := by decide +kernel

/-- Four slabs. -/
theorem trips_eq : k0_t1_loop.trips = 4 := by decide +kernel

/-! ## The loop -/

/-- The slab of 128 rows from the row `128 q` on. -/
def slab (x : Vec F S512x2048 .f32) (q : Nat) : Vec F S128x2048 .f32 := fun z =>
  x (ix2 ⟨(128 * q + (z 0 : Fin 128).val) % 512, Nat.mod_lt _ (by decide)⟩ (z 1 : Fin 2048))

/-- The normed rows, a slab of 128 of them at a time: the row `r` is the row `r % 128` of the slab `r / 128`. -/
def hblk (x : Vec F S512x2048 .f32) (g : Vec F S1x2048 .f32) : Vec F S512x2048 .bf16 := fun y =>
  k0_pay1 (slab x ((y 0 : Fin 512).val / 128)) g (ix2 ⟨(y 0 : Fin 512).val % 128, Nat.mod_lt _ (by decide)⟩ (y 1 : Fin 2048))

/-- The same as they are stored for the product. -/
def hrow (x : Vec F S512x2048 .f32) (g : Vec F S1x2048 .f32) (a : Nat) (l : Fin 2048) : Elt F .bf16 :=
  k0_pay2 (slab x (a / 128)) g (ix3 0 ⟨a % 128, Nat.mod_lt _ (by decide)⟩ l)

/-- A load of a slab. -/
theorem ld_slab (x : Vec F S512x2048 .f32) (i : grid0.Coords) (h : k0_cond1 i = 1#1) (k : Fin k0_t1_loop.trips) :
    View.ld x (Rect.unit (s := S512x2048) (k0_off1 k) S128x2048.size (k0_off1_inb i k h)) = slab x k.val := by
  have hk : k.val < 4 := k.isLt.trans_eq trips_eq
  have e : ∀ a, k0_off1 k a = ![128 * k.val, 0] a := fun a => congrFun (k0_off1_eq k) a
  refine funext fun (z : S128x2048.Idx) => congrArg x (funext fun a => Fin.ext ?_)
  have hz : (z 0 : Fin 128).val < 128 := (z 0 : Fin 128).isLt
  fin_cases a
  · have e0 : k0_off1 k 0 = 128 * k.val := e 0
    show k0_off1 k 0 + 1 * (z 0 : Fin 128).val = (128 * k.val + (z 0 : Fin 128).val) % 512
    omega
  · have e1 : k0_off1 k 1 = 0 := e 1
    show k0_off1 k 1 + 1 * (z 1 : Fin 2048).val = (z 1 : Fin 2048).val
    omega

/-- A load of the gain. -/
theorem ld_gain (g : Vec F S1x2048 .f32) : View.ld g (Rect.unit (s := S1x2048) ![0, 0] S1x2048.size inb_S1x2048_S1x2048_0_0) = g := by
  refine funext fun (z : S1x2048.Idx) => congrArg g (funext fun a => Fin.ext ?_)
  fin_cases a
  · show 0 + 1 * (z 0).val = (z 0).val
    omega
  · show 0 + 1 * (z 1).val = (z 1).val
    omega

/-- A trip of the loop stores one slab in the rows' block -/
theorem trip_rows (𝒱 : Variants) (c : Dev nD) (bd : Option 𝒱.V) (i : grid0.Coords)
    (arg2 : Memref sig .tc .vmem S512x2048 .f32) (harg2 : arg2.IsWhole) (arg3 : Memref sig .tc .vmem S1x2048 .f32) (harg3 : arg3.IsWhole) (arg4 : Memref sig .tc .vmem S2048x1920 .bf16) (harg4 : arg4.IsWhole) (arg5 : Memref sig .tc .vmem S512x2048 .bf16) (harg5 : arg5.IsWhole) (arg6 : Memref sig .tc .vmem S1024x1920 .f32) (harg6 : arg6.IsWhole) (arg7 : Memref sig .tc .vmem S2x1024x2048 .bf16) (harg7 : arg7.IsWhole) (h : k0_cond1 i = 1#1)
    (f0 : BufTy.Contents (Elt F) arg2.view.ty) (f1 : BufTy.Contents (Elt F) arg3.view.ty) (k : Fin k0_t1_loop.trips) :
    (tripL_k0_t1 (F := F) 𝒱 c bd i arg2 harg2 arg3 harg3 arg4 harg4 arg5 harg5 arg6 harg6 arg7 harg7 h f0 f1 k).1
      = [⟨Rect.unit (s := S512x2048) (k0_off1 k) S128x2048.size (k0_off1_inb i k h), k0_pay1 (slab (arg2.view.read (Elt F) f0) k.val) (arg3.view.read (Elt F) f1)⟩] := by
  rw [← ld_slab (arg2.view.read (Elt F) f0) i h k, ← ld_gain (arg3.view.read (Elt F) f1)]
  unfold tripL_k0_t1 trip_k0_t1
  rfl

/-- and one in the buffer. -/
theorem trip_buf (𝒱 : Variants) (c : Dev nD) (bd : Option 𝒱.V) (i : grid0.Coords)
    (arg2 : Memref sig .tc .vmem S512x2048 .f32) (harg2 : arg2.IsWhole) (arg3 : Memref sig .tc .vmem S1x2048 .f32) (harg3 : arg3.IsWhole) (arg4 : Memref sig .tc .vmem S2048x1920 .bf16) (harg4 : arg4.IsWhole) (arg5 : Memref sig .tc .vmem S512x2048 .bf16) (harg5 : arg5.IsWhole) (arg6 : Memref sig .tc .vmem S1024x1920 .f32) (harg6 : arg6.IsWhole) (arg7 : Memref sig .tc .vmem S2x1024x2048 .bf16) (harg7 : arg7.IsWhole) (h : k0_cond1 i = 1#1)
    (f0 : BufTy.Contents (Elt F) arg2.view.ty) (f1 : BufTy.Contents (Elt F) arg3.view.ty) (k : Fin k0_t1_loop.trips) :
    (tripL_k0_t1 (F := F) 𝒱 c bd i arg2 harg2 arg3 harg3 arg4 harg4 arg5 harg5 arg6 harg6 arg7 harg7 h f0 f1 k).2
      = [⟨Rect.unit (s := S2x1024x2048) (k0_off2 i k) S1x128x2048.size (k0_off2_inb i k h), k0_pay2 (slab (arg2.view.read (Elt F) f0) k.val) (arg3.view.read (Elt F) f1)⟩] := by
  rw [← ld_slab (arg2.view.read (Elt F) f0) i h k, ← ld_gain (arg3.view.read (Elt F) f1)]
  unfold tripL_k0_t1 trip_k0_t1
  rfl

/-- After `n` trips the first `128 n` rows hold the normed rows. -/
theorem rows_upto (𝒱 : Variants) (c : Dev nD) (bd : Option 𝒱.V) (i : grid0.Coords)
    (arg2 : Memref sig .tc .vmem S512x2048 .f32) (harg2 : arg2.IsWhole) (arg3 : Memref sig .tc .vmem S1x2048 .f32) (harg3 : arg3.IsWhole) (arg4 : Memref sig .tc .vmem S2048x1920 .bf16) (harg4 : arg4.IsWhole) (arg5 : Memref sig .tc .vmem S512x2048 .bf16) (harg5 : arg5.IsWhole) (arg6 : Memref sig .tc .vmem S1024x1920 .f32) (harg6 : arg6.IsWhole) (arg7 : Memref sig .tc .vmem S2x1024x2048 .bf16) (harg7 : arg7.IsWhole) (h : k0_cond1 i = 1#1)
    (f0 : BufTy.Contents (Elt F) arg2.view.ty) (f1 : BufTy.Contents (Elt F) arg3.view.ty) (f : BufTy.Contents (Elt F) arg5.view.ty) (n : Nat)
    (hn : n ≤ k0_t1_loop.trips) (y : S512x2048.Idx) (hy : (y 0 : Fin 512).val < 128 * n) :
    arg5.view.read (Elt F) (arg5.view.writes (Elt F) f (pb_k0_t1 (F := F) 𝒱 c bd i arg2 harg2 arg3 harg3 arg4 harg4 arg5 harg5 arg6 harg6 arg7 harg7 h f0 f1 n).1) y
      = hblk (arg2.view.read (Elt F) f0) (arg3.view.read (Elt F) f1) y := by
  induction n with
  | zero => omega
  | succ n ih =>
    rw [pb_k0_t1_succ 𝒱 c bd i arg2 harg2 arg3 harg3 arg4 harg4 arg5 harg5 arg6 harg6 arg7 harg7 h f0 f1 ⟨n, hn⟩, trip_rows, List.singleton_append]
    have e := k0_off1_eq ⟨n, hn⟩
    by_cases hy' : (y 0 : Fin 512).val < 128 * n
    · rw [View.read_writes_cons_unit_of_not_mem _ _ _ _ _ _ e 0 (Or.inl hy')]
      exact ih (Nat.le_of_succ_le hn) hy'
    · have hq : (y 0 : Fin 512).val / 128 = n := by omega
      rw [View.read_writes_cons_unit_of_mem _ _ _ _ _ _ (ix2 ⟨(y 0 : Fin 512).val % 128, Nat.mod_lt _ (by decide)⟩ (y 1 : Fin 2048)) e]
      · unfold hblk
        rw [hq]
        rfl
      · intro a
        fin_cases a
        · show (y 0 : Fin 512).val = 128 * n + (y 0 : Fin 512).val % 128
          omega
        · show (y 1 : Fin 2048).val = 0 + (y 1 : Fin 2048).val
          omega

/-- After the loop all of them do. -/
theorem rows_read (𝒱 : Variants) (c : Dev nD) (bd : Option 𝒱.V) (i : grid0.Coords)
    (arg2 : Memref sig .tc .vmem S512x2048 .f32) (harg2 : arg2.IsWhole) (arg3 : Memref sig .tc .vmem S1x2048 .f32) (harg3 : arg3.IsWhole) (arg4 : Memref sig .tc .vmem S2048x1920 .bf16) (harg4 : arg4.IsWhole) (arg5 : Memref sig .tc .vmem S512x2048 .bf16) (harg5 : arg5.IsWhole) (arg6 : Memref sig .tc .vmem S1024x1920 .f32) (harg6 : arg6.IsWhole) (arg7 : Memref sig .tc .vmem S2x1024x2048 .bf16) (harg7 : arg7.IsWhole) (h : k0_cond1 i = 1#1)
    (f0 : BufTy.Contents (Elt F) arg2.view.ty) (f1 : BufTy.Contents (Elt F) arg3.view.ty) (f : BufTy.Contents (Elt F) arg5.view.ty) :
    arg5.view.read (Elt F) (arg5.view.writes (Elt F) f (pb_k0_t1 (F := F) 𝒱 c bd i arg2 harg2 arg3 harg3 arg4 harg4 arg5 harg5 arg6 harg6 arg7 harg7 h f0 f1 (Scf.trips k0_t1_loop.lb k0_t1_loop.ub k0_t1_loop.st)).1)
      = hblk (arg2.view.read (Elt F) f0) (arg3.view.read (Elt F) f1) :=
  funext fun y => rows_upto 𝒱 c bd i arg2 harg2 arg3 harg3 arg4 harg4 arg5 harg5 arg6 harg6 arg7 harg7 h f0 f1 f _ le_rfl y
    ((y 0 : Fin 512).isLt.trans_eq (by rw [trips_eq]; rfl))

/-- The buffer with `r` normed rows stored from the row `512 q` of its half `p` on. -/
def put (p q r : ℕ) (x : Vec F S512x2048 .f32) (g : Vec F S1x2048 .f32) (d : Vec F S2x1024x2048 .bf16) : Vec F S2x1024x2048 .bf16 := fun y =>
  if (y 0).val = p ∧ 512 * q ≤ (y 1).val ∧ (y 1).val < 512 * q + r then hrow x g ((y 1).val - 512 * q) (y 2 : Fin 2048) else d y

/-- After `n` trips `128 n` rows are stored. -/
theorem buf_upto (𝒱 : Variants) (c : Dev nD) (bd : Option 𝒱.V) (i : grid0.Coords)
    (arg2 : Memref sig .tc .vmem S512x2048 .f32) (harg2 : arg2.IsWhole) (arg3 : Memref sig .tc .vmem S1x2048 .f32) (harg3 : arg3.IsWhole) (arg4 : Memref sig .tc .vmem S2048x1920 .bf16) (harg4 : arg4.IsWhole) (arg5 : Memref sig .tc .vmem S512x2048 .bf16) (harg5 : arg5.IsWhole) (arg6 : Memref sig .tc .vmem S1024x1920 .f32) (harg6 : arg6.IsWhole) (arg7 : Memref sig .tc .vmem S2x1024x2048 .bf16) (harg7 : arg7.IsWhole) (h : k0_cond1 i = 1#1)
    (p q : ℕ) (ho : ∀ k : Fin k0_t1_loop.trips, k0_off2 i k = ![p, 512 * q + 128 * k.val, 0])
    (f0 : BufTy.Contents (Elt F) arg2.view.ty) (f1 : BufTy.Contents (Elt F) arg3.view.ty) (f : BufTy.Contents (Elt F) arg7.view.ty) (n : Nat)
    (hn : n ≤ k0_t1_loop.trips) (y : S2x1024x2048.Idx) :
    arg7.view.read (Elt F) (arg7.view.writes (Elt F) f (pb_k0_t1 (F := F) 𝒱 c bd i arg2 harg2 arg3 harg3 arg4 harg4 arg5 harg5 arg6 harg6 arg7 harg7 h f0 f1 n).2) y
      = put p q (128 * n) (arg2.view.read (Elt F) f0) (arg3.view.read (Elt F) f1) (arg7.view.read (Elt F) f) y := by
  induction n with
  | zero =>
    unfold put
    rw [if_neg (by omega)]
    rfl
  | succ n ih =>
    rw [pb_k0_t1_succ 𝒱 c bd i arg2 harg2 arg3 harg3 arg4 harg4 arg5 harg5 arg6 harg6 arg7 harg7 h f0 f1 ⟨n, hn⟩, trip_buf, List.singleton_append]
    have e := ho ⟨n, hn⟩
    have ih := ih (Nat.le_of_succ_le hn)
    unfold put at ih ⊢
    by_cases hy : (y 0).val = p ∧ 512 * q + 128 * n ≤ (y 1).val ∧ (y 1).val < 512 * q + 128 * (n + 1)
    · obtain ⟨h0, h1, h2⟩ := hy
      rw [if_pos ⟨h0, by omega, h2⟩]
      have hq : ((y 1).val - 512 * q) / 128 = n := by omega
      rw [View.read_writes_cons_unit_of_mem _ _ _ _ _ _ (ix3 0 ⟨((y 1).val - 512 * q) % 128, Nat.mod_lt _ (by decide)⟩ (y 2 : Fin 2048)) e]
      · unfold hrow
        rw [hq]
        rfl
      · intro a
        fin_cases a
        · exact h0
        · show (y 1).val = 512 * q + 128 * n + ((y 1).val - 512 * q) % 128
          omega
        · exact (Nat.zero_add _).symm
    · have hw : arg7.view.read (Elt F) (arg7.view.writes (Elt F) f (⟨Rect.unit (s := S2x1024x2048) (k0_off2 i ⟨n, hn⟩) S1x128x2048.size (k0_off2_inb i ⟨n, hn⟩ h),
            k0_pay2 (slab (arg2.view.read (Elt F) f0) n) (arg3.view.read (Elt F) f1)⟩ :: (pb_k0_t1 (F := F) 𝒱 c bd i arg2 harg2 arg3 harg3 arg4 harg4 arg5 harg5 arg6 harg6 arg7 harg7 h f0 f1 n).2)) y
          = arg7.view.read (Elt F) (arg7.view.writes (Elt F) f (pb_k0_t1 (F := F) 𝒱 c bd i arg2 harg2 arg3 harg3 arg4 harg4 arg5 harg5 arg6 harg6 arg7 harg7 h f0 f1 n).2) y := by
        by_cases h0 : (y 0).val = p
        · refine View.read_writes_cons_unit_of_not_mem _ _ _ _ _ _ e 1 ?_
          show (y 1).val < 512 * q + 128 * n ∨ 512 * q + 128 * n + 128 ≤ (y 1).val
          omega
        · refine View.read_writes_cons_unit_of_not_mem _ _ _ _ _ _ e 0 ?_
          show (y 0).val < p ∨ p + 1 ≤ (y 0).val
          omega
      refine hw.trans (ih.trans ?_)
      by_cases h' : (y 0).val = p ∧ 512 * q ≤ (y 1).val ∧ (y 1).val < 512 * q + 128 * n
      · rw [if_pos h', if_pos ⟨h'.1, h'.2.1, by omega⟩]
      · rw [if_neg h', if_neg (by omega)]

/-- After the loop all 512 are. -/
theorem buf_read (𝒱 : Variants) (c : Dev nD) (bd : Option 𝒱.V) (i : grid0.Coords)
    (arg2 : Memref sig .tc .vmem S512x2048 .f32) (harg2 : arg2.IsWhole) (arg3 : Memref sig .tc .vmem S1x2048 .f32) (harg3 : arg3.IsWhole) (arg4 : Memref sig .tc .vmem S2048x1920 .bf16) (harg4 : arg4.IsWhole) (arg5 : Memref sig .tc .vmem S512x2048 .bf16) (harg5 : arg5.IsWhole) (arg6 : Memref sig .tc .vmem S1024x1920 .f32) (harg6 : arg6.IsWhole) (arg7 : Memref sig .tc .vmem S2x1024x2048 .bf16) (harg7 : arg7.IsWhole) (h : k0_cond1 i = 1#1)
    (p q : ℕ) (ho : ∀ k : Fin k0_t1_loop.trips, k0_off2 i k = ![p, 512 * q + 128 * k.val, 0])
    (f0 : BufTy.Contents (Elt F) arg2.view.ty) (f1 : BufTy.Contents (Elt F) arg3.view.ty) (f : BufTy.Contents (Elt F) arg7.view.ty) :
    arg7.view.read (Elt F) (arg7.view.writes (Elt F) f (pb_k0_t1 (F := F) 𝒱 c bd i arg2 harg2 arg3 harg3 arg4 harg4 arg5 harg5 arg6 harg6 arg7 harg7 h f0 f1 (Scf.trips k0_t1_loop.lb k0_t1_loop.ub k0_t1_loop.st)).2)
      = put p q 512 (arg2.view.read (Elt F) f0) (arg3.view.read (Elt F) f1) (arg7.view.read (Elt F) f) := by
  refine funext fun y => (buf_upto 𝒱 c bd i arg2 harg2 arg3 harg3 arg4 harg4 arg5 harg5 arg6 harg6 arg7 harg7 h p q ho f0 f1 f _ le_rfl y).trans ?_
  rw [trips_eq]

/-! ## The body -/

local notation "𝕄" => MT nD τ sig Unit (Elt F) ℕ (UR sig nD τ) ℕ

/-- The half of the buffer that a point multiplies. -/
def loaded (i : grid0.Coords) (h : k0_cond2 i = 1#1) (d : Vec F S2x1024x2048 .bf16) : Vec F S1x1024x2048 .bf16 :=
  View.ld d (Rect.unit (s := S2x1024x2048) (k0_off3 i) S1x1024x2048.size (k0_off3_inb i h))

/-- A point of the first row tile stores rows. -/
theorem sound_store (c : Dev nD) (E : Set ℕ) (i : grid0.Coords) (arg2 : Memref sig .tc .vmem S512x2048 .f32) (harg2 : arg2.IsWhole) (arg3 : Memref sig .tc .vmem S1x2048 .f32) (harg3 : arg3.IsWhole) (arg4 : Memref sig .tc .vmem S2048x1920 .bf16) (harg4 : arg4.IsWhole) (arg5 : Memref sig .tc .vmem S512x2048 .bf16) (harg5 : arg5.IsWhole) (arg6 : Memref sig .tc .vmem S1024x1920 .f32) (harg6 : arg6.IsWhole) (arg7 : Memref sig .tc .vmem S2x1024x2048 .bf16) (harg7 : arg7.IsWhole)
    (h1 : k0_cond1 i = 1#1) (h2 : ¬ k0_cond2 i = 1#1) (p q : ℕ) (ho : ∀ k : Fin k0_t1_loop.trips, k0_off2 i k = ![p, 512 * q + 128 * k.val, 0])
    (x0 : Vec F S512x2048 .f32) (x1 : Vec F S1x2048 .f32) (d : Vec F S2x1024x2048 .bf16) (K : PUnit → sProp 𝕄) :
    iprop(owns (c : Thread nD τ) arg2 fullShare x0 ∗ owns (c : Thread nD τ) arg3 fullShare x1 ∗ (∃ e, owns (c : Thread nD τ) arg5 fullShare e)
        ∗ owns (c : Thread nD τ) arg7 fullShare d
        ∗ (iprop(owns (c : Thread nD τ) arg2 fullShare x0 ∗ owns (c : Thread nD τ) arg3 fullShare x1 ∗ owns (c : Thread nD τ) arg5 fullShare (hblk x0 x1)
            ∗ owns (c : Thread nD τ) arg7 fullShare (put p q 512 x0 x1 d)) -∗ K ⟨⟩))
      ⊢ wp frame (wpE (defs₀ (F := F)) Variants.none c none) E (cc0_rms_proj i arg2 harg2 arg3 harg3 arg4 harg4 arg5 harg5 arg6 harg6 arg7 harg7) K := by
  simp only [cc0_rms_proj_eq_skeleton]; unfold cc0_rms_proj_skel
  unfold owns
  iintro ⟨⟨%f0, %hf0, H0⟩, ⟨%f1, %hf1, H1⟩, ⟨%d3, %f3, -, H3⟩, ⟨%fS, %hfS, HS⟩, Hk⟩
  subst hf0 hf1 hfS
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    exact rows_read _ _ _ _ _ _ _ _ _ _ _ _ _ _ _ _ _ _ _ _
  iexists _; isplitr
  swap; · iexact HS
  ipureintro
  exact buf_read _ _ _ _ _ _ _ _ _ _ _ _ _ _ _ _ _ p q ho _ _ _

/-- A later point stores rows, if it has any, and multiplies the row tile before. -/
theorem sound_both (c : Dev nD) (E : Set ℕ) (i : grid0.Coords) (arg2 : Memref sig .tc .vmem S512x2048 .f32) (harg2 : arg2.IsWhole) (arg3 : Memref sig .tc .vmem S1x2048 .f32) (harg3 : arg3.IsWhole) (arg4 : Memref sig .tc .vmem S2048x1920 .bf16) (harg4 : arg4.IsWhole) (arg5 : Memref sig .tc .vmem S512x2048 .bf16) (harg5 : arg5.IsWhole) (arg6 : Memref sig .tc .vmem S1024x1920 .f32) (harg6 : arg6.IsWhole) (arg7 : Memref sig .tc .vmem S2x1024x2048 .bf16) (harg7 : arg7.IsWhole)
    (h1 : k0_cond1 i = 1#1) (h2 : k0_cond2 i = 1#1) (p q p' : ℕ) (ho : ∀ k : Fin k0_t1_loop.trips, k0_off2 i k = ![p, 512 * q + 128 * k.val, 0])
    (ho3 : k0_off3 i = ![p', 0, 0])
    (x0 : Vec F S512x2048 .f32) (x1 : Vec F S1x2048 .f32) (x2 : Vec F S2048x1920 .bf16) (d : Vec F S2x1024x2048 .bf16) (K : PUnit → sProp 𝕄) :
    iprop(owns (c : Thread nD τ) arg2 fullShare x0 ∗ owns (c : Thread nD τ) arg3 fullShare x1 ∗ owns (c : Thread nD τ) arg4 fullShare x2
        ∗ (∃ e, owns (c : Thread nD τ) arg5 fullShare e) ∗ (∃ e, owns (c : Thread nD τ) arg6 fullShare e) ∗ owns (c : Thread nD τ) arg7 fullShare d
        ∗ (iprop(owns (c : Thread nD τ) arg2 fullShare x0 ∗ owns (c : Thread nD τ) arg3 fullShare x1 ∗ owns (c : Thread nD τ) arg4 fullShare x2
            ∗ owns (c : Thread nD τ) arg5 fullShare (hblk x0 x1) ∗ owns (c : Thread nD τ) arg6 fullShare (k0_pay3 (loaded i h2 (put p q 512 x0 x1 d)) x2)
            ∗ owns (c : Thread nD τ) arg7 fullShare (put p q 512 x0 x1 d)) -∗ K ⟨⟩))
      ⊢ wp frame (wpE (defs₀ (F := F)) Variants.none c none) E (cc0_rms_proj i arg2 harg2 arg3 harg3 arg4 harg4 arg5 harg5 arg6 harg6 arg7 harg7) K := by
  simp only [cc0_rms_proj_eq_skeleton]; unfold cc0_rms_proj_skel
  unfold owns
  iintro ⟨⟨%f0, %hf0, H0⟩, ⟨%f1, %hf1, H1⟩, ⟨%f2, %hf2, H2⟩, ⟨%d3, %f3, -, H3⟩, ⟨%d4, %f4, -, H4⟩, ⟨%fS, %hfS, HS⟩, Hk⟩
  subst hf0 hf1 hf2 hfS
  letI : ClosedOff (k0_off3 i) := ⟨![p', 0, 0], ho3⟩
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact rows_read _ _ _ _ _ _ _ _ _ _ _ _ _ _ _ _ _ _ _ _
  isplitl [H4]
  · iexists _; isplitr
    swap; · iexact H4
    ipureintro
    rw [← buf_read Variants.none c none i arg2 harg2 arg3 harg3 arg4 harg4 arg5 harg5 arg6 harg6 arg7 harg7 h1 p q ho f0 f1 fS, ← Whole.readAt_all arg4.view f2 inb_S2048x1920_S2048x1920_0_0 Whole.zeros]
    exact Whole.read_store _ _ _ _ Whole.zeros
  iexists _; isplitr
  swap; · iexact HS
  ipureintro
  exact buf_read _ _ _ _ _ _ _ _ _ _ _ _ _ _ _ _ _ p q ho _ _ _

/-- A point of the last row tile multiplies only. -/
theorem sound_load (c : Dev nD) (E : Set ℕ) (i : grid0.Coords) (arg2 : Memref sig .tc .vmem S512x2048 .f32) (harg2 : arg2.IsWhole) (arg3 : Memref sig .tc .vmem S1x2048 .f32) (harg3 : arg3.IsWhole) (arg4 : Memref sig .tc .vmem S2048x1920 .bf16) (harg4 : arg4.IsWhole) (arg5 : Memref sig .tc .vmem S512x2048 .bf16) (harg5 : arg5.IsWhole) (arg6 : Memref sig .tc .vmem S1024x1920 .f32) (harg6 : arg6.IsWhole) (arg7 : Memref sig .tc .vmem S2x1024x2048 .bf16) (harg7 : arg7.IsWhole)
    (h1 : ¬ k0_cond1 i = 1#1) (h2 : k0_cond2 i = 1#1) (p' : ℕ) (ho3 : k0_off3 i = ![p', 0, 0])
    (x2 : Vec F S2048x1920 .bf16) (d : Vec F S2x1024x2048 .bf16) (K : PUnit → sProp 𝕄) :
    iprop(owns (c : Thread nD τ) arg4 fullShare x2 ∗ (∃ e, owns (c : Thread nD τ) arg6 fullShare e) ∗ owns (c : Thread nD τ) arg7 fullShare d
        ∗ (iprop(owns (c : Thread nD τ) arg4 fullShare x2 ∗ owns (c : Thread nD τ) arg6 fullShare (k0_pay3 (loaded i h2 d) x2)
            ∗ owns (c : Thread nD τ) arg7 fullShare d) -∗ K ⟨⟩))
      ⊢ wp frame (wpE (defs₀ (F := F)) Variants.none c none) E (cc0_rms_proj i arg2 harg2 arg3 harg3 arg4 harg4 arg5 harg5 arg6 harg6 arg7 harg7) K := by
  simp only [cc0_rms_proj_eq_skeleton]; unfold cc0_rms_proj_skel
  unfold owns
  iintro ⟨⟨%f2, %hf2, H2⟩, ⟨%d4, %f4, -, H4⟩, ⟨%fS, %hfS, HS⟩, Hk⟩
  subst hf2 hfS
  letI : ClosedOff (k0_off3 i) := ⟨![p', 0, 0], ho3⟩
  sl_exec (disch := first | sl_exact h1 | sl_exact h2)
  sl_step
  iapply Hk
  isplitl [H2]
  · iexists f2; isplitr; · ipureintro; rfl
    iexact H2
  isplitl [H4]
  · iexists _; isplitr
    swap; · iexact H4
    ipureintro
    rw [← Whole.readAt_all arg4.view f2 inb_S2048x1920_S2048x1920_0_0 Whole.zeros]
    exact Whole.read_store _ _ _ _ Whole.zeros
  iexists _; isplitr
  swap; · iexact HS
  ipureintro
  rfl

end Cert.Kernel12Ideal.Gen
end
-- ==== Proof.ProjFrame.lean ====
/- The normed rows and their projection: every run ends. Between the points the buffer holds the normed rows of the last
   two row tiles. -/
module

public import proofs.«01_k».proof.Proof.ProjBody

@[expose] public section

noncomputable section

namespace Cert.Kernel12Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffer holds -/

/-- The point that stored a half of the row tile before. -/
def source (t : Fin cfg0.N) (j : ℕ) : Fin cfg0.N := ⟨2 * (t.val / 2 - 1) + j % 2, by
  have h : t.val < 18 := t.isLt
  show _ < 18
  omega⟩

/-- The normed rows of the row tile before. -/
def tile (c : Dev nD) (t : Fin cfg0.N) : Vec F S1x1024x2048 .bf16 := fun y =>
  hrow (iblk m c 0 (source t ((y 1 : Fin 1024).val / 512))) (iblk m c 1 (source t ((y 1 : Fin 1024).val / 512))) ((y 1 : Fin 1024).val % 512) (y 2 : Fin 2048)

/-- After `n` points the buffer holds the normed rows of the last four of them, as far as they have any. -/
def Held (c : Dev nD) (n : ℕ) (d : Vec F S2x1024x2048 .bf16) : Prop :=
  ∀ t : Fin cfg0.N, t.val < 16 → t.val < n → n ≤ t.val + 4 → ∀ (a : Fin 512) (l : Fin 2048),
    d (ix3 ⟨t.val / 2 % 2, Nat.mod_lt _ (by decide)⟩ ⟨512 * (t.val % 2) + a.val, by have h := a.isLt; omega⟩ l) = hrow (iblk m c 0 t) (iblk m c 1 t) a.val l

theorem held_store (c : Dev nD) (t : Fin cfg0.N) (d : Vec F S2x1024x2048 .bf16) (h : Held m c t.val d) :
    Held m c (t.val + 1) (put (t.val / 2 % 2) (t.val % 2) 512 (iblk m c 0 t) (iblk m c 1 t) d) := by
  intro s h16 hs hle a l
  have ha := a.isLt
  unfold put
  by_cases e : s.val = t.val
  · obtain rfl : s = t := Fin.ext e
    refine (if_pos ⟨rfl, Nat.le_add_right _ _, Nat.add_lt_add_left ha _⟩).trans ?_
    exact congrArg (fun n => hrow (iblk m c 0 s) (iblk m c 1 s) n l) (Nat.add_sub_cancel_left _ _)
  · refine (if_neg fun ⟨h0, h1, h2⟩ => ?_).trans (h s h16 (by omega) (by omega) a l)
    have h0 : s.val / 2 % 2 = t.val / 2 % 2 := h0
    have h1 : 512 * (t.val % 2) ≤ 512 * (s.val % 2) + a.val := h1
    have h2 : 512 * (s.val % 2) + a.val < 512 * (t.val % 2) + 512 := h2
    omega

theorem held_keep (c : Dev nD) (t : Fin cfg0.N) (ht : 16 ≤ t.val) (d : Vec F S2x1024x2048 .bf16) (h : Held m c t.val d) :
    Held m c (t.val + 1) d := fun s h16 _ _ a l => h s h16 (by omega) (by omega) a l

/-- What a point loads off such a buffer. -/
theorem loaded_eq (c : Dev nD) (t : Fin cfg0.N) (ht : 2 ≤ t.val) (h2 : k0_cond2 (grid0.coords t) = 1#1) (d : Vec F S2x1024x2048 .bf16)
    (h : Held m c (t.val + 1) d) : loaded (grid0.coords t) h2 d = tile m c t := by
  refine funext fun (y : S1x1024x2048.Idx) => ?_
  have h18 : t.val < 18 := t.isLt
  have h0 : (y 0).val < 1 := (y 0).isLt
  have h1 : (y 1 : Fin 1024).val < 1024 := (y 1 : Fin 1024).isLt
  have hs : (source t ((y 1 : Fin 1024).val / 512)).val = 2 * (t.val / 2 - 1) + (y 1 : Fin 1024).val / 512 % 2 := rfl
  have ho : ∀ a, k0_off3 (grid0.coords t) a = ![(t.val / 2 - 1) % 2, 0, 0] a := fun a => congrFun (off3_eq t ht) a
  refine Eq.trans ?_ (h (source t ((y 1 : Fin 1024).val / 512)) (by omega) (by omega) (by omega) ⟨(y 1 : Fin 1024).val % 512, Nat.mod_lt _ (by decide)⟩ (y 2 : Fin 2048))
  refine congrArg d (funext fun a => Fin.ext ?_)
  fin_cases a
  · have e : k0_off3 (grid0.coords t) 0 = (t.val / 2 - 1) % 2 := ho 0
    show k0_off3 (grid0.coords t) 0 + 1 * (y 0).val = (source t ((y 1 : Fin 1024).val / 512)).val / 2 % 2
    omega
  · have e : k0_off3 (grid0.coords t) 1 = 0 := ho 1
    show k0_off3 (grid0.coords t) 1 + 1 * (y 1 : Fin 1024).val = 512 * ((source t ((y 1 : Fin 1024).val / 512)).val % 2) + (y 1 : Fin 1024).val % 512
    omega
  · have e : k0_off3 (grid0.coords t) 2 = 0 := ho 2
    show k0_off3 (grid0.coords t) 2 + 1 * (y 2 : Fin 2048).val = (y 2 : Fin 2048).val
    omega

/-- The last point up to `t` that stores rows. -/
def last (t : Fin cfg0.N) : Fin cfg0.N := ⟨min t.val 15, by
  show _ < 18
  omega⟩

/-- The buffer between the points. -/
def Ring (c : Dev nD) (n : ℕ) : sProp 𝕄 :=
  iprop((∃ d, ⌜Held m c n d⌝ ∗ owns (c : Thread nD τ) (Memref.whole cc0_scratch0) fullShare d) ∗ ∃ r, prngReg c r)

/-- The proof data: an input's buffer at its block; the normed rows at the last ones; the product at the row tile before. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => hblk (iblk m c 0 (last t)) (iblk m c 1 (last t))
    | ⟨4, _⟩ => k0_pay3 (tile m c t) (iblk m c 2 t)
  Φ t := Ring m c t.val
  q _ := fullShare
  owed _ := 0

/-- The arrays the pipeline finds. -/
theorem A_eq (c : Dev nD) (w : Fin cfg0.W) : (dats m 0 c).A w = V m c (Pipeline.arrRef spec0 w) := by
  dsimp only [dats]

/-! What each window's buffer holds after a point, -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = hblk (iblk m c 0 (last t)) (iblk m c 1 (last t)) := by dsimp only [dats]
theorem after0_4 (c : Dev nD) (t : Fin cfg0.N) : (dats m 0 c).after 4 t = k0_pay3 (tile m c t) (iblk m c 2 t) := by dsimp only [dats]

/-! and what an input's holds before it. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! The points that leave a result's buffer alone, and those that copy it out. -/

theorem idle0_3 : ∀ t : Fin cfg0.N, cfg0.idle 3 (cfg0.grid.coords t) = decide (16 ≤ t.val) := by decide +kernel
theorem idle0_4 : ∀ t : Fin cfg0.N, cfg0.idle 4 (cfg0.grid.coords t) = decide (t.val < 2) := by decide +kernel
theorem flush0_3 : ∀ t : Fin cfg0.N, (cfg0.win 3).flush t = true ↔ t.val < 15 ∨ t.val = 17 := by decide +kernel
theorem flush0_4 : ∀ t : Fin cfg0.N, (cfg0.win 4).flush t = true ↔ 2 ≤ t.val := by decide +kernel
/-- The point before. -/
abbrev prev (t : Fin cfg0.N) : Fin cfg0.N := ⟨t.val - 1, Nat.lt_of_le_of_lt (Nat.sub_le _ _) t.isLt⟩

/-- The last normed rows stay in their buffer. -/
theorem before0_3 (c : Dev nD) (n : Nat) (t : Fin cfg0.N) (hn : t.val = n) (ht : 16 ≤ t.val) (d) :
    (dats m 0 c).before 3 t d = hblk (iblk m c 0 (last t)) (iblk m c 1 (last t)) := by
  induction n generalizing t with
  | zero => omega
  | succ n ih =>
    have h18 : t.val < 18 := t.isLt
    have hp : (prev t).val = n := by show t.val - 1 = n; omega
    have hl : last t = last (prev t) := Fin.ext (by show min t.val 15 = min (prev t).val 15; omega)
    have hfl : (cfg0.win 3).flush (prev t) = false := Bool.eq_false_iff.mpr fun h => by
      have := (flush0_3 (prev t)).mp h
      omega
    have hfe : (cfg0.win 3).fetch t = false := (cfg0.win 3).fetch_out rfl t
    rw [(dats m 0 c).before_of_pos 3 t (by omega) hfe, hfl, if_neg Bool.false_ne_true, hl]
    by_cases h0 : 16 ≤ (prev t).val
    · have hi := (idle0_3 (prev t)).trans (decide_eq_true h0)
      unfold Dat.left
      rw [hi]
      exact ih (prev t) hp h0
    · have hi := (idle0_3 (prev t)).trans (decide_eq_false h0)
      unfold Dat.left
      rw [hi]
      show (dats m 0 c).kept 3 (prev t) d = _
      unfold Dat.kept
      rw [after0_3]
      exact (cfg0.win 3).fill_cut (cfg0.grid.coords (prev t)) _

/-- The normed rows in their buffer are what a point that stores them has to leave there, -/
theorem leaves_store (c : Dev nD) (t : Fin cfg0.N) (ht : t.val < 16) :
    owns (c : Thread nD τ) (st0_3 t) fullShare (hblk (iblk m c 0 t) (iblk m c 1 t)) ⊢ ((dats m 0 c).leavesExact 3 t : sProp 𝕄) := by
  have hi := (idle0_3 t).trans (decide_eq_false (Nat.not_le.mpr ht))
  have hl : last t = t := Fin.ext (by show min t.val 15 = t.val; omega)
  unfold Dat.leavesExact
  rw [hi]
  show _ ⊢ owns (c : Thread nD τ) (st0_3 t) fullShare ((dats m 0 c).after 3 t)
  rw [after0_3, hl]

/-- and the last ones what a later point has to. -/
theorem leaves_rows (c : Dev nD) (t : Fin cfg0.N) (ht : 16 ≤ t.val) :
    owns (c : Thread nD τ) (st0_3 t) fullShare (hblk (iblk m c 0 (last t)) (iblk m c 1 (last t))) ⊢ ((dats m 0 c).leavesExact 3 t : sProp 𝕄) := by
  have hi := (idle0_3 t).trans (decide_eq_true ht)
  cases hf : (cfg0.win 3).flush t
  · rw [(dats m 0 c).leavesExact_idle 3 t hi hf]
    iintro H
    iexists fun _ => hblk (iblk m c 0 (last t)) (iblk m c 1 (last t)) (ix2 0 0)
    rw [before0_3 m c t.val t rfl ht]
    iexact H
  · unfold Dat.leavesExact
    rw [hi, hf]
    show _ ⊢ owns (c : Thread nD τ) (st0_3 t) fullShare ((dats m 0 c).after 3 t)
    rw [after0_3]

/-! ## The body's obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t
    ∗ (dats m 0 c).leavesExact 4 t)

/-- The product's buffer after a point that multiplies. -/
theorem leaves_product (c : Dev nD) (t : Fin cfg0.N) (ht : 2 ≤ t.val) :
    (dats m 0 c).leavesExact 4 t = (owns (c : Thread nD τ) (st0_4 t) fullShare ((dats m 0 c).after 4 t) : sProp 𝕄) := by
  have hi := (idle0_4 t).trans (decide_eq_false (Nat.not_lt.mpr ht))
  unfold Dat.leavesExact; rw [hi]

/-- The body at a point of the first row tile. -/
theorem sound_first (c : Dev nD) (t : Fin cfg0.N) (ht : t.val < 2) :
    bodyPre m c t ⊢ wp frame (wpE (defs₀ (F := F)) Variants.none c none) Set.univ (bodyAt0 t) (fun _ => bodyPost m c t) := by
  have f4 : (cfg0.win 4).flush t = false := Bool.eq_false_iff.mpr fun h => absurd ((flush0_4 t).mp h) (by omega)
  have hi4 := (idle0_4 t).trans (decide_eq_true ht)
  unfold bodyPre bodyPost bodyAt0
  rw [(dats m 0 c).leavesExact_idle 4 t hi4 f4]
  simp only [before0_0, before0_1, before0_2]
  rw [show (dats m 0 c).Φ t.castSucc = Ring m c t.val from rfl, show (dats m 0 c).Φ t.succ = Ring m c (t.val + 1) from rfl,
    show (dats m 0 c).owesAt () t.succ = (dats m 0 c).owesAt () t.castSucc from rfl,
    after0_0, after0_1, after0_2]
  unfold Ring
  iintro ⟨⟨⟨%d, %hd, HS⟩, HP⟩, Ho, ⟨%d0, H0⟩, ⟨%d1, H1⟩, ⟨%d2, H2⟩, ⟨%d3, H3⟩, H4⟩
  iapply (sound_store c Set.univ (grid0.coords t) _ _ _ _ _ _ _ _ _ _ _ _ ((stores_iff t).mpr (by omega)) (fun h => absurd ((loads_iff t).mp h) (by omega)) _ _ (off2_eq t) (iblk m c 0 t) (iblk m c 1 t) d _)
  isplitl [H0]; · iexact H0
  isplitl [H1]; · iexact H1
  isplitl [H3]; · iexists _; iexact H3
  isplitl [HS]; · iexact HS
  iintro ⟨H0, H1, H3, HS⟩
  isplitl [HS HP]
  · isplitl [HS]
    · iexists _; isplitr
      swap; · iexact HS
      ipureintro
      exact held_store m c t d hd
    iexact HP
  isplitl [Ho]; · iexact Ho
  isplitl [H0]; · iexact H0
  isplitl [H1]; · iexact H1
  isplitl [H2]; · iexact H2
  isplitl [H3]; · iapply (leaves_store m c t (by omega)) $$ H3
  iexact H4

/-- The body at a point that stores rows and multiplies. -/
theorem sound_middle (c : Dev nD) (t : Fin cfg0.N) (ht : 2 ≤ t.val) (ht' : t.val < 16) :
    bodyPre m c t ⊢ wp frame (wpE (defs₀ (F := F)) Variants.none c none) Set.univ (bodyAt0 t) (fun _ => bodyPost m c t) := by
  have h2 := (loads_iff t).mpr ht
  unfold bodyPre bodyPost bodyAt0
  rw [leaves_product m c t ht]
  simp only [before0_0, before0_1, before0_2]
  rw [show (dats m 0 c).Φ t.castSucc = Ring m c t.val from rfl, show (dats m 0 c).Φ t.succ = Ring m c (t.val + 1) from rfl,
    show (dats m 0 c).owesAt () t.succ = (dats m 0 c).owesAt () t.castSucc from rfl,
    after0_0, after0_1, after0_2, after0_4]
  unfold Ring
  iintro ⟨⟨⟨%d, %hd, HS⟩, HP⟩, Ho, ⟨%d0, H0⟩, ⟨%d1, H1⟩, ⟨%d2, H2⟩, ⟨%d3, H3⟩, ⟨%d4, H4⟩⟩
  have hr := held_store m c t d hd
  rw [← loaded_eq m c t ht h2 _ hr]
  iapply (sound_both c Set.univ (grid0.coords t) _ _ _ _ _ _ _ _ _ _ _ _ ((stores_iff t).mpr ht') h2 _ _ _ (off2_eq t) (off3_eq t ht) (iblk m c 0 t) (iblk m c 1 t) (iblk m c 2 t) d _)
  isplitl [H0]; · iexact H0
  isplitl [H1]; · iexact H1
  isplitl [H2]; · iexact H2
  isplitl [H3]; · iexists _; iexact H3
  isplitl [H4]; · iexists _; iexact H4
  isplitl [HS]; · iexact HS
  iintro ⟨H0, H1, H2, H3, H4, HS⟩
  isplitl [HS HP]
  · isplitl [HS]
    · iexists _; isplitr
      swap; · iexact HS
      ipureintro
      exact hr
    iexact HP
  isplitl [Ho]; · iexact Ho
  isplitl [H0]; · iexact H0
  isplitl [H1]; · iexact H1
  isplitl [H2]; · iexact H2
  isplitl [H3]; · iapply (leaves_store m c t ht') $$ H3
  iexact H4

/-- The body at a point that only multiplies. -/
theorem sound_last (c : Dev nD) (t : Fin cfg0.N) (ht : 16 ≤ t.val) :
    bodyPre m c t ⊢ wp frame (wpE (defs₀ (F := F)) Variants.none c none) Set.univ (bodyAt0 t) (fun _ => bodyPost m c t) := by
  have ht2 : 2 ≤ t.val := by omega
  have h2 := (loads_iff t).mpr ht2
  unfold bodyPre bodyPost bodyAt0
  rw [leaves_product m c t ht2]
  simp only [before0_0, before0_1, before0_2, before0_3 m c t.val t rfl ht]
  rw [show (dats m 0 c).Φ t.castSucc = Ring m c t.val from rfl, show (dats m 0 c).Φ t.succ = Ring m c (t.val + 1) from rfl,
    show (dats m 0 c).owesAt () t.succ = (dats m 0 c).owesAt () t.castSucc from rfl,
    after0_0, after0_1, after0_2, after0_4]
  unfold Ring
  iintro ⟨⟨⟨%d, %hd, HS⟩, HP⟩, Ho, ⟨%d0, H0⟩, ⟨%d1, H1⟩, ⟨%d2, H2⟩, ⟨%d3, H3⟩, ⟨%d4, H4⟩⟩
  have hr := held_keep m c t ht d hd
  rw [← loaded_eq m c t ht2 h2 _ hr]
  iapply (sound_load c Set.univ (grid0.coords t) _ _ _ _ _ _ _ _ _ _ _ _ (fun h => absurd ((stores_iff t).mp h) (by omega)) h2 _ (off3_eq t ht2) (iblk m c 2 t) d _)
  isplitl [H2]; · iexact H2
  isplitl [H4]; · iexists _; iexact H4
  isplitl [HS]; · iexact HS
  iintro ⟨H2, H4, HS⟩
  isplitl [HS HP]
  · isplitl [HS]
    · iexists _; isplitr
      swap; · iexact HS
      ipureintro
      exact hr
    iexact HP
  isplitl [Ho]; · iexact Ho
  isplitl [H0]; · iexact H0
  isplitl [H1]; · iexact H1
  isplitl [H2]; · iexact H2
  isplitl [H3]; · iapply (leaves_rows m c t ht) $$ H3
  iexact H4

/-- The call of the body at a point. -/
theorem defs₀_row (t : Fin cfg0.N) :
    defs₀ (F := F) .tc cfg0.body (cfg0.bodyArgs t (cfg0.slots t)) = bodyAt0 t := by
  unfold defs₀; rw [Defs.onTc_tc]

/-- What the pipeline asks of the body. -/
theorem body_obligation (c : Dev nD) : BodyObligation (dats (F := F) m 0 c) (defs₀ (F := F)) Variants.none () Set.univ := fun t => by
  rw [bigSep_W0, bigSep_W0, defs₀_row]
  refine triple_restated ?_ rfl .rfl fun _ => .rfl
  exact (Nat.lt_or_ge t.val 2).elim (sound_first m c t) fun h => (Nat.lt_or_ge t.val 16).elim (sound_middle m c t h) (sound_last m c t)

/-- Before the first point the buffer may hold anything, -/
theorem ring_in (c : Dev nD) : (Pipeline.ΦA spec0 c : sProp 𝕄) ⊢ Ring m c 0 := by
  unfold Pipeline.ΦA Ring
  rw [scopedRest0_eq]
  simp only [owns_whole]
  iintro ⟨⟨%f, H⟩, HP⟩
  isplitl [H]
  · iexists f; isplitr
    · ipureintro
      exact fun t _ h => absurd h (Nat.not_lt_zero _)
    iexact H
  iexact HP

/-- and after the last one what it holds is forgotten. -/
theorem ring_out (c : Dev nD) (n : ℕ) : (Ring m c n : sProp 𝕄) ⊢ Pipeline.ΦA spec0 c := by
  unfold Pipeline.ΦA Ring
  rw [scopedRest0_eq]
  simp only [owns_whole]
  iintro ⟨⟨%f, -, H⟩, HP⟩
  isplitl [H]
  · iexists f
    iexact H
  iexact HP

set_option backward.isDefEq.respectTransparency.types false in
set_option maxHeartbeats 800000 in
/-- Every run ends, each array of the pipeline at what the library computes from the proof data. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => ring_in m c) (hout := fun c => ring_out m c _)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- Every run ends, the arguments unchanged and the semaphores back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel12Ideal.Gen
end
-- ==== Proof.Proj.lean ====
/- The norm before the mixer, and its projection. -/
module

public import proofs.«01_k».proof.Proof.ProjFrame
public import proofs.«01_k».proof.Proof.Gen.Kernel12
public import proofs.«01_k».proof.Proof.Gen.Reference12Ideal.Run
public import proofs.«01_k».proof.Defs
public import proofs.«01_k».proof.Proof.Rms
public import Idealize.ShloMosaic.Lib.Pipeline.ValueKit
public import Idealize.ShloMosaic.Adequacy
public import Idealize.ShloMosaic.Init

@[expose] public section

set_option maxRecDepth 16384

noncomputable section

namespace Cert.Kernel12Ideal.Host

open Idealize.ShloMosaic Idealize.ShloMosaic.TcCoe Idealize.SL.Sem
open Cert.Rms Cert.Kernel12Ideal Cert.Kernel12Ideal.Facts₀ Cert.Kernel12Ideal.Facts

/-- What the loop stores as a result, -/
theorem pay1_at (x : Vec Ideal S128x2048 .f32) (g : Vec Ideal S1x2048 .f32) (r : Fin 128) (l : Fin 2048) :
    Gen.k0_pay1 x g (ix2 r l) = rms (fun k => x (ix2 r k)) (fun k => g (ix2 0 k)) l := by
  unfold rms
  pointwise [Gen.k0_pay1]

/-- and for the product. -/
theorem pay2_at (x : Vec Ideal S128x2048 .f32) (g : Vec Ideal S1x2048 .f32) (r : Fin 128) (l : Fin 2048) :
    Gen.k0_pay2 x g (ix3 0 r l) = rms (fun k => x (ix2 r k)) (fun k => g (ix2 0 k)) l := by
  unfold rms
  pointwise [Gen.k0_pay2, Gen.k0_pay1]

/-- The row `a % 128` of the slab `a / 128` is the row `a`. -/
theorem slab_at (x : Vec Ideal S512x2048 .f32) (a : Fin 512) (l : Fin 2048) :
    Gen.slab x (a.val / 128) (ix2 ⟨a.val % 128, Nat.mod_lt _ (by decide)⟩ l) = x (ix2 a l) := by
  have ha := a.isLt
  unfold Gen.slab
  refine congrArg x (funext fun b => ?_)
  fin_cases b <;> apply Fin.ext
  · show (128 * (a.val / 128) + a.val % 128) % 512 = a.val
    omega
  · rfl

/-- The normed rows of half a row tile. -/
theorem hblk_at (x : Vec Ideal S512x2048 .f32) (g : Vec Ideal S1x2048 .f32) (r : Fin 512) (l : Fin 2048) :
    Gen.hblk x g (ix2 r l) = rms (fun k => x (ix2 r k)) (fun k => g (ix2 0 k)) l :=
  (pay1_at _ g _ _).trans (rms_congr (fun k => slab_at x r k) (fun _ => rfl) l)

theorem hrow_at (x : Vec Ideal S512x2048 .f32) (g : Vec Ideal S1x2048 .f32) (r : Fin 512) (l : Fin 2048) :
    Gen.hrow x g r.val l = rms (fun k => x (ix2 r k)) (fun k => g (ix2 0 k)) l :=
  (pay2_at _ g _ _).trans (rms_congr (fun k => slab_at x r k) (fun _ => rfl) l)

/-- A product of normed rows with weights, as the body makes it. -/
def part (h : Vec Ideal S1x1024x2048 .bf16) (w : Vec Ideal S2048x1920 .bf16) (r : Fin 1024) (l : Fin 1920) : EReal :=
  ∑ k : Fin 2048, h (ix3 0 r k) * w (ix2 k l)

theorem pay3_at (h : Vec Ideal S1x1024x2048 .bf16) (w : Vec Ideal S2048x1920 .bf16) (i : S1024x1920.Idx) :
    Gen.k0_pay3 h w i = part h w (i 0) (i 1) := by
  have e (j : Fin 1024) (l : Fin 1920) : Gen.k0_pay3 h w (ix2 j l) = part h w j l := by
    unfold part
    pointwise [Gen.k0_pay3]
  exact (congrArg (Gen.k0_pay3 h w) (eq_ix2 i)).trans (e (i 0) (i 1))

variable (m : (ℓ : Loc nD τ sig) → Buf (Elt Ideal) ℓ) (c : Dev nD)

theorem varg0 : (Gen.V m c main_arg0 : S8192x2048.Idx → EReal) = (m ((c : Thread nD τ).loc main_arg0)) := by
  unfold Gen.V
  simp only [Gen.hostOps0]
  after_results_simp <;> rfl
/-- The gain as a row. -/
def row (x : Vec Ideal S2048 .f32) : Vec Ideal S1x2048 .f32 := shapeCast S1x2048 x Gen.shapeCasts_S2048_S1x2048

theorem row_at (x : Vec Ideal S2048 .f32) (l : Fin 2048) : row x (ix2 0 l) = x (ix1 l) := by
  pointwise [row]

theorem v0 : (Gen.V m c main_v0 : S1x2048.Idx → EReal) = row (m ((c : Thread nD τ).loc main_arg1)) := by
  unfold Gen.V
  simp only [Gen.hostOps0]
  after_results_simp <;> rfl
theorem v1 : (Gen.V m c main_v1 : S2048x3840.Idx → EReal) = (m ((c : Thread nD τ).loc main_arg2)) := by
  unfold Gen.V
  simp only [Gen.hostOps0]
  after_results_simp <;> rfl

/-- The blocks of step `t`: half `t` of the rows, and column tile `t % 2` of the row tile before. -/
theorem places : ∀ t : Fin cfg0.N, win0_0.index t = ![min t.val 15, 0] ∧ win0_1.index t = ![0, 0] ∧ win0_2.index t = ![0, if 2 ≤ t.val then t.val % 2 else 0]
      ∧ win0_3.index t = ![min t.val 15, 0] ∧ win0_4.index t = ![t.val / 2 - 1, if 2 ≤ t.val then t.val % 2 else 0] :=
  (by decide +kernel : ∀ t : Fin grid0.N, win0_0.index t = ![min t.val 15, 0] ∧ win0_1.index t = ![0, 0] ∧ win0_2.index t = ![0, if 2 ≤ t.val then t.val % 2 else 0]
      ∧ win0_3.index t = ![min t.val 15, 0] ∧ win0_4.index t = ![t.val / 2 - 1, if 2 ≤ t.val then t.val % 2 else 0])

theorem ltN (t : Fin cfg0.N) : t.val < 18 := t.2

theorem read0 (X : (b : Ref sig .tc) → Buf (Elt Ideal) ((c : Thread nD τ).loc b)) (t : Fin cfg0.N) (r : Fin 512) (l : Fin 2048) :
    ((cfg0.win 0).blk t).view.read (Elt Ideal) (X (Pipeline.arrRef spec0 0)) (ix2 r l) = X main_arg0 ((win0_0.blk t).view.emb (ix2 r l)) := rfl

theorem blk0 (t : Fin cfg0.N) (r : Fin 512) (l : Fin 2048) :
    Gen.iblk m c 0 t (ix2 r l) = ((m ((c : Thread nD τ).loc main_arg0)) : S8192x2048.Idx → EReal) (ix2 ⟨min t.val 15 * 512 + r, by omega⟩ l) := by
  unfold Gen.iblk
  refine (read0 c (Gen.V m c) t r l).trans ?_
  rw [varg0]
  refine congrArg _ (funext fun a => ?_)
  fin_cases a <;> apply Fin.ext <;> blk_simp [(places t).1] <;> simp

theorem read1 (X : (b : Ref sig .tc) → Buf (Elt Ideal) ((c : Thread nD τ).loc b)) (t : Fin cfg0.N) (r : Fin 1) (l : Fin 2048) :
    ((cfg0.win 1).blk t).view.read (Elt Ideal) (X (Pipeline.arrRef spec0 1)) (ix2 r l) = X main_v0 ((win0_1.blk t).view.emb (ix2 r l)) := rfl

theorem blk1 (t : Fin cfg0.N) (r : Fin 1) (l : Fin 2048) :
    Gen.iblk m c 1 t (ix2 r l) = (row (m ((c : Thread nD τ).loc main_arg1)) : S1x2048.Idx → EReal) (ix2 r l) := by
  unfold Gen.iblk
  refine (read1 c (Gen.V m c) t r l).trans ?_
  rw [v0]
  refine congrArg _ (funext fun a => ?_)
  fin_cases a <;> apply Fin.ext <;> blk_simp [(places t).2.1] <;> simp

theorem read2 (X : (b : Ref sig .tc) → Buf (Elt Ideal) ((c : Thread nD τ).loc b)) (t : Fin cfg0.N) (r : Fin 2048) (l : Fin 1920) :
    ((cfg0.win 2).blk t).view.read (Elt Ideal) (X (Pipeline.arrRef spec0 2)) (ix2 r l) = X main_v1 ((win0_2.blk t).view.emb (ix2 r l)) := rfl

theorem blk2 (t : Fin cfg0.N) (ht : 2 ≤ t.val) (r : Fin 2048) (l : Fin 1920) :
    Gen.iblk m c 2 t (ix2 r l) = ((m ((c : Thread nD τ).loc main_arg2)) : S2048x3840.Idx → EReal) (ix2 r ⟨t.val % 2 * 1920 + l, by omega⟩) := by
  have e := (places t).2.2.1
  rw [if_pos ht] at e
  unfold Gen.iblk
  refine (read2 c (Gen.V m c) t r l).trans ?_
  rw [v1]
  refine congrArg _ (funext fun a => ?_)
  fin_cases a <;> apply Fin.ext <;> blk_simp [e] <;> simp

/-- The normed rows. -/
def rn (x : S8192x2048.Idx → EReal) (g : S2048.Idx → EReal) (a : Fin 8192) (l : Fin 2048) : EReal :=
  rms (fun k => x (ix2 a k)) (fun k => g (ix1 k)) l

/-- Their product with the weights. -/
def proj (x : S8192x2048.Idx → EReal) (g : S2048.Idx → EReal) (w : S2048x3840.Idx → EReal) (a : Fin 8192) (b : Fin 3840) : EReal :=
  ∑ k : Fin 2048, rn x g a k * w (ix2 k b)

/-- A point's normed rows are the array's. -/
theorem rows_eq (t : Fin cfg0.N) (r : Fin 512) (l : Fin 2048) (a : Fin 8192) (ha : a.val = min t.val 15 * 512 + r.val) :
    rms (fun k => Gen.iblk m c 0 t (ix2 r k)) (fun k => Gen.iblk m c 1 t (ix2 0 k)) l = rn (m ((c : Thread nD τ).loc main_arg0)) (m ((c : Thread nD τ).loc main_arg1)) a l := by
  have hlt : min t.val 15 * 512 + r.val < 8192 := ha ▸ a.isLt
  obtain rfl : a = ⟨_, hlt⟩ := Fin.ext ha
  exact rms_congr (fun k => blk0 m c t r k) (fun k => (blk1 m c t 0 k).trans (row_at _ k)) l

theorem stored_eq (t : Fin cfg0.N) (r : Fin 512) (l : Fin 2048) (a : Fin 8192) (ha : a.val = min t.val 15 * 512 + r.val) :
    Gen.hblk (Gen.iblk m c 0 (Gen.last t)) (Gen.iblk m c 1 (Gen.last t)) (ix2 r l) = rn (m ((c : Thread nD τ).loc main_arg0)) (m ((c : Thread nD τ).loc main_arg1)) a l := by
  have hl : (Gen.last t).val = min t.val 15 := rfl
  exact (hblk_at _ _ r l).trans (rows_eq m c (Gen.last t) r l a (by omega))

/-- The rows of the row tile before. -/
theorem tile_eq (t : Fin cfg0.N) (r : Fin 1024) (l : Fin 2048) (a : Fin 8192) (ha : a.val = (t.val / 2 - 1) * 1024 + r.val) :
    Gen.tile m c t (ix3 0 r l) = rn (m ((c : Thread nD τ).loc main_arg0)) (m ((c : Thread nD τ).loc main_arg1)) a l := by
  have ht := ltN t
  have hr := r.isLt
  have hs : (Gen.source t (r.val / 512)).val = 2 * (t.val / 2 - 1) + r.val / 512 % 2 := rfl
  exact (hrow_at _ _ ⟨r.val % 512, Nat.mod_lt _ (by decide)⟩ l).trans
    (rows_eq m c (Gen.source t (r.val / 512)) ⟨r.val % 512, Nat.mod_lt _ (by decide)⟩ l a (by show a.val = _ + r.val % 512; omega))

theorem part_eq (t : Fin cfg0.N) (ht : 2 ≤ t.val) (r : Fin 1024) (l : Fin 1920) (a : Fin 8192) (b : Fin 3840)
    (ha : a.val = (t.val / 2 - 1) * 1024 + r.val) (hb : b.val = t.val % 2 * 1920 + l.val) :
    part (Gen.tile m c t) (Gen.iblk m c 2 t) r l = proj (m ((c : Thread nD τ).loc main_arg0)) (m ((c : Thread nD τ).loc main_arg1)) (m ((c : Thread nD τ).loc main_arg2)) a b := by
  have eb : (⟨t.val % 2 * 1920 + l.val, by omega⟩ : Fin 3840) = b := Fin.ext hb.symm
  rw [← eb]
  exact Finset.sum_congr rfl fun k _ => congrArg₂ (· * ·) (tile_eq m c t r k a ha) (blk2 m c t ht k l)

/-- Result 0: the normed rows. -/
def res3 (i : S8192x2048.Idx) : EReal := rn (m ((c : Thread nD τ).loc main_arg0)) (m ((c : Thread nD τ).loc main_arg1)) (i 0) (i 1)

/-- Result 0 after the run. -/
theorem final3 (i : S8192x2048.Idx) : (Gen.dats m 0 c).arrAt 3 cfg0.N i = res3 m c i := by
  refine congrFun ((Gen.dats m 0 c).arrAt_eq_of_covers 3 (res3 m c) (by decide +kernel) fun t hf y => ?_) i
  have e := (places t).2.2.2.1
  rw [Gen.after0_3]
  have h0 : (((cfg0.win 3).blk t).view.emb y 0).val = min t.val 15 * 512 + (y 0).val := by blk_simp [e] <;> simp
  have h1 : (((cfg0.win 3).blk t).view.emb y 1).val = (y 1).val := by blk_simp [e] <;> simp
  have h := stored_eq m c t (y 0) (y 1) _ h0
  have e1 : ((cfg0.win 3).blk t).view.emb y 1 = (y 1 : Fin 2048) := Fin.ext h1
  rw [← eq_ix2 y] at h
  unfold res3
  rw [e1]
  generalize Gen.hblk (Gen.iblk m c 0 (Gen.last t)) (Gen.iblk m c 1 (Gen.last t)) = z at h ⊢
  exact h

/-- Result 1: the projection. -/
def res4 (i : S8192x3840.Idx) : EReal := proj (m ((c : Thread nD τ).loc main_arg0)) (m ((c : Thread nD τ).loc main_arg1)) (m ((c : Thread nD τ).loc main_arg2)) (i 0) (i 1)

/-- Result 1 after the run. -/
theorem final4 (i : S8192x3840.Idx) : (Gen.dats m 0 c).arrAt 4 cfg0.N i = res4 m c i := by
  refine congrFun ((Gen.dats m 0 c).arrAt_eq_of_covers 4 (res4 m c) (by decide +kernel) fun t hf y => ?_) i
  have ht := (Gen.flush0_4 t).mp hf
  have e := (places t).2.2.2.2
  rw [if_pos ht] at e
  rw [Gen.after0_4]
  have h0 : (((cfg0.win 4).blk t).view.emb y 0).val = (t.val / 2 - 1) * 1024 + (y 0).val := by blk_simp [e] <;> simp
  have h1 : (((cfg0.win 4).blk t).view.emb y 1).val = t.val % 2 * 1920 + (y 1).val := by blk_simp [e] <;> simp
  have h := (pay3_at _ _ y).trans (part_eq m c t ht (y 0) (y 1) _ _ h0 h1)
  generalize Gen.k0_pay3 (Gen.tile m c t) (Gen.iblk m c 2 t) = z at h ⊢
  exact h

variable {F : FTy → Type} [FloatOps F] in
/-- The run, each result named. -/
theorem run_blocks (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v2_0) = (Gen.dats m 0 c).arrAt 3 cfg0.N
      ∧ r.2.mem ((c : Thread nD τ).loc main_v2_1) = (Gen.dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h.1 c).1 3, (h.1 c).1 4, h.2 c⟩)
    (θ_run_and (Gen.run_main m ρ) (Gen.unchanged m ρ))

end Cert.Kernel12Ideal.Host

namespace Cert.Reference12Ideal.Host

open Idealize.ShloMosaic Idealize.ShloMosaic.TcCoe
open Cert.Rms Cert.Reference12Ideal Cert.Reference12Ideal.Facts

/-- The normed rows. -/
def rn (x : FVec Ideal S8192x2048 .f32) (g : FVec Ideal S2048 .f32) : FVec Ideal S8192x2048 .f32 :=
  mulf (mulf x (broadcastInDim S8192x2048 ![0, 1] Gen.bcast_S8192x1_S8192x2048_0_1 (Host.rsqrt (addf (Host.divf
    (broadcastInDim S8192x1 ![0] Gen.bcast_S8192_S8192x1_0 (Host.reduceAdd (mulf x x) (constant S_ .f32 0x00000000#32)
      Gen.reducesTo_S8192x2048_S8192_d1 Gen.h_S_)) (broadcastInDim S8192x1 ![] Gen.bcast_S_S8192x1 (constant S_ .f32 0x45000000#32)))
    (broadcastInDim S8192x1 ![] Gen.bcast_S_S8192x1 (constant S_ .f32 0x358637BD#32))))))
    (broadcastInDim S8192x2048 ![0, 1] Gen.bcast_S1x2048_S8192x2048_0_1 (broadcastInDim S1x2048 ![1] Gen.bcast_S2048_S1x2048_1 g))

/-- A product with weights. -/
def proj (h : FVec Ideal S8192x2048 .f32) (w : FVec Ideal S2048x3840 .f32) : FVec Ideal S8192x3840 .f32 :=
  Host.dotGeneral dot_S8192x2048_S2048x3840_S8192x3840_1_0_0_1_n_n none h w

theorem rn_at (x : FVec Ideal S8192x2048 .f32) (g : FVec Ideal S2048 .f32) (a : Fin 8192) (l : Fin 2048) :
    rn x g (ix2 a l) = Cert.Kernel12Ideal.Host.rn x g a l := by
  unfold Cert.Kernel12Ideal.Host.rn rms
  pointwise [rn]

/-- The normed rows, in their format. -/
def out0 (x : FVec Ideal S8192x2048 .f32) (g : FVec Ideal S2048 .f32) : FVec Ideal S8192x2048 .bf16 := truncf .bf16 (rn x g) Gen.bitsLt_bf16_f32

theorem out0_at (x : FVec Ideal S8192x2048 .f32) (g : FVec Ideal S2048 .f32) (a : Fin 8192) (l : Fin 2048) :
    out0 x g (ix2 a l) = Cert.Kernel12Ideal.Host.rn x g a l := rn_at x g a l

theorem proj_sum (h : FVec Ideal S8192x2048 .f32) (w : FVec Ideal S2048x3840 .f32) (a : Fin 8192) (b : Fin 3840) :
    proj h w (ix2 a b) = ∑ k : Fin 2048, h (ix2 a k) * w (ix2 k b) := by
  pointwise [proj]

theorem proj_at (x : FVec Ideal S8192x2048 .f32) (g : FVec Ideal S2048 .f32) (w : FVec Ideal S2048x3840 .f32) (a : Fin 8192) (b : Fin 3840) :
    proj (rn x g) w (ix2 a b) = Cert.Kernel12Ideal.Host.proj x g w a b :=
  (proj_sum _ _ a b).trans (Finset.sum_congr rfl fun k _ => congrArg (· * w (ix2 k b)) (rn_at x g a k))

end Cert.Reference12Ideal.Host

namespace Cert.Proof.Proj

open Idealize.ShloMosaic Idealize.ShloMosaic.TcCoe Idealize.SL.Sem

/-- The idealized kernel has the kernel's body: nothing of it is rewritten. -/
theorem body_eq : Cert.Kernel12.defs₀ (F := Bits) = Cert.Kernel12Ideal.defs₀ (F := Bits) := by
  refine congrArg Defs.onTc (funext fun l => funext fun a => ?_)
  match l, a with
  | 0, (t, s) => with_unfolding_all rfl
  | ⟨_ + 1, h⟩, _ => exact absurd h (Nat.not_lt.2 (Nat.le_add_left _ _))

theorem defs_eq : Cert.Kernel12.defs (F := Bits) = Cert.Kernel12Ideal.defs (F := Bits) :=
  congrArg (Pipeline.defs Cert.Kernel12.pcfgs) body_eq

/-- The kernel ends, whatever its arguments hold, with its semaphores back at zero. -/
theorem frame_p : Cert.quiescent_Kernel12 (hKernel12 := Cert.Kernel12.Gen.facts) := fun m ρ _ => by
  have h := Cert.Kernel12Ideal.Gen.frame (F := Bits) m ρ
  rw [← defs_eq] at h
  exact h

/-- The same of the idealized kernel. -/
theorem frame_pi : Cert.quiescent_Kernel12Ideal := fun m ρ _ => Cert.Kernel12Ideal.Gen.frame m ρ

/-- The reference ends. -/
theorem frame_ri : Cert.quiescent_Reference12Ideal := fun m ρ _ =>
  (θ_run Cert.Reference12Ideal.defs _ _).mono (fun r h => ⟨fun c => (h c).2.2,
      Idealize.ShloMosaic.sem_eq_zero_of_no_sems (by decide) r.2⟩)
    (Cert.Reference12Ideal.Value.run (F := Ideal) m ρ)

/-- The kernel's two results are the reference's. -/
theorem algebraic : Cert.algebraic_Kernel12Ideal_Reference12Ideal (hKernel12Ideal := Cert.Kernel12Ideal.Gen.facts)
    (hReference12Ideal := Cert.Reference12Ideal.Gen.facts) := by
  intro m ρ m' ρ' _ ha
  refine ⟨_, _, (θ_run Cert.Kernel12Ideal.defs _ _).mono (fun _ h => h) (Cert.Kernel12Ideal.Host.run_blocks (F := Ideal) m ρ), ?_⟩
  refine (θ_run Cert.Reference12Ideal.defs _ _).mono (fun r h c => ?_) (Cert.Reference12Ideal.Value.run (F := Ideal) m' ρ')
  obtain ⟨h0, h1, ha'⟩ := h c
  obtain ⟨a0, a1, a2⟩ := ha c
  refine ⟨h0.trans ?_, h1.trans ?_, ha'⟩
  · funext i
    refine Eq.trans ?_ (Cert.Kernel12Ideal.Host.final3 m c i).symm
    rw [a0, a1, eq_ix2 i]
    exact Cert.Reference12Ideal.Host.out0_at _ _ (i 0) (i 1)
  · funext i
    refine Eq.trans ?_ (Cert.Kernel12Ideal.Host.final4 m c i).symm
    rw [a0, a1, a2, eq_ix2 i]
    exact Cert.Reference12Ideal.Host.proj_at _ _ _ (i 0) (i 1)

end Cert.Proof.Proj

end
-- ==== Proof.InBody.lean ====
/- The gradient in the input of the mixer's projection: the body. The parts of the gradient in the normed rows of a row tile
   are stored, one column tile at a point, in the half of a ring that the tile's parity names; during the next row tile they
   are loaded, 256 rows at a point, and carried through the norm. -/
module

public import proofs.«01_k».proof.Proof.Gen.Kernel13Ideal.Skeleton
public import proofs.«01_k».proof.Proof.Gen.Kernel13Ideal.Frame
public import Idealize.ShloMosaic.Lib.Pipeline.ValueKit
public import proofs.«01_k».proof.Proof.Whole

@[expose] public section

noncomputable section

namespace Cert.Kernel13Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid

The point `t` is column tile `t % 4` of row tile `t / 4`. -/

/-- Eight row tiles of parts are stored; -/
theorem stores_iff : ∀ t : Fin cfg0.N, k0_cond1 (grid0.coords t) = 1#1 ↔ t.val < 32 := by decide +kernel
/-- they are loaded one row tile later, -/
theorem loads_iff : ∀ t : Fin cfg0.N, k0_cond2 (grid0.coords t) = 1#1 ↔ 4 ≤ t.val := by decide +kernel
/-- the gain's gradient being stored at the first of these points -/
theorem begins_iff : ∀ t : Fin cfg0.N, k0_cond3 (grid0.coords t) = 1#1 ↔ t.val = 4 := by decide +kernel
/-- and added to at the others. -/
theorem adds_iff : ∀ t : Fin cfg0.N, k0_cond4 (grid0.coords t) = 1#1 ↔ ¬ t.val = 4 := by decide +kernel

/-- Where the parts are stored, -/
theorem off1_eq : ∀ t : Fin cfg0.N, k0_off1 (grid0.coords t) = ![t.val / 4 % 2, t.val % 4, 0, 0] := by decide +kernel
/-- and where they are loaded from, a column tile after the other. -/
theorem off2_eq : ∀ t : Fin cfg0.N, 4 ≤ t.val → k0_off2 (grid0.coords t) = ![(t.val / 4 - 1) % 2, 0, 256 * (t.val % 4), 0] := by decide +kernel
theorem off3_eq : ∀ t : Fin cfg0.N, 4 ≤ t.val → k0_off3 (grid0.coords t) = ![(t.val / 4 - 1) % 2, 1, 256 * (t.val % 4), 0] := by decide +kernel
theorem off4_eq : ∀ t : Fin cfg0.N, 4 ≤ t.val → k0_off4 (grid0.coords t) = ![(t.val / 4 - 1) % 2, 2, 256 * (t.val % 4), 0] := by decide +kernel
theorem off5_eq : ∀ t : Fin cfg0.N, 4 ≤ t.val → k0_off5 (grid0.coords t) = ![(t.val / 4 - 1) % 2, 3, 256 * (t.val % 4), 0] := by decide +kernel

/-- The results in rows are written back from the first of the loading points on. -/
theorem flush0_5 : ∀ t : Fin cfg0.N, (cfg0.win 5).flush t = true ↔ 4 ≤ t.val := by decide +kernel
theorem flush0_6 : ∀ t : Fin cfg0.N, (cfg0.win 6).flush t = true ↔ 4 ≤ t.val := by decide +kernel

/-! ## The body -/

/-- The ring after a store of the part `w` at the slot `p`, `q`. -/
def put (p q : ℕ) (w : Vec F S1x1x1024x512 .f32) (d : Vec F S2x4x1024x512 .f32) : Vec F S2x4x1024x512 .f32 := fun y =>
  if (y 0).val = p ∧ (y 1).val = q then w (ix4 0 0 (y 2 : Fin 1024) (y 3 : Fin 512)) else d y

theorem read_put (v : View sig .tc .vmem S2x4x1024x512 .f32) (f : v.ty.Contents (Elt F)) (off : Fin 4 → ℕ) (p q : ℕ)
    (inb : ∀ a, off a + S1x1x1024x512.size a ≤ S2x4x1024x512.size a) (w : Vec F S1x1x1024x512 .f32) (ho : off = ![p, q, 0, 0]) :
    v.read (Elt F) (v.writes (Elt F) f [⟨Rect.unit (s := S2x4x1024x512) off S1x1x1024x512.size inb, w⟩]) = put p q w (v.read (Elt F) f) := by
  funext y
  unfold put
  split
  · rename_i h
    refine View.read_writes_cons_unit_of_mem v f inb w [] y (ix4 0 0 (y 2 : Fin 1024) (y 3 : Fin 512)) ho fun a => ?_
    fin_cases a
    · exact h.1
    · exact h.2
    · exact (Nat.zero_add _).symm
    · exact (Nat.zero_add _).symm
  · rename_i h
    by_cases h0 : (y 0).val = p
    · refine View.read_writes_cons_unit_of_not_mem v f inb w [] y ho 1 ?_
      have h1 : ¬ (y 1).val = q := fun h1 => h ⟨h0, h1⟩
      show (y 1).val < q ∨ q + 1 ≤ (y 1).val
      omega
    · refine View.read_writes_cons_unit_of_not_mem v f inb w [] y ho 0 ?_
      show (y 0).val < p ∨ p + 1 ≤ (y 0).val
      omega

/-- The 256 rows of the gradient in the normed rows that a point loads. -/
def loaded (i : grid0.Coords) (h : k0_cond2 i = 1#1) (d : Vec F S2x4x1024x512 .f32) : Vec F S256x2048 .f32 :=
  k0_pay8 (k0_pay6 (View.ld d (Rect.unit (s := S2x4x1024x512) (k0_off2 i) S1x1x256x512.size (k0_off2_inb i h))))
    (k0_pay7 (View.ld d (Rect.unit (s := S2x4x1024x512) (k0_off3 i) S1x1x256x512.size (k0_off3_inb i h))))
    (View.ld d (Rect.unit (s := S2x4x1024x512) (k0_off4 i) S1x1x256x512.size (k0_off4_inb i h)))
    (View.ld d (Rect.unit (s := S2x4x1024x512) (k0_off5 i) S1x1x256x512.size (k0_off5_inb i h)))

/-- A point of the first row tile stores its part. -/
theorem sound_store (c : Dev nD) (E : Set ℕ) (i : grid0.Coords) (arg2 : Memref sig .tc .vmem S1024x3840 .bf16) (harg2 : arg2.IsWhole) (arg3 : Memref sig .tc .vmem S512x3840 .bf16) (harg3 : arg3.IsWhole) (arg4 : Memref sig .tc .vmem S256x2048 .f32) (harg4 : arg4.IsWhole) (arg5 : Memref sig .tc .vmem S1x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .bf16) (harg8 : arg8.IsWhole) (arg9 : Memref sig .tc .vmem S1x2048 .f32) (harg9 : arg9.IsWhole) (arg10 : Memref sig .tc .vmem S2x4x1024x512 .f32) (harg10 : arg10.IsWhole)
    (h1 : k0_cond1 i = 1#1) (h2 : ¬ k0_cond2 i = 1#1) (p q : ℕ) (ho : k0_off1 i = ![p, q, 0, 0])
    (x0 : Vec F S1024x3840 .bf16) (x1 : Vec F S512x3840 .bf16) (d : Vec F S2x4x1024x512 .f32) (K : PUnit → sProp 𝕄) :
    iprop(owns (c : Thread nD τ) arg2 fullShare x0 ∗ owns (c : Thread nD τ) arg3 fullShare x1 ∗ owns (c : Thread nD τ) arg10 fullShare d
        ∗ (iprop(owns (c : Thread nD τ) arg2 fullShare x0 ∗ owns (c : Thread nD τ) arg3 fullShare x1 ∗ owns (c : Thread nD τ) arg10 fullShare (put p q (k0_pay1 x0 x1) d)) -∗ K ⟨⟩))
      ⊢ wp frame (wpE (defs₀ (F := F)) Variants.none c none) E (cc0_in_proj_bwd i arg2 harg2 arg3 harg3 arg4 harg4 arg5 harg5 arg6 harg6 arg7 harg7 arg8 harg8 arg9 harg9 arg10 harg10) K := by
  simp only [cc0_in_proj_bwd_eq_skeleton]; unfold cc0_in_proj_bwd_skel
  unfold owns
  iintro ⟨⟨%f0, %hf0, H0⟩, ⟨%f1, %hf1, H1⟩, ⟨%f4, %hf4, H4⟩, Hk⟩
  subst hf0 hf1 hf4
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  iexists _; isplitr
  swap; · iexact H4
  ipureintro
  rw [read_put _ _ _ _ _ _ _ ho, Whole.readAt_all _ _ _ Whole.zeros, Whole.readAt_all _ _ _ Whole.zeros]

/-- What the ring holds after a point: its part stored, if it stores one. -/
def ring (i : grid0.Coords) (p q : ℕ) (w : Vec F S1x1x1024x512 .f32) (d : Vec F S2x4x1024x512 .f32) : Vec F S2x4x1024x512 .f32 :=
  if k0_cond1 i = 1#1 then put p q w d else d

set_option maxHeartbeats 6400000 in
/-- A later point stores its part, if it has one, and carries 256 rows of the row tile before through the norm. -/
theorem sound_both (c : Dev nD) (E : Set ℕ) (i : grid0.Coords) (arg2 : Memref sig .tc .vmem S1024x3840 .bf16) (harg2 : arg2.IsWhole) (arg3 : Memref sig .tc .vmem S512x3840 .bf16) (harg3 : arg3.IsWhole) (arg4 : Memref sig .tc .vmem S256x2048 .f32) (harg4 : arg4.IsWhole) (arg5 : Memref sig .tc .vmem S1x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .bf16) (harg8 : arg8.IsWhole) (arg9 : Memref sig .tc .vmem S1x2048 .f32) (harg9 : arg9.IsWhole) (arg10 : Memref sig .tc .vmem S2x4x1024x512 .f32) (harg10 : arg10.IsWhole)
    (h2 : k0_cond2 i = 1#1)
    (hc : (k0_cond1 i = 1#1 ∧ k0_cond3 i = 1#1 ∧ ¬ k0_cond4 i = 1#1) ∨ (k0_cond1 i = 1#1 ∧ ¬ k0_cond3 i = 1#1 ∧ k0_cond4 i = 1#1)
      ∨ (¬ k0_cond1 i = 1#1 ∧ ¬ k0_cond3 i = 1#1 ∧ k0_cond4 i = 1#1)) (p q p' r : ℕ) (ho : k0_off1 i = ![p, q, 0, 0])
    (ho2 : k0_off2 i = ![p', 0, r, 0]) (ho3 : k0_off3 i = ![p', 1, r, 0]) (ho4 : k0_off4 i = ![p', 2, r, 0]) (ho5 : k0_off5 i = ![p', 3, r, 0])
    (x0 : Vec F S1024x3840 .bf16) (x1 : Vec F S512x3840 .bf16) (x2 x4 : Vec F S256x2048 .f32) (x3 x7 : Vec F S1x2048 .f32) (d : Vec F S2x4x1024x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare x4 ∗ (∃ e, owns (c : Thread nD τ) arg7 fullShare e) ∗ (∃ e, owns (c : Thread nD τ) arg8 fullShare e)
        ∗ owns (c : Thread nD τ) arg9 fullShare x7 ∗ owns (c : Thread nD τ) arg10 fullShare d
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4
            ∗ owns (c : Thread nD τ) arg7 fullShare (k0_pay2 (loaded i h2 (ring i p q (k0_pay1 x0 x1) d)) (k0_pay9 x2) (k0_pay10 x2) (k0_pay11 x3) x4)
            ∗ owns (c : Thread nD τ) arg8 fullShare (k0_pay3 (loaded i h2 (ring i p q (k0_pay1 x0 x1) d)) (k0_pay9 x2) (k0_pay10 x2) (k0_pay11 x3) x4)
            ∗ owns (c : Thread nD τ) arg9 fullShare (if k0_cond3 i = 1#1 then k0_pay4 (loaded i h2 (ring i p q (k0_pay1 x0 x1) d)) (k0_pay10 x2)
                else k0_pay5 (loaded i h2 (ring i p q (k0_pay1 x0 x1) d)) (k0_pay10 x2) x7)
            ∗ owns (c : Thread nD τ) arg10 fullShare (ring i p q (k0_pay1 x0 x1) d)) -∗ K ⟨⟩))
      ⊢ wp frame (wpE (defs₀ (F := F)) Variants.none c none) E (cc0_in_proj_bwd i arg2 harg2 arg3 harg3 arg4 harg4 arg5 harg5 arg6 harg6 arg7 harg7 arg8 harg8 arg9 harg9 arg10 harg10) K := by
  simp only [cc0_in_proj_bwd_eq_skeleton]; unfold cc0_in_proj_bwd_skel
  simp only [k0_part1_eq_skeleton, k0_part2_eq_skeleton]; unfold k0_part1_skel k0_part2_skel
  unfold owns
  iintro ⟨⟨%f0, %hf0, H0⟩, ⟨%f1, %hf1, H1⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%fS, %hfS, HS⟩, Hk⟩
  subst hf0 hf1 hf4 hf5 hf6 hf9 hfS
  letI : ClosedOff (k0_off1 i) := ⟨![p, q, 0, 0], ho⟩
  letI : ClosedOff (k0_off2 i) := ⟨![p', 0, r, 0], ho2⟩
  letI : ClosedOff (k0_off3 i) := ⟨![p', 1, r, 0], ho3⟩
  letI : ClosedOff (k0_off4 i) := ⟨![p', 2, r, 0], ho4⟩
  letI : ClosedOff (k0_off5 i) := ⟨![p', 3, r, 0], ho5⟩
  have e (h1 : k0_cond1 i = 1#1) : arg10.view.read (Elt F) (arg10.view.writes (Elt F) fS [⟨Rect.unit (s := S2x4x1024x512) (k0_off1 i) S1x1x1024x512.size (k0_off1_inb i h1),
        k0_pay1 (View.readAt (Elt F) arg2.view (Rect.unit (s := S1024x3840) ![0, 0] S1024x3840.size inb_S1024x3840_S1024x3840_0_0).toLoadRect f0)
          (View.readAt (Elt F) arg3.view (Rect.unit (s := S512x3840) ![0, 0] S512x3840.size inb_S512x3840_S512x3840_0_0).toLoadRect f1)
⟩])
      = ring i p q (k0_pay1 (arg2.view.read (Elt F) f0) (arg3.view.read (Elt F) f1)) (arg10.view.read (Elt F) fS) := by
    rw [ring, if_pos h1, read_put _ _ _ _ _ _ _ ho, Whole.readAt_all _ _ _ Whole.zeros, Whole.readAt_all _ _ _ Whole.zeros]
  have e' (h1 : ¬ k0_cond1 i = 1#1) : arg10.view.read (Elt F) fS
      = ring i p q (k0_pay1 (arg2.view.read (Elt F) f0) (arg3.view.read (Elt F) f1)) (arg10.view.read (Elt F) fS) := by
    rw [ring, if_neg h1]
  rw [← Whole.readAt_all arg4.view f4 inb_S256x2048_S256x2048_0_0 Whole.zeros, ← Whole.readAt_all arg5.view f5 inb_S1x2048_S1x2048_0_0 Whole.zeros,
    ← Whole.readAt_all arg6.view f6 inb_S256x2048_S256x2048_0_0 Whole.zeros]
  rcases hc with ⟨h1, h3, h4⟩ | ⟨h1, h3, h4⟩ | ⟨h1, h3, h4⟩
  all_goals
    first | rw [← e h1] | rw [← e' h1]
    sl_exec (disch := first | sl_exact h1 | sl_exact h2 | sl_exact h3 | sl_exact h4)
    sl_step
    iapply Hk
    isplitl [H0]
    · iexists f0; isplitr; · ipureintro; rfl
      iexact H0
    isplitl [H1]
    · iexists f1; isplitr; · ipureintro; rfl
      iexact H1
    isplitl [H4]
    · iexists f4; isplitr; · ipureintro; exact (Whole.readAt_all _ _ _ Whole.zeros).symm
      iexact H4
    isplitl [H5]
    · iexists f5; isplitr; · ipureintro; exact (Whole.readAt_all _ _ _ Whole.zeros).symm
      iexact H5
    isplitl [H6]
    · iexists f6; isplitr; · ipureintro; exact (Whole.readAt_all _ _ _ Whole.zeros).symm
      iexact H6
    isplitl [H7]
    · iexists _; isplitr
      swap; · iexact H7
      ipureintro
      exact Whole.read_store _ _ _ _ Whole.zeros
    isplitl [H8]
    · iexists _; isplitr
      swap; · iexact H8
      ipureintro
      exact Whole.read_store _ _ _ _ Whole.zeros
    isplitl [H9]
    · iexists _; isplitr
      swap; · iexact H9
      ipureintro
      first
        | rw [if_pos h3]
          exact Whole.read_store _ _ _ _ Whole.zeros
        | rw [if_neg h3, ← Whole.readAt_all arg9.view f9 inb_S1x2048_S1x2048_0_0 Whole.zeros]
          exact Whole.read_store _ _ _ _ Whole.zeros
    iexists _; isplitr
    swap; · iexact HS
    ipureintro
    rfl

end Cert.Kernel13Ideal.Gen
end
-- ==== Proof.InFrame.lean ====
/- The gradient in the input of the mixer's projection: every run ends. Between the points the ring holds the parts of the last
   two row tiles, and the gain's gradient stays in its buffer. -/
module

public import proofs.«01_k».proof.Proof.InBody

@[expose] public section

noncomputable section

namespace Cert.Kernel13Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the ring holds -/

/-- The part of the gradient in the normed rows that a point stores. -/
def part (c : Dev nD) (t : Fin cfg0.N) : Vec F S1x1x1024x512 .f32 :=
  k0_pay1 (iblk m c 0 t) (iblk m c 1 t)

/-- The point that stored the part of a column tile of the row tile before. -/
def source (t : Fin cfg0.N) (j : Fin 4) : Fin cfg0.N := ⟨4 * (t.val / 4 - 1) + j.val, by
  have h : t.val < 36 := t.isLt
  have hj := j.isLt
  show _ < 36
  omega⟩

/-- The 256 rows of that part that a point loads. -/
def strip (c : Dev nD) (t : Fin cfg0.N) (j : Fin 4) : Vec F S1x1x256x512 .f32 := fun y =>
  part m c (source t j) (ix4 0 0 ⟨256 * (t.val % 4) + (y 2 : Fin 256).val, by
    have h : (y 2 : Fin 256).val < 256 := (y 2 : Fin 256).isLt
    omega⟩ (y 3 : Fin 512))

/-- The 256 rows of the gradient in the normed rows that a point carries through the norm. -/
def dh (c : Dev nD) (t : Fin cfg0.N) : Vec F S256x2048 .f32 :=
  k0_pay8 (k0_pay6 (strip m c t 0)) (k0_pay7 (strip m c t 1)) (strip m c t 2) (strip m c t 3)

/-- After `n` points the ring holds the parts of the last eight of them, as far as they have any. -/
def Held (c : Dev nD) (n : ℕ) (d : Vec F S2x4x1024x512 .f32) : Prop :=
  ∀ t : Fin cfg0.N, t.val < 32 → t.val < n → n ≤ t.val + 8 → ∀ (a : Fin 1024) (b : Fin 512),
    d (ix4 ⟨t.val / 4 % 2, Nat.mod_lt _ (by decide)⟩ ⟨t.val % 4, Nat.mod_lt _ (by decide)⟩ a b) = part m c t (ix4 0 0 a b)

theorem held_step (c : Dev nD) (t : Fin cfg0.N) (d : Vec F S2x4x1024x512 .f32) (h : Held m c t.val d) :
    Held m c (t.val + 1) (ring (grid0.coords t) (t.val / 4 % 2) (t.val % 4) (part m c t) d) := by
  intro s h32 hs hle a b
  unfold ring
  split
  · unfold put
    by_cases e : s.val = t.val
    · obtain rfl : s = t := Fin.ext e
      exact if_pos ⟨rfl, rfl⟩
    · refine (if_neg fun ⟨h0, h1⟩ => ?_).trans (h s h32 (by omega) (by omega) a b)
      have h0 : s.val / 4 % 2 = t.val / 4 % 2 := h0
      have h1 : s.val % 4 = t.val % 4 := h1
      omega
  · rename_i h1
    have := (stores_iff t).not.mp h1
    exact h s h32 (by omega) (by omega) a b

theorem strip_eq (c : Dev nD) (t : Fin cfg0.N) (ht : 4 ≤ t.val) (d : Vec F S2x4x1024x512 .f32) (h : Held m c (t.val + 1) d) (j : Fin 4)
    (off : Fin 4 → ℕ) (inb : ∀ a, off a + S1x1x256x512.size a ≤ S2x4x1024x512.size a) (ho : off = ![(t.val / 4 - 1) % 2, j.val, 256 * (t.val % 4), 0]) :
    View.ld d (Rect.unit (s := S2x4x1024x512) off S1x1x256x512.size inb) = strip m c t j := by
  subst ho
  refine funext fun (y : S1x1x256x512.Idx) => ?_
  have h36 : t.val < 36 := t.isLt
  have hj := j.isLt
  have hs : (source t j).val = 4 * (t.val / 4 - 1) + j.val := rfl
  refine Eq.trans ?_ (h (source t j) (by omega) (by omega) (by omega) _ _)
  have h0 : (y 0).val < 1 := (y 0).isLt
  have h1 : (y 1).val < 1 := (y 1).isLt
  refine congrArg d (funext fun a => Fin.ext ?_)
  fin_cases a
  · show (t.val / 4 - 1) % 2 + 1 * (y 0).val = (source t j).val / 4 % 2
    omega
  · show j.val + 1 * (y 1).val = (source t j).val % 4
    omega
  · show 256 * (t.val % 4) + 1 * (y 2).val = 256 * (t.val % 4) + (y 2).val
    omega
  · show 0 + 1 * (y 3).val = (y 3).val
    omega

/-- What a point loads off such a ring. -/
theorem loaded_eq (c : Dev nD) (t : Fin cfg0.N) (ht : 4 ≤ t.val) (h2 : k0_cond2 (grid0.coords t) = 1#1) (d : Vec F S2x4x1024x512 .f32)
    (h : Held m c (t.val + 1) d) : loaded (grid0.coords t) h2 d = dh m c t := by
  unfold loaded dh
  rw [strip_eq m c t ht d h 0 _ _ (off2_eq t ht), strip_eq m c t ht d h 1 _ _ (off3_eq t ht), strip_eq m c t ht d h 2 _ _ (off4_eq t ht),
    strip_eq m c t ht d h 3 _ _ (off5_eq t ht)]

/-- The point of the `n`-th 256 rows that are loaded. -/
def pt (n : ℕ) : Fin cfg0.N := ⟨(n + 4) % cfg0.N, Nat.mod_lt _ (by decide)⟩

/-- The gain's gradient over the first `n + 1` of them. -/
def gainAt (c : Dev nD) : ℕ → Vec F S1x2048 .f32
  | 0 => k0_pay4 (dh m c (pt 0)) (k0_pay10 (iblk m c 2 (pt 0)))
  | n + 1 => k0_pay5 (dh m c (pt (n + 1))) (k0_pay10 (iblk m c 2 (pt (n + 1)))) (gainAt c n)

/-- The ring between the points. -/
def Ring (c : Dev nD) (n : ℕ) : sProp 𝕄 :=
  iprop((∃ d, ⌜Held m c n d⌝ ∗ owns (c : Thread nD τ) (Memref.whole cc0_scratch0) fullShare d) ∗ ∃ r, prngReg c r)

/-- The proof data: an input's buffer at its block; the results in rows at their payloads; the gain's gradient at its sum so far. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay2 (dh m c t) (k0_pay9 (iblk m c 2 t)) (k0_pay10 (iblk m c 2 t)) (k0_pay11 (iblk m c 3 t)) (iblk m c 4 t)
    | ⟨6, _⟩ => k0_pay3 (dh m c t) (k0_pay9 (iblk m c 2 t)) (k0_pay10 (iblk m c 2 t)) (k0_pay11 (iblk m c 3 t)) (iblk m c 4 t)
    | ⟨7, _⟩ => gainAt m c (t.val - 4)
  Φ t := Ring m c t.val
  q _ := fullShare
  owed _ := 0

/-- The arrays the pipeline finds. -/
theorem A_eq (c : Dev nD) (w : Fin cfg0.W) : (dats m 0 c).A w = V m c (Pipeline.arrRef spec0 w) := by
  dsimp only [dats]

/-! What each window's buffer holds after a point, -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = k0_pay2 (dh m c t) (k0_pay9 (iblk m c 2 t)) (k0_pay10 (iblk m c 2 t)) (k0_pay11 (iblk m c 3 t)) (iblk m c 4 t) := by dsimp only [dats]
theorem after0_6 (c : Dev nD) (t : Fin cfg0.N) : (dats m 0 c).after 6 t
    = k0_pay3 (dh m c t) (k0_pay9 (iblk m c 2 t)) (k0_pay10 (iblk m c 2 t)) (k0_pay11 (iblk m c 3 t)) (iblk m c 4 t) := by dsimp only [dats]
theorem after0_7 (c : Dev nD) (t : Fin cfg0.N) : (dats m 0 c).after 7 t = gainAt m c (t.val - 4) := by dsimp only [dats]

/-! and what an input's holds before it. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! During the first row tile the results' buffers are left alone. -/

theorem idle0_5 : ∀ t : Fin cfg0.N, cfg0.idle 5 (cfg0.grid.coords t) = decide (t.val < 4) := by decide +kernel
theorem idle0_6 : ∀ t : Fin cfg0.N, cfg0.idle 6 (cfg0.grid.coords t) = decide (t.val < 4) := by decide +kernel
theorem idle0_7 : ∀ t : Fin cfg0.N, cfg0.idle 7 (cfg0.grid.coords t) = decide (t.val < 4) := by decide +kernel

/-- The point before. -/
abbrev prev (t : Fin cfg0.N) : Fin cfg0.N := ⟨t.val - 1, Nat.lt_of_le_of_lt (Nat.sub_le _ _) t.isLt⟩

/-- After its first sum the gain's gradient stays in its buffer. -/
theorem before0_7 (c : Dev nD) (t : Fin cfg0.N) (ht : 4 < t.val) (d) : (dats m 0 c).before 7 t d = gainAt m c (t.val - 5) := by
  have h36 : t.val < 36 := t.isLt
  have hp : (prev t).val = t.val - 1 := rfl
  have hfl : (cfg0.win 7).flush (prev t) = false := Bool.eq_false_iff.mpr fun h => by
    have := (flush0_7 (prev t)).mp h
    omega
  have hfe : (cfg0.win 7).fetch t = false := (cfg0.win 7).fetch_out rfl t
  have hi : cfg0.idle 7 (cfg0.grid.coords (prev t)) = false := (idle0_7 (prev t)).trans (decide_eq_false (by omega))
  rw [(dats m 0 c).before_of_pos 7 t (by omega) hfe, hfl, if_neg Bool.false_ne_true]
  unfold Dat.left
  rw [hi]
  show (dats m 0 c).kept 7 (prev t) d = _
  unfold Dat.kept
  rw [after0_7]
  exact (cfg0.win 7).fill_cut (cfg0.grid.coords (prev t)) _

theorem pt_eq (t : Fin cfg0.N) (n : ℕ) (h : t.val = n + 4) : pt n = t :=
  Fin.ext ((congrArg (· % cfg0.N) h.symm).trans (Nat.mod_eq_of_lt t.isLt))

/-- The gain's gradient over the rows up to a point's. -/
theorem gain_step (c : Dev nD) (t : Fin cfg0.N) (ht : 4 ≤ t.val) (d) :
    (if k0_cond3 (grid0.coords t) = 1#1 then k0_pay4 (dh m c t) (k0_pay10 (iblk m c 2 t))
      else k0_pay5 (dh m c t) (k0_pay10 (iblk m c 2 t)) ((dats m 0 c).before 7 t d)) = gainAt m c (t.val - 4) := by
  by_cases h : t.val = 4
  · rw [if_pos ((begins_iff t).mpr h), h, Nat.sub_self, gainAt, pt_eq t 0 h]
  · rw [if_neg fun h' => h ((begins_iff t).mp h'), before0_7 m c t (by omega)]
    obtain ⟨n, hn⟩ : ∃ n, t.val = n + 1 + 4 := ⟨t.val - 5, by omega⟩
    have h5 : t.val - 5 = n := by omega
    have h4 : t.val - 4 = n + 1 := by omega
    rw [h4, h5, gainAt, pt_eq t (n + 1) hn]

/-! ## The body's obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t
    ∗ (dats m 0 c).leavesExact 6 t
    ∗ (dats m 0 c).leavesExact 7 t)

/-- The body at a point of the first row tile. -/
theorem sound_first (c : Dev nD) (t : Fin cfg0.N) (ht : t.val < 4) :
    bodyPre m c t ⊢ wp frame (wpE (defs₀ (F := F)) Variants.none c none) Set.univ (bodyAt0 t) (fun _ => bodyPost m c t) := by
  have f5 : (cfg0.win 5).flush t = false := Bool.eq_false_iff.mpr fun h => absurd ((flush0_5 t).mp h) (by omega)
  have f6 : (cfg0.win 6).flush t = false := Bool.eq_false_iff.mpr fun h => absurd ((flush0_6 t).mp h) (by omega)
  have f7 : (cfg0.win 7).flush t = false := Bool.eq_false_iff.mpr fun h => absurd ((flush0_7 t).mp h) (by omega)
  have hi5 := (idle0_5 t).trans (decide_eq_true ht)
  have hi6 := (idle0_6 t).trans (decide_eq_true ht)
  have hi7 := (idle0_7 t).trans (decide_eq_true ht)
  unfold bodyPre bodyPost bodyAt0
  rw [(dats m 0 c).leavesExact_idle 5 t hi5 f5, (dats m 0 c).leavesExact_idle 6 t hi6 f6, (dats m 0 c).leavesExact_idle 7 t hi7 f7]
  simp only [before0_0, before0_1, before0_2, before0_3, before0_4]
  rw [show (dats m 0 c).Φ t.castSucc = Ring m c t.val from rfl, show (dats m 0 c).Φ t.succ = Ring m c (t.val + 1) from rfl,
    show (dats m 0 c).owesAt () t.succ = (dats m 0 c).owesAt () t.castSucc from rfl,
    after0_0, after0_1, after0_2, after0_3, after0_4]
  unfold Ring
  iintro ⟨⟨⟨%d, %hd, HS⟩, HP⟩, Ho, ⟨%d0, H0⟩, ⟨%d1, H1⟩, ⟨%d2, H2⟩, ⟨%d3, H3⟩, ⟨%d4, H4⟩, H5, H6, H7⟩
  iapply (sound_store c Set.univ (grid0.coords t) _ _ _ _ _ _ _ _ _ _ _ _ _ _ _ _ _ _ ((stores_iff t).mpr (by omega)) (fun h => absurd ((loads_iff t).mp h) (by omega)) _ _ (off1_eq t) (iblk m c 0 t) (iblk m c 1 t) d _)
  isplitl [H0]; · iexact H0
  isplitl [H1]; · iexact H1
  isplitl [HS]; · iexact HS
  iintro ⟨H0, H1, HS⟩
  isplitl [HS HP]
  · isplitl [HS]
    · iexists _; isplitr
      swap; · iexact HS
      ipureintro
      have h := held_step m c t d hd
      unfold ring at h
      rw [if_pos ((stores_iff t).mpr (by omega))] at h
      exact h
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The conditions at a later point. -/
theorem cases_later (t : Fin cfg0.N) :
    (k0_cond1 (grid0.coords t) = 1#1 ∧ k0_cond3 (grid0.coords t) = 1#1 ∧ ¬ k0_cond4 (grid0.coords t) = 1#1)
      ∨ (k0_cond1 (grid0.coords t) = 1#1 ∧ ¬ k0_cond3 (grid0.coords t) = 1#1 ∧ k0_cond4 (grid0.coords t) = 1#1)
      ∨ (¬ k0_cond1 (grid0.coords t) = 1#1 ∧ ¬ k0_cond3 (grid0.coords t) = 1#1 ∧ k0_cond4 (grid0.coords t) = 1#1) := by
  rw [stores_iff, begins_iff, adds_iff]
  omega

/-- The body at a later point. -/
theorem sound_later (c : Dev nD) (t : Fin cfg0.N) (ht : 4 ≤ t.val) :
    bodyPre m c t ⊢ wp frame (wpE (defs₀ (F := F)) Variants.none c none) Set.univ (bodyAt0 t) (fun _ => bodyPost m c t) := by
  have hi5 := (idle0_5 t).trans (decide_eq_false (Nat.not_lt.mpr ht))
  have hi6 := (idle0_6 t).trans (decide_eq_false (Nat.not_lt.mpr ht))
  have hi7 := (idle0_7 t).trans (decide_eq_false (Nat.not_lt.mpr ht))
  have e5 : (dats m 0 c).leavesExact 5 t = (owns (c : Thread nD τ) (st0_5 t) fullShare ((dats m 0 c).after 5 t) : sProp 𝕄) := by
    unfold Dat.leavesExact; rw [hi5]
  have e6 : (dats m 0 c).leavesExact 6 t = (owns (c : Thread nD τ) (st0_6 t) fullShare ((dats m 0 c).after 6 t) : sProp 𝕄) := by
    unfold Dat.leavesExact; rw [hi6]
  have e7 : (dats m 0 c).leavesExact 7 t = (owns (c : Thread nD τ) (st0_7 t) fullShare ((dats m 0 c).after 7 t) : sProp 𝕄) := by
    unfold Dat.leavesExact; rw [hi7]
  have h2 := (loads_iff t).mpr ht
  unfold bodyPre bodyPost bodyAt0
  rw [e5, e6, e7]
  simp only [before0_0, before0_1, before0_2, before0_3, before0_4]
  rw [show (dats m 0 c).Φ t.castSucc = Ring m c t.val from rfl, show (dats m 0 c).Φ t.succ = Ring m c (t.val + 1) from rfl,
    show (dats m 0 c).owesAt () t.succ = (dats m 0 c).owesAt () t.castSucc from rfl,
    after0_0, after0_1, after0_2, after0_3, after0_4, after0_5, after0_6, after0_7]
  unfold Ring
  iintro ⟨⟨⟨%d, %hd, HS⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hr := held_step m c t d hd
  rw [← gain_step m c t ht d7, ← loaded_eq m c t ht h2 _ hr]
  iapply (sound_both c Set.univ (grid0.coords t) _ _ _ _ _ _ _ _ _ _ _ _ _ _ _ _ _ _ h2 (cases_later t) _ _ _ _ (off1_eq t) (off2_eq t ht) (off3_eq t ht) (off4_eq t ht) (off5_eq t ht) (iblk m c 0 t) (iblk m c 1 t) (iblk m c 2 t) (iblk m c 4 t) (iblk m c 3 t) ((dats m 0 c).before 7 t d7) d _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  isplitl [HS]; · iexact HS
  iintro ⟨H0, H1, H2, H3, H4, H5, H6, H7, HS⟩
  isplitl [HS HP]
  · isplitl [HS]
    · iexists _; isplitr
      swap; · iexact HS
      ipureintro
      exact hr
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The call of the body at a point. -/
theorem defs₀_row (t : Fin cfg0.N) :
    defs₀ (F := F) .tc cfg0.body (cfg0.bodyArgs t (cfg0.slots t)) = bodyAt0 t := by
  unfold defs₀; rw [Defs.onTc_tc]

/-- What the pipeline asks of the body. -/
theorem body_obligation (c : Dev nD) : BodyObligation (dats (F := F) m 0 c) (defs₀ (F := F)) Variants.none () Set.univ := fun t => by
  rw [bigSep_W0, bigSep_W0, defs₀_row]
  refine triple_restated ?_ rfl .rfl fun _ => .rfl
  exact (Nat.lt_or_ge t.val 4).elim (sound_first m c t) (sound_later m c t)

/-- Before the first point the ring may hold anything, -/
theorem ring_in (c : Dev nD) : (Pipeline.ΦA spec0 c : sProp 𝕄) ⊢ Ring m c 0 := by
  unfold Pipeline.ΦA Ring
  rw [scopedRest0_eq]
  simp only [owns_whole]
  iintro ⟨⟨%f, H⟩, HP⟩
  isplitl [H]
  · iexists f; isplitr
    · ipureintro
      exact fun t _ h => absurd h (Nat.not_lt_zero _)
    iexact H
  iexact HP

/-- and after the last one what it holds is forgotten. -/
theorem ring_out (c : Dev nD) (n : ℕ) : (Ring m c n : sProp 𝕄) ⊢ Pipeline.ΦA spec0 c := by
  unfold Pipeline.ΦA Ring
  rw [scopedRest0_eq]
  simp only [owns_whole]
  iintro ⟨⟨%f, -, H⟩, HP⟩
  isplitl [H]
  · iexists f
    iexact H
  iexact HP

set_option backward.isDefEq.respectTransparency.types false in
set_option maxHeartbeats 800000 in
/-- Every run ends, each array of the pipeline at what the library computes from the proof data. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => ring_in m c) (hout := fun c => ring_out m c _)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- Every run ends, the arguments unchanged and the semaphores back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel13Ideal.Gen
end
-- ==== Proof.InBwd.lean ====
/- The gradient in the input of the mixer's projection: a product with the transposed weights, and the norm's derivative. -/
module

public import proofs.«01_k».proof.Proof.InFrame
public import proofs.«01_k».proof.Proof.Gen.Kernel13
public import proofs.«01_k».proof.Proof.Gen.Reference13Ideal.Run
public import proofs.«01_k».proof.Defs
public import proofs.«01_k».proof.Proof.NormBwd
public import Idealize.ShloMosaic.Lib.Pipeline.ValueKit
public import Idealize.ShloMosaic.Adequacy
public import Idealize.ShloMosaic.Init

@[expose] public section

set_option maxRecDepth 16384

noncomputable section

namespace Cert.Kernel13Ideal.Host

open Idealize.ShloMosaic Idealize.ShloMosaic.TcCoe Idealize.SL.Sem
open Cert.Rms Cert.Kernel13Ideal Cert.Kernel13Ideal.Facts₀ Cert.Kernel13Ideal.Facts

/-- What a storing point stores. -/
theorem pay1_at (p : Vec Ideal S1024x3840 .bf16) (q : Vec Ideal S512x3840 .bf16) (a : Fin 1024) (b : Fin 512) :
    Gen.k0_pay1 p q (ix4 0 0 a b) = ∑ k : Fin 3840, p (ix2 a k) * q (ix2 b k) := by
  pointwise [Gen.k0_pay1]

/-- The four column tiles side by side. -/
theorem pay8_at (s : Fin 4 → Vec Ideal S1x1x256x512 .f32) (r : Fin 256) (l : Fin 2048) :
    Gen.k0_pay8 (Gen.k0_pay6 (s 0)) (Gen.k0_pay7 (s 1)) (s 2) (s 3) (ix2 r l)
      = s ⟨l.val / 512, by omega⟩ (ix4 0 0 r ⟨l.val % 512, Nat.mod_lt _ (by decide)⟩) := by
  have h (j : Fin 4) (b : Fin 512) (hj : j.val = l.val / 512) (hb : b.val = l.val % 512) :
      s j (ix4 0 0 r b) = s ⟨l.val / 512, by omega⟩ (ix4 0 0 r ⟨l.val % 512, Nat.mod_lt _ (by decide)⟩) := by
    have ej : j = ⟨l.val / 512, by omega⟩ := Fin.ext hj
    have eb : b = ⟨l.val % 512, Nat.mod_lt _ (by decide)⟩ := Fin.ext hb
    exact congrArg₂ (fun j b => s j (ix4 0 0 r b)) ej eb
  pointwise [Gen.k0_pay8, Gen.k0_pay6, Gen.k0_pay7]
  split
  · exact h 0 _ (by show 0 = _; omega) (by show l.val = _; omega)
  split
  · exact h 1 _ (by show 1 = _; omega) (by show l.val - 512 = _; omega)
  split
  · exact h 2 _ (by show 2 = _; omega) (by show l.val - 512 - 512 = _; omega)
  · exact h 3 _ (by show 3 = _; omega) (by show l.val - 512 - 512 - 512 = _; omega)

/-- The gradient in the rows. -/
theorem pay2_at (h x : Vec Ideal S256x2048 .f32) (g : Vec Ideal S1x2048 .f32) (d : Vec Ideal S256x2048 .f32) (r : Fin 256) (l : Fin 2048) :
    Gen.k0_pay2 h (Gen.k0_pay9 x) (Gen.k0_pay10 x) (Gen.k0_pay11 g) d (ix2 r l)
      = back (d (ix2 r l)) (fun k => x (ix2 r k)) (fun k => g (ix2 0 k)) (fun k => h (ix2 r k)) l := by
  unfold back ms
  pointwise [Gen.k0_pay2, Gen.k0_pay9, Gen.k0_pay10, Gen.k0_pay11]

/-- The gain's gradient over 256 rows. -/
theorem pay4_at (h x : Vec Ideal S256x2048 .f32) (l : Fin 2048) :
    Gen.k0_pay4 h (Gen.k0_pay10 x) (ix2 0 l) = ∑ r : Fin 256, h (ix2 r l) * unit (fun k => x (ix2 r k)) l := by
  unfold unit ms
  pointwise [Gen.k0_pay4, Gen.k0_pay9, Gen.k0_pay10]

/-- The same added to what is there. -/
theorem pay5_at (h x : Vec Ideal S256x2048 .f32) (o : Vec Ideal S1x2048 .f32) (l : Fin 2048) :
    Gen.k0_pay5 h (Gen.k0_pay10 x) o (ix2 0 l) = o (ix2 0 l) + ∑ r : Fin 256, h (ix2 r l) * unit (fun k => x (ix2 r k)) l := by
  unfold unit ms
  pointwise [Gen.k0_pay5, Gen.k0_pay4, Gen.k0_pay9, Gen.k0_pay10]

variable (m : (ℓ : Loc nD τ sig) → Buf (Elt Ideal) ℓ) (c : Dev nD)

theorem v0 : (Gen.V m c main_v0 : S8192x3840.Idx → EReal) = m ((c : Thread nD τ).loc main_arg3) := by
  unfold Gen.V
  simp only [Gen.hostOps0]
  after_results_simp <;> rfl
theorem v1 : (Gen.V m c main_v1 : S2048x3840.Idx → EReal) = m ((c : Thread nD τ).loc main_arg2) := by
  unfold Gen.V
  simp only [Gen.hostOps0]
  after_results_simp <;> rfl
theorem varg0 : (Gen.V m c main_arg0 : S8192x2048.Idx → EReal) = m ((c : Thread nD τ).loc main_arg0) := by
  unfold Gen.V
  simp only [Gen.hostOps0]
  after_results_simp <;> rfl
theorem varg4 : (Gen.V m c main_arg4 : S8192x2048.Idx → EReal) = m ((c : Thread nD τ).loc main_arg4) := by
  unfold Gen.V
  simp only [Gen.hostOps0]
  after_results_simp <;> rfl

/-- The gain as a row. -/
def row (x : Vec Ideal S2048 .f32) : Vec Ideal S1x2048 .f32 := shapeCast S1x2048 x Gen.shapeCasts_S2048_S1x2048

theorem row_at (x : Vec Ideal S2048 .f32) (l : Fin 2048) : row x (ix2 0 l) = x (ix1 l) := by
  pointwise [row]

theorem eq_row (y : S1x2048.Idx) : y = ix2 0 (y 1) :=
  (eq_ix2 y).trans (congrArg (fun k : Fin 1 => ix2 k (y 1 : Fin 2048)) (Subsingleton.elim (α := Fin 1) (y 0) 0))

theorem v2 : (Gen.V m c main_v2 : S1x2048.Idx → EReal) = row (m ((c : Thread nD τ).loc main_arg1)) := by
  unfold Gen.V
  simp only [Gen.hostOps0]
  after_results_simp <;> rfl

/-- The blocks of step `t`: at the first 32, row tile `t / 4` of the gradients and `t % 4` of the weights; from the fourth on, 256 rows. -/
theorem places : ∀ t : Fin cfg0.N, (t.val < 32 → win0_0.index t = ![t.val / 4, 0] ∧ win0_1.index t = ![t.val % 4, 0])
      ∧ (4 ≤ t.val → win0_2.index t = ![t.val - 4, 0] ∧ win0_4.index t = ![t.val - 4, 0] ∧ win0_5.index t = ![t.val - 4, 0] ∧ win0_6.index t = ![t.val - 4, 0])
      ∧ win0_3.index t = ![0, 0] ∧ win0_7.index t = ![0, 0] :=
  (by decide +kernel : ∀ t : Fin grid0.N, (t.val < 32 → win0_0.index t = ![t.val / 4, 0] ∧ win0_1.index t = ![t.val % 4, 0])
      ∧ (4 ≤ t.val → win0_2.index t = ![t.val - 4, 0] ∧ win0_4.index t = ![t.val - 4, 0] ∧ win0_5.index t = ![t.val - 4, 0] ∧ win0_6.index t = ![t.val - 4, 0])
      ∧ win0_3.index t = ![0, 0] ∧ win0_7.index t = ![0, 0])

theorem ltN (t : Fin cfg0.N) : t.val < 36 := t.2

theorem read0 (X : (b : Ref sig .tc) → Buf (Elt Ideal) ((c : Thread nD τ).loc b)) (t : Fin cfg0.N) (r : Fin 1024) (l : Fin 3840) :
    ((cfg0.win 0).blk t).view.read (Elt Ideal) (X (Pipeline.arrRef spec0 0)) (ix2 r l) = X main_v0 ((win0_0.blk t).view.emb (ix2 r l)) := rfl

theorem blk0 (t : Fin cfg0.N) (h32 : t.val < 32) (r : Fin 1024) (l : Fin 3840) :
    Gen.iblk m c 0 t (ix2 r l) = (m ((c : Thread nD τ).loc main_arg3) : S8192x3840.Idx → EReal) (ix2 ⟨t.val / 4 * 1024 + r, by omega⟩ l) := by
  unfold Gen.iblk
  refine (read0 c (Gen.V m c) t r l).trans ?_
  rw [v0]
  refine congrArg _ (funext fun a => ?_)
  fin_cases a <;> apply Fin.ext <;> blk_simp [((places t).1 h32).1] <;> simp

theorem read1 (X : (b : Ref sig .tc) → Buf (Elt Ideal) ((c : Thread nD τ).loc b)) (t : Fin cfg0.N) (r : Fin 512) (l : Fin 3840) :
    ((cfg0.win 1).blk t).view.read (Elt Ideal) (X (Pipeline.arrRef spec0 1)) (ix2 r l) = X main_v1 ((win0_1.blk t).view.emb (ix2 r l)) := rfl

theorem blk1 (t : Fin cfg0.N) (h32 : t.val < 32) (r : Fin 512) (l : Fin 3840) :
    Gen.iblk m c 1 t (ix2 r l) = (m ((c : Thread nD τ).loc main_arg2) : S2048x3840.Idx → EReal) (ix2 ⟨t.val % 4 * 512 + r, by omega⟩ l) := by
  unfold Gen.iblk
  refine (read1 c (Gen.V m c) t r l).trans ?_
  rw [v1]
  refine congrArg _ (funext fun a => ?_)
  fin_cases a <;> apply Fin.ext <;> blk_simp [((places t).1 h32).2] <;> simp

theorem read2 (X : (b : Ref sig .tc) → Buf (Elt Ideal) ((c : Thread nD τ).loc b)) (t : Fin cfg0.N) (r : Fin 256) (l : Fin 2048) :
    ((cfg0.win 2).blk t).view.read (Elt Ideal) (X (Pipeline.arrRef spec0 2)) (ix2 r l) = X main_arg0 ((win0_2.blk t).view.emb (ix2 r l)) := rfl

theorem blk2 (t : Fin cfg0.N) (h4 : 4 ≤ t.val) (r : Fin 256) (l : Fin 2048) (a : Fin 8192) (ha : a.val = (t.val - 4) * 256 + r.val) :
    Gen.iblk m c 2 t (ix2 r l) = (m ((c : Thread nD τ).loc main_arg0) : S8192x2048.Idx → EReal) (ix2 a l) := by
  have hlt : (t.val - 4) * 256 + r.val < 8192 := ha ▸ a.isLt
  obtain rfl : a = ⟨(t.val - 4) * 256 + r.val, hlt⟩ := Fin.ext ha
  unfold Gen.iblk
  refine (read2 c (Gen.V m c) t r l).trans ?_
  rw [varg0]
  refine congrArg _ (funext fun a => ?_)
  fin_cases a <;> apply Fin.ext <;> blk_simp [((places t).2.1 h4).1] <;> simp

theorem read3 (X : (b : Ref sig .tc) → Buf (Elt Ideal) ((c : Thread nD τ).loc b)) (t : Fin cfg0.N) (r : Fin 1) (l : Fin 2048) :
    ((cfg0.win 3).blk t).view.read (Elt Ideal) (X (Pipeline.arrRef spec0 3)) (ix2 r l) = X main_v2 ((win0_3.blk t).view.emb (ix2 r l)) := rfl

theorem blk3 (t : Fin cfg0.N) (r : Fin 1) (l : Fin 2048) :
    Gen.iblk m c 3 t (ix2 r l) = (row (m ((c : Thread nD τ).loc main_arg1)) : S1x2048.Idx → EReal) (ix2 r l) := by
  unfold Gen.iblk
  refine (read3 c (Gen.V m c) t r l).trans ?_
  rw [v2]
  refine congrArg _ (funext fun a => ?_)
  fin_cases a <;> apply Fin.ext <;> blk_simp [(places t).2.2.1] <;> simp

theorem read4 (X : (b : Ref sig .tc) → Buf (Elt Ideal) ((c : Thread nD τ).loc b)) (t : Fin cfg0.N) (r : Fin 256) (l : Fin 2048) :
    ((cfg0.win 4).blk t).view.read (Elt Ideal) (X (Pipeline.arrRef spec0 4)) (ix2 r l) = X main_arg4 ((win0_4.blk t).view.emb (ix2 r l)) := rfl

theorem blk4 (t : Fin cfg0.N) (h4 : 4 ≤ t.val) (r : Fin 256) (l : Fin 2048) (a : Fin 8192) (ha : a.val = (t.val - 4) * 256 + r.val) :
    Gen.iblk m c 4 t (ix2 r l) = (m ((c : Thread nD τ).loc main_arg4) : S8192x2048.Idx → EReal) (ix2 a l) := by
  have hlt : (t.val - 4) * 256 + r.val < 8192 := ha ▸ a.isLt
  obtain rfl : a = ⟨(t.val - 4) * 256 + r.val, hlt⟩ := Fin.ext ha
  unfold Gen.iblk
  refine (read4 c (Gen.V m c) t r l).trans ?_
  rw [varg4]
  refine congrArg _ (funext fun a => ?_)
  fin_cases a <;> apply Fin.ext <;> blk_simp [((places t).2.1 h4).2.1] <;> simp

/-- A product with transposed weights. -/
def ct (d : S8192x3840.Idx → EReal) (w : S2048x3840.Idx → EReal) (a : Fin 8192) (b : Fin 2048) : EReal :=
  ∑ k : Fin 3840, d (ix2 a k) * w (ix2 b k)

/-- The gradient in the normed rows. -/
def dhm (a : Fin 8192) (b : Fin 2048) : EReal := ct (m ((c : Thread nD τ).loc main_arg3)) (m ((c : Thread nD τ).loc main_arg2)) a b

/-- A part that a point stores is the gradient at its place. -/
theorem part_eq (t : Fin cfg0.N) (h32 : t.val < 32) (r : Fin 1024) (l : Fin 512) (a : Fin 8192) (b : Fin 2048)
    (ha : a.val = t.val / 4 * 1024 + r.val) (hb : b.val = t.val % 4 * 512 + l.val) : Gen.part m c t (ix4 0 0 r l) = dhm m c a b := by
  have ha' : t.val / 4 * 1024 + r.val < 8192 := ha ▸ a.isLt
  have hb' : t.val % 4 * 512 + l.val < 2048 := hb ▸ b.isLt
  obtain rfl : a = ⟨t.val / 4 * 1024 + r.val, ha'⟩ := Fin.ext ha
  obtain rfl : b = ⟨t.val % 4 * 512 + l.val, hb'⟩ := Fin.ext hb
  unfold Gen.part
  have e (x : Vec Ideal S1024x3840 .bf16) (w : Vec Ideal S512x3840 .bf16)
      (hx : ∀ k, x (ix2 r k) = (m ((c : Thread nD τ).loc main_arg3) : S8192x3840.Idx → EReal) (ix2 ⟨t.val / 4 * 1024 + r.val, ha'⟩ k))
      (hw : ∀ k, w (ix2 l k) = (m ((c : Thread nD τ).loc main_arg2) : S2048x3840.Idx → EReal) (ix2 ⟨t.val % 4 * 512 + l.val, hb'⟩ k)) :
      Gen.k0_pay1 x w (ix4 0 0 r l) = dhm m c ⟨t.val / 4 * 1024 + r.val, ha'⟩ ⟨t.val % 4 * 512 + l.val, hb'⟩ :=
    (pay1_at x w r l).trans (Finset.sum_congr rfl fun k _ => congrArg₂ (fun a b : EReal => a * b) (hx k) (hw k))
  exact e _ _ (blk0 m c t h32 r) (blk1 m c t h32 l)

/-- The rows that a point carries through the norm are the gradient's. -/
theorem rows_eq (t : Fin cfg0.N) (h4 : 4 ≤ t.val) (r : Fin 256) (l : Fin 2048) (a : Fin 8192) (ha : a.val = (t.val - 4) * 256 + r.val) :
    Gen.dh m c t (ix2 r l) = dhm m c a l := by
  have ht := ltN t
  unfold Gen.dh
  refine (pay8_at (Gen.strip m c t) r l).trans ?_
  have hs : (Gen.source t ⟨l.val / 512, by omega⟩).val = 4 * (t.val / 4 - 1) + l.val / 512 := rfl
  unfold Gen.strip
  refine part_eq m c _ (by omega) _ _ a l ?_ ?_
  · show a.val = _ / 4 * 1024 + (256 * (t.val % 4) + r.val)
    omega
  · show l.val = _ % 4 * 512 + l.val % 512
    omega

/-- The gradient in the rows. -/
def dx (a : Fin 8192) (b : Fin 2048) : EReal :=
  back ((m ((c : Thread nD τ).loc main_arg4) : S8192x2048.Idx → EReal) (ix2 a b)) (fun k => (m ((c : Thread nD τ).loc main_arg0) : S8192x2048.Idx → EReal) (ix2 a k))
    (fun k => (m ((c : Thread nD τ).loc main_arg1) : S2048.Idx → EReal) (ix1 k)) (dhm m c a) b

theorem back_congr {d d' : EReal} {f f' g g' h h' : Fin 2048 → EReal} (hd : d = d') (hf : ∀ k, f k = f' k) (hg : ∀ k, g k = g' k) (hh : ∀ k, h k = h' k)
    (l : Fin 2048) : back d f g h l = back d' f' g' h' l := by
  rw [hd, funext hf, funext hg, funext hh]

/-- What a point stores of it. -/
theorem dx_eq (t : Fin cfg0.N) (h4 : 4 ≤ t.val) (i : S256x2048.Idx) (a : Fin 8192) (b : Fin 2048)
    (ha : a.val = (t.val - 4) * 256 + (i 0).val) (hb : b.val = (i 1).val) :
    Gen.k0_pay2 (Gen.dh m c t) (Gen.k0_pay9 (Gen.iblk m c 2 t)) (Gen.k0_pay10 (Gen.iblk m c 2 t)) (Gen.k0_pay11 (Gen.iblk m c 3 t)) (Gen.iblk m c 4 t) i = dx m c a b := by
  obtain rfl : b = (i 1 : Fin 2048) := Fin.ext hb
  refine (congrArg (Gen.k0_pay2 _ _ _ _ _) (eq_ix2 i)).trans ((pay2_at _ _ _ _ (i 0) (i 1)).trans ?_)
  exact back_congr (blk4 m c t h4 (i 0) (i 1) a ha) (fun k => blk2 m c t h4 (i 0) k a ha) (fun k => (blk3 m c t 0 k).trans (row_at _ k))
    (fun k => rows_eq m c t h4 (i 0) k a ha) (i 1)

/-- Result 0: the gradient in the rows. -/
def res5 (i : S8192x2048.Idx) : EReal := dx m c (i 0) (i 1)

/-- Result 0 after the run. -/
theorem final5 (i : S8192x2048.Idx) : (Gen.dats m 0 c).arrAt 5 cfg0.N i = res5 m c i := by
  refine congrFun ((Gen.dats m 0 c).arrAt_eq_of_covers 5 (res5 m c) (by decide +kernel) fun t hf y => ?_) i
  have h4 : 4 ≤ t.val := (Gen.flush0_5 t).mp hf
  have e := ((places t).2.1 h4).2.2.1
  rw [Gen.after0_5]
  have h0 : (((cfg0.win 5).blk t).view.emb y 0).val = (t.val - 4) * 256 + (y 0).val := by blk_simp [e] <;> simp
  have h1 : (((cfg0.win 5).blk t).view.emb y 1).val = (y 1).val := by blk_simp [e] <;> simp
  have h := dx_eq m c t h4 y _ _ h0 h1
  generalize Gen.k0_pay2 (Gen.dh m c t) (Gen.k0_pay9 (Gen.iblk m c 2 t)) (Gen.k0_pay10 (Gen.iblk m c 2 t)) (Gen.k0_pay11 (Gen.iblk m c 3 t)) (Gen.iblk m c 4 t) = z at h ⊢
  exact h

theorem pay3_at (h x : Vec Ideal S256x2048 .f32) (g : Vec Ideal S1x2048 .f32) (d : Vec Ideal S256x2048 .f32) (i : S256x2048.Idx) :
    Gen.k0_pay3 h (Gen.k0_pay9 x) (Gen.k0_pay10 x) (Gen.k0_pay11 g) d i = Gen.k0_pay2 h (Gen.k0_pay9 x) (Gen.k0_pay10 x) (Gen.k0_pay11 g) d i := rfl

/-- Result 1 after the run: the same. -/
theorem final6 (i : S8192x2048.Idx) : (Gen.dats m 0 c).arrAt 6 cfg0.N i = res5 m c i := by
  refine congrFun ((Gen.dats m 0 c).arrAt_eq_of_covers 6 (res5 m c) (by decide +kernel) fun t hf y => ?_) i
  have h4 : 4 ≤ t.val := (Gen.flush0_6 t).mp hf
  have e := ((places t).2.1 h4).2.2.2
  rw [Gen.after0_6]
  have h0 : (((cfg0.win 6).blk t).view.emb y 0).val = (t.val - 4) * 256 + (y 0).val := by blk_simp [e] <;> simp
  have h1 : (((cfg0.win 6).blk t).view.emb y 1).val = (y 1).val := by blk_simp [e] <;> simp
  have h := (pay3_at _ _ _ _ y).trans (dx_eq m c t h4 y _ _ h0 h1)
  generalize Gen.k0_pay3 (Gen.dh m c t) (Gen.k0_pay9 (Gen.iblk m c 2 t)) (Gen.k0_pay10 (Gen.iblk m c 2 t)) (Gen.k0_pay11 (Gen.iblk m c 3 t)) (Gen.iblk m c 4 t) = z at h ⊢
  exact h

/-- What a row adds to the gain's gradient. -/
def term (l : Fin 2048) (n : ℕ) : EReal :=
  if h : n < 8192 then dhm m c ⟨n, h⟩ l * unit (fun k => (m ((c : Thread nD τ).loc main_arg0) : S8192x2048.Idx → EReal) (ix2 ⟨n, h⟩ k)) l else 0

theorem unit_congr {f f' : Fin 2048 → EReal} (hf : ∀ k, f k = f' k) (l : Fin 2048) : unit f l = unit f' l := by
  rw [funext hf]

/-- What 256 rows add to it. -/
theorem sum_eq (n : ℕ) (hn : n < 32) (l : Fin 2048) :
    ∑ r : Fin 256, Gen.dh m c (Gen.pt n) (ix2 r l) * unit (fun k => Gen.iblk m c 2 (Gen.pt n) (ix2 r k)) l = ∑ r ∈ Finset.range 256, term m c l (n * 256 + r) := by
  rw [Finset.sum_range]
  have hp : (Gen.pt n).val = n + 4 := Nat.mod_eq_of_lt (by show n + 4 < 36; omega)
  refine Finset.sum_congr rfl fun r _ => ?_
  have hr : n * 256 + r.val < 8192 := by omega
  have ha : (⟨n * 256 + r.val, hr⟩ : Fin 8192).val = ((Gen.pt n).val - 4) * 256 + r.val := by show n * 256 + r.val = _; omega
  unfold term
  rw [dif_pos hr]
  exact congrArg₂ (· * ·) (rows_eq m c _ (by omega) r l _ ha) (unit_congr (fun k => blk2 m c _ (by omega) r k _ ha) l)

/-- The gain's gradient over the first rows. -/
theorem gain_eq (n : ℕ) (hn : n < 32) (l : Fin 2048) : Gen.gainAt m c n (ix2 0 l) = ∑ a ∈ Finset.range ((n + 1) * 256), term m c l a := by
  induction n with
  | zero =>
    unfold Gen.gainAt
    refine (pay4_at _ _ l).trans ((sum_eq m c 0 hn l).trans ?_)
    simp only [Nat.zero_mul, Nat.zero_add, Nat.one_mul]
  | succ n ih =>
    unfold Gen.gainAt
    refine (pay5_at _ _ _ l).trans ?_
    rw [ih (by omega), sum_eq m c (n + 1) hn l, show (n + 1 + 1) * 256 = (n + 1) * 256 + 256 by ring, Finset.sum_range_add]

/-- Result 2: the gain's gradient. -/
def dgain (l : Fin 2048) : EReal :=
  ∑ a : Fin 8192, dhm m c a l * unit (fun k => (m ((c : Thread nD τ).loc main_arg0) : S8192x2048.Idx → EReal) (ix2 a k)) l

theorem gain_all (l : Fin 2048) : Gen.gainAt m c 31 (ix2 0 l) = dgain m c l := by
  refine (gain_eq m c 31 (by decide) l).trans ?_
  rw [show (31 + 1) * 256 = 8192 by norm_num, Finset.sum_range]
  exact Finset.sum_congr rfl fun a _ => dif_pos a.isLt

def res7 (i : S1x2048.Idx) : EReal := dgain m c (i 1)

/-- Result 2 after the run. -/
theorem final7 (i : S1x2048.Idx) : (Gen.dats m 0 c).arrAt 7 cfg0.N i = res7 m c i := by
  refine congrFun ((Gen.dats m 0 c).arrAt_eq_of_covers 7 (res7 m c) (by decide +kernel) fun t hf y => ?_) i
  have ht := ltN t
  have h35 : t.val - 4 = 31 := by
    have := (Gen.flush0_7 t).mp hf
    omega
  have e := (places t).2.2.2
  rw [Gen.after0_7, h35]
  have h1 : (((cfg0.win 7).blk t).view.emb y 1).val = (y 1).val := by blk_simp [e] <;> simp
  have e1 : ((cfg0.win 7).blk t).view.emb y 1 = (y 1 : Fin 2048) := Fin.ext h1
  have h := (congrArg (Gen.gainAt m c 31) (eq_row y)).trans (gain_all m c (y 1))
  unfold res7
  rw [e1]
  generalize Gen.gainAt m c 31 = z at h ⊢
  exact h

variable {F : FTy → Type} [FloatOps F] in
/-- The run, each result named. -/
theorem run_blocks (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v3_0) = (Gen.dats m 0 c).arrAt 5 cfg0.N
      ∧ r.2.mem ((c : Thread nD τ).loc main_v3_1) = (Gen.dats m 0 c).arrAt 6 cfg0.N
      ∧ r.2.mem ((c : Thread nD τ).loc main_v3_2) = (Gen.dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h.1 c).1 5, (h.1 c).1 6, (h.1 c).1 7, h.2 c⟩)
    (θ_run_and (Gen.run_main m ρ) (Gen.unchanged m ρ))

end Cert.Kernel13Ideal.Host

namespace Cert.Reference13Ideal.Host

open Idealize.ShloMosaic Idealize.ShloMosaic.TcCoe
open Cert.Rms Cert.Reference13Ideal Cert.Reference13Ideal.Facts

/-- The rows' mean squares and a little. -/
def sq (x : FVec Ideal S8192x2048 .f32) : FVec Ideal S8192x1 .f32 :=
  addf (Host.divf (broadcastInDim S8192x1 ![0] Gen.bcast_S8192_S8192x1_0 (Host.reduceAdd (mulf x x) (constant S_ .f32 0x00000000#32)
    Gen.reducesTo_S8192x2048_S8192_d1 Gen.h_S_)) (broadcastInDim S8192x1 ![] Gen.bcast_S_S8192x1 (constant S_ .f32 0x45000000#32)))
    (broadcastInDim S8192x1 ![] Gen.bcast_S_S8192x1 (constant S_ .f32 0x358637BD#32))

/-- The gradient in the normed rows. -/
def dh (w : FVec Ideal S2048x3840 .f32) (d : FVec Ideal S8192x3840 .f32) : FVec Ideal S8192x2048 .f32 :=
  Host.dotGeneral dot_S8192x3840_S2048x3840_S8192x2048_1_1_0_0_n_n none d w

/-- The same times the gain. -/
def dy (h : FVec Ideal S8192x2048 .f32) (g : FVec Ideal S2048 .f32) : FVec Ideal S8192x2048 .f32 :=
  mulf h (broadcastInDim S8192x2048 ![0, 1] Gen.bcast_S1x2048_S8192x2048_0_1 (broadcastInDim S1x2048 ![1] Gen.bcast_S2048_S1x2048_1 g))

/-- What reaches the entries of each row through its mean square, up to the entry. -/
def half (x : FVec Ideal S8192x2048 .f32) (v : FVec Ideal S8192x1 .f32) (y : FVec Ideal S8192x2048 .f32) : FVec Ideal S8192x2048 .f32 :=
  broadcastInDim S8192x2048 ![0] Gen.bcast_S8192_S8192x2048_0 (Host.reduceAdd (Host.divf (mulf (shapeCast _ (Host.reduceAdd (mulf x y)
    (constant S_ .f32 0x00000000#32) Gen.reducesTo_S8192x2048_S8192_d1 Gen.h_S_) Gen.shapeCasts_S8192_S8192x1)
    (mulf (broadcastInDim S8192x1 ![] Gen.bcast_S_S8192x1 (constant S_ .f32 0xBF000000#32)) (Host.divf (Host.rsqrt v) v)))
    (broadcastInDim S8192x1 ![] Gen.bcast_S_S8192x1 (constant S_ .f32 0x45000000#32))) (constant S_ .f32 0x00000000#32)
    Gen.reducesTo_S8192x1_S8192_d1 Gen.h_S_)

/-- The gradient in the rows. -/
def out0 (x d y : FVec Ideal S8192x2048 .f32) (v : FVec Ideal S8192x1 .f32) : FVec Ideal S8192x2048 .f32 :=
  addf (addf (addf d (mulf y (broadcastInDim S8192x2048 ![0, 1] Gen.bcast_S8192x1_S8192x2048_0_1 (Host.rsqrt v)))) (mulf x (half x v y)))
    (mulf (half x v y) x)

/-- The gain's gradient. -/
def out2 (x h : FVec Ideal S8192x2048 .f32) (v : FVec Ideal S8192x1 .f32) : FVec Ideal S1x2048 .f32 :=
  shapeCast _ (Host.reduceAdd (shapeCast _ (Host.reduceAdd (mulf (mulf x (broadcastInDim S8192x2048 ![0, 1] Gen.bcast_S8192x1_S8192x2048_0_1
    (Host.rsqrt v))) h) (constant S_ .f32 0x00000000#32) Gen.reducesTo_S8192x2048_S2048_d0 Gen.h_S_) Gen.shapeCasts_S2048_S1x2048)
    (constant S_ .f32 0x00000000#32) Gen.reducesTo_S1x2048_S2048_d0 Gen.h_S_) Gen.shapeCasts_S2048_S1x2048

theorem sq_at (x : FVec Ideal S8192x2048 .f32) (a : Fin 8192) : sq x (ix2 a 0) = ms (fun k => x (ix2 a k)) := by
  unfold ms
  pointwise [sq]

theorem dh_at (w : FVec Ideal S2048x3840 .f32) (d : FVec Ideal S8192x3840 .f32) (a : Fin 8192) (l : Fin 2048) :
    dh w d (ix2 a l) = Cert.Kernel13Ideal.Host.ct d w a l := by
  unfold Cert.Kernel13Ideal.Host.ct
  pointwise [dh]

theorem dy_at (h : FVec Ideal S8192x2048 .f32) (g : FVec Ideal S2048 .f32) (a : Fin 8192) (l : Fin 2048) : dy h g (ix2 a l) = h (ix2 a l) * g (ix1 l) := by
  pointwise [dy]

theorem half_at (x y : FVec Ideal S8192x2048 .f32) (v : FVec Ideal S8192x1 .f32) (a : Fin 8192) (l : Fin 2048) (hv : v (ix2 a 0) = ms (fun k => x (ix2 a k))) :
    half x v y (ix2 a l) = through (fun k => x (ix2 a k)) (fun k => y (ix2 a k)) := by
  unfold through
  rw [← hv]
  pointwise [half]
  exact Fin.sum_univ_one _

theorem out0_at (x d y : FVec Ideal S8192x2048 .f32) (v : FVec Ideal S8192x1 .f32) (a : Fin 8192) (l : Fin 2048) :
    out0 x d y v (ix2 a l) = d (ix2 a l) + y (ix2 a l) * Ideal.rsqrt (v (ix2 a 0)) + x (ix2 a l) * half x v y (ix2 a l) + half x v y (ix2 a l) * x (ix2 a l) := by
  pointwise [out0]

theorem out2_at (x h : FVec Ideal S8192x2048 .f32) (v : FVec Ideal S8192x1 .f32) (l : Fin 2048) :
    out2 x h v (ix2 0 l) = ∑ a : Fin 8192, x (ix2 a l) * Ideal.rsqrt (v (ix2 a 0)) * h (ix2 a l) := by
  pointwise [out2]
  exact Fin.sum_univ_one _

/-- The gradient in the rows is the kernel's. -/
theorem dx_at (x d h : FVec Ideal S8192x2048 .f32) (g : FVec Ideal S2048 .f32) (f : Fin 8192 → Fin 2048 → EReal) (hh : ∀ a l, h (ix2 a l) = f a l)
    (a : Fin 8192) (l : Fin 2048) :
    out0 x d (dy h g) (sq x) (ix2 a l) = back (d (ix2 a l)) (fun k => x (ix2 a k)) (fun k => g (ix1 k)) (f a) l := by
  rw [out0_at, half_at x _ _ a l (sq_at x a), sq_at, funext fun k => dy_at h g a k, dy_at, funext fun k => congrArg (· * g (ix1 k)) (hh a k), hh]
  exact back_eq (d (ix2 a l)) (fun k => x (ix2 a k)) (fun k => g (ix1 k)) (f a) l

/-- The gain's gradient is the kernel's. -/
theorem dg_at (x h : FVec Ideal S8192x2048 .f32) (f : Fin 8192 → Fin 2048 → EReal) (hh : ∀ a l, h (ix2 a l) = f a l) (l : Fin 2048) :
    out2 x h (sq x) (ix2 0 l) = ∑ a : Fin 8192, f a l * unit (fun k => x (ix2 a k)) l := by
  rw [out2_at]
  refine Finset.sum_congr rfl fun a _ => ?_
  rw [sq_at, hh, mul_comm]
  rfl

/-- The gradient in the rows as the run names it, -/
theorem res0_eq (m : (ℓ : Loc nD τ sig) → Buf (Elt Ideal) ℓ) (c : Dev nD) : Value.res_out0 m c
    = out0 (m ((c : Thread nD τ).loc main_arg0)) (m ((c : Thread nD τ).loc main_arg4)) (dy (dh (m ((c : Thread nD τ).loc main_arg2)) (m ((c : Thread nD τ).loc main_arg3))) (m ((c : Thread nD τ).loc main_arg1))) (sq (m ((c : Thread nD τ).loc main_arg0))) := rfl

/-- and in the second format. -/
theorem res1_eq (m : (ℓ : Loc nD τ sig) → Buf (Elt Ideal) ℓ) (c : Dev nD) (i : S8192x2048.Idx) : Value.res_out1 m c i = Value.res_out0 m c i := rfl

end Cert.Reference13Ideal.Host

namespace Cert.Proof.InBwd

open Idealize.ShloMosaic Idealize.ShloMosaic.TcCoe Idealize.SL.Sem

/-- The idealized kernel has the kernel's body: nothing of it is rewritten. -/
theorem body_eq : Cert.Kernel13.defs₀ (F := Bits) = Cert.Kernel13Ideal.defs₀ (F := Bits) := by
  refine congrArg Defs.onTc (funext fun l => funext fun a => ?_)
  match l, a with
  | 0, (t, s) => with_unfolding_all rfl
  | ⟨_ + 1, h⟩, _ => exact absurd h (Nat.not_lt.2 (Nat.le_add_left _ _))

theorem defs_eq : Cert.Kernel13.defs (F := Bits) = Cert.Kernel13Ideal.defs (F := Bits) :=
  congrArg (Pipeline.defs Cert.Kernel13.pcfgs) body_eq

/-- The kernel ends, whatever its arguments hold, with its semaphores back at zero. -/
theorem frame_p : Cert.quiescent_Kernel13 (hKernel13 := Cert.Kernel13.Gen.facts) := fun m ρ _ => by
  have h := Cert.Kernel13Ideal.Gen.frame (F := Bits) m ρ
  rw [← defs_eq] at h
  exact h

/-- The same of the idealized kernel. -/
theorem frame_pi : Cert.quiescent_Kernel13Ideal := fun m ρ _ => Cert.Kernel13Ideal.Gen.frame m ρ

/-- The reference ends. -/
theorem frame_ri : Cert.quiescent_Reference13Ideal := fun m ρ _ =>
  (θ_run Cert.Reference13Ideal.defs _ _).mono (fun r h => ⟨fun c => (h c).2.2.2,
      Idealize.ShloMosaic.sem_eq_zero_of_no_sems (by decide) r.2⟩)
    (Cert.Reference13Ideal.Value.run (F := Ideal) m ρ)

/-- The kernel's three results are the reference's. -/
theorem algebraic : Cert.algebraic_Kernel13Ideal_Reference13Ideal (hKernel13Ideal := Cert.Kernel13Ideal.Gen.facts)
    (hReference13Ideal := Cert.Reference13Ideal.Gen.facts) := by
  intro m ρ m' ρ' _ ha
  refine ⟨_, _, _, (θ_run Cert.Kernel13Ideal.defs _ _).mono (fun _ h => h) (Cert.Kernel13Ideal.Host.run_blocks (F := Ideal) m ρ), ?_⟩
  refine (θ_run Cert.Reference13Ideal.defs _ _).mono (fun r h c => ?_) (Cert.Reference13Ideal.Value.run (F := Ideal) m' ρ')
  obtain ⟨h0, h1, h2, ha'⟩ := h c
  obtain ⟨a0, a1, a2, a3, a4⟩ := ha c
  have e (i : Cert.Kernel13Ideal.S8192x2048.Idx) : Cert.Reference13Ideal.Value.res_out0 m' c i = Cert.Kernel13Ideal.Host.res5 m c i := by
    rw [Cert.Reference13Ideal.Host.res0_eq, a0, a1, a2, a3, a4, eq_ix2 i]
    exact Cert.Reference13Ideal.Host.dx_at _ _ _ _ _ (Cert.Reference13Ideal.Host.dh_at _ _) (i 0) (i 1)
  refine ⟨h0.trans ?_, h1.trans ?_, h2.trans ?_, ha'⟩
  · funext i
    exact (e i).trans (Cert.Kernel13Ideal.Host.final5 m c i).symm
  · funext i
    exact ((Cert.Reference13Ideal.Host.res1_eq m' c i).trans (e i)).trans (Cert.Kernel13Ideal.Host.final6 m c i).symm
  · funext i
    refine Eq.trans ?_ (Cert.Kernel13Ideal.Host.final7 m c i).symm
    rw [a0, a2, a3]
    rw [Cert.Kernel13Ideal.Host.eq_row i]
    exact Cert.Reference13Ideal.Host.dg_at _ _ _ (Cert.Reference13Ideal.Host.dh_at _ _) (i 1)

end Cert.Proof.InBwd

end
-- ==== Proof.MixKernel.lean ====
/- The gradient of the mixture of the three patterns, as the kernel makes it: blocks, payloads and the arrays after the run. -/
module

public import proofs.«01_k».proof.Proof.Gen.Kernel14.Frame
public import proofs.«01_k».proof.Proof.Gen.Kernel14Ideal.Value
public import proofs.«01_k».proof.Proof.Finite
public import Idealize.ShloMosaic.Lib.Pipeline.ValueKit
public import Idealize.ShloMosaic.Adequacy
public import Idealize.ShloMosaic.Init

@[expose] public section

set_option maxRecDepth 16384

noncomputable section

namespace Cert.Kernel14Ideal.Host

open Idealize.ShloMosaic Idealize.ShloMosaic.TcCoe Idealize.SL.Sem
open Cert.Band Cert.Kernel14Ideal Cert.Kernel14Ideal.Facts₀ Cert.Kernel14Ideal.Facts

/-! ## The numbers of one place -/

/-- The total of the three patterns' weights, against the greatest of their log-sums. -/
def tot (a b c : EReal) : EReal :=
  Ideal.exp (a - max (max a b) c) + Ideal.exp (b - max (max a b) c) + Ideal.exp (c - max (max a b) c)

/-- The share of the pattern of log-sum `x`. -/
def wt (a b c x : EReal) : EReal := Ideal.exp (x - max (max a b) c) * Ideal.div 1 (tot a b c)

/-- The incoming gradient times the mixture of the three outputs. -/
def mixed (a b c o p q g : EReal) : EReal := g * (wt a b c a * o + wt a b c b * p + wt a b c c * q)

/-- A product with the head mask in two parts, a number and what rounding it leaves. -/
def gathered (x e : Fin 512 → EReal) : EReal := (∑ k : Fin 512, x k * e k) + ∑ k : Fin 512, (x k - x k) * e k

theorem wt_congr {a b c x a' b' c' x' : EReal} (ha : a = a') (hb : b = b') (hc : c = c') (hx : x = x') : wt a b c x = wt a' b' c' x' := by
  rw [ha, hb, hc, hx]

theorem mixed_congr {a b c o p q g a' b' c' o' p' q' g' : EReal} (ha : a = a') (hb : b = b') (hc : c = c') (ho : o = o') (hp : p = p')
    (hq : q = q') (hg : g = g') : mixed a b c o p q g = mixed a' b' c' o' p' q' g' := by
  rw [ha, hb, hc, ho, hp, hq, hg]

/-! ## What the body stores -/

section Payloads

variable (a b c : Vec Ideal S512x512 .f32) (o p q g : Vec Ideal S512x512 .f32) (e : Vec Ideal S512x512 .bf16) (j l : Fin 512)

theorem pay16_at : Gen.k0_pay16 a b c (ix2 j l) = wt (a (ix2 j l)) (b (ix2 j l)) (c (ix2 j l)) (a (ix2 j l)) := by
  unfold wt tot
  pointwise [Gen.k0_pay16, Gen.k0_pay15, Gen.k0_pay14, Gen.k0_pay13, Gen.k0_pay12, Gen.k0_pay11, Gen.k0_pay10, Gen.k0_pay9, Gen.k0_pay8]

theorem pay17_at : Gen.k0_pay17 a b c (ix2 j l) = wt (a (ix2 j l)) (b (ix2 j l)) (c (ix2 j l)) (b (ix2 j l)) := by
  unfold wt tot
  pointwise [Gen.k0_pay17, Gen.k0_pay15, Gen.k0_pay14, Gen.k0_pay13, Gen.k0_pay12, Gen.k0_pay11, Gen.k0_pay10, Gen.k0_pay9, Gen.k0_pay8]

theorem pay18_at : Gen.k0_pay18 a b c (ix2 j l) = wt (a (ix2 j l)) (b (ix2 j l)) (c (ix2 j l)) (c (ix2 j l)) := by
  unfold wt tot
  pointwise [Gen.k0_pay18, Gen.k0_pay15, Gen.k0_pay14, Gen.k0_pay13, Gen.k0_pay12, Gen.k0_pay11, Gen.k0_pay10, Gen.k0_pay9, Gen.k0_pay8]

/-- The number of one lane that the head mask gathers. -/
def lane : EReal :=
  mixed (a (ix2 j l)) (b (ix2 j l)) (c (ix2 j l)) (o (ix2 j l)) (p (ix2 j l)) (q (ix2 j l)) (g (ix2 j l))

theorem pay19_at : Gen.k0_pay19 a b c g o p q (ix2 j l) = lane a b c o p q g j l := by
  unfold lane mixed
  rw [← pay16_at, ← pay17_at, ← pay18_at]
  generalize hx : Gen.k0_pay16 a b c = x
  generalize hy : Gen.k0_pay17 a b c = y
  generalize hz : Gen.k0_pay18 a b c = z
  pointwise [Gen.k0_pay19, hx, hy, hz]

theorem pay20_at : Gen.k0_pay20 a b c g o p q (ix2 j l) = lane a b c o p q g j l := by
  rw [← pay19_at]
  generalize hx : Gen.k0_pay19 a b c g o p q = x
  pointwise [Gen.k0_pay20, hx]

theorem pay21_at : Gen.k0_pay21 a b c g o p q (ix2 j l) = lane a b c o p q g j l - lane a b c o p q g j l := by
  have h19 := pay19_at a b c o p q g j l
  have h20 := pay20_at a b c o p q g j l
  generalize hx : Gen.k0_pay19 a b c g o p q = x at h19
  generalize hy : Gen.k0_pay20 a b c g o p q = y at h20
  rw [← h19]
  nth_rewrite 2 [h19]
  rw [← h20]
  pointwise [Gen.k0_pay21, hx, hy]

theorem pay22_at : Gen.k0_pay22 e (ix2 j l) = e (ix2 j l) := by
  pointwise [Gen.k0_pay22]

theorem pay23_at : Gen.k0_pay23 a b c g o p q e (ix2 j l) = ∑ k : Fin 512, lane a b c o p q g j k * e (ix2 k l) := by
  rw [← Finset.sum_congr rfl fun k _ => congrArg₂ (fun u v : EReal => u * v) (pay20_at a b c o p q g j k) (pay22_at e k l)]
  generalize hx : Gen.k0_pay20 a b c g o p q = x
  generalize hy : Gen.k0_pay22 e = y
  pointwise [Gen.k0_pay23, hx, hy]

theorem pay1_gen (x y : FVec Ideal S512x512 .bf16) (z : FVec Ideal S512x512 .f32) :
    Gen.k0_pay1 x y z (ix2 j l) = z (ix2 j l) + ∑ k : Fin 512, x (ix2 j k) * y (ix2 k l) := by
  pointwise [Gen.k0_pay1]

theorem pay1_at : Gen.k0_pay1 (Gen.k0_pay21 a b c g o p q) (Gen.k0_pay22 e) (Gen.k0_pay23 a b c g o p q e) (ix2 j l)
    = gathered (fun k => lane a b c o p q g j k) fun k => e (ix2 k l) := by
  rw [pay1_gen, pay23_at]
  exact congrArg _ (Finset.sum_congr rfl fun k _ => congrArg₂ (fun u v : EReal => u * v) (pay21_at a b c o p q g j k) (pay22_at e k l))

end Payloads

/-! ## The host's arrays -/

abbrev A := FVec Ideal S8192x8x64 .f32
abbrev R := FVec Ideal S8192x8 .f32
abbrev Flat := FVec Ideal S8192x512 .f32
abbrev Grid := IVec S512x512 32

/-- Heads and lanes side by side, and a number per head along its lanes. -/
def flat (x : A) : Flat := shapeCast S8192x512 x shapeCasts_S8192x8x64_S8192x512
def wide (x : R) : Flat :=
  flat (broadcastInDim S8192x8x64 ![0, 1, 2] bcast_S8192x8x1_S8192x8x64_0_1_2 (broadcastInDim S8192x8x1 ![0, 1] bcast_S8192x8_S8192x8x1_0_1 x))

/-- The number 64 everywhere. -/
def by64 : IVec S_ 32 := constantI S_ 32 64#32
def over (x : IVec S_ 32) : Grid := broadcastInDim S512x512 ![] bcast_S_S512x512 x

/-- The head of a lane: the quotient by 64, rounded down. -/
def head (x : Grid) : Grid :=
  select (andi (cmpi .ne (signi x) (over (signi by64))) (cmpi .ne (Host.remsi x (over by64)) (over (constantI S_ 32 0#32))))
    (subi (Host.divsi x (over by64)) (over (constantI S_ 32 1#32))) (Host.divsi x (over by64))

/-- The head mask: one where two lanes are of one head. -/
def eye : FVec Ideal S512x512 .bf16 := uitofp .bf16 (cmpi .eq (head (iotaInDim S512x512 32 0)) (head (iotaInDim S512x512 32 1)))

/-- The head and the lane in it. -/
abbrev hd (k : Fin 512) : Fin 8 := ⟨k / 64, by omega⟩
abbrev ln (k : Fin 512) : Fin 64 := ⟨k % 64, by omega⟩

/-- One where two lanes are of one head. -/
def same (k l : Fin 512) : EReal := if hd k = hd l then 1 else 0

theorem flat_at (x : A) (t : Fin 8192) (j : Fin 512) : flat x (ix2 t j) = x (ix3 t (hd j) (ln j)) := by
  pointwise [flat]

theorem wide_at (x : R) (t : Fin 8192) (j : Fin 512) : wide x (ix2 t j) = x (ix2 t (hd j)) := by
  pointwise [wide, flat]

/-- The quotient of a word, as the host's lines take it. -/
def headWord (x : BitVec 32) : BitVec 32 := head (fun _ => x) (ix2 0 0)

theorem head_at (x : Grid) (k l : Fin 512) : head x (ix2 k l) = headWord (x (ix2 k l)) := by
  unfold headWord
  pointwise [head, over, by64]

theorem headWord_eq : ∀ k : Fin 512, headWord (BitVec.ofNat 32 k) = BitVec.ofNat 32 (k / 64) := by decide +kernel

theorem eye_at (k l : Fin 512) : eye (ix2 k l) = same k l := by
  have w : ∀ p q : Fin 8, IntOp.cmpi CmpIPredicate.eq (BitVec.ofNat 32 p) (BitVec.ofNat 32 q) = if p = q then 1#1 else 0#1 := by
    decide +kernel
  have h : head (iotaInDim S512x512 32 0) (ix2 k l) = BitVec.ofNat 32 (k / 64) := by
    rw [head_at, ← headWord_eq]
    pointwise []
  have h' : head (iotaInDim S512x512 32 1) (ix2 k l) = BitVec.ofNat 32 (l / 64) := by
    rw [head_at, ← headWord_eq]
    pointwise []
  have e : eye (ix2 k l) = FloatOps.uitofp (F := Ideal) .bf16 (IntOp.cmpi CmpIPredicate.eq (head (iotaInDim S512x512 32 0) (ix2 k l)) (head (iotaInDim S512x512 32 1) (ix2 k l))) := by
    pointwise [eye]
  rw [e, h, h']
  refine (congrArg _ (w (hd k) (hd l))).trans ?_
  unfold same
  split
  · show ((((1#1 : BitVec 1).toNat : ℕ) : ℝ) : EReal) = 1
    simp
  · show ((((0#1 : BitVec 1).toNat : ℕ) : ℝ) : EReal) = 0
    simp

variable (m : (ℓ : Loc nD τ sig) → Buf (Elt Ideal) ℓ) (c : Dev nD)

abbrev ao1 : A := m ((c : Thread nD τ).loc main_arg0)
abbrev ao2 : A := m ((c : Thread nD τ).loc main_arg1)
abbrev ao3 : A := m ((c : Thread nD τ).loc main_arg2)
abbrev al1 : R := m ((c : Thread nD τ).loc main_arg3)
abbrev al2 : R := m ((c : Thread nD τ).loc main_arg4)
abbrev al3 : R := m ((c : Thread nD τ).loc main_arg5)
abbrev ag : FVec Ideal S8192x2048 .f32 := m ((c : Thread nD τ).loc main_arg6)

theorem v0 : (Gen.V m c main_v0 : Flat) = flat (ao1 m c) := by
  unfold Gen.V
  simp only [Gen.hostOps0, Gen.hostOps0_1, Gen.hostOps0_2, Gen.hostOps0_3, Gen.hostOps0_4, List.flatten_cons, List.flatten_nil, List.append_nil, List.cons_append, List.nil_append]
  after_results_simp <;> rfl
theorem v3 : (Gen.V m c main_v3 : Flat) = wide (al1 m c) := by
  unfold Gen.V
  simp only [Gen.hostOps0, Gen.hostOps0_1, Gen.hostOps0_2, Gen.hostOps0_3, Gen.hostOps0_4, List.flatten_cons, List.flatten_nil, List.append_nil, List.cons_append, List.nil_append]
  after_results_simp <;> rfl
theorem v4 : (Gen.V m c main_v4 : Flat) = flat (ao2 m c) := by
  unfold Gen.V
  simp only [Gen.hostOps0, Gen.hostOps0_1, Gen.hostOps0_2, Gen.hostOps0_3, Gen.hostOps0_4, List.flatten_cons, List.flatten_nil, List.append_nil, List.cons_append, List.nil_append]
  after_results_simp <;> rfl
theorem v7 : (Gen.V m c main_v7 : Flat) = wide (al2 m c) := by
  unfold Gen.V
  simp only [Gen.hostOps0, Gen.hostOps0_1, Gen.hostOps0_2, Gen.hostOps0_3, Gen.hostOps0_4, List.flatten_cons, List.flatten_nil, List.append_nil, List.cons_append, List.nil_append]
  after_results_simp <;> rfl
theorem v8 : (Gen.V m c main_v8 : Flat) = flat (ao3 m c) := by
  unfold Gen.V
  simp only [Gen.hostOps0, Gen.hostOps0_1, Gen.hostOps0_2, Gen.hostOps0_3, Gen.hostOps0_4, List.flatten_cons, List.flatten_nil, List.append_nil, List.cons_append, List.nil_append]
  after_results_simp <;> rfl
theorem v11 : (Gen.V m c main_v11 : Flat) = wide (al3 m c) := by
  unfold Gen.V
  simp only [Gen.hostOps0, Gen.hostOps0_1, Gen.hostOps0_2, Gen.hostOps0_3, Gen.hostOps0_4, List.flatten_cons, List.flatten_nil, List.append_nil, List.cons_append, List.nil_append]
  after_results_simp <;> rfl
theorem arg6 : (Gen.V m c main_arg6 : FVec Ideal S8192x2048 .f32) = ag m c := by
  unfold Gen.V
  simp only [Gen.hostOps0, Gen.hostOps0_1, Gen.hostOps0_2, Gen.hostOps0_3, Gen.hostOps0_4, List.flatten_cons, List.flatten_nil, List.append_nil, List.cons_append, List.nil_append]
  after_results_simp <;> rfl
theorem v17 : (Gen.V m c main_v17 : FVec Ideal S512x512 .bf16) = eye := by
  unfold Gen.V
  simp only [Gen.hostOps0, Gen.hostOps0_1, Gen.hostOps0_2, Gen.hostOps0_3, Gen.hostOps0_4, List.flatten_cons, List.flatten_nil, List.append_nil, List.cons_append, List.nil_append]
  after_results_simp <;> rfl

/-! ## The blocks -/

/-- The blocks of step `t`: tile `t` of the rows, the mask whole. -/
theorem places : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![0, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![0, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0])

theorem ltN (t : Fin cfg0.N) : t.val < 16 := t.2

theorem read0 (X : (b : Ref sig .tc) → Buf (Elt Ideal) ((c : Thread nD τ).loc b)) (t : Fin cfg0.N) (r l : Fin 512) :
    ((cfg0.win 0).blk t).view.read (Elt Ideal) (X (Pipeline.arrRef spec0 0)) (ix2 r l) = X main_v0 ((win0_0.blk t).view.emb (ix2 r l)) := rfl

theorem blk0 (t : Fin cfg0.N) (r l : Fin 512) (a : Fin 8192) (ha : a.val = t.val * 512 + r.val) :
    Gen.iblk m c 0 t (ix2 r l) = ao1 m c (ix3 a (hd l) (ln l)) := by
  unfold Gen.iblk
  refine (read0 c (Gen.V m c) t r l).trans ?_
  rw [v0]
  refine Eq.trans ?_ (flat_at _ a l)
  refine congrArg _ (funext fun b => ?_)
  fin_cases b <;> apply Fin.ext <;> blk_simp [(places t).1] <;> simp [ha]

theorem read1 (X : (b : Ref sig .tc) → Buf (Elt Ideal) ((c : Thread nD τ).loc b)) (t : Fin cfg0.N) (r l : Fin 512) :
    ((cfg0.win 1).blk t).view.read (Elt Ideal) (X (Pipeline.arrRef spec0 1)) (ix2 r l) = X main_v3 ((win0_1.blk t).view.emb (ix2 r l)) := rfl

theorem blk1 (t : Fin cfg0.N) (r l : Fin 512) (a : Fin 8192) (ha : a.val = t.val * 512 + r.val) :
    Gen.iblk m c 1 t (ix2 r l) = al1 m c (ix2 a (hd l)) := by
  unfold Gen.iblk
  refine (read1 c (Gen.V m c) t r l).trans ?_
  rw [v3]
  refine Eq.trans ?_ (wide_at _ a l)
  refine congrArg _ (funext fun b => ?_)
  fin_cases b <;> apply Fin.ext <;> blk_simp [(places t).2.1] <;> simp [ha]

theorem read2 (X : (b : Ref sig .tc) → Buf (Elt Ideal) ((c : Thread nD τ).loc b)) (t : Fin cfg0.N) (r l : Fin 512) :
    ((cfg0.win 2).blk t).view.read (Elt Ideal) (X (Pipeline.arrRef spec0 2)) (ix2 r l) = X main_v4 ((win0_2.blk t).view.emb (ix2 r l)) := rfl

theorem blk2 (t : Fin cfg0.N) (r l : Fin 512) (a : Fin 8192) (ha : a.val = t.val * 512 + r.val) :
    Gen.iblk m c 2 t (ix2 r l) = ao2 m c (ix3 a (hd l) (ln l)) := by
  unfold Gen.iblk
  refine (read2 c (Gen.V m c) t r l).trans ?_
  rw [v4]
  refine Eq.trans ?_ (flat_at _ a l)
  refine congrArg _ (funext fun b => ?_)
  fin_cases b <;> apply Fin.ext <;> blk_simp [(places t).2.2.1] <;> simp [ha]

theorem read3 (X : (b : Ref sig .tc) → Buf (Elt Ideal) ((c : Thread nD τ).loc b)) (t : Fin cfg0.N) (r l : Fin 512) :
    ((cfg0.win 3).blk t).view.read (Elt Ideal) (X (Pipeline.arrRef spec0 3)) (ix2 r l) = X main_v7 ((win0_3.blk t).view.emb (ix2 r l)) := rfl

theorem blk3 (t : Fin cfg0.N) (r l : Fin 512) (a : Fin 8192) (ha : a.val = t.val * 512 + r.val) :
    Gen.iblk m c 3 t (ix2 r l) = al2 m c (ix2 a (hd l)) := by
  unfold Gen.iblk
  refine (read3 c (Gen.V m c) t r l).trans ?_
  rw [v7]
  refine Eq.trans ?_ (wide_at _ a l)
  refine congrArg _ (funext fun b => ?_)
  fin_cases b <;> apply Fin.ext <;> blk_simp [(places t).2.2.2.1] <;> simp [ha]

theorem read4 (X : (b : Ref sig .tc) → Buf (Elt Ideal) ((c : Thread nD τ).loc b)) (t : Fin cfg0.N) (r l : Fin 512) :
    ((cfg0.win 4).blk t).view.read (Elt Ideal) (X (Pipeline.arrRef spec0 4)) (ix2 r l) = X main_v8 ((win0_4.blk t).view.emb (ix2 r l)) := rfl

theorem blk4 (t : Fin cfg0.N) (r l : Fin 512) (a : Fin 8192) (ha : a.val = t.val * 512 + r.val) :
    Gen.iblk m c 4 t (ix2 r l) = ao3 m c (ix3 a (hd l) (ln l)) := by
  unfold Gen.iblk
  refine (read4 c (Gen.V m c) t r l).trans ?_
  rw [v8]
  refine Eq.trans ?_ (flat_at _ a l)
  refine congrArg _ (funext fun b => ?_)
  fin_cases b <;> apply Fin.ext <;> blk_simp [(places t).2.2.2.2.1] <;> simp [ha]

theorem read5 (X : (b : Ref sig .tc) → Buf (Elt Ideal) ((c : Thread nD τ).loc b)) (t : Fin cfg0.N) (r l : Fin 512) :
    ((cfg0.win 5).blk t).view.read (Elt Ideal) (X (Pipeline.arrRef spec0 5)) (ix2 r l) = X main_v11 ((win0_5.blk t).view.emb (ix2 r l)) := rfl

theorem blk5 (t : Fin cfg0.N) (r l : Fin 512) (a : Fin 8192) (ha : a.val = t.val * 512 + r.val) :
    Gen.iblk m c 5 t (ix2 r l) = al3 m c (ix2 a (hd l)) := by
  unfold Gen.iblk
  refine (read5 c (Gen.V m c) t r l).trans ?_
  rw [v11]
  refine Eq.trans ?_ (wide_at _ a l)
  refine congrArg _ (funext fun b => ?_)
  fin_cases b <;> apply Fin.ext <;> blk_simp [(places t).2.2.2.2.2.1] <;> simp [ha]

theorem read6 (X : (b : Ref sig .tc) → Buf (Elt Ideal) ((c : Thread nD τ).loc b)) (t : Fin cfg0.N) (r l : Fin 512) :
    ((cfg0.win 6).blk t).view.read (Elt Ideal) (X (Pipeline.arrRef spec0 6)) (ix2 r l) = X main_arg6 ((win0_6.blk t).view.emb (ix2 r l)) := rfl

theorem blk6 (t : Fin cfg0.N) (r l : Fin 512) (a : Fin 8192) (ha : a.val = t.val * 512 + r.val) :
    Gen.iblk m c 6 t (ix2 r l) = ag m c (ix2 a ⟨l, by omega⟩) := by
  unfold Gen.iblk
  refine (read6 c (Gen.V m c) t r l).trans ?_
  rw [arg6]
  refine congrArg _ (funext fun b => ?_)
  fin_cases b <;> apply Fin.ext <;> blk_simp [(places t).2.2.2.2.2.2.1] <;> simp [ha]

theorem read7 (X : (b : Ref sig .tc) → Buf (Elt Ideal) ((c : Thread nD τ).loc b)) (t : Fin cfg0.N) (r l : Fin 512) :
    ((cfg0.win 7).blk t).view.read (Elt Ideal) (X (Pipeline.arrRef spec0 7)) (ix2 r l) = X main_v17 ((win0_7.blk t).view.emb (ix2 r l)) := rfl

theorem blk7 (t : Fin cfg0.N) (r l : Fin 512) : Gen.iblk m c 7 t (ix2 r l) = same r l := by
  unfold Gen.iblk
  refine (read7 c (Gen.V m c) t r l).trans ?_
  rw [v17, ← eye_at]
  refine congrArg _ (funext fun a => ?_)
  fin_cases a <;> apply Fin.ext <;> blk_simp [(places t).2.2.2.2.2.2.2.1] <;> simp

/-! ## The results -/

/-- The number of one lane that the head mask gathers, off the arguments. -/
def laneAt (o p q : A) (x y z : R) (g : FVec Ideal S8192x2048 .f32) (a : Fin 8192) (k : Fin 512) : EReal :=
  mixed (x (ix2 a (hd k))) (y (ix2 a (hd k))) (z (ix2 a (hd k))) (o (ix3 a (hd k) (ln k))) (p (ix3 a (hd k) (ln k)))
    (q (ix3 a (hd k) (ln k))) (g (ix2 a ⟨k, by omega⟩))

/-- The share at a lane, of the pattern of log-sums `w`. -/
def wtAt (x y z w : R) (a : Fin 8192) (k : Fin 512) : EReal := wt (x (ix2 a (hd k))) (y (ix2 a (hd k))) (z (ix2 a (hd k))) (w (ix2 a (hd k)))

/-- The gradient of a pattern's output. -/
def dOut (x y z w : R) (g : FVec Ideal S8192x2048 .f32) (i : S8192x512.Idx) : EReal :=
  wtAt x y z w (i 0) (i 1) * g (ix2 (i 0) ⟨i 1, by have := (i 1).2; simp at this; omega⟩)

/-- What a pattern's weights meet of its output's gradient, less its log-sum's gradient. -/
def dSum (o p q : A) (x y z w : R) (g : FVec Ideal S8192x2048 .f32) (i : S8192x512.Idx) : EReal :=
  wtAt x y z w (i 0) (i 1) * gathered (fun k => laneAt o p q x y z g (i 0) k) fun k => same k (i 1)

section Tiles

variable (t : Fin cfg0.N) (r l : Fin 512) (a : Fin 8192) (ha : a.val = t.val * 512 + r.val)
include ha

theorem lane_eq : lane (Gen.iblk m c 1 t) (Gen.iblk m c 3 t) (Gen.iblk m c 5 t) (Gen.iblk m c 0 t) (Gen.iblk m c 2 t) (Gen.iblk m c 4 t)
    (Gen.iblk m c 6 t) r l = laneAt (ao1 m c) (ao2 m c) (ao3 m c) (al1 m c) (al2 m c) (al3 m c) (ag m c) a l :=
  mixed_congr (blk1 m c t r l a ha) (blk3 m c t r l a ha) (blk5 m c t r l a ha) (blk0 m c t r l a ha) (blk2 m c t r l a ha)
    (blk4 m c t r l a ha) (blk6 m c t r l a ha)

theorem share1 : Gen.k0_pay16 (Gen.iblk m c 1 t) (Gen.iblk m c 3 t) (Gen.iblk m c 5 t) (ix2 r l)
    = wtAt (al1 m c) (al2 m c) (al3 m c) (al1 m c) a l :=
  (pay16_at _ _ _ r l).trans (wt_congr (blk1 m c t r l a ha) (blk3 m c t r l a ha) (blk5 m c t r l a ha) (blk1 m c t r l a ha))

theorem share2 : Gen.k0_pay17 (Gen.iblk m c 1 t) (Gen.iblk m c 3 t) (Gen.iblk m c 5 t) (ix2 r l)
    = wtAt (al1 m c) (al2 m c) (al3 m c) (al2 m c) a l :=
  (pay17_at _ _ _ r l).trans (wt_congr (blk1 m c t r l a ha) (blk3 m c t r l a ha) (blk5 m c t r l a ha) (blk3 m c t r l a ha))

theorem share3 : Gen.k0_pay18 (Gen.iblk m c 1 t) (Gen.iblk m c 3 t) (Gen.iblk m c 5 t) (ix2 r l)
    = wtAt (al1 m c) (al2 m c) (al3 m c) (al3 m c) a l :=
  (pay18_at _ _ _ r l).trans (wt_congr (blk1 m c t r l a ha) (blk3 m c t r l a ha) (blk5 m c t r l a ha) (blk5 m c t r l a ha))

theorem gathered_eq : Gen.k0_pay1 (Gen.k0_pay21 (Gen.iblk m c 1 t) (Gen.iblk m c 3 t) (Gen.iblk m c 5 t) (Gen.iblk m c 6 t) (Gen.iblk m c 0 t) (Gen.iblk m c 2 t) (Gen.iblk m c 4 t)) (Gen.k0_pay22 (Gen.iblk m c 7 t))
      (Gen.k0_pay23 (Gen.iblk m c 1 t) (Gen.iblk m c 3 t) (Gen.iblk m c 5 t) (Gen.iblk m c 6 t) (Gen.iblk m c 0 t) (Gen.iblk m c 2 t) (Gen.iblk m c 4 t) (Gen.iblk m c 7 t)) (ix2 r l)
    = gathered (fun k => laneAt (ao1 m c) (ao2 m c) (ao3 m c) (al1 m c) (al2 m c) (al3 m c) (ag m c) a k) fun k => same k l := by
  refine (pay1_at _ _ _ _ _ _ _ _ r l).trans (congrArg₂ gathered (funext fun k => ?_) (funext fun k => ?_))
  · exact lane_eq m c t r k a ha
  · exact blk7 m c t k l

end Tiles

theorem mul_at (x y : FVec Ideal S512x512 .f32) (r l : Fin 512) : mulf x y (ix2 r l) = (fun a b : EReal => a * b) (x (ix2 r l)) (y (ix2 r l)) := rfl

section Outs

variable (x0 x1 x2 x3 x4 x5 x6 : Vec Ideal S512x512 .f32) (x7 : Vec Ideal S512x512 .bf16) (i : S512x512.Idx)

theorem out8_at : Gen.out0_8 x0 x1 x2 x3 x4 x5 x6 x7 i = mulf (Gen.k0_pay16 x1 x3 x5) x6 i := by
  unfold Gen.out0_8 Gen.k0_pay24
  frame_out
  rfl

theorem out9_at : Gen.out0_9 x0 x1 x2 x3 x4 x5 x6 x7 i = mulf (Gen.k0_pay17 x1 x3 x5) x6 i := by
  unfold Gen.out0_9 Gen.k0_pay25
  frame_out
  rfl

theorem out10_at : Gen.out0_10 x0 x1 x2 x3 x4 x5 x6 x7 i = mulf (Gen.k0_pay18 x1 x3 x5) x6 i := by
  unfold Gen.out0_10 Gen.k0_pay26
  frame_out
  rfl

theorem out11_at : Gen.out0_11 x0 x1 x2 x3 x4 x5 x6 x7 i = mulf (Gen.k0_pay16 x1 x3 x5) (Gen.k0_pay1 (Gen.k0_pay21 x1 x3 x5 x6 x0 x2 x4) (Gen.k0_pay22 x7) (Gen.k0_pay23 x1 x3 x5 x6 x0 x2 x4 x7)) i := by
  unfold Gen.out0_11 Gen.k0_pay29 Gen.k0_pay28 Gen.k0_pay27 Gen.k0_pay24
  frame_out
  rfl

theorem out12_at : Gen.out0_12 x0 x1 x2 x3 x4 x5 x6 x7 i = mulf (Gen.k0_pay17 x1 x3 x5) (Gen.k0_pay1 (Gen.k0_pay21 x1 x3 x5 x6 x0 x2 x4) (Gen.k0_pay22 x7) (Gen.k0_pay23 x1 x3 x5 x6 x0 x2 x4 x7)) i := by
  unfold Gen.out0_12 Gen.k0_pay29 Gen.k0_pay28 Gen.k0_pay27 Gen.k0_pay25
  frame_out
  rfl

theorem out13_at : Gen.out0_13 x0 x1 x2 x3 x4 x5 x6 x7 i = mulf (Gen.k0_pay18 x1 x3 x5) (Gen.k0_pay1 (Gen.k0_pay21 x1 x3 x5 x6 x0 x2 x4) (Gen.k0_pay22 x7) (Gen.k0_pay23 x1 x3 x5 x6 x0 x2 x4 x7)) i := by
  unfold Gen.out0_13 Gen.k0_pay29 Gen.k0_pay28 Gen.k0_pay27 Gen.k0_pay26
  frame_out
  rfl

end Outs

theorem tile8 (t : Fin cfg0.N) (y : S512x512.Idx) (i : S8192x512.Idx) (h0 : (i 0).val = t.val * 512 + (y 0).val) (h1 : (i 1).val = (y 1).val) :
    Gen.out0_8 (Gen.iblk m c 0 t) (Gen.iblk m c 1 t) (Gen.iblk m c 2 t) (Gen.iblk m c 3 t) (Gen.iblk m c 4 t) (Gen.iblk m c 5 t) (Gen.iblk m c 6 t) (Gen.iblk m c 7 t) y = dOut (al1 m c) (al2 m c) (al3 m c) (al1 m c) (ag m c) i := by
  obtain ⟨a, ha⟩ : ∃ a : Fin 8192, a = i 0 := ⟨_, rfl⟩
  have hi : i = ix2 a (y 1) := by
    rw [eq_ix2 i, ha]
    exact congrArg (ix2 (i 0)) (Fin.ext h1)
  rw [← ha] at h0
  rw [hi]
  refine (out8_at _ _ _ _ _ _ _ _ y).trans ?_
  refine (congrArg _ (eq_ix2 y)).trans ?_
  refine (mul_at _ _ (y 0) (y 1)).trans ?_
  exact congrArg₂ (fun u v : EReal => u * v) (share1 m c t (y 0) (y 1) a h0) (blk6 m c t (y 0) (y 1) a h0)

/-- Result 0 after the run. -/
theorem final8 (i : S8192x512.Idx) : (Gen.dats m 0 c).arrAt 8 cfg0.N i = dOut (al1 m c) (al2 m c) (al3 m c) (al1 m c) (ag m c) i := by
  refine congrFun ((Gen.dats m 0 c).arrAt_eq_of_covers 8 (dOut (al1 m c) (al2 m c) (al3 m c) (al1 m c) (ag m c)) (by decide +kernel) fun t hf y => ?_) i
  have e := (places t).2.2.2.2.2.2.2.2.1
  rw [Gen.after0_8]
  have h0 : (((cfg0.win 8).blk t).view.emb y 0).val = t.val * 512 + (y 0).val := by blk_simp [e] <;> simp
  have h1 : (((cfg0.win 8).blk t).view.emb y 1).val = (y 1).val := by blk_simp [e] <;> simp
  have h := tile8 m c t y _ h0 h1
  generalize Gen.out0_8 (Gen.iblk m c 0 t) (Gen.iblk m c 1 t) (Gen.iblk m c 2 t) (Gen.iblk m c 3 t) (Gen.iblk m c 4 t) (Gen.iblk m c 5 t) (Gen.iblk m c 6 t) (Gen.iblk m c 7 t) = z at h ⊢
  exact h

theorem tile9 (t : Fin cfg0.N) (y : S512x512.Idx) (i : S8192x512.Idx) (h0 : (i 0).val = t.val * 512 + (y 0).val) (h1 : (i 1).val = (y 1).val) :
    Gen.out0_9 (Gen.iblk m c 0 t) (Gen.iblk m c 1 t) (Gen.iblk m c 2 t) (Gen.iblk m c 3 t) (Gen.iblk m c 4 t) (Gen.iblk m c 5 t) (Gen.iblk m c 6 t) (Gen.iblk m c 7 t) y = dOut (al1 m c) (al2 m c) (al3 m c) (al2 m c) (ag m c) i := by
  obtain ⟨a, ha⟩ : ∃ a : Fin 8192, a = i 0 := ⟨_, rfl⟩
  have hi : i = ix2 a (y 1) := by
    rw [eq_ix2 i, ha]
    exact congrArg (ix2 (i 0)) (Fin.ext h1)
  rw [← ha] at h0
  rw [hi]
  refine (out9_at _ _ _ _ _ _ _ _ y).trans ?_
  refine (congrArg _ (eq_ix2 y)).trans ?_
  refine (mul_at _ _ (y 0) (y 1)).trans ?_
  exact congrArg₂ (fun u v : EReal => u * v) (share2 m c t (y 0) (y 1) a h0) (blk6 m c t (y 0) (y 1) a h0)

/-- Result 1 after the run. -/
theorem final9 (i : S8192x512.Idx) : (Gen.dats m 0 c).arrAt 9 cfg0.N i = dOut (al1 m c) (al2 m c) (al3 m c) (al2 m c) (ag m c) i := by
  refine congrFun ((Gen.dats m 0 c).arrAt_eq_of_covers 9 (dOut (al1 m c) (al2 m c) (al3 m c) (al2 m c) (ag m c)) (by decide +kernel) fun t hf y => ?_) i
  have e := (places t).2.2.2.2.2.2.2.2.2.1
  rw [Gen.after0_9]
  have h0 : (((cfg0.win 9).blk t).view.emb y 0).val = t.val * 512 + (y 0).val := by blk_simp [e] <;> simp
  have h1 : (((cfg0.win 9).blk t).view.emb y 1).val = (y 1).val := by blk_simp [e] <;> simp
  have h := tile9 m c t y _ h0 h1
  generalize Gen.out0_9 (Gen.iblk m c 0 t) (Gen.iblk m c 1 t) (Gen.iblk m c 2 t) (Gen.iblk m c 3 t) (Gen.iblk m c 4 t) (Gen.iblk m c 5 t) (Gen.iblk m c 6 t) (Gen.iblk m c 7 t) = z at h ⊢
  exact h

theorem tile10 (t : Fin cfg0.N) (y : S512x512.Idx) (i : S8192x512.Idx) (h0 : (i 0).val = t.val * 512 + (y 0).val) (h1 : (i 1).val = (y 1).val) :
    Gen.out0_10 (Gen.iblk m c 0 t) (Gen.iblk m c 1 t) (Gen.iblk m c 2 t) (Gen.iblk m c 3 t) (Gen.iblk m c 4 t) (Gen.iblk m c 5 t) (Gen.iblk m c 6 t) (Gen.iblk m c 7 t) y = dOut (al1 m c) (al2 m c) (al3 m c) (al3 m c) (ag m c) i := by
  obtain ⟨a, ha⟩ : ∃ a : Fin 8192, a = i 0 := ⟨_, rfl⟩
  have hi : i = ix2 a (y 1) := by
    rw [eq_ix2 i, ha]
    exact congrArg (ix2 (i 0)) (Fin.ext h1)
  rw [← ha] at h0
  rw [hi]
  refine (out10_at _ _ _ _ _ _ _ _ y).trans ?_
  refine (congrArg _ (eq_ix2 y)).trans ?_
  refine (mul_at _ _ (y 0) (y 1)).trans ?_
  exact congrArg₂ (fun u v : EReal => u * v) (share3 m c t (y 0) (y 1) a h0) (blk6 m c t (y 0) (y 1) a h0)

/-- Result 2 after the run. -/
theorem final10 (i : S8192x512.Idx) : (Gen.dats m 0 c).arrAt 10 cfg0.N i = dOut (al1 m c) (al2 m c) (al3 m c) (al3 m c) (ag m c) i := by
  refine congrFun ((Gen.dats m 0 c).arrAt_eq_of_covers 10 (dOut (al1 m c) (al2 m c) (al3 m c) (al3 m c) (ag m c)) (by decide +kernel) fun t hf y => ?_) i
  have e := (places t).2.2.2.2.2.2.2.2.2.2.1
  rw [Gen.after0_10]
  have h0 : (((cfg0.win 10).blk t).view.emb y 0).val = t.val * 512 + (y 0).val := by blk_simp [e] <;> simp
  have h1 : (((cfg0.win 10).blk t).view.emb y 1).val = (y 1).val := by blk_simp [e] <;> simp
  have h := tile10 m c t y _ h0 h1
  generalize Gen.out0_10 (Gen.iblk m c 0 t) (Gen.iblk m c 1 t) (Gen.iblk m c 2 t) (Gen.iblk m c 3 t) (Gen.iblk m c 4 t) (Gen.iblk m c 5 t) (Gen.iblk m c 6 t) (Gen.iblk m c 7 t) = z at h ⊢
  exact h

theorem tile11 (t : Fin cfg0.N) (y : S512x512.Idx) (i : S8192x512.Idx) (h0 : (i 0).val = t.val * 512 + (y 0).val) (h1 : (i 1).val = (y 1).val) :
    Gen.out0_11 (Gen.iblk m c 0 t) (Gen.iblk m c 1 t) (Gen.iblk m c 2 t) (Gen.iblk m c 3 t) (Gen.iblk m c 4 t) (Gen.iblk m c 5 t) (Gen.iblk m c 6 t) (Gen.iblk m c 7 t) y = dSum (ao1 m c) (ao2 m c) (ao3 m c) (al1 m c) (al2 m c) (al3 m c) (al1 m c) (ag m c) i := by
  obtain ⟨a, ha⟩ : ∃ a : Fin 8192, a = i 0 := ⟨_, rfl⟩
  have hi : i = ix2 a (y 1) := by
    rw [eq_ix2 i, ha]
    exact congrArg (ix2 (i 0)) (Fin.ext h1)
  rw [← ha] at h0
  rw [hi]
  refine (out11_at _ _ _ _ _ _ _ _ y).trans ?_
  refine (congrArg _ (eq_ix2 y)).trans ?_
  refine (mul_at _ _ (y 0) (y 1)).trans ?_
  exact congrArg₂ (fun u v : EReal => u * v) (share1 m c t (y 0) (y 1) a h0) (gathered_eq m c t (y 0) (y 1) a h0)

/-- Result 3 after the run. -/
theorem final11 (i : S8192x512.Idx) : (Gen.dats m 0 c).arrAt 11 cfg0.N i = dSum (ao1 m c) (ao2 m c) (ao3 m c) (al1 m c) (al2 m c) (al3 m c) (al1 m c) (ag m c) i := by
  refine congrFun ((Gen.dats m 0 c).arrAt_eq_of_covers 11 (dSum (ao1 m c) (ao2 m c) (ao3 m c) (al1 m c) (al2 m c) (al3 m c) (al1 m c) (ag m c)) (by decide +kernel) fun t hf y => ?_) i
  have e := (places t).2.2.2.2.2.2.2.2.2.2.2.1
  rw [Gen.after0_11]
  have h0 : (((cfg0.win 11).blk t).view.emb y 0).val = t.val * 512 + (y 0).val := by blk_simp [e] <;> simp
  have h1 : (((cfg0.win 11).blk t).view.emb y 1).val = (y 1).val := by blk_simp [e] <;> simp
  have h := tile11 m c t y _ h0 h1
  generalize Gen.out0_11 (Gen.iblk m c 0 t) (Gen.iblk m c 1 t) (Gen.iblk m c 2 t) (Gen.iblk m c 3 t) (Gen.iblk m c 4 t) (Gen.iblk m c 5 t) (Gen.iblk m c 6 t) (Gen.iblk m c 7 t) = z at h ⊢
  exact h

theorem tile12 (t : Fin cfg0.N) (y : S512x512.Idx) (i : S8192x512.Idx) (h0 : (i 0).val = t.val * 512 + (y 0).val) (h1 : (i 1).val = (y 1).val) :
    Gen.out0_12 (Gen.iblk m c 0 t) (Gen.iblk m c 1 t) (Gen.iblk m c 2 t) (Gen.iblk m c 3 t) (Gen.iblk m c 4 t) (Gen.iblk m c 5 t) (Gen.iblk m c 6 t) (Gen.iblk m c 7 t) y = dSum (ao1 m c) (ao2 m c) (ao3 m c) (al1 m c) (al2 m c) (al3 m c) (al2 m c) (ag m c) i := by
  obtain ⟨a, ha⟩ : ∃ a : Fin 8192, a = i 0 := ⟨_, rfl⟩
  have hi : i = ix2 a (y 1) := by
    rw [eq_ix2 i, ha]
    exact congrArg (ix2 (i 0)) (Fin.ext h1)
  rw [← ha] at h0
  rw [hi]
  refine (out12_at _ _ _ _ _ _ _ _ y).trans ?_
  refine (congrArg _ (eq_ix2 y)).trans ?_
  refine (mul_at _ _ (y 0) (y 1)).trans ?_
  exact congrArg₂ (fun u v : EReal => u * v) (share2 m c t (y 0) (y 1) a h0) (gathered_eq m c t (y 0) (y 1) a h0)

/-- Result 4 after the run. -/
theorem final12 (i : S8192x512.Idx) : (Gen.dats m 0 c).arrAt 12 cfg0.N i = dSum (ao1 m c) (ao2 m c) (ao3 m c) (al1 m c) (al2 m c) (al3 m c) (al2 m c) (ag m c) i := by
  refine congrFun ((Gen.dats m 0 c).arrAt_eq_of_covers 12 (dSum (ao1 m c) (ao2 m c) (ao3 m c) (al1 m c) (al2 m c) (al3 m c) (al2 m c) (ag m c)) (by decide +kernel) fun t hf y => ?_) i
  have e := (places t).2.2.2.2.2.2.2.2.2.2.2.2.1
  rw [Gen.after0_12]
  have h0 : (((cfg0.win 12).blk t).view.emb y 0).val = t.val * 512 + (y 0).val := by blk_simp [e] <;> simp
  have h1 : (((cfg0.win 12).blk t).view.emb y 1).val = (y 1).val := by blk_simp [e] <;> simp
  have h := tile12 m c t y _ h0 h1
  generalize Gen.out0_12 (Gen.iblk m c 0 t) (Gen.iblk m c 1 t) (Gen.iblk m c 2 t) (Gen.iblk m c 3 t) (Gen.iblk m c 4 t) (Gen.iblk m c 5 t) (Gen.iblk m c 6 t) (Gen.iblk m c 7 t) = z at h ⊢
  exact h

theorem tile13 (t : Fin cfg0.N) (y : S512x512.Idx) (i : S8192x512.Idx) (h0 : (i 0).val = t.val * 512 + (y 0).val) (h1 : (i 1).val = (y 1).val) :
    Gen.out0_13 (Gen.iblk m c 0 t) (Gen.iblk m c 1 t) (Gen.iblk m c 2 t) (Gen.iblk m c 3 t) (Gen.iblk m c 4 t) (Gen.iblk m c 5 t) (Gen.iblk m c 6 t) (Gen.iblk m c 7 t) y = dSum (ao1 m c) (ao2 m c) (ao3 m c) (al1 m c) (al2 m c) (al3 m c) (al3 m c) (ag m c) i := by
  obtain ⟨a, ha⟩ : ∃ a : Fin 8192, a = i 0 := ⟨_, rfl⟩
  have hi : i = ix2 a (y 1) := by
    rw [eq_ix2 i, ha]
    exact congrArg (ix2 (i 0)) (Fin.ext h1)
  rw [← ha] at h0
  rw [hi]
  refine (out13_at _ _ _ _ _ _ _ _ y).trans ?_
  refine (congrArg _ (eq_ix2 y)).trans ?_
  refine (mul_at _ _ (y 0) (y 1)).trans ?_
  exact congrArg₂ (fun u v : EReal => u * v) (share3 m c t (y 0) (y 1) a h0) (gathered_eq m c t (y 0) (y 1) a h0)

/-- Result 5 after the run. -/
theorem final13 (i : S8192x512.Idx) : (Gen.dats m 0 c).arrAt 13 cfg0.N i = dSum (ao1 m c) (ao2 m c) (ao3 m c) (al1 m c) (al2 m c) (al3 m c) (al3 m c) (ag m c) i := by
  refine congrFun ((Gen.dats m 0 c).arrAt_eq_of_covers 13 (dSum (ao1 m c) (ao2 m c) (ao3 m c) (al1 m c) (al2 m c) (al3 m c) (al3 m c) (ag m c)) (by decide +kernel) fun t hf y => ?_) i
  have e := (places t).2.2.2.2.2.2.2.2.2.2.2.2.2
  rw [Gen.after0_13]
  have h0 : (((cfg0.win 13).blk t).view.emb y 0).val = t.val * 512 + (y 0).val := by blk_simp [e] <;> simp
  have h1 : (((cfg0.win 13).blk t).view.emb y 1).val = (y 1).val := by blk_simp [e] <;> simp
  have h := tile13 m c t y _ h0 h1
  generalize Gen.out0_13 (Gen.iblk m c 0 t) (Gen.iblk m c 1 t) (Gen.iblk m c 2 t) (Gen.iblk m c 3 t) (Gen.iblk m c 4 t) (Gen.iblk m c 5 t) (Gen.iblk m c 6 t) (Gen.iblk m c 7 t) = z at h ⊢
  exact h

end Cert.Kernel14Ideal.Host

end
-- ==== Proof.MixRef.lean ====
/- The gradient of the mixture of the three patterns, as the reference makes it: its stages, and what they hold where the arrays hold numbers. -/
module

public import proofs.«01_k».proof.Proof.Gen.Reference14Ideal.Run
public import proofs.«01_k».proof.Proof.Reference
public import proofs.«01_k».proof.Proof.Sigmoid
public import Idealize.ShloMosaic.Lib.Pipeline.ValueKit

@[expose] public section

set_option maxRecDepth 16384

noncomputable section

namespace Cert.Reference14Ideal.Host

open Idealize.ShloMosaic Idealize.ShloMosaic.TcCoe
open Cert.Band Cert.Reference14Ideal Cert.Reference14Ideal.Facts₀ Cert.Reference14Ideal.Facts

abbrev A := FVec Ideal S8192x8x64 .f32
abbrev R := FVec Ideal S8192x8 .f32
abbrev R3 := FVec Ideal S3x8192x8 .f32
abbrev A3 := FVec Ideal S3x8192x8x64 .f32

/-! ## The stages -/

/-- The three patterns one behind the other. -/
def L (x y z : R) : R3 :=
  concatenate S3x8192x8 0 [⟨S1x8192x8, broadcastInDim S1x8192x8 ![1, 2] bcast_S8192x8_S1x8192x8_1_2 x⟩,
    ⟨S1x8192x8, broadcastInDim S1x8192x8 ![1, 2] bcast_S8192x8_S1x8192x8_1_2 y⟩,
    ⟨S1x8192x8, broadcastInDim S1x8192x8 ![1, 2] bcast_S8192x8_S1x8192x8_1_2 z⟩] concatenates_S1x8192x8_S1x8192x8_S1x8192x8_S3x8192x8_d0
def O (o p q : A) : A3 :=
  concatenate S3x8192x8x64 0 [⟨S1x8192x8x64, broadcastInDim S1x8192x8x64 ![1, 2, 3] bcast_S8192x8x64_S1x8192x8x64_1_2_3 o⟩,
    ⟨S1x8192x8x64, broadcastInDim S1x8192x8x64 ![1, 2, 3] bcast_S8192x8x64_S1x8192x8x64_1_2_3 p⟩,
    ⟨S1x8192x8x64, broadcastInDim S1x8192x8x64 ![1, 2, 3] bcast_S8192x8x64_S1x8192x8x64_1_2_3 q⟩]
    concatenates_S1x8192x8x64_S1x8192x8x64_S1x8192x8x64_S3x8192x8x64_d0

/-- The same numbers for each pattern. -/
def row (x : R) : FVec Ideal S1x8192x8 .f32 := broadcastInDim S1x8192x8 ![1, 2] bcast_S8192x8_S1x8192x8_1_2 x
def rows (x : FVec Ideal S1x8192x8 .f32) : R3 := broadcastInDim S3x8192x8 ![0, 1, 2] bcast_S1x8192x8_S3x8192x8_0_1_2 x

/-- The greatest of the log-sums, the weights, their total and the shares. -/
def M (l : R3) : R :=
  maximumf (broadcastInDim S8192x8 ![] bcast_S_S8192x8 (constant S_ .f32 0xFF800000#32))
    (Host.reduce FloatOps.maximumf l (constant S_ .f32 0xFF800000#32) reducesTo_S3x8192x8_S8192x8_d0 h_S_)
def E (l : R3) : R3 := Host.exp (subf l (rows (row (M l))))
def Z (e : R3) : R := Host.reduceAdd e (constant S_ .f32 0x00000000#32) reducesTo_S3x8192x8_S8192x8_d0 h_S_
def W (e : R3) : R3 := Host.divf e (rows (row (Z e)))

/-- The gradient of the mixture, by heads. -/
def G (g : FVec Ideal S8192x2048 .f32) : A :=
  shapeCast S8192x8x64 (extractStridedSlice S8192x512 ![0, 0] g slices_S8192x2048_S8192x512_0_0) shapeCasts_S8192x512_S8192x8x64

/-- The gradient for each pattern; of the outputs and of the shares. -/
def all (g : A) : A3 := broadcastInDim S3x8192x8x64 ![1, 2, 3] bcast_S8192x8x64_S3x8192x8x64_1_2_3 g
def dO (g : A) (w : R3) : A3 :=
  mulf (broadcastInDim S3x8192x8x64 ![0, 1, 2, 3] bcast_S3x8192x8x1_S3x8192x8x64_0_1_2_3
    (broadcastInDim S3x8192x8x1 ![0, 1, 2] bcast_S3x8192x8_S3x8192x8x1_0_1_2 w)) (all g)
def C (g : A) (o : A3) : R3 :=
  Host.reduceAdd (shapeCast S3x8192x8x1 (Host.reduceAdd (mulf (all g) o) (constant S_ .f32 0x00000000#32) reducesTo_S3x8192x8x64_S3x8192x8_d3 h_S_)
    shapeCasts_S3x8192x8_S3x8192x8x1) (constant S_ .f32 0x00000000#32) reducesTo_S3x8192x8x1_S3x8192x8_d3 h_S_

/-- The gradient of the log-sums. -/
def inv (e : R3) : FVec Ideal S1x8192x8 .f32 :=
  Host.divf (broadcastInDim S1x8192x8 ![] bcast_S_S1x8192x8 (constant S_ .f32 0x3F800000#32)) (mulf (row (Z e)) (row (Z e)))
def back (e c : R3) : R :=
  Host.reduceAdd (Host.negf (shapeCast S1x8192x8 (Host.reduceAdd (mulf (mulf c (rows (inv e))) e) (constant S_ .f32 0x00000000#32)
    reducesTo_S3x8192x8_S8192x8_d0 h_S_) shapeCasts_S8192x8_S1x8192x8)) (constant S_ .f32 0x00000000#32) reducesTo_S1x8192x8_S8192x8_d0 h_S_
def dL (e c : R3) : R3 :=
  mulf (addf (Host.divf c (rows (row (Z e)))) (broadcastInDim S3x8192x8 ![1, 2] bcast_S8192x8_S3x8192x8_1_2 (back e c))) e

/-- One pattern's part. -/
def part0 (x : A3) : A := shapeCast S8192x8x64 (extractStridedSlice S1x8192x8x64 ![0, 0, 0, 0] x slices_S3x8192x8x64_S1x8192x8x64_0_0_0_0) shapeCasts_S1x8192x8x64_S8192x8x64
def part1 (x : A3) : A := shapeCast S8192x8x64 (extractStridedSlice S1x8192x8x64 ![1, 0, 0, 0] x slices_S3x8192x8x64_S1x8192x8x64_1_0_0_0) shapeCasts_S1x8192x8x64_S8192x8x64
def part2 (x : A3) : A := shapeCast S8192x8x64 (extractStridedSlice S1x8192x8x64 ![2, 0, 0, 0] x slices_S3x8192x8x64_S1x8192x8x64_2_0_0_0) shapeCasts_S1x8192x8x64_S8192x8x64
def line0 (x : R3) : R := shapeCast S8192x8 (extractStridedSlice S1x8192x8 ![0, 0, 0] x slices_S3x8192x8_S1x8192x8_0_0_0) shapeCasts_S1x8192x8_S8192x8
def line1 (x : R3) : R := shapeCast S8192x8 (extractStridedSlice S1x8192x8 ![1, 0, 0] x slices_S3x8192x8_S1x8192x8_1_0_0) shapeCasts_S1x8192x8_S8192x8
def line2 (x : R3) : R := shapeCast S8192x8 (extractStridedSlice S1x8192x8 ![2, 0, 0] x slices_S3x8192x8_S1x8192x8_2_0_0) shapeCasts_S1x8192x8_S8192x8

/-- Heads and lanes side by side, and a number per head along its lanes. -/
def flat (x : A) : FVec Ideal S8192x512 .f32 := shapeCast S8192x512 x shapeCasts_S8192x8x64_S8192x512
def wide (x : R) : FVec Ideal S8192x512 .f32 :=
  flat (broadcastInDim S8192x8x64 ![0, 1, 2] bcast_S8192x8x1_S8192x8x64_0_1_2 (broadcastInDim S8192x8x1 ![0, 1] bcast_S8192x8_S8192x8x1_0_1 x))

/-- What a pattern's output meets of its gradient, less the gradient of its log-sum. -/
def less (d o : A) (e : R) : R :=
  subf (Host.reduceAdd (mulf d o) (constant S_ .f32 0x00000000#32) reducesTo_S8192x8x64_S8192x8_d2 h_S_) e

section Results

variable (m : (ℓ : Loc nD τ sig) → Buf (Elt Ideal) ℓ) (c : Dev nD)

abbrev ao1 : A := m ((c.tc : Thread nD τ).loc main_arg0)
abbrev ao2 : A := m ((c.tc : Thread nD τ).loc main_arg1)
abbrev ao3 : A := m ((c.tc : Thread nD τ).loc main_arg2)
abbrev aE : R3 := E (L (m ((c.tc : Thread nD τ).loc main_arg3)) (m ((c.tc : Thread nD τ).loc main_arg4)) (m ((c.tc : Thread nD τ).loc main_arg5)))
abbrev aG : A := G (m ((c.tc : Thread nD τ).loc main_arg6))
abbrev aC : R3 := C (aG m c) (O (ao1 m c) (ao2 m c) (ao3 m c))

theorem out3_eq : Value.res_main_v87 m c
    = wide (less (part0 (dO (aG m c) (W (aE m c)))) (ao1 m c) (line0 (dL (aE m c) (aC m c)))) := by
  unfold Value.res_main_v87; rfl

theorem out4_eq : Value.res_main_v90 m c
    = wide (less (part1 (dO (aG m c) (W (aE m c)))) (ao2 m c) (line1 (dL (aE m c) (aC m c)))) := by
  unfold Value.res_main_v90; rfl

theorem out5_eq : Value.res_main_v93 m c
    = wide (less (part2 (dO (aG m c) (W (aE m c)))) (ao3 m c) (line2 (dL (aE m c) (aC m c)))) := by
  unfold Value.res_main_v93; rfl

theorem out0_eq : Value.res_main_v82 m c = flat (part0 (dO (aG m c) (W (aE m c)))) := by
  unfold Value.res_main_v82; rfl

theorem out1_eq : Value.res_main_v83 m c = flat (part1 (dO (aG m c) (W (aE m c)))) := by
  unfold Value.res_main_v83; rfl

theorem out2_eq : Value.res_main_v84 m c = flat (part2 (dO (aG m c) (W (aE m c)))) := by
  unfold Value.res_main_v84; rfl

end Results

/-! ## The stages at an index -/

section Readings

variable (t : Fin 8192) (h : Fin 8) (d : Fin 64) (j : Fin 512)

theorem flat_at (x : A) : flat x (ix2 t j) = x (ix3 t ⟨j / 64, by omega⟩ ⟨j % 64, by omega⟩) := by
  pointwise [flat]

theorem wide_at (x : R) : wide x (ix2 t j) = x (ix2 t ⟨j / 64, by omega⟩) := by
  pointwise [wide, flat]

theorem L0 (x y z : R) : L x y z (ix3 0 t h) = x (ix2 t h) := by
  pointwise [L]

theorem L1 (x y z : R) : L x y z (ix3 1 t h) = y (ix2 t h) := by
  pointwise [L]

theorem L2 (x y z : R) : L x y z (ix3 2 t h) = z (ix2 t h) := by
  pointwise [L]

theorem O0 (o p q : A) : O o p q (ix4 0 t h d) = o (ix3 t h d) := by
  pointwise [O]

theorem O1 (o p q : A) : O o p q (ix4 1 t h d) = p (ix3 t h d) := by
  pointwise [O]

theorem O2 (o p q : A) : O o p q (ix4 2 t h d) = q (ix3 t h d) := by
  pointwise [O]

theorem E_at (l : R3) (k : Fin 3) : E l (ix3 k t h) = Ideal.exp (l (ix3 k t h) - M l (ix2 t h)) := by
  generalize hm : M l = m
  pointwise [E, row, rows, hm]

theorem Z_at (e : R3) : Z e (ix2 t h) = ∑ k : Fin 3, e (ix3 k t h) := by
  pointwise [Z]

theorem W_at (e : R3) (k : Fin 3) : W e (ix3 k t h) = Ideal.div (e (ix3 k t h)) (Z e (ix2 t h)) := by
  generalize hz : Z e = z
  pointwise [W, row, rows, hz]

theorem G_at (g : FVec Ideal S8192x2048 .f32) : G g (ix3 t h d) = g (ix2 t ⟨h * 64 + d, by omega⟩) := by
  pointwise [G]

theorem dO_at (g : A) (w : R3) (k : Fin 3) : dO g w (ix4 k t h d) = w (ix3 k t h) * g (ix3 t h d) := by
  pointwise [dO, all]

theorem C_at (g : A) (o : A3) (k : Fin 3) : C g o (ix3 k t h) = ∑ d : Fin 64, g (ix3 t h d) * o (ix4 k t h d) := by
  pointwise [C, all]
  exact Fintype.sum_unique _

theorem back_at (e c : R3) : back e c (ix2 t h)
    = -∑ k : Fin 3, c (ix3 k t h) * Ideal.div 1 (Z e (ix2 t h) * Z e (ix2 t h)) * e (ix3 k t h) := by
  generalize hz : Z e = z
  pointwise [back, inv, row, rows, hz]
  exact Fintype.sum_unique _

theorem dL_at (e c : R3) (k : Fin 3) : dL e c (ix3 k t h)
    = (Ideal.div (c (ix3 k t h)) (Z e (ix2 t h)) + back e c (ix2 t h)) * e (ix3 k t h) := by
  generalize hz : Z e = z
  generalize hb : back e c = b
  pointwise [dL, row, rows, hz, hb]

theorem part0_at (x : A3) : part0 x (ix3 t h d) = x (ix4 0 t h d) := by
  pointwise [part0]

theorem part1_at (x : A3) : part1 x (ix3 t h d) = x (ix4 1 t h d) := by
  pointwise [part1]

theorem part2_at (x : A3) : part2 x (ix3 t h d) = x (ix4 2 t h d) := by
  pointwise [part2]

theorem line0_at (x : R3) : line0 x (ix2 t h) = x (ix3 0 t h) := by
  pointwise [line0]

theorem line1_at (x : R3) : line1 x (ix2 t h) = x (ix3 1 t h) := by
  pointwise [line1]

theorem line2_at (x : R3) : line2 x (ix2 t h) = x (ix3 2 t h) := by
  pointwise [line2]

theorem less_at (x o : A) (e : R) : less x o e (ix2 t h) = (∑ d : Fin 64, x (ix3 t h d) * o (ix3 t h d)) - e (ix2 t h) := by
  pointwise [less]

theorem M_at (l : R3) : M l (ix2 t h) = max (max (l (ix3 0 t h)) (l (ix3 1 t h))) (l (ix3 2 t h)) := by
  have u : (Finset.univ : Finset (Fin 3)) = {0, 1, 2} := by decide
  pointwise [M]
  rw [word_bot, max_eq_right bot_le]
  refine (congrArg (Finset.fold max ⊥ fun x : Fin 3 => l (ix3 x t h)) u).trans ?_
  rw [Finset.fold_insert (by decide), Finset.fold_insert (by decide), Finset.fold_singleton, max_eq_left bot_le, max_assoc]

end Readings

/-! ## Numbers -/

section Numbers

variable (l : Fin 3 → ℝ)

/-- The greatest log-sum, the weights against it, their total and the shares. -/
def mx : ℝ := max (max (l 0) (l 1)) (l 2)
def ex (k : Fin 3) : ℝ := Real.exp (l k - mx l)
def tot : ℝ := ∑ k : Fin 3, ex l k
def share (k : Fin 3) : ℝ := ex l k / tot l

theorem tot_pos : 0 < tot l := Finset.sum_pos (fun _ _ => Real.exp_pos _) ⟨0, Finset.mem_univ _⟩

/-- The two forms of what a pattern's output meets, less its log-sum's gradient. -/
theorem less_eq (g : Fin 64 → ℝ) (o : Fin 3 → Fin 64 → ℝ) (k : Fin 3) :
    (∑ d : Fin 64, share l k * g d * o k d)
      - ((∑ d : Fin 64, g d * o k d) / tot l + -∑ c : Fin 3, (∑ d : Fin 64, g d * o c d) * (1 / (tot l * tot l)) * ex l c) * ex l k
    = share l k * ∑ d : Fin 64, g d * ∑ c : Fin 3, share l c * o c d := by
  have h1 : (∑ d : Fin 64, share l k * g d * o k d) = share l k * ∑ d : Fin 64, g d * o k d := by
    rw [Finset.mul_sum]
    exact Finset.sum_congr rfl fun d _ => by ring
  have h2 : (∑ d : Fin 64, g d * ∑ c : Fin 3, share l c * o c d) = ∑ c : Fin 3, share l c * ∑ d : Fin 64, g d * o c d := by
    simp only [Finset.mul_sum]
    rw [Finset.sum_comm]
    exact Finset.sum_congr rfl fun c _ => Finset.sum_congr rfl fun d _ => by ring
  rw [h1, h2]
  have hz := (tot_pos l).ne'
  simp only [share, Fin.sum_univ_three]
  field_simp
  ring

end Numbers

/-- At one token and head the arrays hold numbers. -/
structure Holds (t : Fin 8192) (h : Fin 8) (l : R3) (o : A3) (g : A) (lr : Fin 3 → ℝ) (r : Fin 3 → Fin 64 → ℝ) (gr : Fin 64 → ℝ) : Prop where
  l : ∀ k, l (ix3 k t h) = ((lr k : ℝ) : EReal)
  o : ∀ k d, o (ix4 k t h d) = ((r k d : ℝ) : EReal)
  g : ∀ d, g (ix3 t h d) = ((gr d : ℝ) : EReal)

theorem sum_coe {n : ℕ} {f : Fin n → EReal} (r : Fin n → ℝ) (h : ∀ i, f i = ((r i : ℝ) : EReal)) : ∑ i, f i = ((∑ i, r i : ℝ) : EReal) := by
  rw [coe_sum]
  exact Finset.sum_congr rfl fun i _ => h i

theorem max_coe (x y : ℝ) : max (x : EReal) (y : EReal) = ((max x y : ℝ) : EReal) := (EReal.coe_strictMono.monotone.map_max).symm

section Real

variable {t : Fin 8192} {h : Fin 8} {l : R3} {o : A3} {g : A} {lr : Fin 3 → ℝ} {r : Fin 3 → Fin 64 → ℝ} {gr : Fin 64 → ℝ}
variable (H : Holds t h l o g lr r gr)
include H

theorem E_real (k : Fin 3) : E l (ix3 k t h) = ((ex lr k : ℝ) : EReal) := by
  rw [E_at, M_at, H.l, H.l, H.l, H.l, max_coe, max_coe, ← EReal.coe_sub]
  exact Ideal.exp_coe _

theorem Z_real : Z (E l) (ix2 t h) = ((tot lr : ℝ) : EReal) := by
  rw [Z_at]
  exact sum_coe _ fun k => E_real H k

theorem dO_real (k : Fin 3) (d : Fin 64) : dO g (W (E l)) (ix4 k t h d) = ((share lr k * gr d : ℝ) : EReal) := by
  rw [dO_at, W_at, E_real H, Z_real H, H.g, Cert.ReferenceIdeal.Stage.div_real (tot_pos lr).ne', ← EReal.coe_mul]
  rfl

theorem C_real (k : Fin 3) : C g o (ix3 k t h) = ((∑ d : Fin 64, gr d * r k d : ℝ) : EReal) := by
  rw [C_at]
  exact sum_coe _ fun d => by rw [H.g, H.o, ← EReal.coe_mul]

theorem back_real : back (E l) (C g o) (ix2 t h)
    = ((-∑ c : Fin 3, (∑ d : Fin 64, gr d * r c d) * (1 / (tot lr * tot lr)) * ex lr c : ℝ) : EReal) := by
  have hz := (tot_pos lr).ne'
  rw [back_at, Z_real H, EReal.coe_neg]
  refine congrArg _ (sum_coe _ fun c => ?_)
  rw [C_real H, E_real H, ← EReal.coe_mul, ← EReal.coe_one, Cert.ReferenceIdeal.Stage.div_real (mul_ne_zero hz hz), ← EReal.coe_mul, ← EReal.coe_mul]

theorem dL_real (k : Fin 3) : dL (E l) (C g o) (ix3 k t h)
    = ((((∑ d : Fin 64, gr d * r k d) / tot lr
        + -∑ c : Fin 3, (∑ d : Fin 64, gr d * r c d) * (1 / (tot lr * tot lr)) * ex lr c) * ex lr k : ℝ) : EReal) := by
  rw [dL_at, back_real H, Z_real H, C_real H, E_real H, Cert.ReferenceIdeal.Stage.div_real (tot_pos lr).ne', ← EReal.coe_add, ← EReal.coe_mul]

/-- A pattern's part of the results, of numbers. -/
theorem less_real (k : Fin 3) (x w : A) (e : R) (hx : ∀ d, x (ix3 t h d) = dO g (W (E l)) (ix4 k t h d)) (hw : ∀ d, w (ix3 t h d) = o (ix4 k t h d))
    (he : e (ix2 t h) = dL (E l) (C g o) (ix3 k t h)) :
    less x w e (ix2 t h) = ((share lr k * ∑ d : Fin 64, gr d * ∑ c : Fin 3, share lr c * r c d : ℝ) : EReal) := by
  rw [less_at, he, dL_real H, sum_coe (fun d => share lr k * gr d * r k d) fun d => by rw [hx, hw, dO_real H, H.o, ← EReal.coe_mul],
    ← EReal.coe_sub, less_eq]

end Real

end Cert.Reference14Ideal.Host

end
-- ==== Proof.MixBwd.lean ====
/- The gradient of the mixture of the three patterns: the kernel's six results are the reference's. -/
module

public import proofs.«01_k».proof.Proof.MixKernel
public import proofs.«01_k».proof.Proof.MixRef
public import proofs.«01_k».proof.Defs

@[expose] public section

set_option maxRecDepth 16384

noncomputable section

namespace Cert.Kernel14Ideal.Host

open Idealize.ShloMosaic
open Cert.Reference14Ideal.Host (mx ex share tot_pos max_coe sum_coe)

/-! ## The kernel's numbers -/

theorem wt_real (l : Fin 3 → ℝ) (k : Fin 3) : wt (l 0 : EReal) (l 1 : EReal) (l 2 : EReal) (l k : EReal) = ((share l k : ℝ) : EReal) := by
  have hs : ex l 0 + ex l 1 + ex l 2 = Cert.Reference14Ideal.Host.tot l := (Fin.sum_univ_three _).symm
  have he (c : Fin 3) : Ideal.exp ((l c : EReal) - ((max (max (l 0) (l 1)) (l 2) : ℝ) : EReal)) = ((ex l c : ℝ) : EReal) := by
    rw [← EReal.coe_sub]
    exact Ideal.exp_coe _
  unfold wt tot
  rw [max_coe, max_coe, he, he, he, he, ← EReal.coe_add, ← EReal.coe_add, hs, ← EReal.coe_one,
    Cert.ReferenceIdeal.Stage.div_real (tot_pos l).ne', ← EReal.coe_mul, mul_one_div]
  rfl

theorem mixed_real (l r : Fin 3 → ℝ) (g : ℝ) : mixed (l 0 : EReal) (l 1 : EReal) (l 2 : EReal) (r 0 : EReal) (r 1 : EReal) (r 2 : EReal) (g : EReal)
    = ((g * ∑ c : Fin 3, share l c * r c : ℝ) : EReal) := by
  unfold mixed
  rw [wt_real, wt_real, wt_real, ← EReal.coe_mul, ← EReal.coe_mul, ← EReal.coe_mul, ← EReal.coe_add, ← EReal.coe_add, ← EReal.coe_mul,
    Fin.sum_univ_three]

/-- Lane `d` of head `h`. -/
abbrev at64 (h : Fin 8) (d : Fin 64) : Fin 512 := ⟨h * 64 + d, by omega⟩

/-- The sum over the lanes of a lane's own head. -/
theorem sum_head (X : Fin 512 → ℝ) (h : Fin 8) : (∑ k : Fin 512, X k * if hd k = h then 1 else 0) = ∑ d : Fin 64, X (at64 h d) := by
  simp only [mul_ite, mul_one, mul_zero]
  rw [← Finset.sum_filter]
  refine Finset.sum_nbij' (fun k => ln k) (fun d => at64 h d) (fun _ _ => Finset.mem_univ _) (fun d _ => ?_) (fun k hk => ?_) (fun d _ => ?_) fun k hk => ?_
  · exact Finset.mem_filter.2 ⟨Finset.mem_univ _, Fin.ext (by simp only; omega)⟩
  · have e := congrArg Fin.val (Finset.mem_filter.1 hk).2
    simp only at e
    exact Fin.ext (by simp only; omega)
  · exact Fin.ext (by simp only; omega)
  · have e := congrArg Fin.val (Finset.mem_filter.1 hk).2
    simp only at e
    exact congrArg X (Fin.ext (by simp only; omega))

theorem gathered_real (X : Fin 512 → ℝ) (x : Fin 512 → EReal) (hx : ∀ k, x k = ((X k : ℝ) : EReal)) (j : Fin 512) :
    gathered x (fun k => same k j) = ((∑ d : Fin 64, X (at64 (hd j) d) : ℝ) : EReal) := by
  have hs (k : Fin 512) : same k j = (((if hd k = hd j then 1 else 0 : ℝ) : ℝ) : EReal) := by
    unfold same
    split
    · exact EReal.coe_one.symm
    · exact EReal.coe_zero.symm
  unfold gathered
  rw [sum_coe (fun k => X k * if hd k = hd j then 1 else 0) fun k => by rw [hx, show (fun k => same k j) k = _ from hs k, ← EReal.coe_mul],
    sum_coe (fun k => (X k - X k) * if hd k = hd j then 1 else 0) fun k => by
      rw [hx, show (fun k => same k j) k = _ from hs k, ← EReal.coe_sub, ← EReal.coe_mul], ← EReal.coe_add, sum_head]
  simp

/-! ## Both sides at one place -/

/-- The arguments hold numbers at every lane of a token. -/
structure Fine (o p q : A) (x y z : R) (g : FVec Ideal S8192x2048 .f32) (t : Fin 8192) : Prop where
  o : ∀ h d, o (ix3 t h d) = ((EReal.toReal (o (ix3 t h d)) : ℝ) : EReal)
  p : ∀ h d, p (ix3 t h d) = ((EReal.toReal (p (ix3 t h d)) : ℝ) : EReal)
  q : ∀ h d, q (ix3 t h d) = ((EReal.toReal (q (ix3 t h d)) : ℝ) : EReal)
  x : ∀ h, x (ix2 t h) = ((EReal.toReal (x (ix2 t h)) : ℝ) : EReal)
  y : ∀ h, y (ix2 t h) = ((EReal.toReal (y (ix2 t h)) : ℝ) : EReal)
  z : ∀ h, z (ix2 t h) = ((EReal.toReal (z (ix2 t h)) : ℝ) : EReal)
  g : ∀ k : Fin 512, g (ix2 t ⟨k, by omega⟩) = ((EReal.toReal (g (ix2 t ⟨k, by omega⟩)) : ℝ) : EReal)

section Sides

variable (o p q : A) (x y z : R) (g : FVec Ideal S8192x2048 .f32) (t : Fin 8192)

/-- The log-sums, the outputs and the gradient at one head, as reals. -/
def lr (h : Fin 8) : Fin 3 → ℝ := ![EReal.toReal (x (ix2 t h)), EReal.toReal (y (ix2 t h)), EReal.toReal (z (ix2 t h))]
def rr (h : Fin 8) : Fin 3 → Fin 64 → ℝ :=
  ![fun d => EReal.toReal (o (ix3 t h d)), fun d => EReal.toReal (p (ix3 t h d)), fun d => EReal.toReal (q (ix3 t h d))]
def gr (k : Fin 512) : ℝ := EReal.toReal (g (ix2 t ⟨k, by omega⟩))

/-- The number of one lane. -/
def num (k : Fin 512) : ℝ := gr g t k * ∑ c : Fin 3, share (lr x y z t (hd k)) c * rr o p q t (hd k) c (ln k)

variable {o p q x y z g t} (F : Fine o p q x y z g t)
include F

theorem laneAt_real (k : Fin 512) : laneAt o p q x y z g t k = ((num o p q x y z g t k : ℝ) : EReal) :=
  (mixed_congr (F.x _) (F.y _) (F.z _) (F.o _ _) (F.p _ _) (F.q _ _) (F.g k)).trans
    (mixed_real (lr x y z t (hd k)) (fun c => rr o p q t (hd k) c (ln k)) (gr g t k))

/-- Of the pattern `k` with log-sums `w`. -/
theorem wtAt_real (k : Fin 3) (w : R) (hw : ∀ h, w (ix2 t h) = ((lr x y z t h k : ℝ) : EReal)) (j : Fin 512) :
    wtAt x y z w t j = ((share (lr x y z t (hd j)) k : ℝ) : EReal) :=
  (wt_congr (F.x _) (F.y _) (F.z _) (hw _)).trans (wt_real (lr x y z t (hd j)) k)

open Cert.Reference14Ideal.Host in
/-- The reference's stacked arrays hold these numbers. -/
theorem holds (h : Fin 8) : Holds t h (L x y z) (O o p q) (G g) (lr x y z t h) (rr o p q t h) fun d => gr g t (at64 h d) where
  l := fun k => by
    match k with
    | 0 => exact (L0 t h x y z).trans (F.x h)
    | 1 => exact (L1 t h x y z).trans (F.y h)
    | 2 => exact (L2 t h x y z).trans (F.z h)
  o := fun k d => by
    match k with
    | 0 => exact (O0 t h d o p q).trans (F.o h d)
    | 1 => exact (O1 t h d o p q).trans (F.p h d)
    | 2 => exact (O2 t h d o p q).trans (F.q h d)
  g := fun d => (Cert.Reference14Ideal.Host.G_at t h d g).trans (F.g (at64 h d))

open Cert.Reference14Ideal.Host in
theorem out_eq (k : Fin 3) (w : R) (hw : ∀ h, w (ix2 t h) = ((lr x y z t h k : ℝ) : EReal)) (u : A)
    (hu : ∀ h d, u (ix3 t h d) = dO (G g) (W (E (L x y z))) (ix4 k t h d)) (j : Fin 512) :
    Cert.Reference14Ideal.Host.flat u (ix2 t j) = dOut x y z w g (ix2 t j) := by
  have e : at64 (hd j) (ln j) = j := Fin.ext (by simp only; omega)
  refine (Cert.Reference14Ideal.Host.flat_at t j u).trans ((hu _ _).trans ((dO_real (holds F (hd j)) k (ln j)).trans ?_))
  rw [e, EReal.coe_mul]
  exact (congrArg₂ (fun a b : EReal => a * b) (wtAt_real F k w hw j) (F.g j)).symm

open Cert.Reference14Ideal.Host in
theorem sum_eq (k : Fin 3) (w : R) (hw : ∀ h, w (ix2 t h) = ((lr x y z t h k : ℝ) : EReal)) (u v : A) (e : R)
    (hu : ∀ h d, u (ix3 t h d) = dO (G g) (W (E (L x y z))) (ix4 k t h d)) (hv : ∀ h d, v (ix3 t h d) = O o p q (ix4 k t h d))
    (he : ∀ h, e (ix2 t h) = dL (E (L x y z)) (C (G g) (O o p q)) (ix3 k t h)) (j : Fin 512) :
    Cert.Reference14Ideal.Host.wide (less u v e) (ix2 t j) = dSum o p q x y z w g (ix2 t j) := by
  refine (Cert.Reference14Ideal.Host.wide_at t j _).trans ((less_real (holds F (hd j)) k u v e (hu _) (hv _) (he _)).trans ?_)
  rw [EReal.coe_mul]
  refine (congrArg₂ (fun a b : EReal => a * b) (wtAt_real F k w hw j) ((gathered_real (num o p q x y z g t) _ (laneAt_real F) j).trans ?_)).symm
  refine congrArg _ (Finset.sum_congr rfl fun d _ => ?_)
  have e1 : hd (at64 (hd j) d) = hd j := Fin.ext (by simp only; omega)
  have e2 : ln (at64 (hd j) d) = d := Fin.ext (by simp only; omega)
  unfold num
  rw [e1, e2]

end Sides

end Cert.Kernel14Ideal.Host

namespace Cert.Pre_finite14

open Idealize.ShloMosaic

theorem facts : Facts where
  bcast_S_S8192x8x64 := by decide
  slices_S8192x2048_S8192x512_0_0 := by decide
  shapeCasts_S8192x512_S8192x8x64 := by decide
  bcast_S_S8192x8 := by decide
  bcast_S8192x8_S8192x8x1_0_1 := by decide
  bcast_S8192x8x1_S8192x8x64_0_1_2 := by decide

variable [inst : Facts]

/-- Where the precondition holds, the arguments hold numbers. -/
theorem holds (o p q : FVec Ideal S8192x8x64 .f32) (x y z : FVec Ideal S8192x8 .f32) (g : FVec Ideal S8192x2048 .f32)
    (hf : fn (F := Ideal) o p q x y z g = fun _ => 1#1) (t : Fin 8192) : Cert.Kernel14Ideal.Host.Fine o p q x y z g t := by
  have key (h : Fin 8) (d : Fin 64) :
      o (ix3 t h d) = ((EReal.toReal (o (ix3 t h d)) : ℝ) : EReal) ∧ p (ix3 t h d) = ((EReal.toReal (p (ix3 t h d)) : ℝ) : EReal)
      ∧ q (ix3 t h d) = ((EReal.toReal (q (ix3 t h d)) : ℝ) : EReal)
      ∧ g (ix2 t ⟨h * 64 + d, by omega⟩) = ((EReal.toReal (g (ix2 t ⟨h * 64 + d, by omega⟩)) : ℝ) : EReal)
      ∧ x (ix2 t h) = ((EReal.toReal (x (ix2 t h)) : ℝ) : EReal) ∧ y (ix2 t h) = ((EReal.toReal (y (ix2 t h)) : ℝ) : EReal)
      ∧ z (ix2 t h) = ((EReal.toReal (z (ix2 t h)) : ℝ) : EReal) := by
    have hf := congrFun hf (ix3 t h d)
    revert hf
    pointwise [fn, fn_part1]
    simp only [Cert.Band.andi_ofBool]
    intro hf
    have hb : ∀ b : Bool, BitVec.ofBool b = 1#1 → b = true := by decide
    have real {v : EReal} := @Cert.Pre_finite.real_of_lt Cert.Pre_finite.facts v
    obtain ⟨⟨⟨⟨⟨⟨h1, h2⟩, h3⟩, h4⟩, h5⟩, h6⟩, h7⟩ := of_decide_eq_true (hb _ hf)
    exact ⟨real h1, real h2, real h3, real h4, real h5, real h6, real h7⟩
  refine ⟨fun h d => (key h d).1, fun h d => (key h d).2.1, fun h d => (key h d).2.2.1, fun h => (key h 0).2.2.2.2.1, fun h => (key h 0).2.2.2.2.2.1,
    fun h => (key h 0).2.2.2.2.2.2, fun k => ?_⟩
  have e : (⟨k / 64 * 64 + k % 64, by omega⟩ : Fin 2048) = ⟨k, by omega⟩ := Fin.ext (by simp only; omega)
  rw [← e]
  exact (key ⟨k / 64, by omega⟩ ⟨k % 64, by omega⟩).2.2.2.1

end Cert.Pre_finite14

namespace Cert.Proof.MixBwd

open Idealize.ShloMosaic Idealize.ShloMosaic.TcCoe Idealize.SL.Sem
open Cert.Reference14Ideal.Host (part0_at part1_at part2_at line0_at line1_at line2_at O0 O1 O2)

/-- The kernel ends, whatever its arguments hold, with its semaphores back at zero. -/
theorem frame_p : Cert.quiescent_Kernel14 := fun m ρ _ => Cert.Kernel14.Gen.frame m ρ

/-- The same of the idealized kernel. -/
theorem frame_pi : Cert.quiescent_Kernel14Ideal := fun m ρ _ => Cert.Kernel14Ideal.Gen.frame m ρ

/-- The reference ends. -/
theorem frame_ri : Cert.quiescent_Reference14Ideal := fun m ρ _ =>
  (θ_run Cert.Reference14Ideal.defs _ _).mono (fun r h => ⟨fun c => (h c).2.2.2.2.2.2,
      Idealize.ShloMosaic.sem_eq_zero_of_no_sems (by decide) r.2⟩)
    (Cert.Reference14Ideal.Value.run (F := Ideal) m ρ)

set_option maxHeartbeats 2000000 in
/-- The kernel's six results are the reference's, of numbers. -/
theorem algebraic : Cert.algebraic_Kernel14Ideal_Reference14Ideal_pre_finite14 (hKernel14Ideal := Cert.Kernel14Ideal.Gen.facts)
    (hReference14Ideal := Cert.Reference14Ideal.Gen.facts) (hPre_finite14 := Cert.Pre_finite14.facts) := by
  intro m ρ m' ρ' hp ha
  have H := fun c => Cert.Pre_finite14.holds (inst := Cert.Pre_finite14.facts) _ _ _ _ _ _ _ (hp c)
  refine ⟨_, _, _, _, _, _, (θ_run Cert.Kernel14Ideal.defs _ _).mono (fun _ h => h) (Cert.Kernel14Ideal.Value.run_blocks (F := Ideal) m ρ), ?_⟩
  refine (θ_run Cert.Reference14Ideal.defs _ _).mono (fun r h c => ?_) (Cert.Reference14Ideal.Value.run (F := Ideal) m' ρ')
  obtain ⟨h0, h1, h2, h3, h4, h5, ha'⟩ := h c
  obtain ⟨a0, a1, a2, a3, a4, a5, a6⟩ := ha c
  have eE : Cert.Reference14Ideal.Host.aE m' c = Cert.Reference14Ideal.Host.E (Cert.Reference14Ideal.Host.L
      (Cert.Kernel14Ideal.Host.al1 m c) (Cert.Kernel14Ideal.Host.al2 m c) (Cert.Kernel14Ideal.Host.al3 m c)) := by
    unfold Cert.Reference14Ideal.Host.aE
    rw [a3, a4, a5]
  have eG : Cert.Reference14Ideal.Host.aG m' c = Cert.Reference14Ideal.Host.G (Cert.Kernel14Ideal.Host.ag m c) := by
    unfold Cert.Reference14Ideal.Host.aG
    rw [a6]
  have e1 : Cert.Reference14Ideal.Host.ao1 m' c = Cert.Kernel14Ideal.Host.ao1 m c := a0
  have e2 : Cert.Reference14Ideal.Host.ao2 m' c = Cert.Kernel14Ideal.Host.ao2 m c := a1
  have e3 : Cert.Reference14Ideal.Host.ao3 m' c = Cert.Kernel14Ideal.Host.ao3 m c := a2
  have eC : Cert.Reference14Ideal.Host.aC m' c = Cert.Reference14Ideal.Host.C (Cert.Reference14Ideal.Host.G (Cert.Kernel14Ideal.Host.ag m c))
      (Cert.Reference14Ideal.Host.O (Cert.Kernel14Ideal.Host.ao1 m c) (Cert.Kernel14Ideal.Host.ao2 m c) (Cert.Kernel14Ideal.Host.ao3 m c)) := by
    unfold Cert.Reference14Ideal.Host.aC
    rw [eG, e1, e2, e3]
  refine ⟨h0.trans ?_, h1.trans ?_, h2.trans ?_, h3.trans ?_, h4.trans ?_, h5.trans ?_, ha'⟩
  · funext i
    refine Eq.trans ?_ (Cert.Kernel14Ideal.Host.final8 m c i).symm
    rw [Cert.Reference14Ideal.Host.out0_eq, eG, eE, eq_ix2 i]
    exact Cert.Kernel14Ideal.Host.out_eq (H c (i 0)) 0 _ (H c (i 0)).x _ (fun h d => part0_at (i 0) h d _) (i 1)
  · funext i
    refine Eq.trans ?_ (Cert.Kernel14Ideal.Host.final9 m c i).symm
    rw [Cert.Reference14Ideal.Host.out1_eq, eG, eE, eq_ix2 i]
    exact Cert.Kernel14Ideal.Host.out_eq (H c (i 0)) 1 _ (H c (i 0)).y _ (fun h d => part1_at (i 0) h d _) (i 1)
  · funext i
    refine Eq.trans ?_ (Cert.Kernel14Ideal.Host.final10 m c i).symm
    rw [Cert.Reference14Ideal.Host.out2_eq, eG, eE, eq_ix2 i]
    exact Cert.Kernel14Ideal.Host.out_eq (H c (i 0)) 2 _ (H c (i 0)).z _ (fun h d => part2_at (i 0) h d _) (i 1)
  · funext i
    refine Eq.trans ?_ (Cert.Kernel14Ideal.Host.final11 m c i).symm
    rw [Cert.Reference14Ideal.Host.out3_eq, eC, eG, eE, e1, eq_ix2 i]
    exact Cert.Kernel14Ideal.Host.sum_eq (H c (i 0)) 0 _ (H c (i 0)).x _ _ _ (fun h d => part0_at (i 0) h d _)
      (fun h d => (O0 (i 0) h d _ _ _).symm) (fun h => line0_at (i 0) h _) (i 1)
  · funext i
    refine Eq.trans ?_ (Cert.Kernel14Ideal.Host.final12 m c i).symm
    rw [Cert.Reference14Ideal.Host.out4_eq, eC, eG, eE, e2, eq_ix2 i]
    exact Cert.Kernel14Ideal.Host.sum_eq (H c (i 0)) 1 _ (H c (i 0)).y _ _ _ (fun h d => part1_at (i 0) h d _)
      (fun h d => (O1 (i 0) h d _ _ _).symm) (fun h => line1_at (i 0) h _) (i 1)
  · funext i
    refine Eq.trans ?_ (Cert.Kernel14Ideal.Host.final13 m c i).symm
    rw [Cert.Reference14Ideal.Host.out5_eq, eC, eG, eE, e3, eq_ix2 i]
    exact Cert.Kernel14Ideal.Host.sum_eq (H c (i 0)) 2 _ (H c (i 0)).z _ _ _ (fun h d => part2_at (i 0) h d _)
      (fun h d => (O2 (i 0) h d _ _ _).symm) (fun h => line2_at (i 0) h _) (i 1)

end Cert.Proof.MixBwd

end
-- ==== Proof.lean ====
module

public import proofs.«01_k».proof.Defs
public import proofs.«01_k».proof.Proof.Gen.Kernel
public import proofs.«01_k».proof.Proof.Gen.KernelIdeal
public import proofs.«01_k».proof.Proof.Gen.Kernel.Skeleton
public import proofs.«01_k».proof.Proof.Gen.KernelIdeal.Skeleton
public import proofs.«01_k».proof.Proof.Gen.Kernel.Launch
public import proofs.«01_k».proof.Proof.Gen.KernelIdeal.Launch
public import proofs.«01_k».proof.Proof.Gen.Kernel.Points
public import proofs.«01_k».proof.Proof.Gen.KernelIdeal.Points
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Loops
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Kernel12
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Loops
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Kernel13
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Blocks
public import proofs.«01_k».proof.Proof.Finite
public import proofs.«01_k».proof.Proof.SwigluBwd
public import proofs.«01_k».proof.Proof.FfnInBwd
public import proofs.«01_k».proof.Proof.GradDown
public import proofs.«01_k».proof.Proof.GradGate
public import proofs.«01_k».proof.Proof.GradOut
public import proofs.«01_k».proof.Proof.GradIn
public import proofs.«01_k».proof.Proof.OutBwd
public import proofs.«01_k».proof.Proof.Down
public import proofs.«01_k».proof.Proof.Out
public import proofs.«01_k».proof.Proof.Swiglu
public import proofs.«01_k».proof.Proof.Proj
public import proofs.«01_k».proof.Proof.InBwd
public import proofs.«01_k».proof.Proof.MixBwd
public import Idealize.ShloMosaic.Adequacy
public import Idealize.ShloMosaic.Init

@[expose] public section

noncomputable section

namespace Cert.Proof

open Idealize.ShloMosaic Idealize.SL.Sem Cert.Kernel

/-- The kernel ends, whatever its arguments hold, with its semaphores back at zero. -/
theorem frame_p : Cert.quiescent_Kernel := fun m ρ _ => Cert.Kernel.Gen.frame m ρ

/-- The same of the idealized kernel. -/
theorem frame_pi : Cert.quiescent_KernelIdeal := fun m ρ _ => Cert.KernelIdeal.Gen.frame m ρ

/-- The reference ends: it is a host program, run operation by operation. -/
theorem frame_ri : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The one name of the idealization: the mask's `-1e30` stands for `-∞`. -/
theorem preserves : Cert.preserves_Kernel_KernelIdeal :=
  IdealRules.named_const.statement Cert.KernelIdeal.κ "masked" .f32 0xF149F2CA#32 ⊥ rfl

/-- The kernel's three gradients are the reference's, of arguments that are numbers. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m ρ m' ρ' hp ha
  have H := fun c => Cert.Pre_finite.holds (inst := Cert.Pre_finite.facts) _ _ _ _ _ (hp c)
  refine ⟨_, _, _, (θ_run Cert.KernelIdeal.defs _ _).mono (fun _ h => h) (Cert.KernelIdeal.Value.run_blocks (F := Ideal) m ρ), ?_⟩
  refine (θ_run Cert.ReferenceIdeal.defs _ _).mono (fun r h c => ?_) (Cert.ReferenceIdeal.Value.run (F := Ideal) m' ρ')
  obtain ⟨h0, h1, h2, ha'⟩ := h c
  obtain ⟨a0, a1, a2, a3, a4⟩ := ha c
  have H' := (H c).of_eq a0 a1 a2 a3 a4
  refine ⟨h0.trans ?_, h1.trans ?_, h2.trans ?_, ha'⟩
  · rw [Cert.ReferenceIdeal.Stage.out0_eq]
    funext i
    rw [eq_ix2 i]
    exact (Cert.ReferenceIdeal.Stage.dq_at H' (i 0) (i 1)).trans (Cert.KernelIdeal.Host.final12 m c (H c) (ix2 (i 0) (i 1))).symm
  · rw [Cert.ReferenceIdeal.Stage.out1_eq]
    funext i
    rw [eq_ix2 i]
    exact (Cert.ReferenceIdeal.Stage.dk_at H' (i 0) (i 1)).trans (Cert.KernelIdeal.Host.final13 m c (H c) (ix2 (i 0) (i 1))).symm
  · rw [Cert.ReferenceIdeal.Stage.out2_eq]
    funext i
    rw [eq_ix2 i]
    exact (Cert.ReferenceIdeal.Stage.dv_at H' (i 0) (i 1)).trans (Cert.KernelIdeal.Host.final14 m c (H c) (ix2 (i 0) (i 1))).symm

/-- Every claim, of every program. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts,
    Cert.Reference4Ideal.Gen.facts, Cert.Kernel5.Gen.facts, Cert.Kernel5Ideal.Gen.facts,
    Cert.Reference5Ideal.Gen.facts, Cert.Kernel6.Gen.facts, Cert.Kernel6Ideal.Gen.facts,
    Cert.Reference6Ideal.Gen.facts, Cert.Kernel7.Gen.facts, Cert.Kernel7Ideal.Gen.facts,
    Cert.Reference7Ideal.Gen.facts, Cert.Kernel8.Gen.facts, Cert.Kernel8Ideal.Gen.facts,
    Cert.Reference8Ideal.Gen.facts, Cert.Kernel9.Gen.facts, Cert.Kernel9Ideal.Gen.facts,
    Cert.Reference9Ideal.Gen.facts, Cert.Kernel10.Gen.facts, Cert.Kernel10Ideal.Gen.facts,
    Cert.Reference10Ideal.Gen.facts, Cert.Kernel11.Gen.facts, Cert.Kernel11Ideal.Gen.facts,
    Cert.Reference11Ideal.Gen.facts, Cert.Kernel12.Gen.facts, Cert.Kernel12Ideal.Gen.facts,
    Cert.Reference12Ideal.Gen.facts, Cert.Kernel13.Gen.facts, Cert.Kernel13Ideal.Gen.facts,
    Cert.Reference13Ideal.Gen.facts, Cert.Kernel14.Gen.facts, Cert.Kernel14Ideal.Gen.facts,
    Cert.Reference14Ideal.Gen.facts, Cert.Pre_finite.facts, Cert.Pre_finite2.facts, Cert.Pre_finite14.facts, frame_p,
    frame_pi, fun m ρ _ => frame_pi m ρ trivial, frame_ri, fun m ρ _ => frame_ri m ρ trivial, SwigluBwd.frame_p,
    SwigluBwd.frame_pi, fun m ρ _ => SwigluBwd.frame_pi m ρ trivial, SwigluBwd.frame_ri,
    fun m ρ _ => SwigluBwd.frame_ri m ρ trivial, FfnInBwd.frame_p, FfnInBwd.frame_pi, FfnInBwd.frame_ri,
    GradDown.frame_p, GradDown.frame_pi, GradDown.frame_ri, GradGate.frame_p, GradGate.frame_pi, GradGate.frame_ri,
    GradOut.frame_p, GradOut.frame_pi, GradOut.frame_ri, GradIn.frame_p, GradIn.frame_pi, GradIn.frame_ri,
    OutBwd.frame_p, OutBwd.frame_pi, OutBwd.frame_ri, Down.frame_p, Down.frame_pi, Down.frame_ri, Out.frame_p,
    Out.frame_pi, Out.frame_ri, Swiglu.frame_p, Swiglu.frame_pi, Swiglu.frame_ri, Proj.frame_p, Proj.frame_pi,
    Proj.frame_ri, InBwd.frame_p, InBwd.frame_pi, InBwd.frame_ri, MixBwd.frame_p, MixBwd.frame_pi,
    fun m ρ _ => MixBwd.frame_pi m ρ trivial, MixBwd.frame_ri, fun m ρ _ => MixBwd.frame_ri m ρ trivial, preserves,
    algebraic, trivial, SwigluBwd.algebraic, trivial, FfnInBwd.algebraic, trivial, GradDown.algebraic, trivial,
    GradGate.algebraic, trivial, GradOut.algebraic, trivial, GradIn.algebraic, trivial, OutBwd.algebraic, trivial,
    Down.algebraic, trivial, Out.algebraic, trivial, Swiglu.algebraic, trivial, Proj.algebraic, trivial,
    InBwd.algebraic, trivial, MixBwd.algebraic⟩

end Cert.Proof

end
